-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x1536 : Shape := ⟨3, ![2, 128, 1536]⟩
abbrev S2x128 : Shape := ⟨2, ![2, 128]⟩
abbrev S2x1536 : Shape := ⟨2, ![2, 1536]⟩
abbrev S713 : Shape := ⟨1, ![713]⟩
abbrev S4096 : Shape := ⟨1, ![4096]⟩
abbrev S2x128x6x256 : Shape := ⟨4, ![2, 128, 6, 256]⟩
abbrev S256x2x6x128 : Shape := ⟨4, ![256, 2, 6, 128]⟩
abbrev S256x12x128 : Shape := ⟨3, ![256, 12, 128]⟩
abbrev S2x6x256 : Shape := ⟨3, ![2, 6, 256]⟩
abbrev S256x2x6 : Shape := ⟨3, ![256, 2, 6]⟩
abbrev S256x12x1 : Shape := ⟨3, ![256, 12, 1]⟩
abbrev S2x1x128 : Shape := ⟨3, ![2, 1, 128]⟩
abbrev S2x6x128 : Shape := ⟨3, ![2, 6, 128]⟩
abbrev S12x128 : Shape := ⟨2, ![12, 128]⟩
abbrev S4x128 : Shape := ⟨2, ![4, 128]⟩
abbrev S8x128 : Shape := ⟨2, ![8, 128]⟩
abbrev S1x8x128 : Shape := ⟨3, ![1, 8, 128]⟩
abbrev S3x8x128 : Shape := ⟨3, ![3, 8, 128]⟩
abbrev S1x3x8x128 : Shape := ⟨4, ![1, 3, 8, 128]⟩
abbrev S2x3x8x128 : Shape := ⟨4, ![2, 3, 8, 128]⟩
abbrev S256x4x128 : Shape := ⟨3, ![256, 4, 128]⟩
abbrev S192x4x128 : Shape := ⟨3, ![192, 4, 128]⟩
abbrev S128x4x128 : Shape := ⟨3, ![128, 4, 128]⟩
abbrev S64x4x128 : Shape := ⟨3, ![64, 4, 128]⟩
abbrev S192x8x128 : Shape := ⟨3, ![192, 8, 128]⟩
abbrev S2x8x128 : Shape := ⟨3, ![2, 8, 128]⟩
abbrev S1027x8x128 : Shape := ⟨3, ![1027, 8, 128]⟩
abbrev S713x8x128 : Shape := ⟨3, ![713, 8, 128]⟩
abbrev S1x1x8x128 : Shape := ⟨4, ![1, 1, 8, 128]⟩
abbrev S1 : Shape := ⟨1, ![1]⟩
abbrev S1x4x128 : Shape := ⟨3, ![1, 4, 128]⟩
abbrev S2x128x6 : Shape := ⟨3, ![2, 128, 6]⟩

abbrev nBuf : Space → Nat
  | .hbm => 77
  | .vmem => 14
  | .smem => 2
  | _ => 0

abbrev bufTy : (tb : Table) → Fin (tcTables nBuf tb) → BufTy
  | .hbm, ⟨0, _⟩ => ⟨S2x128x1536, .i8⟩
  | .hbm, ⟨1, _⟩ => ⟨S2x128, .f32⟩
  | .hbm, ⟨2, _⟩ => ⟨S2x1536, .f32⟩
  | .hbm, ⟨3, _⟩ => ⟨S713, .f32⟩
  | .hbm, ⟨4, _⟩ => ⟨S4096, .i32⟩
  | .hbm, ⟨5, _⟩ => ⟨S2x128x6x256, .i8⟩
  | .hbm, ⟨6, _⟩ => ⟨S256x2x6x128, .i8⟩
  | .hbm, ⟨7, _⟩ => ⟨S256x12x128, .i8⟩
  | .hbm, ⟨8, _⟩ => ⟨S2x6x256, .f32⟩
  | .hbm, ⟨9, _⟩ => ⟨S256x2x6, .f32⟩
  | .hbm, ⟨10, _⟩ => ⟨S256x12x1, .f32⟩
  | .hbm, ⟨11, _⟩ => ⟨S256x12x128, .f32⟩
  | .hbm, ⟨12, _⟩ => ⟨S2x1x128, .f32⟩
  | .hbm, ⟨13, _⟩ => ⟨S2x6x128, .f32⟩
  | .hbm, ⟨14, _⟩ => ⟨S12x128, .f32⟩
  | .hbm, ⟨15, _⟩ => ⟨S4x128, .f32⟩
  | .hbm, ⟨16, _⟩ => ⟨S4x128, .f32⟩
  | .hbm, ⟨17, _⟩ => ⟨S4x128, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S1x8x128, .f32⟩
  | .hbm, ⟨22, _⟩ => ⟨S1x8x128, .f32⟩
  | .hbm, ⟨23, _⟩ => ⟨S1x8x128, .f32⟩
  | .hbm, ⟨24, _⟩ => ⟨S3x8x128, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S1x8x128, .f32⟩
  | .hbm, ⟨29, _⟩ => ⟨S1x8x128, .f32⟩
  | .hbm, ⟨30, _⟩ => ⟨S1x8x128, .f32⟩
  | .hbm, ⟨31, _⟩ => ⟨S3x8x128, .f32⟩
  | .hbm, ⟨32, _⟩ => ⟨S1x3x8x128, .f32⟩
  | .hbm, ⟨33, _⟩ => ⟨S1x3x8x128, .f32⟩
  | .hbm, ⟨34, _⟩ => ⟨S2x3x8x128, .f32⟩
  | .hbm, ⟨35, _⟩ => ⟨S256x4x128, .i8⟩
  | .hbm, ⟨36, _⟩ => ⟨S256x4x128, .i8⟩
  | .hbm, ⟨37, _⟩ => ⟨S256x4x128, .i8⟩
  | .hbm, ⟨38, _⟩ => ⟨S192x4x128, .i8⟩
  | .hbm, ⟨39, _⟩ => ⟨S128x4x128, .i8⟩
  | .hbm, ⟨40, _⟩ => ⟨S64x4x128, .i8⟩
  | .hbm, ⟨41, _⟩ => ⟨S192x4x128, .i8⟩
  | .hbm, ⟨42, _⟩ => ⟨S192x8x128, .i8⟩
  | .hbm, ⟨43, _⟩ => ⟨S256x4x128, .i8⟩
  | .hbm, ⟨44, _⟩ => ⟨S256x4x128, .i8⟩
  | .hbm, ⟨45, _⟩ => ⟨S256x4x128, .i8⟩
  | .hbm, ⟨46, _⟩ => ⟨S192x4x128, .i8⟩
  | .hbm, ⟨47, _⟩ => ⟨S64x4x128, .i8⟩
  | .hbm, ⟨48, _⟩ => ⟨S128x4x128, .i8⟩
  | .hbm, ⟨49, _⟩ => ⟨S192x4x128, .i8⟩
  | .hbm, ⟨50, _⟩ => ⟨S192x8x128, .i8⟩
  | .hbm, ⟨51, _⟩ => ⟨S256x4x128, .f32⟩
  | .hbm, ⟨52, _⟩ => ⟨S256x4x128, .f32⟩
  | .hbm, ⟨53, _⟩ => ⟨S256x4x128, .f32⟩
  | .hbm, ⟨54, _⟩ => ⟨S192x4x128, .f32⟩
  | .hbm, ⟨55, _⟩ => ⟨S128x4x128, .f32⟩
  | .hbm, ⟨56, _⟩ => ⟨S64x4x128, .f32⟩
  | .hbm, ⟨57, _⟩ => ⟨S192x4x128, .f32⟩
  | .hbm, ⟨58, _⟩ => ⟨S192x8x128, .f32⟩
  | .hbm, ⟨59, _⟩ => ⟨S256x4x128, .f32⟩
  | .hbm, ⟨60, _⟩ => ⟨S256x4x128, .f32⟩
  | .hbm, ⟨61, _⟩ => ⟨S256x4x128, .f32⟩
  | .hbm, ⟨62, _⟩ => ⟨S192x4x128, .f32⟩
  | .hbm, ⟨63, _⟩ => ⟨S64x4x128, .f32⟩
  | .hbm, ⟨64, _⟩ => ⟨S128x4x128, .f32⟩
  | .hbm, ⟨65, _⟩ => ⟨S192x4x128, .f32⟩
  | .hbm, ⟨66, _⟩ => ⟨S192x8x128, .f32⟩
  | .hbm, ⟨67, _⟩ => ⟨S2x8x128, .f32⟩
  | .hbm, ⟨68, _⟩ => ⟨S1x4x128, .f32⟩
  | .hbm, ⟨69, _⟩ => ⟨S4x128, .f32⟩
  | .hbm, ⟨70, _⟩ => ⟨S1x4x128, .f32⟩
  | .hbm, ⟨71, _⟩ => ⟨S4x128, .f32⟩
  | .hbm, ⟨72, _⟩ => ⟨S1x4x128, .f32⟩
  | .hbm, ⟨73, _⟩ => ⟨S4x128, .f32⟩
  | .hbm, ⟨74, _⟩ => ⟨S12x128, .f32⟩
  | .hbm, ⟨75, _⟩ => ⟨S2x6x128, .f32⟩
  | .hbm, ⟨76, _⟩ => ⟨S2x128x6, .f32⟩
  | .local _ .vmem, ⟨0, _⟩ => ⟨S192x8x128, .i8⟩
  | .local _ .vmem, ⟨1, _⟩ => ⟨S192x8x128, .f32⟩
  | .local _ .vmem, ⟨2, _⟩ => ⟨S192x8x128, .i8⟩
  | .local _ .vmem, ⟨3, _⟩ => ⟨S192x8x128, .f32⟩
  | .local _ .vmem, ⟨4, _⟩ => ⟨S2x3x8x128, .f32⟩
  | .local _ .vmem, ⟨5, _⟩ => ⟨S2x8x128, .f32⟩
  | .local _ .vmem, ⟨6, _⟩ => ⟨S1027x8x128, .f32⟩
  | .local _ .vmem, ⟨7, _⟩ => ⟨S1027x8x128, .f32⟩
  | .local _ .vmem, ⟨8, _⟩ => ⟨S1027x8x128, .f32⟩
  | .local _ .vmem, ⟨9, _⟩ => ⟨S1027x8x128, .f32⟩
  | .local _ .vmem, ⟨10, _⟩ => ⟨S1027x8x128, .f32⟩
  | .local _ .vmem, ⟨11, _⟩ => ⟨S1027x8x128, .f32⟩
  | .local _ .vmem, ⟨12, _⟩ => ⟨S713x8x128, .f32⟩
  | .local _ .vmem, ⟨13, _⟩ => ⟨S713x8x128, .f32⟩
  | .local _ .smem, ⟨0, _⟩ => ⟨S713, .f32⟩
  | .local _ .smem, ⟨1, _⟩ => ⟨S4096, .i32⟩
  | _, _ => ⟨S2x128x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg7_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_stg5_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c1027_i32 : BitVec 32 := 1027#32
  let v4 : BitVec 32 := Scalar.addi c0_i32 c1027_i32
  let c1_i32 : BitVec 32 := 1#32
  ⟨c0_i32, v4, c1_i32⟩
def k0_off1 (k0_t1 : Fin k0_t1_loop.trips) : Fin 3 → Nat :=
  let c0_i32 : BitVec 32 := 0#32
  let c1_i32 : BitVec 32 := 1#32
  let arg16 : BitVec 32 := Scf.iv c0_i32 c1_i32 k0_t1
  let v21 : Index := Scalar.indexCast arg16
  let c0_21 : Index := 0#32
  let c0_22 : Index := 0#32
  ![v21.toNat, 0, 0]
@[reducible] def k0_t2_loop : Scf.Loop 32 :=
  let c0_i32_1 : BitVec 32 := 0#32
  let c3_i32 : BitVec 32 := 3#32
  let v5 : BitVec 32 := Scalar.addi c0_i32_1 c3_i32
  let c1_i32_2 : BitVec 32 := 1#32
  ⟨c0_i32_1, v5, c1_i32_2⟩
def k0_off2 (k0_t2 : Fin k0_t2_loop.trips) : Fin 4 → Nat :=
  let c0_21 : Index := 0#32
  let c0_i32_1 : BitVec 32 := 0#32
  let c1_i32_2 : BitVec 32 := 1#32
  let arg16 : BitVec 32 := Scf.iv c0_i32_1 c1_i32_2 k0_t2
  let v21 : Index := Scalar.indexCast arg16
  let c0_22 : Index := 0#32
  let c0_23 : Index := 0#32
  ![0, v21.toNat, 0, 0]
def k0_off3 (k0_t2 : Fin k0_t2_loop.trips) : Fin 4 → Nat :=
  let c1_24 : Index := 1#32
  let c0_i32_1 : BitVec 32 := 0#32
  let c1_i32_2 : BitVec 32 := 1#32
  let arg16 : BitVec 32 := Scf.iv c0_i32_1 c1_i32_2 k0_t2
  let v24 : Index := Scalar.indexCast arg16
  let c0_25 : Index := 0#32
  let c0_26 : Index := 0#32
  ![1, v24.toNat, 0, 0]
@[reducible] def k0_t3_loop : Scf.Loop 32 :=
  let c0_i32_27 : BitVec 32 := 0#32
  let c32_i32 : BitVec 32 := 32#32
  let v27 : BitVec 32 := Scalar.addi c0_i32_27 c32_i32
  let c1_i32_28 : BitVec 32 := 1#32
  ⟨c0_i32_27, v27, c1_i32_28⟩
def k0_off4 (k0_t2 : Fin k0_t2_loop.trips) (k0_t3 : Fin k0_t3_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v34 : BitVec 32 := Scalar.muli arg16 c64_i32
  let c2_i32 : BitVec 32 := 2#32
  let c0_i32_27 : BitVec 32 := 0#32
  let c1_i32_28 : BitVec 32 := 1#32
  let arg17 : BitVec 32 := Scf.iv c0_i32_27 c1_i32_28 k0_t3
  let v35 : BitVec 32 := Scalar.muli c2_i32 arg17
  let v36 : BitVec 32 := Scalar.addi v34 v35
  let v38 : Index := Scalar.indexCast v36
  let c0_35 : Index := 0#32
  let c0_36 : Index := 0#32
  ![v38.toNat, 0, 0]
@[reducible] def k0_t4_loop : Scf.Loop 32 :=
  let c0_i32_39 : BitVec 32 := 0#32
  let c713_i32 : BitVec 32 := 713#32
  let v46 : BitVec 32 := Scalar.addi c0_i32_39 c713_i32
  let c1_i32_40 : BitVec 32 := 1#32
  ⟨c0_i32_39, v46, c1_i32_40⟩
def k0_off5 (k0_t4 : Fin k0_t4_loop.trips) : Fin 1 → Nat :=
  let c0_i32_39 : BitVec 32 := 0#32
  let c1_i32_40 : BitVec 32 := 1#32
  let arg18 : BitVec 32 := Scf.iv c0_i32_39 c1_i32_40 k0_t4
  let v78 : Index := Scalar.indexCast arg18
  ![v78.toNat]
def k0_off6 (k0_t4 : Fin k0_t4_loop.trips) : Fin 3 → Nat :=
  let c0_i32_39 : BitVec 32 := 0#32
  let c1_i32_40 : BitVec 32 := 1#32
  let arg18 : BitVec 32 := Scf.iv c0_i32_39 c1_i32_40 k0_t4
  let v84 : Index := Scalar.indexCast arg18
  let c0_82 : Index := 0#32
  let c0_83 : Index := 0#32
  ![v84.toNat, 0, 0]
@[reducible] def k0_t5_loop : Scf.Loop 32 :=
  let c0_i32_42 : BitVec 32 := 0#32
  let c256_i32_43 : BitVec 32 := 256#32
  let v47 : BitVec 32 := Scalar.addi c0_i32_42 c256_i32_43
  let c1_i32_44 : BitVec 32 := 1#32
  ⟨c0_i32_42, v47, c1_i32_44⟩
def k0_off7 (k0_t5 : Fin k0_t5_loop.trips) (c0_i32_82 : BitVec 32) : Fin 3 → Nat :=
  let c0_i32_42 : BitVec 32 := 0#32
  let c1_i32_44 : BitVec 32 := 1#32
  let arg18 : BitVec 32 := Scf.iv c0_i32_42 c1_i32_44 k0_t5
  let v78 : BitVec 32 := Scalar.addi c0_i32_82 arg18
  let v79 : Index := Scalar.indexCast v78
  let c0_83 : Index := 0#32
  let c0_84 : Index := 0#32
  ![v79.toNat, 0, 0]
def k0_off8 (k0_t5 : Fin k0_t5_loop.trips) : Fin 1 → Nat :=
  let c0_i32_95 : BitVec 32 := 0#32
  let c0_i32_42 : BitVec 32 := 0#32
  let c1_i32_44 : BitVec 32 := 1#32
  let arg18 : BitVec 32 := Scf.iv c0_i32_42 c1_i32_44 k0_t5
  let c4_i32_94 : BitVec 32 := 4#32
  let v94 : BitVec 32 := Scalar.muli arg18 c4_i32_94
  let v95 : BitVec 32 := Scalar.addi c0_i32_95 v94
  let c0_i32_96 : BitVec 32 := 0#32
  let v96 : BitVec 32 := Scalar.addi v95 c0_i32_96
  let v97 : Index := Scalar.indexCast v96
  ![v97.toNat]
def k0_off9 (v98 : BitVec 32) : Fin 3 → Nat :=
  let v99 : Index := Scalar.indexCast v98
  let c0_97 : Index := 0#32
  let c0_98 : Index := 0#32
  ![v99.toNat, 0, 0]

def k0_chk1 (v98 : BitVec 32) : Prop :=
  (∀ a, (k0_off9 v98) a + S1x8x128.size a ≤ S713x8x128.size a)
theorem k0_off9_inb : ∀ (v98 : BitVec 32) (k0_hw1 : k0_chk1 v98), ∀ a, (k0_off9 v98) a + S1x8x128.size a ≤ S713x8x128.size a := fun v98 k0_hw1 => k0_hw1

def k0_off10 (k0_t5 : Fin k0_t5_loop.trips) : Fin 1 → Nat :=
  let c1024_i32 : BitVec 32 := 1024#32
  let c0_i32_42 : BitVec 32 := 0#32
  let c1_i32_44 : BitVec 32 := 1#32
  let arg18 : BitVec 32 := Scf.iv c0_i32_42 c1_i32_44 k0_t5
  let c4_i32_99 : BitVec 32 := 4#32
  let v103 : BitVec 32 := Scalar.muli arg18 c4_i32_99
  let v104 : BitVec 32 := Scalar.addi c1024_i32 v103
  let c0_i32_100 : BitVec 32 := 0#32
  let v105 : BitVec 32 := Scalar.addi v104 c0_i32_100
  let v106 : Index := Scalar.indexCast v105
  ![v106.toNat]
def k0_off11 (v107 : BitVec 32) : Fin 3 → Nat :=
  let v108 : Index := Scalar.indexCast v107
  let c0_101 : Index := 0#32
  let c0_102 : Index := 0#32
  ![v108.toNat, 0, 0]

def k0_chk2 (v107 : BitVec 32) : Prop :=
  (∀ a, (k0_off11 v107) a + S1x8x128.size a ≤ S713x8x128.size a)
theorem k0_off11_inb : ∀ (v107 : BitVec 32) (k0_hw2 : k0_chk2 v107), ∀ a, (k0_off11 v107) a + S1x8x128.size a ≤ S713x8x128.size a := fun v107 k0_hw2 => k0_hw2

def k0_off12 (k0_t5 : Fin k0_t5_loop.trips) : Fin 1 → Nat :=
  let c2048_i32 : BitVec 32 := 2048#32
  let c0_i32_42 : BitVec 32 := 0#32
  let c1_i32_44 : BitVec 32 := 1#32
  let arg18 : BitVec 32 := Scf.iv c0_i32_42 c1_i32_44 k0_t5
  let c4_i32_103 : BitVec 32 := 4#32
  let v112 : BitVec 32 := Scalar.muli arg18 c4_i32_103
  let v113 : BitVec 32 := Scalar.addi c2048_i32 v112
  let c0_i32_104 : BitVec 32 := 0#32
  let v114 : BitVec 32 := Scalar.addi v113 c0_i32_104
  let v115 : Index := Scalar.indexCast v114
  ![v115.toNat]
def k0_off13 (v116 : BitVec 32) : Fin 3 → Nat :=
  let v117 : Index := Scalar.indexCast v116
  let c0_105 : Index := 0#32
  let c0_106 : Index := 0#32
  ![v117.toNat, 0, 0]

def k0_chk3 (v116 : BitVec 32) : Prop :=
  (∀ a, (k0_off13 v116) a + S1x8x128.size a ≤ S713x8x128.size a)
theorem k0_off13_inb : ∀ (v116 : BitVec 32) (k0_hw3 : k0_chk3 v116), ∀ a, (k0_off13 v116) a + S1x8x128.size a ≤ S713x8x128.size a := fun v116 k0_hw3 => k0_hw3

def k0_off14 (k0_t5 : Fin k0_t5_loop.trips) : Fin 1 → Nat :=
  let c3072_i32 : BitVec 32 := 3072#32
  let c0_i32_42 : BitVec 32 := 0#32
  let c1_i32_44 : BitVec 32 := 1#32
  let arg18 : BitVec 32 := Scf.iv c0_i32_42 c1_i32_44 k0_t5
  let c4_i32_107 : BitVec 32 := 4#32
  let v121 : BitVec 32 := Scalar.muli arg18 c4_i32_107
  let v122 : BitVec 32 := Scalar.addi c3072_i32 v121
  let c0_i32_108 : BitVec 32 := 0#32
  let v123 : BitVec 32 := Scalar.addi v122 c0_i32_108
  let v124 : Index := Scalar.indexCast v123
  ![v124.toNat]
def k0_off15 (v125 : BitVec 32) : Fin 3 → Nat :=
  let v126 : Index := Scalar.indexCast v125
  let c0_109 : Index := 0#32
  let c0_110 : Index := 0#32
  ![v126.toNat, 0, 0]

def k0_chk4 (v125 : BitVec 32) : Prop :=
  (∀ a, (k0_off15 v125) a + S1x8x128.size a ≤ S713x8x128.size a)
theorem k0_off15_inb : ∀ (v125 : BitVec 32) (k0_hw4 : k0_chk4 v125), ∀ a, (k0_off15 v125) a + S1x8x128.size a ≤ S713x8x128.size a := fun v125 k0_hw4 => k0_hw4

def k0_off16 (k0_t5 : Fin k0_t5_loop.trips) : Fin 3 → Nat :=
  let c0_i32_42 : BitVec 32 := 0#32
  let c1_i32_44 : BitVec 32 := 1#32
  let arg18 : BitVec 32 := Scf.iv c0_i32_42 c1_i32_44 k0_t5
  let c4_i32_111 : BitVec 32 := 4#32
  let v133 : BitVec 32 := Scalar.muli arg18 c4_i32_111
  let c0_i32_112 : BitVec 32 := 0#32
  let v134 : BitVec 32 := Scalar.addi v133 c0_i32_112
  let c8_i32 : BitVec 32 := 8#32
  let v135 : BitVec 32 := Scalar.shrsi v134 c8_i32
  let v136 : BitVec 32 := Scalar.addi v134 v135
  let v137 : Index := Scalar.indexCast v136
  let c0_113 : Index := 0#32
  let c0_114 : Index := 0#32
  ![v137.toNat, 0, 0]
def k0_off17 (k0_t5 : Fin k0_t5_loop.trips) : Fin 1 → Nat :=
  let c0_i32_116 : BitVec 32 := 0#32
  let c0_i32_42 : BitVec 32 := 0#32
  let c1_i32_44 : BitVec 32 := 1#32
  let arg18 : BitVec 32 := Scf.iv c0_i32_42 c1_i32_44 k0_t5
  let c4_i32_115 : BitVec 32 := 4#32
  let v141 : BitVec 32 := Scalar.muli arg18 c4_i32_115
  let v142 : BitVec 32 := Scalar.addi c0_i32_116 v141
  let c1_i32_117 : BitVec 32 := 1#32
  let v143 : BitVec 32 := Scalar.addi v142 c1_i32_117
  let v144 : Index := Scalar.indexCast v143
  ![v144.toNat]
def k0_off18 (v145 : BitVec 32) : Fin 3 → Nat :=
  let v146 : Index := Scalar.indexCast v145
  let c0_118 : Index := 0#32
  let c0_119 : Index := 0#32
  ![v146.toNat, 0, 0]

def k0_chk5 (v145 : BitVec 32) : Prop :=
  (∀ a, (k0_off18 v145) a + S1x8x128.size a ≤ S713x8x128.size a)
theorem k0_off18_inb : ∀ (v145 : BitVec 32) (k0_hw5 : k0_chk5 v145), ∀ a, (k0_off18 v145) a + S1x8x128.size a ≤ S713x8x128.size a := fun v145 k0_hw5 => k0_hw5

def k0_off19 (k0_t5 : Fin k0_t5_loop.trips) : Fin 1 → Nat :=
  let c1024_i32_121 : BitVec 32 := 1024#32
  let c0_i32_42 : BitVec 32 := 0#32
  let c1_i32_44 : BitVec 32 := 1#32
  let arg18 : BitVec 32 := Scf.iv c0_i32_42 c1_i32_44 k0_t5
  let c4_i32_120 : BitVec 32 := 4#32
  let v150 : BitVec 32 := Scalar.muli arg18 c4_i32_120
  let v151 : BitVec 32 := Scalar.addi c1024_i32_121 v150
  let c1_i32_122 : BitVec 32 := 1#32
  let v152 : BitVec 32 := Scalar.addi v151 c1_i32_122
  let v153 : Index := Scalar.indexCast v152
  ![v153.toNat]
def k0_off20 (v154 : BitVec 32) : Fin 3 → Nat :=
  let v155 : Index := Scalar.indexCast v154
  let c0_123 : Index := 0#32
  let c0_124 : Index := 0#32
  ![v155.toNat, 0, 0]

def k0_chk6 (v154 : BitVec 32) : Prop :=
  (∀ a, (k0_off20 v154) a + S1x8x128.size a ≤ S713x8x128.size a)
theorem k0_off20_inb : ∀ (v154 : BitVec 32) (k0_hw6 : k0_chk6 v154), ∀ a, (k0_off20 v154) a + S1x8x128.size a ≤ S713x8x128.size a := fun v154 k0_hw6 => k0_hw6

def k0_off21 (k0_t5 : Fin k0_t5_loop.trips) : Fin 1 → Nat :=
  let c2048_i32_126 : BitVec 32 := 2048#32
  let c0_i32_42 : BitVec 32 := 0#32
  let c1_i32_44 : BitVec 32 := 1#32
  let arg18 : BitVec 32 := Scf.iv c0_i32_42 c1_i32_44 k0_t5
  let c4_i32_125 : BitVec 32 := 4#32
  let v159 : BitVec 32 := Scalar.muli arg18 c4_i32_125
  let v160 : BitVec 32 := Scalar.addi c2048_i32_126 v159
  let c1_i32_127 : BitVec 32 := 1#32
  let v161 : BitVec 32 := Scalar.addi v160 c1_i32_127
  let v162 : Index := Scalar.indexCast v161
  ![v162.toNat]
def k0_off22 (v163 : BitVec 32) : Fin 3 → Nat :=
  let v164 : Index := Scalar.indexCast v163
  let c0_128 : Index := 0#32
  let c0_129 : Index := 0#32
  ![v164.toNat, 0, 0]

def k0_chk7 (v163 : BitVec 32) : Prop :=
  (∀ a, (k0_off22 v163) a + S1x8x128.size a ≤ S713x8x128.size a)
theorem k0_off22_inb : ∀ (v163 : BitVec 32) (k0_hw7 : k0_chk7 v163), ∀ a, (k0_off22 v163) a + S1x8x128.size a ≤ S713x8x128.size a := fun v163 k0_hw7 => k0_hw7

def k0_off23 (k0_t5 : Fin k0_t5_loop.trips) : Fin 1 → Nat :=
  let c3072_i32_131 : BitVec 32 := 3072#32
  let c0_i32_42 : BitVec 32 := 0#32
  let c1_i32_44 : BitVec 32 := 1#32
  let arg18 : BitVec 32 := Scf.iv c0_i32_42 c1_i32_44 k0_t5
  let c4_i32_130 : BitVec 32 := 4#32
  let v168 : BitVec 32 := Scalar.muli arg18 c4_i32_130
  let v169 : BitVec 32 := Scalar.addi c3072_i32_131 v168
  let c1_i32_132 : BitVec 32 := 1#32
  let v170 : BitVec 32 := Scalar.addi v169 c1_i32_132
  let v171 : Index := Scalar.indexCast v170
  ![v171.toNat]
def k0_off24 (v172 : BitVec 32) : Fin 3 → Nat :=
  let v173 : Index := Scalar.indexCast v172
  let c0_133 : Index := 0#32
  let c0_134 : Index := 0#32
  ![v173.toNat, 0, 0]

def k0_chk8 (v172 : BitVec 32) : Prop :=
  (∀ a, (k0_off24 v172) a + S1x8x128.size a ≤ S713x8x128.size a)
theorem k0_off24_inb : ∀ (v172 : BitVec 32) (k0_hw8 : k0_chk8 v172), ∀ a, (k0_off24 v172) a + S1x8x128.size a ≤ S713x8x128.size a := fun v172 k0_hw8 => k0_hw8

def k0_off25 (k0_t5 : Fin k0_t5_loop.trips) : Fin 3 → Nat :=
  let c0_i32_42 : BitVec 32 := 0#32
  let c1_i32_44 : BitVec 32 := 1#32
  let arg18 : BitVec 32 := Scf.iv c0_i32_42 c1_i32_44 k0_t5
  let c4_i32_135 : BitVec 32 := 4#32
  let v180 : BitVec 32 := Scalar.muli arg18 c4_i32_135
  let c1_i32_136 : BitVec 32 := 1#32
  let v181 : BitVec 32 := Scalar.addi v180 c1_i32_136
  let c8_i32_137 : BitVec 32 := 8#32
  let v182 : BitVec 32 := Scalar.shrsi v181 c8_i32_137
  let v183 : BitVec 32 := Scalar.addi v181 v182
  let v184 : Index := Scalar.indexCast v183
  let c0_138 : Index := 0#32
  let c0_139 : Index := 0#32
  ![v184.toNat, 0, 0]
def k0_off26 (k0_t5 : Fin k0_t5_loop.trips) : Fin 1 → Nat :=
  let c0_i32_141 : BitVec 32 := 0#32
  let c0_i32_42 : BitVec 32 := 0#32
  let c1_i32_44 : BitVec 32 := 1#32
  let arg18 : BitVec 32 := Scf.iv c0_i32_42 c1_i32_44 k0_t5
  let c4_i32_140 : BitVec 32 := 4#32
  let v188 : BitVec 32 := Scalar.muli arg18 c4_i32_140
  let v189 : BitVec 32 := Scalar.addi c0_i32_141 v188
  let c2_i32_142 : BitVec 32 := 2#32
  let v190 : BitVec 32 := Scalar.addi v189 c2_i32_142
  let v191 : Index := Scalar.indexCast v190
  ![v191.toNat]
def k0_off27 (v192 : BitVec 32) : Fin 3 → Nat :=
  let v193 : Index := Scalar.indexCast v192
  let c0_143 : Index := 0#32
  let c0_144 : Index := 0#32
  ![v193.toNat, 0, 0]

def k0_chk9 (v192 : BitVec 32) : Prop :=
  (∀ a, (k0_off27 v192) a + S1x8x128.size a ≤ S713x8x128.size a)
theorem k0_off27_inb : ∀ (v192 : BitVec 32) (k0_hw9 : k0_chk9 v192), ∀ a, (k0_off27 v192) a + S1x8x128.size a ≤ S713x8x128.size a := fun v192 k0_hw9 => k0_hw9

def k0_off28 (k0_t5 : Fin k0_t5_loop.trips) : Fin 1 → Nat :=
  let c1024_i32_146 : BitVec 32 := 1024#32
  let c0_i32_42 : BitVec 32 := 0#32
  let c1_i32_44 : BitVec 32 := 1#32
  let arg18 : BitVec 32 := Scf.iv c0_i32_42 c1_i32_44 k0_t5
  let c4_i32_145 : BitVec 32 := 4#32
  let v197 : BitVec 32 := Scalar.muli arg18 c4_i32_145
  let v198 : BitVec 32 := Scalar.addi c1024_i32_146 v197
  let c2_i32_147 : BitVec 32 := 2#32
  let v199 : BitVec 32 := Scalar.addi v198 c2_i32_147
  let v200 : Index := Scalar.indexCast v199
  ![v200.toNat]
def k0_off29 (v201 : BitVec 32) : Fin 3 → Nat :=
  let v202 : Index := Scalar.indexCast v201
  let c0_148 : Index := 0#32
  let c0_149 : Index := 0#32
  ![v202.toNat, 0, 0]

def k0_chk10 (v201 : BitVec 32) : Prop :=
  (∀ a, (k0_off29 v201) a + S1x8x128.size a ≤ S713x8x128.size a)
theorem k0_off29_inb : ∀ (v201 : BitVec 32) (k0_hw10 : k0_chk10 v201), ∀ a, (k0_off29 v201) a + S1x8x128.size a ≤ S713x8x128.size a := fun v201 k0_hw10 => k0_hw10

def k0_off30 (k0_t5 : Fin k0_t5_loop.trips) : Fin 1 → Nat :=
  let c2048_i32_151 : BitVec 32 := 2048#32
  let c0_i32_42 : BitVec 32 := 0#32
  let c1_i32_44 : BitVec 32 := 1#32
  let arg18 : BitVec 32 := Scf.iv c0_i32_42 c1_i32_44 k0_t5
  let c4_i32_150 : BitVec 32 := 4#32
  let v206 : BitVec 32 := Scalar.muli arg18 c4_i32_150
  let v207 : BitVec 32 := Scalar.addi c2048_i32_151 v206
  let c2_i32_152 : BitVec 32 := 2#32
  let v208 : BitVec 32 := Scalar.addi v207 c2_i32_152
  let v209 : Index := Scalar.indexCast v208
  ![v209.toNat]
def k0_off31 (v210 : BitVec 32) : Fin 3 → Nat :=
  let v211 : Index := Scalar.indexCast v210
  let c0_153 : Index := 0#32
  let c0_154 : Index := 0#32
  ![v211.toNat, 0, 0]

def k0_chk11 (v210 : BitVec 32) : Prop :=
  (∀ a, (k0_off31 v210) a + S1x8x128.size a ≤ S713x8x128.size a)
theorem k0_off31_inb : ∀ (v210 : BitVec 32) (k0_hw11 : k0_chk11 v210), ∀ a, (k0_off31 v210) a + S1x8x128.size a ≤ S713x8x128.size a := fun v210 k0_hw11 => k0_hw11

def k0_off32 (k0_t5 : Fin k0_t5_loop.trips) : Fin 1 → Nat :=
  let c3072_i32_156 : BitVec 32 := 3072#32
  let c0_i32_42 : BitVec 32 := 0#32
  let c1_i32_44 : BitVec 32 := 1#32
  let arg18 : BitVec 32 := Scf.iv c0_i32_42 c1_i32_44 k0_t5
  let c4_i32_155 : BitVec 32 := 4#32
  let v215 : BitVec 32 := Scalar.muli arg18 c4_i32_155
  let v216 : BitVec 32 := Scalar.addi c3072_i32_156 v215
  let c2_i32_157 : BitVec 32 := 2#32
  let v217 : BitVec 32 := Scalar.addi v216 c2_i32_157
  let v218 : Index := Scalar.indexCast v217
  ![v218.toNat]
def k0_off33 (v219 : BitVec 32) : Fin 3 → Nat :=
  let v220 : Index := Scalar.indexCast v219
  let c0_158 : Index := 0#32
  let c0_159 : Index := 0#32
  ![v220.toNat, 0, 0]

def k0_chk12 (v219 : BitVec 32) : Prop :=
  (∀ a, (k0_off33 v219) a + S1x8x128.size a ≤ S713x8x128.size a)
theorem k0_off33_inb : ∀ (v219 : BitVec 32) (k0_hw12 : k0_chk12 v219), ∀ a, (k0_off33 v219) a + S1x8x128.size a ≤ S713x8x128.size a := fun v219 k0_hw12 => k0_hw12

def k0_off34 (k0_t5 : Fin k0_t5_loop.trips) : Fin 3 → Nat :=
  let c0_i32_42 : BitVec 32 := 0#32
  let c1_i32_44 : BitVec 32 := 1#32
  let arg18 : BitVec 32 := Scf.iv c0_i32_42 c1_i32_44 k0_t5
  let c4_i32_160 : BitVec 32 := 4#32
  let v227 : BitVec 32 := Scalar.muli arg18 c4_i32_160
  let c2_i32_161 : BitVec 32 := 2#32
  let v228 : BitVec 32 := Scalar.addi v227 c2_i32_161
  let c8_i32_162 : BitVec 32 := 8#32
  let v229 : BitVec 32 := Scalar.shrsi v228 c8_i32_162
  let v230 : BitVec 32 := Scalar.addi v228 v229
  let v231 : Index := Scalar.indexCast v230
  let c0_163 : Index := 0#32
  let c0_164 : Index := 0#32
  ![v231.toNat, 0, 0]
def k0_off35 (k0_t5 : Fin k0_t5_loop.trips) : Fin 1 → Nat :=
  let c0_i32_166 : BitVec 32 := 0#32
  let c0_i32_42 : BitVec 32 := 0#32
  let c1_i32_44 : BitVec 32 := 1#32
  let arg18 : BitVec 32 := Scf.iv c0_i32_42 c1_i32_44 k0_t5
  let c4_i32_165 : BitVec 32 := 4#32
  let v235 : BitVec 32 := Scalar.muli arg18 c4_i32_165
  let v236 : BitVec 32 := Scalar.addi c0_i32_166 v235
  let c3_i32_167 : BitVec 32 := 3#32
  let v237 : BitVec 32 := Scalar.addi v236 c3_i32_167
  let v238 : Index := Scalar.indexCast v237
  ![v238.toNat]
def k0_off36 (v239 : BitVec 32) : Fin 3 → Nat :=
  let v240 : Index := Scalar.indexCast v239
  let c0_168 : Index := 0#32
  let c0_169 : Index := 0#32
  ![v240.toNat, 0, 0]

def k0_chk13 (v239 : BitVec 32) : Prop :=
  (∀ a, (k0_off36 v239) a + S1x8x128.size a ≤ S713x8x128.size a)
theorem k0_off36_inb : ∀ (v239 : BitVec 32) (k0_hw13 : k0_chk13 v239), ∀ a, (k0_off36 v239) a + S1x8x128.size a ≤ S713x8x128.size a := fun v239 k0_hw13 => k0_hw13

def k0_off37 (k0_t5 : Fin k0_t5_loop.trips) : Fin 1 → Nat :=
  let c1024_i32_171 : BitVec 32 := 1024#32
  let c0_i32_42 : BitVec 32 := 0#32
  let c1_i32_44 : BitVec 32 := 1#32
  let arg18 : BitVec 32 := Scf.iv c0_i32_42 c1_i32_44 k0_t5
  let c4_i32_170 : BitVec 32 := 4#32
  let v244 : BitVec 32 := Scalar.muli arg18 c4_i32_170
  let v245 : BitVec 32 := Scalar.addi c1024_i32_171 v244
  let c3_i32_172 : BitVec 32 := 3#32
  let v246 : BitVec 32 := Scalar.addi v245 c3_i32_172
  let v247 : Index := Scalar.indexCast v246
  ![v247.toNat]
def k0_off38 (v248 : BitVec 32) : Fin 3 → Nat :=
  let v249 : Index := Scalar.indexCast v248
  let c0_173 : Index := 0#32
  let c0_174 : Index := 0#32
  ![v249.toNat, 0, 0]

def k0_chk14 (v248 : BitVec 32) : Prop :=
  (∀ a, (k0_off38 v248) a + S1x8x128.size a ≤ S713x8x128.size a)
theorem k0_off38_inb : ∀ (v248 : BitVec 32) (k0_hw14 : k0_chk14 v248), ∀ a, (k0_off38 v248) a + S1x8x128.size a ≤ S713x8x128.size a := fun v248 k0_hw14 => k0_hw14

def k0_off39 (k0_t5 : Fin k0_t5_loop.trips) : Fin 1 → Nat :=
  let c2048_i32_176 : BitVec 32 := 2048#32
  let c0_i32_42 : BitVec 32 := 0#32
  let c1_i32_44 : BitVec 32 := 1#32
  let arg18 : BitVec 32 := Scf.iv c0_i32_42 c1_i32_44 k0_t5
  let c4_i32_175 : BitVec 32 := 4#32
  let v253 : BitVec 32 := Scalar.muli arg18 c4_i32_175
  let v254 : BitVec 32 := Scalar.addi c2048_i32_176 v253
  let c3_i32_177 : BitVec 32 := 3#32
  let v255 : BitVec 32 := Scalar.addi v254 c3_i32_177
  let v256 : Index := Scalar.indexCast v255
  ![v256.toNat]
def k0_off40 (v257 : BitVec 32) : Fin 3 → Nat :=
  let v258 : Index := Scalar.indexCast v257
  let c0_178 : Index := 0#32
  let c0_179 : Index := 0#32
  ![v258.toNat, 0, 0]

def k0_chk15 (v257 : BitVec 32) : Prop :=
  (∀ a, (k0_off40 v257) a + S1x8x128.size a ≤ S713x8x128.size a)
theorem k0_off40_inb : ∀ (v257 : BitVec 32) (k0_hw15 : k0_chk15 v257), ∀ a, (k0_off40 v257) a + S1x8x128.size a ≤ S713x8x128.size a := fun v257 k0_hw15 => k0_hw15

def k0_off41 (k0_t5 : Fin k0_t5_loop.trips) : Fin 1 → Nat :=
  let c3072_i32_181 : BitVec 32 := 3072#32
  let c0_i32_42 : BitVec 32 := 0#32
  let c1_i32_44 : BitVec 32 := 1#32
  let arg18 : BitVec 32 := Scf.iv c0_i32_42 c1_i32_44 k0_t5
  let c4_i32_180 : BitVec 32 := 4#32
  let v262 : BitVec 32 := Scalar.muli arg18 c4_i32_180
  let v263 : BitVec 32 := Scalar.addi c3072_i32_181 v262
  let c3_i32_182 : BitVec 32 := 3#32
  let v264 : BitVec 32 := Scalar.addi v263 c3_i32_182
  let v265 : Index := Scalar.indexCast v264
  ![v265.toNat]
def k0_off42 (v266 : BitVec 32) : Fin 3 → Nat :=
  let v267 : Index := Scalar.indexCast v266
  let c0_183 : Index := 0#32
  let c0_184 : Index := 0#32
  ![v267.toNat, 0, 0]

def k0_chk16 (v266 : BitVec 32) : Prop :=
  (∀ a, (k0_off42 v266) a + S1x8x128.size a ≤ S713x8x128.size a)
theorem k0_off42_inb : ∀ (v266 : BitVec 32) (k0_hw16 : k0_chk16 v266), ∀ a, (k0_off42 v266) a + S1x8x128.size a ≤ S713x8x128.size a := fun v266 k0_hw16 => k0_hw16

def k0_off43 (k0_t5 : Fin k0_t5_loop.trips) : Fin 3 → Nat :=
  let c0_i32_42 : BitVec 32 := 0#32
  let c1_i32_44 : BitVec 32 := 1#32
  let arg18 : BitVec 32 := Scf.iv c0_i32_42 c1_i32_44 k0_t5
  let c4_i32_185 : BitVec 32 := 4#32
  let v274 : BitVec 32 := Scalar.muli arg18 c4_i32_185
  let c3_i32_186 : BitVec 32 := 3#32
  let v275 : BitVec 32 := Scalar.addi v274 c3_i32_186
  let c8_i32_187 : BitVec 32 := 8#32
  let v276 : BitVec 32 := Scalar.shrsi v275 c8_i32_187
  let v277 : BitVec 32 := Scalar.addi v275 v276
  let v278 : Index := Scalar.indexCast v277
  let c0_188 : Index := 0#32
  let c0_189 : Index := 0#32
  ![v278.toNat, 0, 0]
@[reducible] def k0_t6_loop : Scf.Loop 32 :=
  let c0_i32_50 : BitVec 32 := 0#32
  let c713_i32_51 : BitVec 32 := 713#32
  let v56 : BitVec 32 := Scalar.addi c0_i32_50 c713_i32_51
  let c1_i32_52 : BitVec 32 := 1#32
  ⟨c0_i32_50, v56, c1_i32_52⟩
def k0_off44 (k0_t6 : Fin k0_t6_loop.trips) : Fin 1 → Nat :=
  let c0_i32_50 : BitVec 32 := 0#32
  let c1_i32_52 : BitVec 32 := 1#32
  let arg18 : BitVec 32 := Scf.iv c0_i32_50 c1_i32_52 k0_t6
  let v78 : Index := Scalar.indexCast arg18
  ![v78.toNat]
def k0_off45 (k0_t6 : Fin k0_t6_loop.trips) : Fin 3 → Nat :=
  let c0_i32_50 : BitVec 32 := 0#32
  let c1_i32_52 : BitVec 32 := 1#32
  let arg18 : BitVec 32 := Scf.iv c0_i32_50 c1_i32_52 k0_t6
  let v84 : Index := Scalar.indexCast arg18
  let c0_82 : Index := 0#32
  let c0_83 : Index := 0#32
  ![v84.toNat, 0, 0]
@[reducible] def k0_t7_loop : Scf.Loop 32 :=
  let c0_i32_54 : BitVec 32 := 0#32
  let c256_i32_55 : BitVec 32 := 256#32
  let v57 : BitVec 32 := Scalar.addi c0_i32_54 c256_i32_55
  let c1_i32_56 : BitVec 32 := 1#32
  ⟨c0_i32_54, v57, c1_i32_56⟩
def k0_off46 (k0_t7 : Fin k0_t7_loop.trips) (c0_i32_83 : BitVec 32) : Fin 3 → Nat :=
  let c0_i32_54 : BitVec 32 := 0#32
  let c1_i32_56 : BitVec 32 := 1#32
  let arg18 : BitVec 32 := Scf.iv c0_i32_54 c1_i32_56 k0_t7
  let c4_i32_82 : BitVec 32 := 4#32
  let v78 : BitVec 32 := Scalar.muli arg18 c4_i32_82
  let v79 : BitVec 32 := Scalar.addi v78 c0_i32_83
  let c8_i32 : BitVec 32 := 8#32
  let v80 : BitVec 32 := Scalar.shrsi v79 c8_i32
  let v81 : BitVec 32 := Scalar.addi v79 v80
  let v82 : Index := Scalar.indexCast v81
  let c0_84 : Index := 0#32
  let c0_85 : Index := 0#32
  ![v82.toNat, 0, 0]
def k0_off47 (k0_t7 : Fin k0_t7_loop.trips) : Fin 1 → Nat :=
  let c0_i32_102 : BitVec 32 := 0#32
  let c0_i32_54 : BitVec 32 := 0#32
  let c1_i32_56 : BitVec 32 := 1#32
  let arg18 : BitVec 32 := Scf.iv c0_i32_54 c1_i32_56 k0_t7
  let c4_i32_101 : BitVec 32 := 4#32
  let v106 : BitVec 32 := Scalar.muli arg18 c4_i32_101
  let v107 : BitVec 32 := Scalar.addi c0_i32_102 v106
  let c0_i32_103 : BitVec 32 := 0#32
  let v108 : BitVec 32 := Scalar.addi v107 c0_i32_103
  let v109 : Index := Scalar.indexCast v108
  ![v109.toNat]
def k0_off48 (v110 : BitVec 32) : Fin 3 → Nat :=
  let v111 : Index := Scalar.indexCast v110
  let c0_104 : Index := 0#32
  let c0_105 : Index := 0#32
  ![v111.toNat, 0, 0]

def k0_chk17 (v110 : BitVec 32) : Prop :=
  (∀ a, (k0_off48 v110) a + S1x8x128.size a ≤ S713x8x128.size a)
theorem k0_off48_inb : ∀ (v110 : BitVec 32) (k0_hw17 : k0_chk17 v110), ∀ a, (k0_off48 v110) a + S1x8x128.size a ≤ S713x8x128.size a := fun v110 k0_hw17 => k0_hw17

def k0_off49 (k0_t7 : Fin k0_t7_loop.trips) : Fin 1 → Nat :=
  let c0_i32_107 : BitVec 32 := 0#32
  let c0_i32_54 : BitVec 32 := 0#32
  let c1_i32_56 : BitVec 32 := 1#32
  let arg18 : BitVec 32 := Scf.iv c0_i32_54 c1_i32_56 k0_t7
  let c4_i32_106 : BitVec 32 := 4#32
  let v115 : BitVec 32 := Scalar.muli arg18 c4_i32_106
  let v116 : BitVec 32 := Scalar.addi c0_i32_107 v115
  let c1_i32_108 : BitVec 32 := 1#32
  let v117 : BitVec 32 := Scalar.addi v116 c1_i32_108
  let v118 : Index := Scalar.indexCast v117
  ![v118.toNat]
def k0_off50 (v119 : BitVec 32) : Fin 3 → Nat :=
  let v120 : Index := Scalar.indexCast v119
  let c0_109 : Index := 0#32
  let c0_110 : Index := 0#32
  ![v120.toNat, 0, 0]

def k0_chk18 (v119 : BitVec 32) : Prop :=
  (∀ a, (k0_off50 v119) a + S1x8x128.size a ≤ S713x8x128.size a)
theorem k0_off50_inb : ∀ (v119 : BitVec 32) (k0_hw18 : k0_chk18 v119), ∀ a, (k0_off50 v119) a + S1x8x128.size a ≤ S713x8x128.size a := fun v119 k0_hw18 => k0_hw18

def k0_off51 (k0_t7 : Fin k0_t7_loop.trips) : Fin 1 → Nat :=
  let c0_i32_112 : BitVec 32 := 0#32
  let c0_i32_54 : BitVec 32 := 0#32
  let c1_i32_56 : BitVec 32 := 1#32
  let arg18 : BitVec 32 := Scf.iv c0_i32_54 c1_i32_56 k0_t7
  let c4_i32_111 : BitVec 32 := 4#32
  let v124 : BitVec 32 := Scalar.muli arg18 c4_i32_111
  let v125 : BitVec 32 := Scalar.addi c0_i32_112 v124
  let c2_i32_113 : BitVec 32 := 2#32
  let v126 : BitVec 32 := Scalar.addi v125 c2_i32_113
  let v127 : Index := Scalar.indexCast v126
  ![v127.toNat]
def k0_off52 (v128 : BitVec 32) : Fin 3 → Nat :=
  let v129 : Index := Scalar.indexCast v128
  let c0_114 : Index := 0#32
  let c0_115 : Index := 0#32
  ![v129.toNat, 0, 0]

def k0_chk19 (v128 : BitVec 32) : Prop :=
  (∀ a, (k0_off52 v128) a + S1x8x128.size a ≤ S713x8x128.size a)
theorem k0_off52_inb : ∀ (v128 : BitVec 32) (k0_hw19 : k0_chk19 v128), ∀ a, (k0_off52 v128) a + S1x8x128.size a ≤ S713x8x128.size a := fun v128 k0_hw19 => k0_hw19

def k0_off53 (k0_t7 : Fin k0_t7_loop.trips) : Fin 1 → Nat :=
  let c0_i32_117 : BitVec 32 := 0#32
  let c0_i32_54 : BitVec 32 := 0#32
  let c1_i32_56 : BitVec 32 := 1#32
  let arg18 : BitVec 32 := Scf.iv c0_i32_54 c1_i32_56 k0_t7
  let c4_i32_116 : BitVec 32 := 4#32
  let v133 : BitVec 32 := Scalar.muli arg18 c4_i32_116
  let v134 : BitVec 32 := Scalar.addi c0_i32_117 v133
  let c3_i32_118 : BitVec 32 := 3#32
  let v135 : BitVec 32 := Scalar.addi v134 c3_i32_118
  let v136 : Index := Scalar.indexCast v135
  ![v136.toNat]
def k0_off54 (v137 : BitVec 32) : Fin 3 → Nat :=
  let v138 : Index := Scalar.indexCast v137
  let c0_119 : Index := 0#32
  let c0_120 : Index := 0#32
  ![v138.toNat, 0, 0]

def k0_chk20 (v137 : BitVec 32) : Prop :=
  (∀ a, (k0_off54 v137) a + S1x8x128.size a ≤ S713x8x128.size a)
theorem k0_off54_inb : ∀ (v137 : BitVec 32) (k0_hw20 : k0_chk20 v137), ∀ a, (k0_off54 v137) a + S1x8x128.size a ≤ S713x8x128.size a := fun v137 k0_hw20 => k0_hw20

def k0_off55 (k0_t7 : Fin k0_t7_loop.trips) : Fin 3 → Nat :=
  let c0_i32_121 : BitVec 32 := 0#32
  let c0_i32_54 : BitVec 32 := 0#32
  let c1_i32_56 : BitVec 32 := 1#32
  let arg18 : BitVec 32 := Scf.iv c0_i32_54 c1_i32_56 k0_t7
  let v145 : BitVec 32 := Scalar.addi c0_i32_121 arg18
  let v146 : Index := Scalar.indexCast v145
  let c0_122 : Index := 0#32
  let c0_123 : Index := 0#32
  ![v146.toNat, 0, 0]
def k0_off56 (k0_t7 : Fin k0_t7_loop.trips) : Fin 1 → Nat :=
  let c1024_i32 : BitVec 32 := 1024#32
  let c0_i32_54 : BitVec 32 := 0#32
  let c1_i32_56 : BitVec 32 := 1#32
  let arg18 : BitVec 32 := Scf.iv c0_i32_54 c1_i32_56 k0_t7
  let c4_i32_124 : BitVec 32 := 4#32
  let v150 : BitVec 32 := Scalar.muli arg18 c4_i32_124
  let v151 : BitVec 32 := Scalar.addi c1024_i32 v150
  let c0_i32_125 : BitVec 32 := 0#32
  let v152 : BitVec 32 := Scalar.addi v151 c0_i32_125
  let v153 : Index := Scalar.indexCast v152
  ![v153.toNat]
def k0_off57 (v154 : BitVec 32) : Fin 3 → Nat :=
  let v155 : Index := Scalar.indexCast v154
  let c0_126 : Index := 0#32
  let c0_127 : Index := 0#32
  ![v155.toNat, 0, 0]

def k0_chk21 (v154 : BitVec 32) : Prop :=
  (∀ a, (k0_off57 v154) a + S1x8x128.size a ≤ S713x8x128.size a)
theorem k0_off57_inb : ∀ (v154 : BitVec 32) (k0_hw21 : k0_chk21 v154), ∀ a, (k0_off57 v154) a + S1x8x128.size a ≤ S713x8x128.size a := fun v154 k0_hw21 => k0_hw21

def k0_off58 (k0_t7 : Fin k0_t7_loop.trips) : Fin 1 → Nat :=
  let c1024_i32_129 : BitVec 32 := 1024#32
  let c0_i32_54 : BitVec 32 := 0#32
  let c1_i32_56 : BitVec 32 := 1#32
  let arg18 : BitVec 32 := Scf.iv c0_i32_54 c1_i32_56 k0_t7
  let c4_i32_128 : BitVec 32 := 4#32
  let v159 : BitVec 32 := Scalar.muli arg18 c4_i32_128
  let v160 : BitVec 32 := Scalar.addi c1024_i32_129 v159
  let c1_i32_130 : BitVec 32 := 1#32
  let v161 : BitVec 32 := Scalar.addi v160 c1_i32_130
  let v162 : Index := Scalar.indexCast v161
  ![v162.toNat]
def k0_off59 (v163 : BitVec 32) : Fin 3 → Nat :=
  let v164 : Index := Scalar.indexCast v163
  let c0_131 : Index := 0#32
  let c0_132 : Index := 0#32
  ![v164.toNat, 0, 0]

def k0_chk22 (v163 : BitVec 32) : Prop :=
  (∀ a, (k0_off59 v163) a + S1x8x128.size a ≤ S713x8x128.size a)
theorem k0_off59_inb : ∀ (v163 : BitVec 32) (k0_hw22 : k0_chk22 v163), ∀ a, (k0_off59 v163) a + S1x8x128.size a ≤ S713x8x128.size a := fun v163 k0_hw22 => k0_hw22

def k0_off60 (k0_t7 : Fin k0_t7_loop.trips) : Fin 1 → Nat :=
  let c1024_i32_134 : BitVec 32 := 1024#32
  let c0_i32_54 : BitVec 32 := 0#32
  let c1_i32_56 : BitVec 32 := 1#32
  let arg18 : BitVec 32 := Scf.iv c0_i32_54 c1_i32_56 k0_t7
  let c4_i32_133 : BitVec 32 := 4#32
  let v168 : BitVec 32 := Scalar.muli arg18 c4_i32_133
  let v169 : BitVec 32 := Scalar.addi c1024_i32_134 v168
  let c2_i32_135 : BitVec 32 := 2#32
  let v170 : BitVec 32 := Scalar.addi v169 c2_i32_135
  let v171 : Index := Scalar.indexCast v170
  ![v171.toNat]
def k0_off61 (v172 : BitVec 32) : Fin 3 → Nat :=
  let v173 : Index := Scalar.indexCast v172
  let c0_136 : Index := 0#32
  let c0_137 : Index := 0#32
  ![v173.toNat, 0, 0]

def k0_chk23 (v172 : BitVec 32) : Prop :=
  (∀ a, (k0_off61 v172) a + S1x8x128.size a ≤ S713x8x128.size a)
theorem k0_off61_inb : ∀ (v172 : BitVec 32) (k0_hw23 : k0_chk23 v172), ∀ a, (k0_off61 v172) a + S1x8x128.size a ≤ S713x8x128.size a := fun v172 k0_hw23 => k0_hw23

def k0_off62 (k0_t7 : Fin k0_t7_loop.trips) : Fin 1 → Nat :=
  let c1024_i32_139 : BitVec 32 := 1024#32
  let c0_i32_54 : BitVec 32 := 0#32
  let c1_i32_56 : BitVec 32 := 1#32
  let arg18 : BitVec 32 := Scf.iv c0_i32_54 c1_i32_56 k0_t7
  let c4_i32_138 : BitVec 32 := 4#32
  let v177 : BitVec 32 := Scalar.muli arg18 c4_i32_138
  let v178 : BitVec 32 := Scalar.addi c1024_i32_139 v177
  let c3_i32_140 : BitVec 32 := 3#32
  let v179 : BitVec 32 := Scalar.addi v178 c3_i32_140
  let v180 : Index := Scalar.indexCast v179
  ![v180.toNat]
def k0_off63 (v181 : BitVec 32) : Fin 3 → Nat :=
  let v182 : Index := Scalar.indexCast v181
  let c0_141 : Index := 0#32
  let c0_142 : Index := 0#32
  ![v182.toNat, 0, 0]

def k0_chk24 (v181 : BitVec 32) : Prop :=
  (∀ a, (k0_off63 v181) a + S1x8x128.size a ≤ S713x8x128.size a)
theorem k0_off63_inb : ∀ (v181 : BitVec 32) (k0_hw24 : k0_chk24 v181), ∀ a, (k0_off63 v181) a + S1x8x128.size a ≤ S713x8x128.size a := fun v181 k0_hw24 => k0_hw24

def k0_off64 (k0_t7 : Fin k0_t7_loop.trips) : Fin 3 → Nat :=
  let c257_i32_143 : BitVec 32 := 257#32
  let c0_i32_54 : BitVec 32 := 0#32
  let c1_i32_56 : BitVec 32 := 1#32
  let arg18 : BitVec 32 := Scf.iv c0_i32_54 c1_i32_56 k0_t7
  let v189 : BitVec 32 := Scalar.addi c257_i32_143 arg18
  let v190 : Index := Scalar.indexCast v189
  let c0_144 : Index := 0#32
  let c0_145 : Index := 0#32
  ![v190.toNat, 0, 0]
def k0_off65 (k0_t7 : Fin k0_t7_loop.trips) : Fin 1 → Nat :=
  let c2048_i32 : BitVec 32 := 2048#32
  let c0_i32_54 : BitVec 32 := 0#32
  let c1_i32_56 : BitVec 32 := 1#32
  let arg18 : BitVec 32 := Scf.iv c0_i32_54 c1_i32_56 k0_t7
  let c4_i32_146 : BitVec 32 := 4#32
  let v194 : BitVec 32 := Scalar.muli arg18 c4_i32_146
  let v195 : BitVec 32 := Scalar.addi c2048_i32 v194
  let c0_i32_147 : BitVec 32 := 0#32
  let v196 : BitVec 32 := Scalar.addi v195 c0_i32_147
  let v197 : Index := Scalar.indexCast v196
  ![v197.toNat]
def k0_off66 (v198 : BitVec 32) : Fin 3 → Nat :=
  let v199 : Index := Scalar.indexCast v198
  let c0_148 : Index := 0#32
  let c0_149 : Index := 0#32
  ![v199.toNat, 0, 0]

def k0_chk25 (v198 : BitVec 32) : Prop :=
  (∀ a, (k0_off66 v198) a + S1x8x128.size a ≤ S713x8x128.size a)
theorem k0_off66_inb : ∀ (v198 : BitVec 32) (k0_hw25 : k0_chk25 v198), ∀ a, (k0_off66 v198) a + S1x8x128.size a ≤ S713x8x128.size a := fun v198 k0_hw25 => k0_hw25

def k0_off67 (k0_t7 : Fin k0_t7_loop.trips) : Fin 1 → Nat :=
  let c2048_i32_151 : BitVec 32 := 2048#32
  let c0_i32_54 : BitVec 32 := 0#32
  let c1_i32_56 : BitVec 32 := 1#32
  let arg18 : BitVec 32 := Scf.iv c0_i32_54 c1_i32_56 k0_t7
  let c4_i32_150 : BitVec 32 := 4#32
  let v203 : BitVec 32 := Scalar.muli arg18 c4_i32_150
  let v204 : BitVec 32 := Scalar.addi c2048_i32_151 v203
  let c1_i32_152 : BitVec 32 := 1#32
  let v205 : BitVec 32 := Scalar.addi v204 c1_i32_152
  let v206 : Index := Scalar.indexCast v205
  ![v206.toNat]
def k0_off68 (v207 : BitVec 32) : Fin 3 → Nat :=
  let v208 : Index := Scalar.indexCast v207
  let c0_153 : Index := 0#32
  let c0_154 : Index := 0#32
  ![v208.toNat, 0, 0]

def k0_chk26 (v207 : BitVec 32) : Prop :=
  (∀ a, (k0_off68 v207) a + S1x8x128.size a ≤ S713x8x128.size a)
theorem k0_off68_inb : ∀ (v207 : BitVec 32) (k0_hw26 : k0_chk26 v207), ∀ a, (k0_off68 v207) a + S1x8x128.size a ≤ S713x8x128.size a := fun v207 k0_hw26 => k0_hw26

def k0_off69 (k0_t7 : Fin k0_t7_loop.trips) : Fin 1 → Nat :=
  let c2048_i32_156 : BitVec 32 := 2048#32
  let c0_i32_54 : BitVec 32 := 0#32
  let c1_i32_56 : BitVec 32 := 1#32
  let arg18 : BitVec 32 := Scf.iv c0_i32_54 c1_i32_56 k0_t7
  let c4_i32_155 : BitVec 32 := 4#32
  let v212 : BitVec 32 := Scalar.muli arg18 c4_i32_155
  let v213 : BitVec 32 := Scalar.addi c2048_i32_156 v212
  let c2_i32_157 : BitVec 32 := 2#32
  let v214 : BitVec 32 := Scalar.addi v213 c2_i32_157
  let v215 : Index := Scalar.indexCast v214
  ![v215.toNat]
def k0_off70 (v216 : BitVec 32) : Fin 3 → Nat :=
  let v217 : Index := Scalar.indexCast v216
  let c0_158 : Index := 0#32
  let c0_159 : Index := 0#32
  ![v217.toNat, 0, 0]

def k0_chk27 (v216 : BitVec 32) : Prop :=
  (∀ a, (k0_off70 v216) a + S1x8x128.size a ≤ S713x8x128.size a)
theorem k0_off70_inb : ∀ (v216 : BitVec 32) (k0_hw27 : k0_chk27 v216), ∀ a, (k0_off70 v216) a + S1x8x128.size a ≤ S713x8x128.size a := fun v216 k0_hw27 => k0_hw27

def k0_off71 (k0_t7 : Fin k0_t7_loop.trips) : Fin 1 → Nat :=
  let c2048_i32_161 : BitVec 32 := 2048#32
  let c0_i32_54 : BitVec 32 := 0#32
  let c1_i32_56 : BitVec 32 := 1#32
  let arg18 : BitVec 32 := Scf.iv c0_i32_54 c1_i32_56 k0_t7
  let c4_i32_160 : BitVec 32 := 4#32
  let v221 : BitVec 32 := Scalar.muli arg18 c4_i32_160
  let v222 : BitVec 32 := Scalar.addi c2048_i32_161 v221
  let c3_i32_162 : BitVec 32 := 3#32
  let v223 : BitVec 32 := Scalar.addi v222 c3_i32_162
  let v224 : Index := Scalar.indexCast v223
  ![v224.toNat]
def k0_off72 (v225 : BitVec 32) : Fin 3 → Nat :=
  let v226 : Index := Scalar.indexCast v225
  let c0_163 : Index := 0#32
  let c0_164 : Index := 0#32
  ![v226.toNat, 0, 0]

def k0_chk28 (v225 : BitVec 32) : Prop :=
  (∀ a, (k0_off72 v225) a + S1x8x128.size a ≤ S713x8x128.size a)
theorem k0_off72_inb : ∀ (v225 : BitVec 32) (k0_hw28 : k0_chk28 v225), ∀ a, (k0_off72 v225) a + S1x8x128.size a ≤ S713x8x128.size a := fun v225 k0_hw28 => k0_hw28

def k0_off73 (k0_t7 : Fin k0_t7_loop.trips) : Fin 3 → Nat :=
  let c514_i32_165 : BitVec 32 := 514#32
  let c0_i32_54 : BitVec 32 := 0#32
  let c1_i32_56 : BitVec 32 := 1#32
  let arg18 : BitVec 32 := Scf.iv c0_i32_54 c1_i32_56 k0_t7
  let v233 : BitVec 32 := Scalar.addi c514_i32_165 arg18
  let v234 : Index := Scalar.indexCast v233
  let c0_166 : Index := 0#32
  let c0_167 : Index := 0#32
  ![v234.toNat, 0, 0]
def k0_off74 (k0_t7 : Fin k0_t7_loop.trips) : Fin 1 → Nat :=
  let c3072_i32 : BitVec 32 := 3072#32
  let c0_i32_54 : BitVec 32 := 0#32
  let c1_i32_56 : BitVec 32 := 1#32
  let arg18 : BitVec 32 := Scf.iv c0_i32_54 c1_i32_56 k0_t7
  let c4_i32_168 : BitVec 32 := 4#32
  let v238 : BitVec 32 := Scalar.muli arg18 c4_i32_168
  let v239 : BitVec 32 := Scalar.addi c3072_i32 v238
  let c0_i32_169 : BitVec 32 := 0#32
  let v240 : BitVec 32 := Scalar.addi v239 c0_i32_169
  let v241 : Index := Scalar.indexCast v240
  ![v241.toNat]
def k0_off75 (v242 : BitVec 32) : Fin 3 → Nat :=
  let v243 : Index := Scalar.indexCast v242
  let c0_170 : Index := 0#32
  let c0_171 : Index := 0#32
  ![v243.toNat, 0, 0]

def k0_chk29 (v242 : BitVec 32) : Prop :=
  (∀ a, (k0_off75 v242) a + S1x8x128.size a ≤ S713x8x128.size a)
theorem k0_off75_inb : ∀ (v242 : BitVec 32) (k0_hw29 : k0_chk29 v242), ∀ a, (k0_off75 v242) a + S1x8x128.size a ≤ S713x8x128.size a := fun v242 k0_hw29 => k0_hw29

def k0_off76 (k0_t7 : Fin k0_t7_loop.trips) : Fin 1 → Nat :=
  let c3072_i32_173 : BitVec 32 := 3072#32
  let c0_i32_54 : BitVec 32 := 0#32
  let c1_i32_56 : BitVec 32 := 1#32
  let arg18 : BitVec 32 := Scf.iv c0_i32_54 c1_i32_56 k0_t7
  let c4_i32_172 : BitVec 32 := 4#32
  let v247 : BitVec 32 := Scalar.muli arg18 c4_i32_172
  let v248 : BitVec 32 := Scalar.addi c3072_i32_173 v247
  let c1_i32_174 : BitVec 32 := 1#32
  let v249 : BitVec 32 := Scalar.addi v248 c1_i32_174
  let v250 : Index := Scalar.indexCast v249
  ![v250.toNat]
def k0_off77 (v251 : BitVec 32) : Fin 3 → Nat :=
  let v252 : Index := Scalar.indexCast v251
  let c0_175 : Index := 0#32
  let c0_176 : Index := 0#32
  ![v252.toNat, 0, 0]

def k0_chk30 (v251 : BitVec 32) : Prop :=
  (∀ a, (k0_off77 v251) a + S1x8x128.size a ≤ S713x8x128.size a)
theorem k0_off77_inb : ∀ (v251 : BitVec 32) (k0_hw30 : k0_chk30 v251), ∀ a, (k0_off77 v251) a + S1x8x128.size a ≤ S713x8x128.size a := fun v251 k0_hw30 => k0_hw30

def k0_off78 (k0_t7 : Fin k0_t7_loop.trips) : Fin 1 → Nat :=
  let c3072_i32_178 : BitVec 32 := 3072#32
  let c0_i32_54 : BitVec 32 := 0#32
  let c1_i32_56 : BitVec 32 := 1#32
  let arg18 : BitVec 32 := Scf.iv c0_i32_54 c1_i32_56 k0_t7
  let c4_i32_177 : BitVec 32 := 4#32
  let v256 : BitVec 32 := Scalar.muli arg18 c4_i32_177
  let v257 : BitVec 32 := Scalar.addi c3072_i32_178 v256
  let c2_i32_179 : BitVec 32 := 2#32
  let v258 : BitVec 32 := Scalar.addi v257 c2_i32_179
  let v259 : Index := Scalar.indexCast v258
  ![v259.toNat]
def k0_off79 (v260 : BitVec 32) : Fin 3 → Nat :=
  let v261 : Index := Scalar.indexCast v260
  let c0_180 : Index := 0#32
  let c0_181 : Index := 0#32
  ![v261.toNat, 0, 0]

def k0_chk31 (v260 : BitVec 32) : Prop :=
  (∀ a, (k0_off79 v260) a + S1x8x128.size a ≤ S713x8x128.size a)
theorem k0_off79_inb : ∀ (v260 : BitVec 32) (k0_hw31 : k0_chk31 v260), ∀ a, (k0_off79 v260) a + S1x8x128.size a ≤ S713x8x128.size a := fun v260 k0_hw31 => k0_hw31

def k0_off80 (k0_t7 : Fin k0_t7_loop.trips) : Fin 1 → Nat :=
  let c3072_i32_183 : BitVec 32 := 3072#32
  let c0_i32_54 : BitVec 32 := 0#32
  let c1_i32_56 : BitVec 32 := 1#32
  let arg18 : BitVec 32 := Scf.iv c0_i32_54 c1_i32_56 k0_t7
  let c4_i32_182 : BitVec 32 := 4#32
  let v265 : BitVec 32 := Scalar.muli arg18 c4_i32_182
  let v266 : BitVec 32 := Scalar.addi c3072_i32_183 v265
  let c3_i32_184 : BitVec 32 := 3#32
  let v267 : BitVec 32 := Scalar.addi v266 c3_i32_184
  let v268 : Index := Scalar.indexCast v267
  ![v268.toNat]
def k0_off81 (v269 : BitVec 32) : Fin 3 → Nat :=
  let v270 : Index := Scalar.indexCast v269
  let c0_185 : Index := 0#32
  let c0_186 : Index := 0#32
  ![v270.toNat, 0, 0]

def k0_chk32 (v269 : BitVec 32) : Prop :=
  (∀ a, (k0_off81 v269) a + S1x8x128.size a ≤ S713x8x128.size a)
theorem k0_off81_inb : ∀ (v269 : BitVec 32) (k0_hw32 : k0_chk32 v269), ∀ a, (k0_off81 v269) a + S1x8x128.size a ≤ S713x8x128.size a := fun v269 k0_hw32 => k0_hw32

def k0_off82 (k0_t7 : Fin k0_t7_loop.trips) : Fin 3 → Nat :=
  let c771_i32_187 : BitVec 32 := 771#32
  let c0_i32_54 : BitVec 32 := 0#32
  let c1_i32_56 : BitVec 32 := 1#32
  let arg18 : BitVec 32 := Scf.iv c0_i32_54 c1_i32_56 k0_t7
  let v277 : BitVec 32 := Scalar.addi c771_i32_187 arg18
  let v278 : Index := Scalar.indexCast v277
  let c0_188 : Index := 0#32
  let c0_189 : Index := 0#32
  ![v278.toNat, 0, 0]
def k0_off83 (k0_t2 : Fin k0_t2_loop.trips) (k0_t3 : Fin k0_t3_loop.trips) : Fin 3 → Nat :=
  let c0_i32_1 : BitVec 32 := 0#32
  let c1_i32_2 : BitVec 32 := 1#32
  let arg16 : BitVec 32 := Scf.iv c0_i32_1 c1_i32_2 k0_t2
  let c64_i32 : BitVec 32 := 64#32
  let v34 : BitVec 32 := Scalar.muli arg16 c64_i32
  let c2_i32 : BitVec 32 := 2#32
  let c0_i32_27 : BitVec 32 := 0#32
  let c1_i32_28 : BitVec 32 := 1#32
  let arg17 : BitVec 32 := Scf.iv c0_i32_27 c1_i32_28 k0_t3
  let v35 : BitVec 32 := Scalar.muli c2_i32 arg17
  let v36 : BitVec 32 := Scalar.addi v34 v35
  let c1_i32_34 : BitVec 32 := 1#32
  let v37 : BitVec 32 := Scalar.addi v36 c1_i32_34
  let v58 : Index := Scalar.indexCast v37
  let c0_58 : Index := 0#32
  let c0_59 : Index := 0#32
  ![v58.toNat, 0, 0]
@[reducible] def k0_t8_loop : Scf.Loop 32 :=
  let c0_i32_62 : BitVec 32 := 0#32
  let c713_i32_63 : BitVec 32 := 713#32
  let v66 : BitVec 32 := Scalar.addi c0_i32_62 c713_i32_63
  let c1_i32_64 : BitVec 32 := 1#32
  ⟨c0_i32_62, v66, c1_i32_64⟩
def k0_off84 (k0_t8 : Fin k0_t8_loop.trips) : Fin 1 → Nat :=
  let c0_i32_62 : BitVec 32 := 0#32
  let c1_i32_64 : BitVec 32 := 1#32
  let arg18 : BitVec 32 := Scf.iv c0_i32_62 c1_i32_64 k0_t8
  let v78 : Index := Scalar.indexCast arg18
  ![v78.toNat]
def k0_off85 (k0_t8 : Fin k0_t8_loop.trips) : Fin 3 → Nat :=
  let c0_i32_62 : BitVec 32 := 0#32
  let c1_i32_64 : BitVec 32 := 1#32
  let arg18 : BitVec 32 := Scf.iv c0_i32_62 c1_i32_64 k0_t8
  let v84 : Index := Scalar.indexCast arg18
  let c0_82 : Index := 0#32
  let c0_83 : Index := 0#32
  ![v84.toNat, 0, 0]
@[reducible] def k0_t9_loop : Scf.Loop 32 :=
  let c0_i32_66 : BitVec 32 := 0#32
  let c256_i32_67 : BitVec 32 := 256#32
  let v67 : BitVec 32 := Scalar.addi c0_i32_66 c256_i32_67
  let c1_i32_68 : BitVec 32 := 1#32
  ⟨c0_i32_66, v67, c1_i32_68⟩
def k0_off86 (k0_t9 : Fin k0_t9_loop.trips) (c0_i32_82 : BitVec 32) : Fin 3 → Nat :=
  let c0_i32_66 : BitVec 32 := 0#32
  let c1_i32_68 : BitVec 32 := 1#32
  let arg18 : BitVec 32 := Scf.iv c0_i32_66 c1_i32_68 k0_t9
  let v78 : BitVec 32 := Scalar.addi c0_i32_82 arg18
  let v79 : Index := Scalar.indexCast v78
  let c0_83 : Index := 0#32
  let c0_84 : Index := 0#32
  ![v79.toNat, 0, 0]
def k0_off87 (k0_t9 : Fin k0_t9_loop.trips) : Fin 1 → Nat :=
  let c0_i32_95 : BitVec 32 := 0#32
  let c0_i32_66 : BitVec 32 := 0#32
  let c1_i32_68 : BitVec 32 := 1#32
  let arg18 : BitVec 32 := Scf.iv c0_i32_66 c1_i32_68 k0_t9
  let c4_i32_94 : BitVec 32 := 4#32
  let v94 : BitVec 32 := Scalar.muli arg18 c4_i32_94
  let v95 : BitVec 32 := Scalar.addi c0_i32_95 v94
  let c0_i32_96 : BitVec 32 := 0#32
  let v96 : BitVec 32 := Scalar.addi v95 c0_i32_96
  let v97 : Index := Scalar.indexCast v96
  ![v97.toNat]
def k0_off88 (v98 : BitVec 32) : Fin 3 → Nat :=
  let v99 : Index := Scalar.indexCast v98
  let c0_97 : Index := 0#32
  let c0_98 : Index := 0#32
  ![v99.toNat, 0, 0]

def k0_chk33 (v98 : BitVec 32) : Prop :=
  (∀ a, (k0_off88 v98) a + S1x8x128.size a ≤ S713x8x128.size a)
theorem k0_off88_inb : ∀ (v98 : BitVec 32) (k0_hw33 : k0_chk33 v98), ∀ a, (k0_off88 v98) a + S1x8x128.size a ≤ S713x8x128.size a := fun v98 k0_hw33 => k0_hw33

def k0_off89 (k0_t9 : Fin k0_t9_loop.trips) : Fin 1 → Nat :=
  let c1024_i32 : BitVec 32 := 1024#32
  let c0_i32_66 : BitVec 32 := 0#32
  let c1_i32_68 : BitVec 32 := 1#32
  let arg18 : BitVec 32 := Scf.iv c0_i32_66 c1_i32_68 k0_t9
  let c4_i32_99 : BitVec 32 := 4#32
  let v103 : BitVec 32 := Scalar.muli arg18 c4_i32_99
  let v104 : BitVec 32 := Scalar.addi c1024_i32 v103
  let c0_i32_100 : BitVec 32 := 0#32
  let v105 : BitVec 32 := Scalar.addi v104 c0_i32_100
  let v106 : Index := Scalar.indexCast v105
  ![v106.toNat]
def k0_off90 (v107 : BitVec 32) : Fin 3 → Nat :=
  let v108 : Index := Scalar.indexCast v107
  let c0_101 : Index := 0#32
  let c0_102 : Index := 0#32
  ![v108.toNat, 0, 0]

def k0_chk34 (v107 : BitVec 32) : Prop :=
  (∀ a, (k0_off90 v107) a + S1x8x128.size a ≤ S713x8x128.size a)
theorem k0_off90_inb : ∀ (v107 : BitVec 32) (k0_hw34 : k0_chk34 v107), ∀ a, (k0_off90 v107) a + S1x8x128.size a ≤ S713x8x128.size a := fun v107 k0_hw34 => k0_hw34

def k0_off91 (k0_t9 : Fin k0_t9_loop.trips) : Fin 1 → Nat :=
  let c2048_i32 : BitVec 32 := 2048#32
  let c0_i32_66 : BitVec 32 := 0#32
  let c1_i32_68 : BitVec 32 := 1#32
  let arg18 : BitVec 32 := Scf.iv c0_i32_66 c1_i32_68 k0_t9
  let c4_i32_103 : BitVec 32 := 4#32
  let v112 : BitVec 32 := Scalar.muli arg18 c4_i32_103
  let v113 : BitVec 32 := Scalar.addi c2048_i32 v112
  let c0_i32_104 : BitVec 32 := 0#32
  let v114 : BitVec 32 := Scalar.addi v113 c0_i32_104
  let v115 : Index := Scalar.indexCast v114
  ![v115.toNat]
def k0_off92 (v116 : BitVec 32) : Fin 3 → Nat :=
  let v117 : Index := Scalar.indexCast v116
  let c0_105 : Index := 0#32
  let c0_106 : Index := 0#32
  ![v117.toNat, 0, 0]

def k0_chk35 (v116 : BitVec 32) : Prop :=
  (∀ a, (k0_off92 v116) a + S1x8x128.size a ≤ S713x8x128.size a)
theorem k0_off92_inb : ∀ (v116 : BitVec 32) (k0_hw35 : k0_chk35 v116), ∀ a, (k0_off92 v116) a + S1x8x128.size a ≤ S713x8x128.size a := fun v116 k0_hw35 => k0_hw35

def k0_off93 (k0_t9 : Fin k0_t9_loop.trips) : Fin 1 → Nat :=
  let c3072_i32 : BitVec 32 := 3072#32
  let c0_i32_66 : BitVec 32 := 0#32
  let c1_i32_68 : BitVec 32 := 1#32
  let arg18 : BitVec 32 := Scf.iv c0_i32_66 c1_i32_68 k0_t9
  let c4_i32_107 : BitVec 32 := 4#32
  let v121 : BitVec 32 := Scalar.muli arg18 c4_i32_107
  let v122 : BitVec 32 := Scalar.addi c3072_i32 v121
  let c0_i32_108 : BitVec 32 := 0#32
  let v123 : BitVec 32 := Scalar.addi v122 c0_i32_108
  let v124 : Index := Scalar.indexCast v123
  ![v124.toNat]
def k0_off94 (v125 : BitVec 32) : Fin 3 → Nat :=
  let v126 : Index := Scalar.indexCast v125
  let c0_109 : Index := 0#32
  let c0_110 : Index := 0#32
  ![v126.toNat, 0, 0]

def k0_chk36 (v125 : BitVec 32) : Prop :=
  (∀ a, (k0_off94 v125) a + S1x8x128.size a ≤ S713x8x128.size a)
theorem k0_off94_inb : ∀ (v125 : BitVec 32) (k0_hw36 : k0_chk36 v125), ∀ a, (k0_off94 v125) a + S1x8x128.size a ≤ S713x8x128.size a := fun v125 k0_hw36 => k0_hw36

def k0_off95 (k0_t9 : Fin k0_t9_loop.trips) : Fin 3 → Nat :=
  let c0_i32_66 : BitVec 32 := 0#32
  let c1_i32_68 : BitVec 32 := 1#32
  let arg18 : BitVec 32 := Scf.iv c0_i32_66 c1_i32_68 k0_t9
  let c4_i32_111 : BitVec 32 := 4#32
  let v133 : BitVec 32 := Scalar.muli arg18 c4_i32_111
  let c0_i32_112 : BitVec 32 := 0#32
  let v134 : BitVec 32 := Scalar.addi v133 c0_i32_112
  let c8_i32 : BitVec 32 := 8#32
  let v135 : BitVec 32 := Scalar.shrsi v134 c8_i32
  let v136 : BitVec 32 := Scalar.addi v134 v135
  let v137 : Index := Scalar.indexCast v136
  let c0_113 : Index := 0#32
  let c0_114 : Index := 0#32
  ![v137.toNat, 0, 0]
def k0_off96 (k0_t9 : Fin k0_t9_loop.trips) : Fin 1 → Nat :=
  let c0_i32_116 : BitVec 32 := 0#32
  let c0_i32_66 : BitVec 32 := 0#32
  let c1_i32_68 : BitVec 32 := 1#32
  let arg18 : BitVec 32 := Scf.iv c0_i32_66 c1_i32_68 k0_t9
  let c4_i32_115 : BitVec 32 := 4#32
  let v141 : BitVec 32 := Scalar.muli arg18 c4_i32_115
  let v142 : BitVec 32 := Scalar.addi c0_i32_116 v141
  let c1_i32_117 : BitVec 32 := 1#32
  let v143 : BitVec 32 := Scalar.addi v142 c1_i32_117
  let v144 : Index := Scalar.indexCast v143
  ![v144.toNat]
def k0_off97 (v145 : BitVec 32) : Fin 3 → Nat :=
  let v146 : Index := Scalar.indexCast v145
  let c0_118 : Index := 0#32
  let c0_119 : Index := 0#32
  ![v146.toNat, 0, 0]

def k0_chk37 (v145 : BitVec 32) : Prop :=
  (∀ a, (k0_off97 v145) a + S1x8x128.size a ≤ S713x8x128.size a)
theorem k0_off97_inb : ∀ (v145 : BitVec 32) (k0_hw37 : k0_chk37 v145), ∀ a, (k0_off97 v145) a + S1x8x128.size a ≤ S713x8x128.size a := fun v145 k0_hw37 => k0_hw37

def k0_off98 (k0_t9 : Fin k0_t9_loop.trips) : Fin 1 → Nat :=
  let c1024_i32_121 : BitVec 32 := 1024#32
  let c0_i32_66 : BitVec 32 := 0#32
  let c1_i32_68 : BitVec 32 := 1#32
  let arg18 : BitVec 32 := Scf.iv c0_i32_66 c1_i32_68 k0_t9
  let c4_i32_120 : BitVec 32 := 4#32
  let v150 : BitVec 32 := Scalar.muli arg18 c4_i32_120
  let v151 : BitVec 32 := Scalar.addi c1024_i32_121 v150
  let c1_i32_122 : BitVec 32 := 1#32
  let v152 : BitVec 32 := Scalar.addi v151 c1_i32_122
  let v153 : Index := Scalar.indexCast v152
  ![v153.toNat]
def k0_off99 (v154 : BitVec 32) : Fin 3 → Nat :=
  let v155 : Index := Scalar.indexCast v154
  let c0_123 : Index := 0#32
  let c0_124 : Index := 0#32
  ![v155.toNat, 0, 0]

def k0_chk38 (v154 : BitVec 32) : Prop :=
  (∀ a, (k0_off99 v154) a + S1x8x128.size a ≤ S713x8x128.size a)
theorem k0_off99_inb : ∀ (v154 : BitVec 32) (k0_hw38 : k0_chk38 v154), ∀ a, (k0_off99 v154) a + S1x8x128.size a ≤ S713x8x128.size a := fun v154 k0_hw38 => k0_hw38

def k0_off100 (k0_t9 : Fin k0_t9_loop.trips) : Fin 1 → Nat :=
  let c2048_i32_126 : BitVec 32 := 2048#32
  let c0_i32_66 : BitVec 32 := 0#32
  let c1_i32_68 : BitVec 32 := 1#32
  let arg18 : BitVec 32 := Scf.iv c0_i32_66 c1_i32_68 k0_t9
  let c4_i32_125 : BitVec 32 := 4#32
  let v159 : BitVec 32 := Scalar.muli arg18 c4_i32_125
  let v160 : BitVec 32 := Scalar.addi c2048_i32_126 v159
  let c1_i32_127 : BitVec 32 := 1#32
  let v161 : BitVec 32 := Scalar.addi v160 c1_i32_127
  let v162 : Index := Scalar.indexCast v161
  ![v162.toNat]
def k0_off101 (v163 : BitVec 32) : Fin 3 → Nat :=
  let v164 : Index := Scalar.indexCast v163
  let c0_128 : Index := 0#32
  let c0_129 : Index := 0#32
  ![v164.toNat, 0, 0]

def k0_chk39 (v163 : BitVec 32) : Prop :=
  (∀ a, (k0_off101 v163) a + S1x8x128.size a ≤ S713x8x128.size a)
theorem k0_off101_inb : ∀ (v163 : BitVec 32) (k0_hw39 : k0_chk39 v163), ∀ a, (k0_off101 v163) a + S1x8x128.size a ≤ S713x8x128.size a := fun v163 k0_hw39 => k0_hw39

def k0_off102 (k0_t9 : Fin k0_t9_loop.trips) : Fin 1 → Nat :=
  let c3072_i32_131 : BitVec 32 := 3072#32
  let c0_i32_66 : BitVec 32 := 0#32
  let c1_i32_68 : BitVec 32 := 1#32
  let arg18 : BitVec 32 := Scf.iv c0_i32_66 c1_i32_68 k0_t9
  let c4_i32_130 : BitVec 32 := 4#32
  let v168 : BitVec 32 := Scalar.muli arg18 c4_i32_130
  let v169 : BitVec 32 := Scalar.addi c3072_i32_131 v168
  let c1_i32_132 : BitVec 32 := 1#32
  let v170 : BitVec 32 := Scalar.addi v169 c1_i32_132
  let v171 : Index := Scalar.indexCast v170
  ![v171.toNat]
def k0_off103 (v172 : BitVec 32) : Fin 3 → Nat :=
  let v173 : Index := Scalar.indexCast v172
  let c0_133 : Index := 0#32
  let c0_134 : Index := 0#32
  ![v173.toNat, 0, 0]

def k0_chk40 (v172 : BitVec 32) : Prop :=
  (∀ a, (k0_off103 v172) a + S1x8x128.size a ≤ S713x8x128.size a)
theorem k0_off103_inb : ∀ (v172 : BitVec 32) (k0_hw40 : k0_chk40 v172), ∀ a, (k0_off103 v172) a + S1x8x128.size a ≤ S713x8x128.size a := fun v172 k0_hw40 => k0_hw40

def k0_off104 (k0_t9 : Fin k0_t9_loop.trips) : Fin 3 → Nat :=
  let c0_i32_66 : BitVec 32 := 0#32
  let c1_i32_68 : BitVec 32 := 1#32
  let arg18 : BitVec 32 := Scf.iv c0_i32_66 c1_i32_68 k0_t9
  let c4_i32_135 : BitVec 32 := 4#32
  let v180 : BitVec 32 := Scalar.muli arg18 c4_i32_135
  let c1_i32_136 : BitVec 32 := 1#32
  let v181 : BitVec 32 := Scalar.addi v180 c1_i32_136
  let c8_i32_137 : BitVec 32 := 8#32
  let v182 : BitVec 32 := Scalar.shrsi v181 c8_i32_137
  let v183 : BitVec 32 := Scalar.addi v181 v182
  let v184 : Index := Scalar.indexCast v183
  let c0_138 : Index := 0#32
  let c0_139 : Index := 0#32
  ![v184.toNat, 0, 0]
def k0_off105 (k0_t9 : Fin k0_t9_loop.trips) : Fin 1 → Nat :=
  let c0_i32_141 : BitVec 32 := 0#32
  let c0_i32_66 : BitVec 32 := 0#32
  let c1_i32_68 : BitVec 32 := 1#32
  let arg18 : BitVec 32 := Scf.iv c0_i32_66 c1_i32_68 k0_t9
  let c4_i32_140 : BitVec 32 := 4#32
  let v188 : BitVec 32 := Scalar.muli arg18 c4_i32_140
  let v189 : BitVec 32 := Scalar.addi c0_i32_141 v188
  let c2_i32_142 : BitVec 32 := 2#32
  let v190 : BitVec 32 := Scalar.addi v189 c2_i32_142
  let v191 : Index := Scalar.indexCast v190
  ![v191.toNat]
def k0_off106 (v192 : BitVec 32) : Fin 3 → Nat :=
  let v193 : Index := Scalar.indexCast v192
  let c0_143 : Index := 0#32
  let c0_144 : Index := 0#32
  ![v193.toNat, 0, 0]

def k0_chk41 (v192 : BitVec 32) : Prop :=
  (∀ a, (k0_off106 v192) a + S1x8x128.size a ≤ S713x8x128.size a)
theorem k0_off106_inb : ∀ (v192 : BitVec 32) (k0_hw41 : k0_chk41 v192), ∀ a, (k0_off106 v192) a + S1x8x128.size a ≤ S713x8x128.size a := fun v192 k0_hw41 => k0_hw41

def k0_off107 (k0_t9 : Fin k0_t9_loop.trips) : Fin 1 → Nat :=
  let c1024_i32_146 : BitVec 32 := 1024#32
  let c0_i32_66 : BitVec 32 := 0#32
  let c1_i32_68 : BitVec 32 := 1#32
  let arg18 : BitVec 32 := Scf.iv c0_i32_66 c1_i32_68 k0_t9
  let c4_i32_145 : BitVec 32 := 4#32
  let v197 : BitVec 32 := Scalar.muli arg18 c4_i32_145
  let v198 : BitVec 32 := Scalar.addi c1024_i32_146 v197
  let c2_i32_147 : BitVec 32 := 2#32
  let v199 : BitVec 32 := Scalar.addi v198 c2_i32_147
  let v200 : Index := Scalar.indexCast v199
  ![v200.toNat]
def k0_off108 (v201 : BitVec 32) : Fin 3 → Nat :=
  let v202 : Index := Scalar.indexCast v201
  let c0_148 : Index := 0#32
  let c0_149 : Index := 0#32
  ![v202.toNat, 0, 0]

def k0_chk42 (v201 : BitVec 32) : Prop :=
  (∀ a, (k0_off108 v201) a + S1x8x128.size a ≤ S713x8x128.size a)
theorem k0_off108_inb : ∀ (v201 : BitVec 32) (k0_hw42 : k0_chk42 v201), ∀ a, (k0_off108 v201) a + S1x8x128.size a ≤ S713x8x128.size a := fun v201 k0_hw42 => k0_hw42

def k0_off109 (k0_t9 : Fin k0_t9_loop.trips) : Fin 1 → Nat :=
  let c2048_i32_151 : BitVec 32 := 2048#32
  let c0_i32_66 : BitVec 32 := 0#32
  let c1_i32_68 : BitVec 32 := 1#32
  let arg18 : BitVec 32 := Scf.iv c0_i32_66 c1_i32_68 k0_t9
  let c4_i32_150 : BitVec 32 := 4#32
  let v206 : BitVec 32 := Scalar.muli arg18 c4_i32_150
  let v207 : BitVec 32 := Scalar.addi c2048_i32_151 v206
  let c2_i32_152 : BitVec 32 := 2#32
  let v208 : BitVec 32 := Scalar.addi v207 c2_i32_152
  let v209 : Index := Scalar.indexCast v208
  ![v209.toNat]
def k0_off110 (v210 : BitVec 32) : Fin 3 → Nat :=
  let v211 : Index := Scalar.indexCast v210
  let c0_153 : Index := 0#32
  let c0_154 : Index := 0#32
  ![v211.toNat, 0, 0]

def k0_chk43 (v210 : BitVec 32) : Prop :=
  (∀ a, (k0_off110 v210) a + S1x8x128.size a ≤ S713x8x128.size a)
theorem k0_off110_inb : ∀ (v210 : BitVec 32) (k0_hw43 : k0_chk43 v210), ∀ a, (k0_off110 v210) a + S1x8x128.size a ≤ S713x8x128.size a := fun v210 k0_hw43 => k0_hw43

def k0_off111 (k0_t9 : Fin k0_t9_loop.trips) : Fin 1 → Nat :=
  let c3072_i32_156 : BitVec 32 := 3072#32
  let c0_i32_66 : BitVec 32 := 0#32
  let c1_i32_68 : BitVec 32 := 1#32
  let arg18 : BitVec 32 := Scf.iv c0_i32_66 c1_i32_68 k0_t9
  let c4_i32_155 : BitVec 32 := 4#32
  let v215 : BitVec 32 := Scalar.muli arg18 c4_i32_155
  let v216 : BitVec 32 := Scalar.addi c3072_i32_156 v215
  let c2_i32_157 : BitVec 32 := 2#32
  let v217 : BitVec 32 := Scalar.addi v216 c2_i32_157
  let v218 : Index := Scalar.indexCast v217
  ![v218.toNat]
def k0_off112 (v219 : BitVec 32) : Fin 3 → Nat :=
  let v220 : Index := Scalar.indexCast v219
  let c0_158 : Index := 0#32
  let c0_159 : Index := 0#32
  ![v220.toNat, 0, 0]

def k0_chk44 (v219 : BitVec 32) : Prop :=
  (∀ a, (k0_off112 v219) a + S1x8x128.size a ≤ S713x8x128.size a)
theorem k0_off112_inb : ∀ (v219 : BitVec 32) (k0_hw44 : k0_chk44 v219), ∀ a, (k0_off112 v219) a + S1x8x128.size a ≤ S713x8x128.size a := fun v219 k0_hw44 => k0_hw44

def k0_off113 (k0_t9 : Fin k0_t9_loop.trips) : Fin 3 → Nat :=
  let c0_i32_66 : BitVec 32 := 0#32
  let c1_i32_68 : BitVec 32 := 1#32
  let arg18 : BitVec 32 := Scf.iv c0_i32_66 c1_i32_68 k0_t9
  let c4_i32_160 : BitVec 32 := 4#32
  let v227 : BitVec 32 := Scalar.muli arg18 c4_i32_160
  let c2_i32_161 : BitVec 32 := 2#32
  let v228 : BitVec 32 := Scalar.addi v227 c2_i32_161
  let c8_i32_162 : BitVec 32 := 8#32
  let v229 : BitVec 32 := Scalar.shrsi v228 c8_i32_162
  let v230 : BitVec 32 := Scalar.addi v228 v229
  let v231 : Index := Scalar.indexCast v230
  let c0_163 : Index := 0#32
  let c0_164 : Index := 0#32
  ![v231.toNat, 0, 0]
def k0_off114 (k0_t9 : Fin k0_t9_loop.trips) : Fin 1 → Nat :=
  let c0_i32_166 : BitVec 32 := 0#32
  let c0_i32_66 : BitVec 32 := 0#32
  let c1_i32_68 : BitVec 32 := 1#32
  let arg18 : BitVec 32 := Scf.iv c0_i32_66 c1_i32_68 k0_t9
  let c4_i32_165 : BitVec 32 := 4#32
  let v235 : BitVec 32 := Scalar.muli arg18 c4_i32_165
  let v236 : BitVec 32 := Scalar.addi c0_i32_166 v235
  let c3_i32_167 : BitVec 32 := 3#32
  let v237 : BitVec 32 := Scalar.addi v236 c3_i32_167
  let v238 : Index := Scalar.indexCast v237
  ![v238.toNat]
def k0_off115 (v239 : BitVec 32) : Fin 3 → Nat :=
  let v240 : Index := Scalar.indexCast v239
  let c0_168 : Index := 0#32
  let c0_169 : Index := 0#32
  ![v240.toNat, 0, 0]

def k0_chk45 (v239 : BitVec 32) : Prop :=
  (∀ a, (k0_off115 v239) a + S1x8x128.size a ≤ S713x8x128.size a)
theorem k0_off115_inb : ∀ (v239 : BitVec 32) (k0_hw45 : k0_chk45 v239), ∀ a, (k0_off115 v239) a + S1x8x128.size a ≤ S713x8x128.size a := fun v239 k0_hw45 => k0_hw45

def k0_off116 (k0_t9 : Fin k0_t9_loop.trips) : Fin 1 → Nat :=
  let c1024_i32_171 : BitVec 32 := 1024#32
  let c0_i32_66 : BitVec 32 := 0#32
  let c1_i32_68 : BitVec 32 := 1#32
  let arg18 : BitVec 32 := Scf.iv c0_i32_66 c1_i32_68 k0_t9
  let c4_i32_170 : BitVec 32 := 4#32
  let v244 : BitVec 32 := Scalar.muli arg18 c4_i32_170
  let v245 : BitVec 32 := Scalar.addi c1024_i32_171 v244
  let c3_i32_172 : BitVec 32 := 3#32
  let v246 : BitVec 32 := Scalar.addi v245 c3_i32_172
  let v247 : Index := Scalar.indexCast v246
  ![v247.toNat]
def k0_off117 (v248 : BitVec 32) : Fin 3 → Nat :=
  let v249 : Index := Scalar.indexCast v248
  let c0_173 : Index := 0#32
  let c0_174 : Index := 0#32
  ![v249.toNat, 0, 0]

def k0_chk46 (v248 : BitVec 32) : Prop :=
  (∀ a, (k0_off117 v248) a + S1x8x128.size a ≤ S713x8x128.size a)
theorem k0_off117_inb : ∀ (v248 : BitVec 32) (k0_hw46 : k0_chk46 v248), ∀ a, (k0_off117 v248) a + S1x8x128.size a ≤ S713x8x128.size a := fun v248 k0_hw46 => k0_hw46

def k0_off118 (k0_t9 : Fin k0_t9_loop.trips) : Fin 1 → Nat :=
  let c2048_i32_176 : BitVec 32 := 2048#32
  let c0_i32_66 : BitVec 32 := 0#32
  let c1_i32_68 : BitVec 32 := 1#32
  let arg18 : BitVec 32 := Scf.iv c0_i32_66 c1_i32_68 k0_t9
  let c4_i32_175 : BitVec 32 := 4#32
  let v253 : BitVec 32 := Scalar.muli arg18 c4_i32_175
  let v254 : BitVec 32 := Scalar.addi c2048_i32_176 v253
  let c3_i32_177 : BitVec 32 := 3#32
  let v255 : BitVec 32 := Scalar.addi v254 c3_i32_177
  let v256 : Index := Scalar.indexCast v255
  ![v256.toNat]
def k0_off119 (v257 : BitVec 32) : Fin 3 → Nat :=
  let v258 : Index := Scalar.indexCast v257
  let c0_178 : Index := 0#32
  let c0_179 : Index := 0#32
  ![v258.toNat, 0, 0]

def k0_chk47 (v257 : BitVec 32) : Prop :=
  (∀ a, (k0_off119 v257) a + S1x8x128.size a ≤ S713x8x128.size a)
theorem k0_off119_inb : ∀ (v257 : BitVec 32) (k0_hw47 : k0_chk47 v257), ∀ a, (k0_off119 v257) a + S1x8x128.size a ≤ S713x8x128.size a := fun v257 k0_hw47 => k0_hw47

def k0_off120 (k0_t9 : Fin k0_t9_loop.trips) : Fin 1 → Nat :=
  let c3072_i32_181 : BitVec 32 := 3072#32
  let c0_i32_66 : BitVec 32 := 0#32
  let c1_i32_68 : BitVec 32 := 1#32
  let arg18 : BitVec 32 := Scf.iv c0_i32_66 c1_i32_68 k0_t9
  let c4_i32_180 : BitVec 32 := 4#32
  let v262 : BitVec 32 := Scalar.muli arg18 c4_i32_180
  let v263 : BitVec 32 := Scalar.addi c3072_i32_181 v262
  let c3_i32_182 : BitVec 32 := 3#32
  let v264 : BitVec 32 := Scalar.addi v263 c3_i32_182
  let v265 : Index := Scalar.indexCast v264
  ![v265.toNat]
def k0_off121 (v266 : BitVec 32) : Fin 3 → Nat :=
  let v267 : Index := Scalar.indexCast v266
  let c0_183 : Index := 0#32
  let c0_184 : Index := 0#32
  ![v267.toNat, 0, 0]

def k0_chk48 (v266 : BitVec 32) : Prop :=
  (∀ a, (k0_off121 v266) a + S1x8x128.size a ≤ S713x8x128.size a)
theorem k0_off121_inb : ∀ (v266 : BitVec 32) (k0_hw48 : k0_chk48 v266), ∀ a, (k0_off121 v266) a + S1x8x128.size a ≤ S713x8x128.size a := fun v266 k0_hw48 => k0_hw48

def k0_off122 (k0_t9 : Fin k0_t9_loop.trips) : Fin 3 → Nat :=
  let c0_i32_66 : BitVec 32 := 0#32
  let c1_i32_68 : BitVec 32 := 1#32
  let arg18 : BitVec 32 := Scf.iv c0_i32_66 c1_i32_68 k0_t9
  let c4_i32_185 : BitVec 32 := 4#32
  let v274 : BitVec 32 := Scalar.muli arg18 c4_i32_185
  let c3_i32_186 : BitVec 32 := 3#32
  let v275 : BitVec 32 := Scalar.addi v274 c3_i32_186
  let c8_i32_187 : BitVec 32 := 8#32
  let v276 : BitVec 32 := Scalar.shrsi v275 c8_i32_187
  let v277 : BitVec 32 := Scalar.addi v275 v276
  let v278 : Index := Scalar.indexCast v277
  let c0_188 : Index := 0#32
  let c0_189 : Index := 0#32
  ![v278.toNat, 0, 0]
@[reducible] def k0_t10_loop : Scf.Loop 32 :=
  let c0_i32_74 : BitVec 32 := 0#32
  let c713_i32_75 : BitVec 32 := 713#32
  let v76 : BitVec 32 := Scalar.addi c0_i32_74 c713_i32_75
  let c1_i32_76 : BitVec 32 := 1#32
  ⟨c0_i32_74, v76, c1_i32_76⟩
def k0_off123 (k0_t10 : Fin k0_t10_loop.trips) : Fin 1 → Nat :=
  let c0_i32_74 : BitVec 32 := 0#32
  let c1_i32_76 : BitVec 32 := 1#32
  let arg18 : BitVec 32 := Scf.iv c0_i32_74 c1_i32_76 k0_t10
  let v78 : Index := Scalar.indexCast arg18
  ![v78.toNat]
def k0_off124 (k0_t10 : Fin k0_t10_loop.trips) : Fin 3 → Nat :=
  let c0_i32_74 : BitVec 32 := 0#32
  let c1_i32_76 : BitVec 32 := 1#32
  let arg18 : BitVec 32 := Scf.iv c0_i32_74 c1_i32_76 k0_t10
  let v84 : Index := Scalar.indexCast arg18
  let c0_82 : Index := 0#32
  let c0_83 : Index := 0#32
  ![v84.toNat, 0, 0]
@[reducible] def k0_t11_loop : Scf.Loop 32 :=
  let c0_i32_78 : BitVec 32 := 0#32
  let c256_i32_79 : BitVec 32 := 256#32
  let v77 : BitVec 32 := Scalar.addi c0_i32_78 c256_i32_79
  let c1_i32_80 : BitVec 32 := 1#32
  ⟨c0_i32_78, v77, c1_i32_80⟩
def k0_off125 (k0_t11 : Fin k0_t11_loop.trips) (c0_i32_83 : BitVec 32) : Fin 3 → Nat :=
  let c0_i32_78 : BitVec 32 := 0#32
  let c1_i32_80 : BitVec 32 := 1#32
  let arg18 : BitVec 32 := Scf.iv c0_i32_78 c1_i32_80 k0_t11
  let c4_i32_82 : BitVec 32 := 4#32
  let v78 : BitVec 32 := Scalar.muli arg18 c4_i32_82
  let v79 : BitVec 32 := Scalar.addi v78 c0_i32_83
  let c8_i32 : BitVec 32 := 8#32
  let v80 : BitVec 32 := Scalar.shrsi v79 c8_i32
  let v81 : BitVec 32 := Scalar.addi v79 v80
  let v82 : Index := Scalar.indexCast v81
  let c0_84 : Index := 0#32
  let c0_85 : Index := 0#32
  ![v82.toNat, 0, 0]
def k0_off126 (k0_t11 : Fin k0_t11_loop.trips) : Fin 1 → Nat :=
  let c0_i32_102 : BitVec 32 := 0#32
  let c0_i32_78 : BitVec 32 := 0#32
  let c1_i32_80 : BitVec 32 := 1#32
  let arg18 : BitVec 32 := Scf.iv c0_i32_78 c1_i32_80 k0_t11
  let c4_i32_101 : BitVec 32 := 4#32
  let v106 : BitVec 32 := Scalar.muli arg18 c4_i32_101
  let v107 : BitVec 32 := Scalar.addi c0_i32_102 v106
  let c0_i32_103 : BitVec 32 := 0#32
  let v108 : BitVec 32 := Scalar.addi v107 c0_i32_103
  let v109 : Index := Scalar.indexCast v108
  ![v109.toNat]
def k0_off127 (v110 : BitVec 32) : Fin 3 → Nat :=
  let v111 : Index := Scalar.indexCast v110
  let c0_104 : Index := 0#32
  let c0_105 : Index := 0#32
  ![v111.toNat, 0, 0]

def k0_chk49 (v110 : BitVec 32) : Prop :=
  (∀ a, (k0_off127 v110) a + S1x8x128.size a ≤ S713x8x128.size a)
theorem k0_off127_inb : ∀ (v110 : BitVec 32) (k0_hw49 : k0_chk49 v110), ∀ a, (k0_off127 v110) a + S1x8x128.size a ≤ S713x8x128.size a := fun v110 k0_hw49 => k0_hw49

def k0_off128 (k0_t11 : Fin k0_t11_loop.trips) : Fin 1 → Nat :=
  let c0_i32_107 : BitVec 32 := 0#32
  let c0_i32_78 : BitVec 32 := 0#32
  let c1_i32_80 : BitVec 32 := 1#32
  let arg18 : BitVec 32 := Scf.iv c0_i32_78 c1_i32_80 k0_t11
  let c4_i32_106 : BitVec 32 := 4#32
  let v115 : BitVec 32 := Scalar.muli arg18 c4_i32_106
  let v116 : BitVec 32 := Scalar.addi c0_i32_107 v115
  let c1_i32_108 : BitVec 32 := 1#32
  let v117 : BitVec 32 := Scalar.addi v116 c1_i32_108
  let v118 : Index := Scalar.indexCast v117
  ![v118.toNat]
def k0_off129 (v119 : BitVec 32) : Fin 3 → Nat :=
  let v120 : Index := Scalar.indexCast v119
  let c0_109 : Index := 0#32
  let c0_110 : Index := 0#32
  ![v120.toNat, 0, 0]

def k0_chk50 (v119 : BitVec 32) : Prop :=
  (∀ a, (k0_off129 v119) a + S1x8x128.size a ≤ S713x8x128.size a)
theorem k0_off129_inb : ∀ (v119 : BitVec 32) (k0_hw50 : k0_chk50 v119), ∀ a, (k0_off129 v119) a + S1x8x128.size a ≤ S713x8x128.size a := fun v119 k0_hw50 => k0_hw50

def k0_off130 (k0_t11 : Fin k0_t11_loop.trips) : Fin 1 → Nat :=
  let c0_i32_112 : BitVec 32 := 0#32
  let c0_i32_78 : BitVec 32 := 0#32
  let c1_i32_80 : BitVec 32 := 1#32
  let arg18 : BitVec 32 := Scf.iv c0_i32_78 c1_i32_80 k0_t11
  let c4_i32_111 : BitVec 32 := 4#32
  let v124 : BitVec 32 := Scalar.muli arg18 c4_i32_111
  let v125 : BitVec 32 := Scalar.addi c0_i32_112 v124
  let c2_i32_113 : BitVec 32 := 2#32
  let v126 : BitVec 32 := Scalar.addi v125 c2_i32_113
  let v127 : Index := Scalar.indexCast v126
  ![v127.toNat]
def k0_off131 (v128 : BitVec 32) : Fin 3 → Nat :=
  let v129 : Index := Scalar.indexCast v128
  let c0_114 : Index := 0#32
  let c0_115 : Index := 0#32
  ![v129.toNat, 0, 0]

def k0_chk51 (v128 : BitVec 32) : Prop :=
  (∀ a, (k0_off131 v128) a + S1x8x128.size a ≤ S713x8x128.size a)
theorem k0_off131_inb : ∀ (v128 : BitVec 32) (k0_hw51 : k0_chk51 v128), ∀ a, (k0_off131 v128) a + S1x8x128.size a ≤ S713x8x128.size a := fun v128 k0_hw51 => k0_hw51

def k0_off132 (k0_t11 : Fin k0_t11_loop.trips) : Fin 1 → Nat :=
  let c0_i32_117 : BitVec 32 := 0#32
  let c0_i32_78 : BitVec 32 := 0#32
  let c1_i32_80 : BitVec 32 := 1#32
  let arg18 : BitVec 32 := Scf.iv c0_i32_78 c1_i32_80 k0_t11
  let c4_i32_116 : BitVec 32 := 4#32
  let v133 : BitVec 32 := Scalar.muli arg18 c4_i32_116
  let v134 : BitVec 32 := Scalar.addi c0_i32_117 v133
  let c3_i32_118 : BitVec 32 := 3#32
  let v135 : BitVec 32 := Scalar.addi v134 c3_i32_118
  let v136 : Index := Scalar.indexCast v135
  ![v136.toNat]
def k0_off133 (v137 : BitVec 32) : Fin 3 → Nat :=
  let v138 : Index := Scalar.indexCast v137
  let c0_119 : Index := 0#32
  let c0_120 : Index := 0#32
  ![v138.toNat, 0, 0]

def k0_chk52 (v137 : BitVec 32) : Prop :=
  (∀ a, (k0_off133 v137) a + S1x8x128.size a ≤ S713x8x128.size a)
theorem k0_off133_inb : ∀ (v137 : BitVec 32) (k0_hw52 : k0_chk52 v137), ∀ a, (k0_off133 v137) a + S1x8x128.size a ≤ S713x8x128.size a := fun v137 k0_hw52 => k0_hw52

def k0_off134 (k0_t11 : Fin k0_t11_loop.trips) : Fin 3 → Nat :=
  let c0_i32_121 : BitVec 32 := 0#32
  let c0_i32_78 : BitVec 32 := 0#32
  let c1_i32_80 : BitVec 32 := 1#32
  let arg18 : BitVec 32 := Scf.iv c0_i32_78 c1_i32_80 k0_t11
  let v145 : BitVec 32 := Scalar.addi c0_i32_121 arg18
  let v146 : Index := Scalar.indexCast v145
  let c0_122 : Index := 0#32
  let c0_123 : Index := 0#32
  ![v146.toNat, 0, 0]
def k0_off135 (k0_t11 : Fin k0_t11_loop.trips) : Fin 1 → Nat :=
  let c1024_i32 : BitVec 32 := 1024#32
  let c0_i32_78 : BitVec 32 := 0#32
  let c1_i32_80 : BitVec 32 := 1#32
  let arg18 : BitVec 32 := Scf.iv c0_i32_78 c1_i32_80 k0_t11
  let c4_i32_124 : BitVec 32 := 4#32
  let v150 : BitVec 32 := Scalar.muli arg18 c4_i32_124
  let v151 : BitVec 32 := Scalar.addi c1024_i32 v150
  let c0_i32_125 : BitVec 32 := 0#32
  let v152 : BitVec 32 := Scalar.addi v151 c0_i32_125
  let v153 : Index := Scalar.indexCast v152
  ![v153.toNat]
def k0_off136 (v154 : BitVec 32) : Fin 3 → Nat :=
  let v155 : Index := Scalar.indexCast v154
  let c0_126 : Index := 0#32
  let c0_127 : Index := 0#32
  ![v155.toNat, 0, 0]

def k0_chk53 (v154 : BitVec 32) : Prop :=
  (∀ a, (k0_off136 v154) a + S1x8x128.size a ≤ S713x8x128.size a)
theorem k0_off136_inb : ∀ (v154 : BitVec 32) (k0_hw53 : k0_chk53 v154), ∀ a, (k0_off136 v154) a + S1x8x128.size a ≤ S713x8x128.size a := fun v154 k0_hw53 => k0_hw53

def k0_off137 (k0_t11 : Fin k0_t11_loop.trips) : Fin 1 → Nat :=
  let c1024_i32_129 : BitVec 32 := 1024#32
  let c0_i32_78 : BitVec 32 := 0#32
  let c1_i32_80 : BitVec 32 := 1#32
  let arg18 : BitVec 32 := Scf.iv c0_i32_78 c1_i32_80 k0_t11
  let c4_i32_128 : BitVec 32 := 4#32
  let v159 : BitVec 32 := Scalar.muli arg18 c4_i32_128
  let v160 : BitVec 32 := Scalar.addi c1024_i32_129 v159
  let c1_i32_130 : BitVec 32 := 1#32
  let v161 : BitVec 32 := Scalar.addi v160 c1_i32_130
  let v162 : Index := Scalar.indexCast v161
  ![v162.toNat]
def k0_off138 (v163 : BitVec 32) : Fin 3 → Nat :=
  let v164 : Index := Scalar.indexCast v163
  let c0_131 : Index := 0#32
  let c0_132 : Index := 0#32
  ![v164.toNat, 0, 0]

def k0_chk54 (v163 : BitVec 32) : Prop :=
  (∀ a, (k0_off138 v163) a + S1x8x128.size a ≤ S713x8x128.size a)
theorem k0_off138_inb : ∀ (v163 : BitVec 32) (k0_hw54 : k0_chk54 v163), ∀ a, (k0_off138 v163) a + S1x8x128.size a ≤ S713x8x128.size a := fun v163 k0_hw54 => k0_hw54

def k0_off139 (k0_t11 : Fin k0_t11_loop.trips) : Fin 1 → Nat :=
  let c1024_i32_134 : BitVec 32 := 1024#32
  let c0_i32_78 : BitVec 32 := 0#32
  let c1_i32_80 : BitVec 32 := 1#32
  let arg18 : BitVec 32 := Scf.iv c0_i32_78 c1_i32_80 k0_t11
  let c4_i32_133 : BitVec 32 := 4#32
  let v168 : BitVec 32 := Scalar.muli arg18 c4_i32_133
  let v169 : BitVec 32 := Scalar.addi c1024_i32_134 v168
  let c2_i32_135 : BitVec 32 := 2#32
  let v170 : BitVec 32 := Scalar.addi v169 c2_i32_135
  let v171 : Index := Scalar.indexCast v170
  ![v171.toNat]
def k0_off140 (v172 : BitVec 32) : Fin 3 → Nat :=
  let v173 : Index := Scalar.indexCast v172
  let c0_136 : Index := 0#32
  let c0_137 : Index := 0#32
  ![v173.toNat, 0, 0]

def k0_chk55 (v172 : BitVec 32) : Prop :=
  (∀ a, (k0_off140 v172) a + S1x8x128.size a ≤ S713x8x128.size a)
theorem k0_off140_inb : ∀ (v172 : BitVec 32) (k0_hw55 : k0_chk55 v172), ∀ a, (k0_off140 v172) a + S1x8x128.size a ≤ S713x8x128.size a := fun v172 k0_hw55 => k0_hw55

def k0_off141 (k0_t11 : Fin k0_t11_loop.trips) : Fin 1 → Nat :=
  let c1024_i32_139 : BitVec 32 := 1024#32
  let c0_i32_78 : BitVec 32 := 0#32
  let c1_i32_80 : BitVec 32 := 1#32
  let arg18 : BitVec 32 := Scf.iv c0_i32_78 c1_i32_80 k0_t11
  let c4_i32_138 : BitVec 32 := 4#32
  let v177 : BitVec 32 := Scalar.muli arg18 c4_i32_138
  let v178 : BitVec 32 := Scalar.addi c1024_i32_139 v177
  let c3_i32_140 : BitVec 32 := 3#32
  let v179 : BitVec 32 := Scalar.addi v178 c3_i32_140
  let v180 : Index := Scalar.indexCast v179
  ![v180.toNat]
def k0_off142 (v181 : BitVec 32) : Fin 3 → Nat :=
  let v182 : Index := Scalar.indexCast v181
  let c0_141 : Index := 0#32
  let c0_142 : Index := 0#32
  ![v182.toNat, 0, 0]

def k0_chk56 (v181 : BitVec 32) : Prop :=
  (∀ a, (k0_off142 v181) a + S1x8x128.size a ≤ S713x8x128.size a)
theorem k0_off142_inb : ∀ (v181 : BitVec 32) (k0_hw56 : k0_chk56 v181), ∀ a, (k0_off142 v181) a + S1x8x128.size a ≤ S713x8x128.size a := fun v181 k0_hw56 => k0_hw56

def k0_off143 (k0_t11 : Fin k0_t11_loop.trips) : Fin 3 → Nat :=
  let c257_i32_143 : BitVec 32 := 257#32
  let c0_i32_78 : BitVec 32 := 0#32
  let c1_i32_80 : BitVec 32 := 1#32
  let arg18 : BitVec 32 := Scf.iv c0_i32_78 c1_i32_80 k0_t11
  let v189 : BitVec 32 := Scalar.addi c257_i32_143 arg18
  let v190 : Index := Scalar.indexCast v189
  let c0_144 : Index := 0#32
  let c0_145 : Index := 0#32
  ![v190.toNat, 0, 0]
def k0_off144 (k0_t11 : Fin k0_t11_loop.trips) : Fin 1 → Nat :=
  let c2048_i32 : BitVec 32 := 2048#32
  let c0_i32_78 : BitVec 32 := 0#32
  let c1_i32_80 : BitVec 32 := 1#32
  let arg18 : BitVec 32 := Scf.iv c0_i32_78 c1_i32_80 k0_t11
  let c4_i32_146 : BitVec 32 := 4#32
  let v194 : BitVec 32 := Scalar.muli arg18 c4_i32_146
  let v195 : BitVec 32 := Scalar.addi c2048_i32 v194
  let c0_i32_147 : BitVec 32 := 0#32
  let v196 : BitVec 32 := Scalar.addi v195 c0_i32_147
  let v197 : Index := Scalar.indexCast v196
  ![v197.toNat]
def k0_off145 (v198 : BitVec 32) : Fin 3 → Nat :=
  let v199 : Index := Scalar.indexCast v198
  let c0_148 : Index := 0#32
  let c0_149 : Index := 0#32
  ![v199.toNat, 0, 0]

def k0_chk57 (v198 : BitVec 32) : Prop :=
  (∀ a, (k0_off145 v198) a + S1x8x128.size a ≤ S713x8x128.size a)
theorem k0_off145_inb : ∀ (v198 : BitVec 32) (k0_hw57 : k0_chk57 v198), ∀ a, (k0_off145 v198) a + S1x8x128.size a ≤ S713x8x128.size a := fun v198 k0_hw57 => k0_hw57

def k0_off146 (k0_t11 : Fin k0_t11_loop.trips) : Fin 1 → Nat :=
  let c2048_i32_151 : BitVec 32 := 2048#32
  let c0_i32_78 : BitVec 32 := 0#32
  let c1_i32_80 : BitVec 32 := 1#32
  let arg18 : BitVec 32 := Scf.iv c0_i32_78 c1_i32_80 k0_t11
  let c4_i32_150 : BitVec 32 := 4#32
  let v203 : BitVec 32 := Scalar.muli arg18 c4_i32_150
  let v204 : BitVec 32 := Scalar.addi c2048_i32_151 v203
  let c1_i32_152 : BitVec 32 := 1#32
  let v205 : BitVec 32 := Scalar.addi v204 c1_i32_152
  let v206 : Index := Scalar.indexCast v205
  ![v206.toNat]
def k0_off147 (v207 : BitVec 32) : Fin 3 → Nat :=
  let v208 : Index := Scalar.indexCast v207
  let c0_153 : Index := 0#32
  let c0_154 : Index := 0#32
  ![v208.toNat, 0, 0]

def k0_chk58 (v207 : BitVec 32) : Prop :=
  (∀ a, (k0_off147 v207) a + S1x8x128.size a ≤ S713x8x128.size a)
theorem k0_off147_inb : ∀ (v207 : BitVec 32) (k0_hw58 : k0_chk58 v207), ∀ a, (k0_off147 v207) a + S1x8x128.size a ≤ S713x8x128.size a := fun v207 k0_hw58 => k0_hw58

def k0_off148 (k0_t11 : Fin k0_t11_loop.trips) : Fin 1 → Nat :=
  let c2048_i32_156 : BitVec 32 := 2048#32
  let c0_i32_78 : BitVec 32 := 0#32
  let c1_i32_80 : BitVec 32 := 1#32
  let arg18 : BitVec 32 := Scf.iv c0_i32_78 c1_i32_80 k0_t11
  let c4_i32_155 : BitVec 32 := 4#32
  let v212 : BitVec 32 := Scalar.muli arg18 c4_i32_155
  let v213 : BitVec 32 := Scalar.addi c2048_i32_156 v212
  let c2_i32_157 : BitVec 32 := 2#32
  let v214 : BitVec 32 := Scalar.addi v213 c2_i32_157
  let v215 : Index := Scalar.indexCast v214
  ![v215.toNat]
def k0_off149 (v216 : BitVec 32) : Fin 3 → Nat :=
  let v217 : Index := Scalar.indexCast v216
  let c0_158 : Index := 0#32
  let c0_159 : Index := 0#32
  ![v217.toNat, 0, 0]

def k0_chk59 (v216 : BitVec 32) : Prop :=
  (∀ a, (k0_off149 v216) a + S1x8x128.size a ≤ S713x8x128.size a)
theorem k0_off149_inb : ∀ (v216 : BitVec 32) (k0_hw59 : k0_chk59 v216), ∀ a, (k0_off149 v216) a + S1x8x128.size a ≤ S713x8x128.size a := fun v216 k0_hw59 => k0_hw59

def k0_off150 (k0_t11 : Fin k0_t11_loop.trips) : Fin 1 → Nat :=
  let c2048_i32_161 : BitVec 32 := 2048#32
  let c0_i32_78 : BitVec 32 := 0#32
  let c1_i32_80 : BitVec 32 := 1#32
  let arg18 : BitVec 32 := Scf.iv c0_i32_78 c1_i32_80 k0_t11
  let c4_i32_160 : BitVec 32 := 4#32
  let v221 : BitVec 32 := Scalar.muli arg18 c4_i32_160
  let v222 : BitVec 32 := Scalar.addi c2048_i32_161 v221
  let c3_i32_162 : BitVec 32 := 3#32
  let v223 : BitVec 32 := Scalar.addi v222 c3_i32_162
  let v224 : Index := Scalar.indexCast v223
  ![v224.toNat]
def k0_off151 (v225 : BitVec 32) : Fin 3 → Nat :=
  let v226 : Index := Scalar.indexCast v225
  let c0_163 : Index := 0#32
  let c0_164 : Index := 0#32
  ![v226.toNat, 0, 0]

def k0_chk60 (v225 : BitVec 32) : Prop :=
  (∀ a, (k0_off151 v225) a + S1x8x128.size a ≤ S713x8x128.size a)
theorem k0_off151_inb : ∀ (v225 : BitVec 32) (k0_hw60 : k0_chk60 v225), ∀ a, (k0_off151 v225) a + S1x8x128.size a ≤ S713x8x128.size a := fun v225 k0_hw60 => k0_hw60

def k0_off152 (k0_t11 : Fin k0_t11_loop.trips) : Fin 3 → Nat :=
  let c514_i32_165 : BitVec 32 := 514#32
  let c0_i32_78 : BitVec 32 := 0#32
  let c1_i32_80 : BitVec 32 := 1#32
  let arg18 : BitVec 32 := Scf.iv c0_i32_78 c1_i32_80 k0_t11
  let v233 : BitVec 32 := Scalar.addi c514_i32_165 arg18
  let v234 : Index := Scalar.indexCast v233
  let c0_166 : Index := 0#32
  let c0_167 : Index := 0#32
  ![v234.toNat, 0, 0]
def k0_off153 (k0_t11 : Fin k0_t11_loop.trips) : Fin 1 → Nat :=
  let c3072_i32 : BitVec 32 := 3072#32
  let c0_i32_78 : BitVec 32 := 0#32
  let c1_i32_80 : BitVec 32 := 1#32
  let arg18 : BitVec 32 := Scf.iv c0_i32_78 c1_i32_80 k0_t11
  let c4_i32_168 : BitVec 32 := 4#32
  let v238 : BitVec 32 := Scalar.muli arg18 c4_i32_168
  let v239 : BitVec 32 := Scalar.addi c3072_i32 v238
  let c0_i32_169 : BitVec 32 := 0#32
  let v240 : BitVec 32 := Scalar.addi v239 c0_i32_169
  let v241 : Index := Scalar.indexCast v240
  ![v241.toNat]
def k0_off154 (v242 : BitVec 32) : Fin 3 → Nat :=
  let v243 : Index := Scalar.indexCast v242
  let c0_170 : Index := 0#32
  let c0_171 : Index := 0#32
  ![v243.toNat, 0, 0]

def k0_chk61 (v242 : BitVec 32) : Prop :=
  (∀ a, (k0_off154 v242) a + S1x8x128.size a ≤ S713x8x128.size a)
theorem k0_off154_inb : ∀ (v242 : BitVec 32) (k0_hw61 : k0_chk61 v242), ∀ a, (k0_off154 v242) a + S1x8x128.size a ≤ S713x8x128.size a := fun v242 k0_hw61 => k0_hw61

def k0_off155 (k0_t11 : Fin k0_t11_loop.trips) : Fin 1 → Nat :=
  let c3072_i32_173 : BitVec 32 := 3072#32
  let c0_i32_78 : BitVec 32 := 0#32
  let c1_i32_80 : BitVec 32 := 1#32
  let arg18 : BitVec 32 := Scf.iv c0_i32_78 c1_i32_80 k0_t11
  let c4_i32_172 : BitVec 32 := 4#32
  let v247 : BitVec 32 := Scalar.muli arg18 c4_i32_172
  let v248 : BitVec 32 := Scalar.addi c3072_i32_173 v247
  let c1_i32_174 : BitVec 32 := 1#32
  let v249 : BitVec 32 := Scalar.addi v248 c1_i32_174
  let v250 : Index := Scalar.indexCast v249
  ![v250.toNat]
def k0_off156 (v251 : BitVec 32) : Fin 3 → Nat :=
  let v252 : Index := Scalar.indexCast v251
  let c0_175 : Index := 0#32
  let c0_176 : Index := 0#32
  ![v252.toNat, 0, 0]

def k0_chk62 (v251 : BitVec 32) : Prop :=
  (∀ a, (k0_off156 v251) a + S1x8x128.size a ≤ S713x8x128.size a)
theorem k0_off156_inb : ∀ (v251 : BitVec 32) (k0_hw62 : k0_chk62 v251), ∀ a, (k0_off156 v251) a + S1x8x128.size a ≤ S713x8x128.size a := fun v251 k0_hw62 => k0_hw62

def k0_off157 (k0_t11 : Fin k0_t11_loop.trips) : Fin 1 → Nat :=
  let c3072_i32_178 : BitVec 32 := 3072#32
  let c0_i32_78 : BitVec 32 := 0#32
  let c1_i32_80 : BitVec 32 := 1#32
  let arg18 : BitVec 32 := Scf.iv c0_i32_78 c1_i32_80 k0_t11
  let c4_i32_177 : BitVec 32 := 4#32
  let v256 : BitVec 32 := Scalar.muli arg18 c4_i32_177
  let v257 : BitVec 32 := Scalar.addi c3072_i32_178 v256
  let c2_i32_179 : BitVec 32 := 2#32
  let v258 : BitVec 32 := Scalar.addi v257 c2_i32_179
  let v259 : Index := Scalar.indexCast v258
  ![v259.toNat]
def k0_off158 (v260 : BitVec 32) : Fin 3 → Nat :=
  let v261 : Index := Scalar.indexCast v260
  let c0_180 : Index := 0#32
  let c0_181 : Index := 0#32
  ![v261.toNat, 0, 0]

def k0_chk63 (v260 : BitVec 32) : Prop :=
  (∀ a, (k0_off158 v260) a + S1x8x128.size a ≤ S713x8x128.size a)
theorem k0_off158_inb : ∀ (v260 : BitVec 32) (k0_hw63 : k0_chk63 v260), ∀ a, (k0_off158 v260) a + S1x8x128.size a ≤ S713x8x128.size a := fun v260 k0_hw63 => k0_hw63

def k0_off159 (k0_t11 : Fin k0_t11_loop.trips) : Fin 1 → Nat :=
  let c3072_i32_183 : BitVec 32 := 3072#32
  let c0_i32_78 : BitVec 32 := 0#32
  let c1_i32_80 : BitVec 32 := 1#32
  let arg18 : BitVec 32 := Scf.iv c0_i32_78 c1_i32_80 k0_t11
  let c4_i32_182 : BitVec 32 := 4#32
  let v265 : BitVec 32 := Scalar.muli arg18 c4_i32_182
  let v266 : BitVec 32 := Scalar.addi c3072_i32_183 v265
  let c3_i32_184 : BitVec 32 := 3#32
  let v267 : BitVec 32 := Scalar.addi v266 c3_i32_184
  let v268 : Index := Scalar.indexCast v267
  ![v268.toNat]
def k0_off160 (v269 : BitVec 32) : Fin 3 → Nat :=
  let v270 : Index := Scalar.indexCast v269
  let c0_185 : Index := 0#32
  let c0_186 : Index := 0#32
  ![v270.toNat, 0, 0]

def k0_chk64 (v269 : BitVec 32) : Prop :=
  (∀ a, (k0_off160 v269) a + S1x8x128.size a ≤ S713x8x128.size a)
theorem k0_off160_inb : ∀ (v269 : BitVec 32) (k0_hw64 : k0_chk64 v269), ∀ a, (k0_off160 v269) a + S1x8x128.size a ≤ S713x8x128.size a := fun v269 k0_hw64 => k0_hw64

def k0_off161 (k0_t11 : Fin k0_t11_loop.trips) : Fin 3 → Nat :=
  let c771_i32_187 : BitVec 32 := 771#32
  let c0_i32_78 : BitVec 32 := 0#32
  let c1_i32_80 : BitVec 32 := 1#32
  let arg18 : BitVec 32 := Scf.iv c0_i32_78 c1_i32_80 k0_t11
  let v277 : BitVec 32 := Scalar.addi c771_i32_187 arg18
  let v278 : Index := Scalar.indexCast v277
  let c0_188 : Index := 0#32
  let c0_189 : Index := 0#32
  ![v278.toNat, 0, 0]
def k0_cond1 (k0_t2 : Fin k0_t2_loop.trips) : BitVec 1 :=
  let c0_i32_1 : BitVec 32 := 0#32
  let c1_i32_2 : BitVec 32 := 1#32
  let arg16 : BitVec 32 := Scf.iv c0_i32_1 c1_i32_2 k0_t2
  let c0_i32_30 : BitVec 32 := 0#32
  let v28 : BitVec 1 := Scalar.cmpi .eq arg16 c0_i32_30
  let v29 : BitVec 32 := Scalar.extui v28
  let c0_i32_31 : BitVec 32 := 0#32
  let v30 : BitVec 1 := Scalar.cmpi .ne v29 c0_i32_31
  v30

@[reducible] def k0_t12_loop : Scf.Loop 32 :=
  let c0_i32_34 : BitVec 32 := 0#32
  let c1027_i32_35 : BitVec 32 := 1027#32
  let v34 : BitVec 32 := Scalar.addi c0_i32_34 c1027_i32_35
  let c1_i32_36 : BitVec 32 := 1#32
  ⟨c0_i32_34, v34, c1_i32_36⟩
def k0_off162 (k0_t12 : Fin k0_t12_loop.trips) : Fin 3 → Nat :=
  let c0_i32_34 : BitVec 32 := 0#32
  let c1_i32_36 : BitVec 32 := 1#32
  let arg17 : BitVec 32 := Scf.iv c0_i32_34 c1_i32_36 k0_t12
  let v35 : Index := Scalar.indexCast arg17
  let c0_38 : Index := 0#32
  let c0_39 : Index := 0#32
  ![v35.toNat, 0, 0]
def k0_cond2 (k0_t2 : Fin k0_t2_loop.trips) : BitVec 1 :=
  let c0_i32_1 : BitVec 32 := 0#32
  let c1_i32_2 : BitVec 32 := 1#32
  let arg16 : BitVec 32 := Scf.iv c0_i32_1 c1_i32_2 k0_t2
  let c1_i32_32 : BitVec 32 := 1#32
  let v31 : BitVec 1 := Scalar.cmpi .eq arg16 c1_i32_32
  let v32 : BitVec 32 := Scalar.extui v31
  let c0_i32_33 : BitVec 32 := 0#32
  let v33 : BitVec 1 := Scalar.cmpi .ne v32 c0_i32_33
  v33

@[reducible] def k0_t13_loop : Scf.Loop 32 :=
  let c0_i32_34 : BitVec 32 := 0#32
  let c1027_i32_35 : BitVec 32 := 1027#32
  let v34 : BitVec 32 := Scalar.addi c0_i32_34 c1027_i32_35
  let c1_i32_36 : BitVec 32 := 1#32
  ⟨c0_i32_34, v34, c1_i32_36⟩
def k0_off163 (k0_t13 : Fin k0_t13_loop.trips) : Fin 3 → Nat :=
  let c0_i32_34 : BitVec 32 := 0#32
  let c1_i32_36 : BitVec 32 := 1#32
  let arg17 : BitVec 32 := Scf.iv c0_i32_34 c1_i32_36 k0_t13
  let v35 : Index := Scalar.indexCast arg17
  let c0_38 : Index := 0#32
  let c0_39 : Index := 0#32
  ![v35.toNat, 0, 0]
@[reducible] def k0_t14_loop : Scf.Loop 32 :=
  let c0_i32_5 : BitVec 32 := 0#32
  let c256_i32 : BitVec 32 := 256#32
  let v7 : BitVec 32 := Scalar.addi c0_i32_5 c256_i32
  let c1_i32_6 : BitVec 32 := 1#32
  ⟨c0_i32_5, v7, c1_i32_6⟩
def k0_off164 (k0_t14 : Fin k0_t14_loop.trips) : Fin 3 → Nat :=
  let c0_i32_5 : BitVec 32 := 0#32
  let c1_i32_6 : BitVec 32 := 1#32
  let arg16 : BitVec 32 := Scf.iv c0_i32_5 c1_i32_6 k0_t14
  let v21 : Index := Scalar.indexCast arg16
  let c0_21 : Index := 0#32
  let c0_22 : Index := 0#32
  ![v21.toNat, 0, 0]
@[reducible] def k0_t15_loop : Scf.Loop 32 :=
  let c257_i32 : BitVec 32 := 257#32
  let c256_i32_8 : BitVec 32 := 256#32
  let v9 : BitVec 32 := Scalar.addi c257_i32 c256_i32_8
  let c1_i32_9 : BitVec 32 := 1#32
  ⟨c257_i32, v9, c1_i32_9⟩
def k0_off165 (k0_t15 : Fin k0_t15_loop.trips) : Fin 3 → Nat :=
  let c257_i32 : BitVec 32 := 257#32
  let c1_i32_9 : BitVec 32 := 1#32
  let arg16 : BitVec 32 := Scf.iv c257_i32 c1_i32_9 k0_t15
  let v21 : Index := Scalar.indexCast arg16
  let c0_21 : Index := 0#32
  let c0_22 : Index := 0#32
  ![v21.toNat, 0, 0]
@[reducible] def k0_t16_loop : Scf.Loop 32 :=
  let c514_i32 : BitVec 32 := 514#32
  let c256_i32_11 : BitVec 32 := 256#32
  let v11 : BitVec 32 := Scalar.addi c514_i32 c256_i32_11
  let c1_i32_12 : BitVec 32 := 1#32
  ⟨c514_i32, v11, c1_i32_12⟩
def k0_off166 (k0_t16 : Fin k0_t16_loop.trips) : Fin 3 → Nat :=
  let c514_i32 : BitVec 32 := 514#32
  let c1_i32_12 : BitVec 32 := 1#32
  let arg16 : BitVec 32 := Scf.iv c514_i32 c1_i32_12 k0_t16
  let v21 : Index := Scalar.indexCast arg16
  let c0_21 : Index := 0#32
  let c0_22 : Index := 0#32
  ![v21.toNat, 0, 0]
@[reducible] def k0_t17_loop : Scf.Loop 32 :=
  let c771_i32 : BitVec 32 := 771#32
  let c256_i32_14 : BitVec 32 := 256#32
  let v13 : BitVec 32 := Scalar.addi c771_i32 c256_i32_14
  let c1_i32_15 : BitVec 32 := 1#32
  ⟨c771_i32, v13, c1_i32_15⟩
def k0_off167 (k0_t17 : Fin k0_t17_loop.trips) : Fin 3 → Nat :=
  let c771_i32 : BitVec 32 := 771#32
  let c1_i32_15 : BitVec 32 := 1#32
  let arg16 : BitVec 32 := Scf.iv c771_i32 c1_i32_15 k0_t17
  let v21 : Index := Scalar.indexCast arg16
  let c0_21 : Index := 0#32
  let c0_22 : Index := 0#32
  ![v21.toNat, 0, 0]
abbrev stage0_0 : Fin 1 → Memref sig .tc .vmem S192x8x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x8x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S713 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S4096 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2x128x1536 : Shape := ⟨3, ![2, 128, 1536]⟩
abbrev S2x128 : Shape := ⟨2, ![2, 128]⟩
abbrev S2x1536 : Shape := ⟨2, ![2, 1536]⟩
abbrev S4096 : Shape := ⟨1, ![4096]⟩
abbrev S2x128x1 : Shape := ⟨3, ![2, 128, 1]⟩
abbrev S2x128x6x256 : Shape := ⟨4, ![2, 128, 6, 256]⟩
abbrev S2x1x6x256 : Shape := ⟨4, ![2, 1, 6, 256]⟩
abbrev S2x128x6x1 : Shape := ⟨4, ![2, 128, 6, 1]⟩
abbrev S2x128x6 : Shape := ⟨3, ![2, 128, 6]⟩
abbrev S2x1x6x1 : Shape := ⟨4, ![2, 1, 6, 1]⟩
abbrev S2x1x6 : Shape := ⟨3, ![2, 1, 6]⟩
abbrev S1x1x1x4096 : Shape := ⟨4, ![1, 1, 1, 4096]⟩
abbrev S2x128x6x4096 : Shape := ⟨4, ![2, 128, 6, 4096]⟩
abbrev S2x128x6x255 : Shape := ⟨4, ![2, 128, 6, 255]⟩
abbrev S255x2x128x6 : Shape := ⟨4, ![255, 2, 128, 6]⟩
abbrev S2x1x6x255 : Shape := ⟨4, ![2, 1, 6, 255]⟩
abbrev S255x2x1x6 : Shape := ⟨4, ![255, 2, 1, 6]⟩
abbrev S_ : Shape := ⟨0, ![]⟩
abbrev S1x2x128x6 : Shape := ⟨4, ![1, 2, 128, 6]⟩
abbrev S1x2x1x6 : Shape := ⟨4, ![1, 2, 1, 6]⟩
abbrev S2x128x6x4x1024 : Shape := ⟨5, ![2, 128, 6, 4, 1024]⟩
abbrev S2x128x6x1024 : Shape := ⟨4, ![2, 128, 6, 1024]⟩
abbrev S2x128x6x1024x4 : Shape := ⟨5, ![2, 128, 6, 1024, 4]⟩
abbrev S2x128x6x1024x1 : Shape := ⟨5, ![2, 128, 6, 1024, 1]⟩

abbrev nBuf : Space → Nat
  | .hbm => 67
  | .vmem => 0
  | .smem => 0
  | _ => 0

abbrev bufTy : (tb : Table) → Fin (tcTables nBuf tb) → BufTy
  | .hbm, ⟨0, _⟩ => ⟨S2x128x1536, .i8⟩
  | .hbm, ⟨1, _⟩ => ⟨S2x128, .f32⟩
  | .hbm, ⟨2, _⟩ => ⟨S2x1536, .f32⟩
  | .hbm, ⟨3, _⟩ => ⟨S4096, .f32⟩
  | .hbm, ⟨4, _⟩ => ⟨S2x128x1536, .i32⟩
  | .hbm, ⟨5, _⟩ => ⟨S2x128x1536, .f32⟩
  | .hbm, ⟨6, _⟩ => ⟨S2x128x1, .f32⟩
  | .hbm, ⟨7, _⟩ => ⟨S2x128x1536, .f32⟩
  | .hbm, ⟨8, _⟩ => ⟨S2x128x1536, .f32⟩
  | .hbm, ⟨9, _⟩ => ⟨S2x128x6x256, .f32⟩
  | .hbm, ⟨10, _⟩ => ⟨S2x1x6x256, .f32⟩
  | .hbm, ⟨11, _⟩ => ⟨S2x128x6x1, .f32⟩
  | .hbm, ⟨12, _⟩ => ⟨S2x128x6, .f32⟩
  | .hbm, ⟨13, _⟩ => ⟨S2x1x6x1, .f32⟩
  | .hbm, ⟨14, _⟩ => ⟨S2x1x6, .f32⟩
  | .hbm, ⟨15, _⟩ => ⟨S2x1x6x1, .f32⟩
  | .hbm, ⟨16, _⟩ => ⟨S2x128x6x1, .f32⟩
  | .hbm, ⟨17, _⟩ => ⟨S1x1x1x4096, .f32⟩
  | .hbm, ⟨18, _⟩ => ⟨S2x128x6x4096, .f32⟩
  | .hbm, ⟨19, _⟩ => ⟨S2x128x6x4096, .f32⟩
  | .hbm, ⟨20, _⟩ => ⟨S2x128x6x4096, .f32⟩
  | .hbm, ⟨21, _⟩ => ⟨S2x128x6x4096, .f32⟩
  | .hbm, ⟨22, _⟩ => ⟨S2x128x6x4096, .f32⟩
  | .hbm, ⟨23, _⟩ => ⟨S2x128x6x4096, .f32⟩
  | .hbm, ⟨24, _⟩ => ⟨S2x128x6x255, .f32⟩
  | .hbm, ⟨25, _⟩ => ⟨S255x2x128x6, .f32⟩
  | .hbm, ⟨26, _⟩ => ⟨S2x1x6x255, .f32⟩
  | .hbm, ⟨27, _⟩ => ⟨S255x2x1x6, .f32⟩
  | .hbm, ⟨28, _⟩ => ⟨S_, .i32⟩
  | .hbm, ⟨29, _⟩ => ⟨S255x2x128x6, .f32⟩
  | .hbm, ⟨30, _⟩ => ⟨S255x2x1x6, .f32⟩
  | .hbm, ⟨31, _⟩ => ⟨S4096, .f32⟩
  | .hbm, ⟨32, _⟩ => ⟨S_, .i32⟩
  | .hbm, ⟨33, _⟩ => ⟨S2x128x6x4096, .f32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1x2x128x6, .f32⟩
  | .hbm, ⟨40, _⟩ => ⟨S2x128x6, .f32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x2x1x6, .f32⟩
  | .hbm, ⟨45, _⟩ => ⟨S2x1x6, .f32⟩
  | .hbm, ⟨46, _⟩ => ⟨S2x128x6x4x1024, .f32⟩
  | .hbm, ⟨47, _⟩ => ⟨S_, .f32⟩
  | .hbm, ⟨48, _⟩ => ⟨S2x128x6x1024, .f32⟩
  | .hbm, ⟨49, _⟩ => ⟨S2x1x6x1, .f32⟩
  | .hbm, ⟨50, _⟩ => ⟨S2x128x6x1, .f32⟩
  | .hbm, ⟨51, _⟩ => ⟨S1x1x1x4096, .f32⟩
  | .hbm, ⟨52, _⟩ => ⟨S2x128x6x4096, .f32⟩
  | .hbm, ⟨53, _⟩ => ⟨S2x128x6x4096, .f32⟩
  | .hbm, ⟨54, _⟩ => ⟨S2x128x6x4096, .f32⟩
  | .hbm, ⟨55, _⟩ => ⟨S2x128x6x4096, .f32⟩
  | .hbm, ⟨56, _⟩ => ⟨S2x128x6x4096, .f32⟩
  | .hbm, ⟨57, _⟩ => ⟨S2x128x6x4096, .f32⟩
  | .hbm, ⟨58, _⟩ => ⟨S2x128x6x1024x4, .f32⟩
  | .hbm, ⟨59, _⟩ => ⟨S2x128x6x1024x1, .f32⟩
  | .hbm, ⟨60, _⟩ => ⟨S2x128x6x1024x4, .f32⟩
  | .hbm, ⟨61, _⟩ => ⟨S2x128x6x1024x4, .f32⟩
  | .hbm, ⟨62, _⟩ => ⟨S2x128x6x4096, .f32⟩
  | .hbm, ⟨63, _⟩ => ⟨S_, .i32⟩
  | .hbm, ⟨64, _⟩ => ⟨S_, .i32⟩
  | .hbm, ⟨65, _⟩ => ⟨S_, .f32⟩
  | .hbm, ⟨66, _⟩ => ⟨S2x128x6, .f32⟩
  | _, _ => ⟨S2x128x1536, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c : Ref sig .tc := ⟨.hbm, 28, rfl⟩
abbrev main_v24_0 : Ref sig .tc := ⟨.hbm, 29, rfl⟩
abbrev main_v24_1 : Ref sig .tc := ⟨.hbm, 30, rfl⟩
abbrev main_v24_2 : Ref sig .tc := ⟨.hbm, 31, rfl⟩
abbrev main_v24_3 : Ref sig .tc := ⟨.hbm, 32, rfl⟩
abbrev main_v24_4 : Ref sig .tc := ⟨.hbm, 33, rfl⟩
abbrev main_while0c_c_5 : Ref sig .tc := ⟨.hbm, 34, rfl⟩
abbrev main_while0c_v26 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_c_1 : Ref sig .tc := ⟨.hbm, 38, rfl⟩
abbrev main_while0b_call0_v0 : Ref sig .tc := ⟨.hbm, 39, rfl⟩
abbrev main_while0b_v26 : Ref sig .tc := ⟨.hbm, 40, rfl⟩
abbrev main_while0b_call1_c : Ref sig .tc := ⟨.hbm, 41, rfl⟩
abbrev main_while0b_call1_c_0 : Ref sig .tc := ⟨.hbm, 42, rfl⟩
abbrev main_while0b_call1_c_1 : Ref sig .tc := ⟨.hbm, 43, rfl⟩
abbrev main_while0b_call1_v0 : Ref sig .tc := ⟨.hbm, 44, rfl⟩
abbrev main_while0b_v27 : Ref sig .tc := ⟨.hbm, 45, rfl⟩
abbrev main_while0b_v28 : Ref sig .tc := ⟨.hbm, 46, rfl⟩
abbrev main_while0b_cst_5 : Ref sig .tc := ⟨.hbm, 47, rfl⟩
abbrev main_while0b_v29 : Ref sig .tc := ⟨.hbm, 48, rfl⟩
abbrev main_while0b_v30 : Ref sig .tc := ⟨.hbm, 49, rfl⟩
abbrev main_while0b_v31 : Ref sig .tc := ⟨.hbm, 50, rfl⟩
abbrev main_while0b_v32 : Ref sig .tc := ⟨.hbm, 51, rfl⟩
abbrev main_while0b_v33 : Ref sig .tc := ⟨.hbm, 52, rfl⟩
abbrev main_while0b_v34 : Ref sig .tc := ⟨.hbm, 53, rfl⟩
abbrev main_while0b_v35 : Ref sig .tc := ⟨.hbm, 54, rfl⟩
abbrev main_while0b_v36 : Ref sig .tc := ⟨.hbm, 55, rfl⟩
abbrev main_while0b_v37 : Ref sig .tc := ⟨.hbm, 56, rfl⟩
abbrev main_while0b_v38 : Ref sig .tc := ⟨.hbm, 57, rfl⟩
abbrev main_while0b_v39 : Ref sig .tc := ⟨.hbm, 58, rfl⟩
abbrev main_while0b_v40 : Ref sig .tc := ⟨.hbm, 59, rfl⟩
abbrev main_while0b_v41 : Ref sig .tc := ⟨.hbm, 60, rfl⟩
abbrev main_while0b_v42 : Ref sig .tc := ⟨.hbm, 61, rfl⟩
abbrev main_while0b_v43 : Ref sig .tc := ⟨.hbm, 62, rfl⟩
abbrev main_while0b_c_6 : Ref sig .tc := ⟨.hbm, 63, rfl⟩
abbrev main_while0b_v44 : Ref sig .tc := ⟨.hbm, 64, rfl⟩
abbrev main_cst_0 : Ref sig .tc := ⟨.hbm, 65, rfl⟩
abbrev main_v25 : Ref sig .tc := ⟨.hbm, 66, rfl⟩

abbrev nD : Nat := 1
abbrev τ : Topo := Topo.v7x

variable {F : FTy → Type} [FloatOps F]

abbrev main_while0_count : Scf.Loop 32 := ⟨0#32, 255#32, 1#32⟩
-- ==== Proof.Run.Rows.lean ====
/-
  Buffers of [8,128] blocks, read block by block; what one store of a block does to the blocks; the words of a table.
  Nothing here speaks of a particular program.
-/
module

public import Idealize.ShloMosaic.Lib.Exec
public import Idealize.ShloMosaic.Lib.Tactic
public import Idealize.ShloMosaic.Lib.WritesUnit
public import Idealize.ShloMosaic.Lib.PointwiseCore

@[expose] public section

noncomputable section

namespace Cert.Trellis

open Idealize.ShloMosaic Idealize.ShloMosaic.TcCoe

variable {F : FTy → Type} [FloatOps F]

/-- One block of 8 by 128 numbers. -/
abbrev Blk (F : FTy → Type) : Type := (⟨2, ![8, 128]⟩ : Shape).Idx → F .f32

/-- Block `c` of a buffer of `N` blocks (past the last, zero). -/
def rows {sig : RefSig} {κ : Kind} {sp : Space} {N : ℕ} (v : View sig κ sp ⟨3, ![N, 8, 128]⟩ .f32)
    (f : v.ty.Contents (Elt F)) (c : ℕ) : Blk F :=
  fun j => if h : c < N then v.read (Elt F) f (ix3 ⟨c, h⟩ (j 0) (j 1)) else Scalar.ofBits .f32 0#32

/-- Word `s` of a table of `N` words (past the last, zero). -/
def words {sig : RefSig} {κ : Kind} {sp : Space} {N : ℕ} (v : View sig κ sp ⟨1, ![N]⟩ .i32)
    (f : v.ty.Contents (Elt F)) (s : ℕ) : BitVec 32 :=
  if h : s < N then v.read (Elt F) f (ix1 ⟨s, h⟩) else 0#32

/-- Number `s` of a list of `N` numbers (past the last, zero). -/
def nums {sig : RefSig} {κ : Kind} {sp : Space} {N : ℕ} (v : View sig κ sp ⟨1, ![N]⟩ .f32)
    (f : v.ty.Contents (Elt F)) (s : ℕ) : F .f32 :=
  if h : s < N then v.read (Elt F) f (ix1 ⟨s, h⟩) else Scalar.ofBits .f32 0#32

section

variable {sig : RefSig} {κ : Kind} {sp : Space} {N : ℕ}

/-- Dropping the unit axis in front of a block. -/
theorem drop_at {α : Type} (x : (⟨3, ![1, 8, 128]⟩ : Shape).Idx → α) (h : (⟨3, ![1, 8, 128]⟩ : Shape).ShapeCasts ⟨2, ![8, 128]⟩)
    (a : Fin 8) (b : Fin 128) : shapeCast ⟨2, ![8, 128]⟩ x h (ix2 a b) = x (ix3 0 a b) := by
  pointwise

/-- Putting a unit axis in front of a block. -/
theorem add_at {α : Type} (x : (⟨2, ![8, 128]⟩ : Shape).Idx → α) (h : (⟨2, ![8, 128]⟩ : Shape).ShapeCasts ⟨3, ![1, 8, 128]⟩)
    (y : Fin 1) (a : Fin 8) (b : Fin 128) : shapeCast ⟨3, ![1, 8, 128]⟩ x h (ix3 y a b) = x (ix2 a b) := by
  pointwise

/-- The one load of block `c`. -/
theorem load_at (v : View sig κ sp ⟨3, ![N, 8, 128]⟩ .f32) (f : v.ty.Contents (Elt F)) {off : Fin 3 → ℕ} (c : ℕ)
    (inb : ∀ a, off a + (![1, 8, 128] : Fin 3 → ℕ) a ≤ (⟨3, ![N, 8, 128]⟩ : Shape).size a)
    (ho : off = ![c, 0, 0]) (y : Fin 1) (a : Fin 8) (b : Fin 128) :
    v.readAt (Elt F) (Rect.unit (s := ⟨3, ![N, 8, 128]⟩) off ![1, 8, 128] inb).toLoadRect f (ix3 y a b) = rows v f c (ix2 a b) := by
  subst ho
  have hc : c < N := by have := inb 0; simpa [Nat.lt_iff_add_one_le] using this
  unfold rows
  rw [dif_pos hc, View.readAt_eq_ld]
  show v.read (Elt F) f _ = v.read (Elt F) f _
  congr 1
  funext i
  apply Fin.ext
  match i with
  | ⟨0, _⟩ => show c + 1 * y.val = c; omega
  | ⟨1, _⟩ => show 0 + 1 * a.val = a.val; omega
  | ⟨2, _⟩ => show 0 + 1 * b.val = b.val; omega

/-- A load of one block, its unit axis dropped, is that block. -/
theorem cast_load (v : View sig κ sp ⟨3, ![N, 8, 128]⟩ .f32) (f : v.ty.Contents (Elt F)) {off : Fin 3 → ℕ} (c : ℕ)
    (inb : ∀ a, off a + (![1, 8, 128] : Fin 3 → ℕ) a ≤ (⟨3, ![N, 8, 128]⟩ : Shape).size a)
    (ho : off = ![c, 0, 0]) (h : (⟨3, ![1, 8, 128]⟩ : Shape).ShapeCasts ⟨2, ![8, 128]⟩) :
    shapeCast ⟨2, ![8, 128]⟩ (v.readAt (Elt F) (Rect.unit (s := ⟨3, ![N, 8, 128]⟩) off ![1, 8, 128] inb).toLoadRect f) h = rows v f c := by
  funext j
  obtain ⟨a, b, rfl⟩ : ∃ (a : Fin 8) (b : Fin 128), j = ix2 a b := ⟨j 0, j 1, eq_ix2 j⟩
  exact (drop_at _ h a b).trans (load_at v f c inb ho 0 a b)

/-- The blocks after one more store of a block. -/
theorem rows_writes_cons (v : View sig κ sp ⟨3, ![N, 8, 128]⟩ .f32) (f : v.ty.Contents (Elt F)) {off : Fin 3 → ℕ} (c₀ : ℕ)
    (inb : ∀ a, off a + (![1, 8, 128] : Fin 3 → ℕ) a ≤ (⟨3, ![N, 8, 128]⟩ : Shape).size a)
    (ho : off = ![c₀, 0, 0]) (w : Blk F) (h : (⟨2, ![8, 128]⟩ : Shape).ShapeCasts ⟨3, ![1, 8, 128]⟩)
    (L : List (View.Piece (Elt F) ⟨3, ![N, 8, 128]⟩ .f32)) (c : ℕ) :
    rows v (v.writes (Elt F) f ((⟨Rect.unit (s := ⟨3, ![N, 8, 128]⟩) off ![1, 8, 128] inb,
        (shapeCast ⟨3, ![1, 8, 128]⟩ w h : _ → F .f32)⟩ : View.Piece (Elt F) ⟨3, ![N, 8, 128]⟩ .f32) :: L)) c
      = if c = c₀ then w else rows v (v.writes (Elt F) f L) c := by
  have hc₀ : c₀ < N := by have := inb 0; rw [ho] at this; simpa [Nat.lt_iff_add_one_le] using this
  funext j
  obtain ⟨a, b, rfl⟩ : ∃ (a : Fin 8) (b : Fin 128), j = ix2 a b := ⟨j 0, j 1, eq_ix2 j⟩
  by_cases hcc : c = c₀
  · subst hcc
    rw [if_pos rfl]
    unfold rows
    rw [dif_pos hc₀]
    refine (View.read_writes_cons_unit_of_mem v f inb _ L _ (ix3 0 a b) ho ?_).trans (add_at w h 0 a b)
    intro i
    match i with
    | ⟨0, _⟩ => show c = c + 0; omega
    | ⟨1, _⟩ => show a.val = 0 + a.val; omega
    | ⟨2, _⟩ => show b.val = 0 + b.val; omega
  · rw [if_neg hcc]
    unfold rows
    by_cases hN : c < N
    · rw [dif_pos hN, dif_pos hN]
      refine View.read_writes_cons_unit_of_not_mem v f inb _ L _ ho 0 ?_
      show c < c₀ ∨ c₀ + 1 ≤ c
      omega
    · rw [dif_neg hN, dif_neg hN]

/-- An offset of a block inside a buffer of blocks is zero on the last two axes. -/
theorem off_eq {off : Fin 3 → ℕ} (inb : ∀ a, off a + (![1, 8, 128] : Fin 3 → ℕ) a ≤ (⟨3, ![N, 8, 128]⟩ : Shape).size a) :
    off = ![off 0, 0, 0] := by
  funext i
  match i with
  | ⟨0, _⟩ => rfl
  | ⟨1, _⟩ =>
    have h : off 1 + 8 ≤ 8 := inb 1
    show off 1 = 0
    omega
  | ⟨2, _⟩ =>
    have h : off 2 + 128 ≤ 128 := inb 2
    show off 2 = 0
    omega

/-- `cast_load` at whatever offset the load has. -/
theorem cast_load' (v : View sig κ sp ⟨3, ![N, 8, 128]⟩ .f32) (f : v.ty.Contents (Elt F)) {off : Fin 3 → ℕ}
    (inb : ∀ a, off a + (![1, 8, 128] : Fin 3 → ℕ) a ≤ (⟨3, ![N, 8, 128]⟩ : Shape).size a)
    (h : (⟨3, ![1, 8, 128]⟩ : Shape).ShapeCasts ⟨2, ![8, 128]⟩) :
    shapeCast ⟨2, ![8, 128]⟩ (v.readAt (Elt F) (Rect.unit (s := ⟨3, ![N, 8, 128]⟩) off ![1, 8, 128] inb).toLoadRect f) h = rows v f (off 0) :=
  cast_load v f (off 0) inb (off_eq inb) h

/-- `rows_writes_cons` at whatever offset the store has. -/
theorem rows_writes_cons' (v : View sig κ sp ⟨3, ![N, 8, 128]⟩ .f32) (f : v.ty.Contents (Elt F)) {off : Fin 3 → ℕ}
    (inb : ∀ a, off a + (![1, 8, 128] : Fin 3 → ℕ) a ≤ (⟨3, ![N, 8, 128]⟩ : Shape).size a)
    (w : Blk F) (h : (⟨2, ![8, 128]⟩ : Shape).ShapeCasts ⟨3, ![1, 8, 128]⟩)
    (L : List (View.Piece (Elt F) ⟨3, ![N, 8, 128]⟩ .f32)) (c : ℕ) :
    rows v (v.writes (Elt F) f ((⟨Rect.unit (s := ⟨3, ![N, 8, 128]⟩) off ![1, 8, 128] inb,
        (shapeCast ⟨3, ![1, 8, 128]⟩ w h : _ → F .f32)⟩ : View.Piece (Elt F) ⟨3, ![N, 8, 128]⟩ .f32) :: L)) c
      = if c = off 0 then w else rows v (v.writes (Elt F) f L) c :=
  rows_writes_cons v f (off 0) inb (off_eq inb) w h L c

/-- No store leaves the blocks. -/
theorem rows_writes_nil (v : View sig κ sp ⟨3, ![N, 8, 128]⟩ .f32) (f : v.ty.Contents (Elt F)) (c : ℕ) :
    rows v (v.writes (Elt F) f []) c = rows v f c := rfl

theorem pos1 : (0 : ℕ) < (⟨1, ![1]⟩ : Shape).numel := by decide

/-- A load of one word of a table. -/
theorem word_load (v : View sig κ sp ⟨1, ![N]⟩ .i32) (f : v.ty.Contents (Elt F)) {off : Fin 1 → ℕ} (s : ℕ)
    (inb : ∀ a, off a + (![1] : Fin 1 → ℕ) a ≤ (⟨1, ![N]⟩ : Shape).size a) (ho : off = ![s])
    (y : (Rect.unit (s := ⟨1, ![N]⟩) off ![1] inb).toLoadRect.shape.Idx) :
    v.readAt (Elt F) (Rect.unit (s := ⟨1, ![N]⟩) off ![1] inb).toLoadRect f y = words v f s := by
  subst ho
  have hc : s < N := by have := inb 0; simpa [Nat.lt_iff_add_one_le] using this
  unfold words
  rw [dif_pos hc, View.readAt_eq_ld]
  show v.read (Elt F) f _ = v.read (Elt F) f _
  congr 1
  funext i
  apply Fin.ext
  match i with
  | ⟨0, h0⟩ =>
    have hy : (y ⟨0, h0⟩).val < 1 := (y ⟨0, h0⟩).isLt
    show s + 1 * (y ⟨0, h0⟩).val = s
    omega

/-- A load of one number of a list. -/
theorem num_load (v : View sig κ sp ⟨1, ![N]⟩ .f32) (f : v.ty.Contents (Elt F)) {off : Fin 1 → ℕ} (s : ℕ)
    (inb : ∀ a, off a + (![1] : Fin 1 → ℕ) a ≤ (⟨1, ![N]⟩ : Shape).size a) (ho : off = ![s])
    (y : (Rect.unit (s := ⟨1, ![N]⟩) off ![1] inb).toLoadRect.shape.Idx) :
    v.readAt (Elt F) (Rect.unit (s := ⟨1, ![N]⟩) off ![1] inb).toLoadRect f y = nums v f s := by
  subst ho
  have hc : s < N := by have := inb 0; simpa [Nat.lt_iff_add_one_le] using this
  unfold nums
  rw [dif_pos hc, View.readAt_eq_ld]
  show v.read (Elt F) f _ = v.read (Elt F) f _
  congr 1
  funext i
  apply Fin.ext
  match i with
  | ⟨0, h0⟩ =>
    have hy : (y ⟨0, h0⟩).val < 1 := (y ⟨0, h0⟩).isLt
    show s + 1 * (y ⟨0, h0⟩).val = s
    omega

theorem word_load' (v : View sig κ sp ⟨1, ![N]⟩ .i32) (f : v.ty.Contents (Elt F)) {off : Fin 1 → ℕ}
    (inb : ∀ a, off a + (![1] : Fin 1 → ℕ) a ≤ (⟨1, ![N]⟩ : Shape).size a)
    (y : (Rect.unit (s := ⟨1, ![N]⟩) off ![1] inb).toLoadRect.shape.Idx) :
    v.readAt (Elt F) (Rect.unit (s := ⟨1, ![N]⟩) off ![1] inb).toLoadRect f y = words v f (off 0) :=
  word_load v f (off 0) inb (by funext i; fin_cases i; rfl) y

theorem num_load' (v : View sig κ sp ⟨1, ![N]⟩ .f32) (f : v.ty.Contents (Elt F)) {off : Fin 1 → ℕ}
    (inb : ∀ a, off a + (![1] : Fin 1 → ℕ) a ≤ (⟨1, ![N]⟩ : Shape).size a)
    (y : (Rect.unit (s := ⟨1, ![N]⟩) off ![1] inb).toLoadRect.shape.Idx) :
    v.readAt (Elt F) (Rect.unit (s := ⟨1, ![N]⟩) off ![1] inb).toLoadRect f y = nums v f (off 0) :=
  num_load v f (off 0) inb (by funext i; fin_cases i; rfl) y

end

/-- The smallest of four sums, taken two and two. -/
def least4 (a b c d : Blk F) : Blk F := minimumf (minimumf a b) (minimumf c d)

/-- The place of state `q` in a buffer of costs: one place is skipped after every 256 states. -/
def cell (q : ℕ) : ℕ := q + q / 256

/-- The cost after one forward step at state `4 r + y`: the least over the four states `256 x + r` before it. -/
def fwdAt (S T : ℕ → Blk F) (w : ℕ → ℕ) (r y : ℕ) : Blk F :=
  least4 (addf (S (r + 0)) (T (w (0 + (4 * r + y))))) (addf (S (r + 257)) (T (w (1024 + (4 * r + y)))))
    (addf (S (r + 514)) (T (w (2048 + (4 * r + y))))) (addf (S (r + 771)) (T (w (3072 + (4 * r + y)))))

/-- The cost after one backward step at state `256 x + r`: the least over the four states `4 r + y` after it. -/
def bwdAt (S T : ℕ → Blk F) (w : ℕ → ℕ) (r x : ℕ) : Blk F :=
  least4 (addf (S (cell (4 * r + 0))) (T (w (1024 * x + (4 * r + 0))))) (addf (S (cell (4 * r + 1))) (T (w (1024 * x + (4 * r + 1)))))
    (addf (S (cell (4 * r + 2))) (T (w (1024 * x + (4 * r + 2))))) (addf (S (cell (4 * r + 3))) (T (w (1024 * x + (4 * r + 3)))))

end Cert.Trellis

end
-- ==== Proof.Run.Common.lean ====
/-
  What the trips of the kernel's loops have in common: a buffer held whole, and the range of the table of slots.
-/
module

public import proofs.«01_k».proof.Proof.Gen.KernelIdeal.Skeleton
public import proofs.«01_k».proof.Proof.Run.Rows
public import Idealize.ShloMosaic.Lib.Pipeline.Kit

@[expose] public section

set_option maxRecDepth 8192
set_option maxHeartbeats 4000000

noncomputable section

namespace Cert.KernelIdeal.Run

open Cert.KernelIdeal Cert.KernelIdeal.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A buffer held whole at given contents. -/
abbrev held (c : Dev nD) {sp : Space} {s : Shape} {e : EltTy} (m : Memref sig .tc sp s e) (f : BufTy.Contents (Elt F) m.view.ty) : sProp 𝕄 :=
  m.view.loc (c : Thread nD τ) ↦[m.view.set]{fullShare} f

/-- The slot of state `s`. -/
abbrev slotOf (arg6 : Memref sig .tc .smem S4096 .i32) (X6 : BufTy.Contents (Elt F) arg6.view.ty) (s : ℕ) : ℕ :=
  (words (F := F) (N := 4096) arg6.view X6 s).toNat

/-- Every slot lies in the table of 713 blocks. -/
abbrev SlotsOK (arg6 : Memref sig .tc .smem S4096 .i32) (X6 : BufTy.Contents (Elt F) arg6.view.ty) : Prop :=
  ∀ s, slotOf (F := F) arg6 X6 s < 713

/-- A block read at a slot below 713 lies in the table. -/
theorem row_inb {w : BitVec 32} (h : w.toNat < 713) : ∀ a, (![w.toNat, 0, 0] : Fin 3 → ℕ) a + S1x8x128.size a ≤ S713x8x128.size a := by
  intro a
  match a with
  | ⟨0, _⟩ => show w.toNat + 1 ≤ 713; omega
  | ⟨1, _⟩ => show 0 + 8 ≤ 8; omega
  | ⟨2, _⟩ => show 0 + 128 ≤ 128; omega

/-- A slot that a trip loads lies below 713. -/
theorem slot_lt (arg6 : Memref sig .tc .smem S4096 .i32) (X6 : BufTy.Contents (Elt F) arg6.view.ty) (h : SlotsOK arg6 X6)
    (off : Fin 1 → ℕ) (inb : ∀ a, off a + S1.size a ≤ S4096.size a) (y : (Rect.unit (s := S4096) off S1.size inb).toLoadRect.shape.Idx) :
    (arg6.view.readAt (Elt F) (Rect.unit (s := S4096) off S1.size inb).toLoadRect X6 y : BitVec 32).toNat < 713 := by
  have e := word_load' (F := F) (N := 4096) arg6.view X6 inb y
  rw [e]; exact h _

end Cert.KernelIdeal.Run

end
-- ==== Proof.Run.Forward.lean ====
/-
  One forward step of the trellis costs, as each of the kernel's two copies of it does it:
  a trip per remainder `r`, four stores each.
-/
module

public import proofs.«01_k».proof.Proof.Run.Common

@[expose] public section

set_option maxRecDepth 8192
set_option maxHeartbeats 4000000

noncomputable section

namespace Cert.KernelIdeal.Run

open Cert.KernelIdeal Cert.KernelIdeal.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

/-! ## The forward step of loop 5 -/

theorem off16_eq : ∀ k : Fin k0_t5_loop.trips, k0_off16 k = ![4 * k.val + 0 + (4 * k.val + 0) / 256, 0, 0] := by decide +kernel
instance (k : Fin k0_t5_loop.trips) : ClosedOff (k0_off16 k) := ⟨_, off16_eq k⟩
theorem off25_eq : ∀ k : Fin k0_t5_loop.trips, k0_off25 k = ![4 * k.val + 1 + (4 * k.val + 1) / 256, 0, 0] := by decide +kernel
instance (k : Fin k0_t5_loop.trips) : ClosedOff (k0_off25 k) := ⟨_, off25_eq k⟩
theorem off34_eq : ∀ k : Fin k0_t5_loop.trips, k0_off34 k = ![4 * k.val + 2 + (4 * k.val + 2) / 256, 0, 0] := by decide +kernel
instance (k : Fin k0_t5_loop.trips) : ClosedOff (k0_off34 k) := ⟨_, off34_eq k⟩
theorem off43_eq : ∀ k : Fin k0_t5_loop.trips, k0_off43 k = ![4 * k.val + 3 + (4 * k.val + 3) / 256, 0, 0] := by decide +kernel
instance (k : Fin k0_t5_loop.trips) : ClosedOff (k0_off43 k) := ⟨_, off43_eq k⟩

theorem chk1_of {w : BitVec 32} (h : w.toNat < 713) : k0_chk1 w := row_inb h
theorem chk2_of {w : BitVec 32} (h : w.toNat < 713) : k0_chk2 w := row_inb h
theorem chk3_of {w : BitVec 32} (h : w.toNat < 713) : k0_chk3 w := row_inb h
theorem chk4_of {w : BitVec 32} (h : w.toNat < 713) : k0_chk4 w := row_inb h
theorem chk5_of {w : BitVec 32} (h : w.toNat < 713) : k0_chk5 w := row_inb h
theorem chk6_of {w : BitVec 32} (h : w.toNat < 713) : k0_chk6 w := row_inb h
theorem chk7_of {w : BitVec 32} (h : w.toNat < 713) : k0_chk7 w := row_inb h
theorem chk8_of {w : BitVec 32} (h : w.toNat < 713) : k0_chk8 w := row_inb h
theorem chk9_of {w : BitVec 32} (h : w.toNat < 713) : k0_chk9 w := row_inb h
theorem chk10_of {w : BitVec 32} (h : w.toNat < 713) : k0_chk10 w := row_inb h
theorem chk11_of {w : BitVec 32} (h : w.toNat < 713) : k0_chk11 w := row_inb h
theorem chk12_of {w : BitVec 32} (h : w.toNat < 713) : k0_chk12 w := row_inb h
theorem chk13_of {w : BitVec 32} (h : w.toNat < 713) : k0_chk13 w := row_inb h
theorem chk14_of {w : BitVec 32} (h : w.toNat < 713) : k0_chk14 w := row_inb h
theorem chk15_of {w : BitVec 32} (h : w.toNat < 713) : k0_chk15 w := row_inb h
theorem chk16_of {w : BitVec 32} (h : w.toNat < 713) : k0_chk16 w := row_inb h

/-- The places that one trip reads and writes. -/
theorem offs_t5 : ∀ k : Fin k0_t5_loop.trips, k0_off7 k 0#32 0 = k.val + 0
    ∧ k0_off7 k 257#32 0 = k.val + 257
    ∧ k0_off7 k 514#32 0 = k.val + 514
    ∧ k0_off7 k 771#32 0 = k.val + 771
    ∧ k0_off8 k 0 = 0 + (4 * k.val + 0)
    ∧ k0_off10 k 0 = 1024 + (4 * k.val + 0)
    ∧ k0_off12 k 0 = 2048 + (4 * k.val + 0)
    ∧ k0_off14 k 0 = 3072 + (4 * k.val + 0)
    ∧ k0_off17 k 0 = 0 + (4 * k.val + 1)
    ∧ k0_off19 k 0 = 1024 + (4 * k.val + 1)
    ∧ k0_off21 k 0 = 2048 + (4 * k.val + 1)
    ∧ k0_off23 k 0 = 3072 + (4 * k.val + 1)
    ∧ k0_off26 k 0 = 0 + (4 * k.val + 2)
    ∧ k0_off28 k 0 = 1024 + (4 * k.val + 2)
    ∧ k0_off30 k 0 = 2048 + (4 * k.val + 2)
    ∧ k0_off32 k 0 = 3072 + (4 * k.val + 2)
    ∧ k0_off35 k 0 = 0 + (4 * k.val + 3)
    ∧ k0_off37 k 0 = 1024 + (4 * k.val + 3)
    ∧ k0_off39 k 0 = 2048 + (4 * k.val + 3)
    ∧ k0_off41 k 0 = 3072 + (4 * k.val + 3)
    ∧ k0_off16 k 0 = cell (4 * k.val + 0)
    ∧ k0_off25 k 0 = cell (4 * k.val + 1)
    ∧ k0_off34 k 0 = cell (4 * k.val + 2)
    ∧ k0_off43 k 0 = cell (4 * k.val + 3) := by
  unfold cell; decide +kernel

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips. -/
def inv_t5 (X6 : BufTy.Contents (Elt F) arg6.view.ty) (X8 : BufTy.Contents (Elt F) arg8.view.ty)
    (X14 : BufTy.Contents (Elt F) arg14.view.ty) (n : ℕ) (_ : Unit) : sProp 𝕄 :=
  iprop(held c arg6 X6 ∗ held c arg8 X8 ∗ held c arg14 X14 ∗ ∃ g, held c arg9 g ∗
    ⌜∀ r, r < n → ∀ i, i < 4 → rows (N := 1027) arg9.view g (cell (4 * r + i)) = fwdAt (rows (N := 1027) arg8.view X8) (rows (N := 713) arg14.view X14) (slotOf arg6 X6) r i⌝)

/-- One trip. -/
theorem trip_t5 (X6 : BufTy.Contents (Elt F) arg6.view.ty) (X8 : BufTy.Contents (Elt F) arg8.view.ty)
    (X14 : BufTy.Contents (Elt F) arg14.view.ty) (h6 : SlotsOK arg6 X6) (k0_t2 : Fin k0_t2_loop.trips) (arg16 : BitVec 32) (v23 : FVec F S8x128 .f32) (v26 : FVec F S8x128 .f32) (k0_t3 : Fin k0_t3_loop.trips) (k : Fin k0_t5_loop.trips) (E : Set ℕ) (acc : Unit) :
    inv_t5 c arg6 arg8 arg9 arg14 X6 X8 X14 k.val acc ⊢
      wp frame (wpE (defs₀ (F := F)) 𝒱 (c : Thread nD τ) bd) E (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k0_t2 arg16 v23 v26 0#32 1#32 k0_t3 k acc)
        (fun acc => inv_t5 c arg6 arg8 arg9 arg14 X6 X8 X14 (k.val + 1) acc) := by
  have hk : k.val < 256 := Nat.lt_of_lt_of_le k.isLt k0_t5_abs.2.1
  have hs := slot_lt arg6 X6 h6
  have k0_hw1 : k0_chk1 (arg6.view.readAt (Elt F) (Rect.unit (s := S4096) (k0_off8 k) S1.size (k0_off8_inb k)).toLoadRect X6 (Shape.Idx.first (numel1_S1.symm ▸ Nat.one_pos))) := chk1_of (hs _ _ _)
  have k0_hw2 : k0_chk2 (arg6.view.readAt (Elt F) (Rect.unit (s := S4096) (k0_off10 k) S1.size (k0_off10_inb k)).toLoadRect X6 (Shape.Idx.first (numel1_S1.symm ▸ Nat.one_pos))) := chk2_of (hs _ _ _)
  have k0_hw3 : k0_chk3 (arg6.view.readAt (Elt F) (Rect.unit (s := S4096) (k0_off12 k) S1.size (k0_off12_inb k)).toLoadRect X6 (Shape.Idx.first (numel1_S1.symm ▸ Nat.one_pos))) := chk3_of (hs _ _ _)
  have k0_hw4 : k0_chk4 (arg6.view.readAt (Elt F) (Rect.unit (s := S4096) (k0_off14 k) S1.size (k0_off14_inb k)).toLoadRect X6 (Shape.Idx.first (numel1_S1.symm ▸ Nat.one_pos))) := chk4_of (hs _ _ _)
  have k0_hw5 : k0_chk5 (arg6.view.readAt (Elt F) (Rect.unit (s := S4096) (k0_off17 k) S1.size (k0_off17_inb k)).toLoadRect X6 (Shape.Idx.first (numel1_S1.symm ▸ Nat.one_pos))) := chk5_of (hs _ _ _)
  have k0_hw6 : k0_chk6 (arg6.view.readAt (Elt F) (Rect.unit (s := S4096) (k0_off19 k) S1.size (k0_off19_inb k)).toLoadRect X6 (Shape.Idx.first (numel1_S1.symm ▸ Nat.one_pos))) := chk6_of (hs _ _ _)
  have k0_hw7 : k0_chk7 (arg6.view.readAt (Elt F) (Rect.unit (s := S4096) (k0_off21 k) S1.size (k0_off21_inb k)).toLoadRect X6 (Shape.Idx.first (numel1_S1.symm ▸ Nat.one_pos))) := chk7_of (hs _ _ _)
  have k0_hw8 : k0_chk8 (arg6.view.readAt (Elt F) (Rect.unit (s := S4096) (k0_off23 k) S1.size (k0_off23_inb k)).toLoadRect X6 (Shape.Idx.first (numel1_S1.symm ▸ Nat.one_pos))) := chk8_of (hs _ _ _)
  have k0_hw9 : k0_chk9 (arg6.view.readAt (Elt F) (Rect.unit (s := S4096) (k0_off26 k) S1.size (k0_off26_inb k)).toLoadRect X6 (Shape.Idx.first (numel1_S1.symm ▸ Nat.one_pos))) := chk9_of (hs _ _ _)
  have k0_hw10 : k0_chk10 (arg6.view.readAt (Elt F) (Rect.unit (s := S4096) (k0_off28 k) S1.size (k0_off28_inb k)).toLoadRect X6 (Shape.Idx.first (numel1_S1.symm ▸ Nat.one_pos))) := chk10_of (hs _ _ _)
  have k0_hw11 : k0_chk11 (arg6.view.readAt (Elt F) (Rect.unit (s := S4096) (k0_off30 k) S1.size (k0_off30_inb k)).toLoadRect X6 (Shape.Idx.first (numel1_S1.symm ▸ Nat.one_pos))) := chk11_of (hs _ _ _)
  have k0_hw12 : k0_chk12 (arg6.view.readAt (Elt F) (Rect.unit (s := S4096) (k0_off32 k) S1.size (k0_off32_inb k)).toLoadRect X6 (Shape.Idx.first (numel1_S1.symm ▸ Nat.one_pos))) := chk12_of (hs _ _ _)
  have k0_hw13 : k0_chk13 (arg6.view.readAt (Elt F) (Rect.unit (s := S4096) (k0_off35 k) S1.size (k0_off35_inb k)).toLoadRect X6 (Shape.Idx.first (numel1_S1.symm ▸ Nat.one_pos))) := chk13_of (hs _ _ _)
  have k0_hw14 : k0_chk14 (arg6.view.readAt (Elt F) (Rect.unit (s := S4096) (k0_off37 k) S1.size (k0_off37_inb k)).toLoadRect X6 (Shape.Idx.first (numel1_S1.symm ▸ Nat.one_pos))) := chk14_of (hs _ _ _)
  have k0_hw15 : k0_chk15 (arg6.view.readAt (Elt F) (Rect.unit (s := S4096) (k0_off39 k) S1.size (k0_off39_inb k)).toLoadRect X6 (Shape.Idx.first (numel1_S1.symm ▸ Nat.one_pos))) := chk15_of (hs _ _ _)
  have k0_hw16 : k0_chk16 (arg6.view.readAt (Elt F) (Rect.unit (s := S4096) (k0_off41 k) S1.size (k0_off41_inb k)).toLoadRect X6 (Shape.Idx.first (numel1_S1.symm ▸ Nat.one_pos))) := chk16_of (hs _ _ _)
  unfold k0_t5_body inv_t5
  iintro ⟨H6, HS, HT, %f, HD, %hf⟩
  sl_exec
  sl_step
  isplitl [H6]; · iexact H6
  isplitl [HS]; · iexact HS
  isplitl [HT]; · iexact HT
  iexists _; isplitl [HD]; · iexact HD
  ipureintro
  have eS := fun off inb => cast_load' (F := F) (N := 1027) arg8.view X8 (off := off) inb shapeCasts_S1x8x128_S8x128
  have eT := fun off inb => cast_load' (F := F) (N := 713) arg14.view X14 (off := off) inb shapeCasts_S1x8x128_S8x128
  have e6 := fun off inb y => word_load' (F := F) (N := 4096) arg6.view X6 (off := off) inb y
  obtain ⟨s0, s1, s2, s3, w0, w1, w2, w3, w4, w5, w6, w7, w8, w9, w10, w11, w12, w13, w14, w15, d0, d1, d2, d3⟩ := offs_t5 k
  sl_unfold_run_names
  intro r hr i hi
  simp only [k0_pay28, k0_pay29, k0_pay30, k0_pay31, k0_pay32, k0_pay33, k0_pay34, k0_pay35, k0_pay36, k0_pay37, k0_pay38, k0_pay39, k0_pay40, k0_pay41, k0_pay42, k0_pay43, k0_pay93, rows_writes_cons', rows_writes_nil, eS, eT, e6]
  have t0 : ∀ w, k0_off9 w 0 = BitVec.toNat w := fun w => rfl
  have t1 : ∀ w, k0_off11 w 0 = BitVec.toNat w := fun w => rfl
  have t2 : ∀ w, k0_off13 w 0 = BitVec.toNat w := fun w => rfl
  have t3 : ∀ w, k0_off15 w 0 = BitVec.toNat w := fun w => rfl
  have t4 : ∀ w, k0_off18 w 0 = BitVec.toNat w := fun w => rfl
  have t5 : ∀ w, k0_off20 w 0 = BitVec.toNat w := fun w => rfl
  have t6 : ∀ w, k0_off22 w 0 = BitVec.toNat w := fun w => rfl
  have t7 : ∀ w, k0_off24 w 0 = BitVec.toNat w := fun w => rfl
  have t8 : ∀ w, k0_off27 w 0 = BitVec.toNat w := fun w => rfl
  have t9 : ∀ w, k0_off29 w 0 = BitVec.toNat w := fun w => rfl
  have t10 : ∀ w, k0_off31 w 0 = BitVec.toNat w := fun w => rfl
  have t11 : ∀ w, k0_off33 w 0 = BitVec.toNat w := fun w => rfl
  have t12 : ∀ w, k0_off36 w 0 = BitVec.toNat w := fun w => rfl
  have t13 : ∀ w, k0_off38 w 0 = BitVec.toNat w := fun w => rfl
  have t14 : ∀ w, k0_off40 w 0 = BitVec.toNat w := fun w => rfl
  have t15 : ∀ w, k0_off42 w 0 = BitVec.toNat w := fun w => rfl
  simp only [s0, s1, s2, s3, w0, w1, w2, w3, w4, w5, w6, w7, w8, w9, w10, w11, w12, w13, w14, w15, d0, d1, d2, d3, t0, t1, t2, t3, t4, t5, t6, t7, t8, t9, t10, t11, t12, t13, t14, t15]
  by_cases hrk : r < k.val
  · rw [if_neg (by unfold cell; omega), if_neg (by unfold cell; omega), if_neg (by unfold cell; omega), if_neg (by unfold cell; omega)]
    exact hf r hrk i hi
  · obtain rfl : r = k.val := by omega
    match i, hi with
    | 0, _ => rw [if_neg (by unfold cell; omega), if_neg (by unfold cell; omega), if_neg (by unfold cell; omega), if_pos (by unfold cell; omega)]; rfl
    | 1, _ => rw [if_neg (by unfold cell; omega), if_neg (by unfold cell; omega), if_pos (by unfold cell; omega)]; rfl
    | 2, _ => rw [if_neg (by unfold cell; omega), if_pos (by unfold cell; omega)]; rfl
    | 3, _ => rw [if_pos (by unfold cell; omega)]; rfl

end

section

/-! ## The forward step of loop 9 -/

theorem off95_eq : ∀ k : Fin k0_t9_loop.trips, k0_off95 k = ![4 * k.val + 0 + (4 * k.val + 0) / 256, 0, 0] := by decide +kernel
instance (k : Fin k0_t9_loop.trips) : ClosedOff (k0_off95 k) := ⟨_, off95_eq k⟩
theorem off104_eq : ∀ k : Fin k0_t9_loop.trips, k0_off104 k = ![4 * k.val + 1 + (4 * k.val + 1) / 256, 0, 0] := by decide +kernel
instance (k : Fin k0_t9_loop.trips) : ClosedOff (k0_off104 k) := ⟨_, off104_eq k⟩
theorem off113_eq : ∀ k : Fin k0_t9_loop.trips, k0_off113 k = ![4 * k.val + 2 + (4 * k.val + 2) / 256, 0, 0] := by decide +kernel
instance (k : Fin k0_t9_loop.trips) : ClosedOff (k0_off113 k) := ⟨_, off113_eq k⟩
theorem off122_eq : ∀ k : Fin k0_t9_loop.trips, k0_off122 k = ![4 * k.val + 3 + (4 * k.val + 3) / 256, 0, 0] := by decide +kernel
instance (k : Fin k0_t9_loop.trips) : ClosedOff (k0_off122 k) := ⟨_, off122_eq k⟩

theorem chk33_of {w : BitVec 32} (h : w.toNat < 713) : k0_chk33 w := row_inb h
theorem chk34_of {w : BitVec 32} (h : w.toNat < 713) : k0_chk34 w := row_inb h
theorem chk35_of {w : BitVec 32} (h : w.toNat < 713) : k0_chk35 w := row_inb h
theorem chk36_of {w : BitVec 32} (h : w.toNat < 713) : k0_chk36 w := row_inb h
theorem chk37_of {w : BitVec 32} (h : w.toNat < 713) : k0_chk37 w := row_inb h
theorem chk38_of {w : BitVec 32} (h : w.toNat < 713) : k0_chk38 w := row_inb h
theorem chk39_of {w : BitVec 32} (h : w.toNat < 713) : k0_chk39 w := row_inb h
theorem chk40_of {w : BitVec 32} (h : w.toNat < 713) : k0_chk40 w := row_inb h
theorem chk41_of {w : BitVec 32} (h : w.toNat < 713) : k0_chk41 w := row_inb h
theorem chk42_of {w : BitVec 32} (h : w.toNat < 713) : k0_chk42 w := row_inb h
theorem chk43_of {w : BitVec 32} (h : w.toNat < 713) : k0_chk43 w := row_inb h
theorem chk44_of {w : BitVec 32} (h : w.toNat < 713) : k0_chk44 w := row_inb h
theorem chk45_of {w : BitVec 32} (h : w.toNat < 713) : k0_chk45 w := row_inb h
theorem chk46_of {w : BitVec 32} (h : w.toNat < 713) : k0_chk46 w := row_inb h
theorem chk47_of {w : BitVec 32} (h : w.toNat < 713) : k0_chk47 w := row_inb h
theorem chk48_of {w : BitVec 32} (h : w.toNat < 713) : k0_chk48 w := row_inb h

/-- The places that one trip reads and writes. -/
theorem offs_t9 : ∀ k : Fin k0_t9_loop.trips, k0_off86 k 0#32 0 = k.val + 0
    ∧ k0_off86 k 257#32 0 = k.val + 257
    ∧ k0_off86 k 514#32 0 = k.val + 514
    ∧ k0_off86 k 771#32 0 = k.val + 771
    ∧ k0_off87 k 0 = 0 + (4 * k.val + 0)
    ∧ k0_off89 k 0 = 1024 + (4 * k.val + 0)
    ∧ k0_off91 k 0 = 2048 + (4 * k.val + 0)
    ∧ k0_off93 k 0 = 3072 + (4 * k.val + 0)
    ∧ k0_off96 k 0 = 0 + (4 * k.val + 1)
    ∧ k0_off98 k 0 = 1024 + (4 * k.val + 1)
    ∧ k0_off100 k 0 = 2048 + (4 * k.val + 1)
    ∧ k0_off102 k 0 = 3072 + (4 * k.val + 1)
    ∧ k0_off105 k 0 = 0 + (4 * k.val + 2)
    ∧ k0_off107 k 0 = 1024 + (4 * k.val + 2)
    ∧ k0_off109 k 0 = 2048 + (4 * k.val + 2)
    ∧ k0_off111 k 0 = 3072 + (4 * k.val + 2)
    ∧ k0_off114 k 0 = 0 + (4 * k.val + 3)
    ∧ k0_off116 k 0 = 1024 + (4 * k.val + 3)
    ∧ k0_off118 k 0 = 2048 + (4 * k.val + 3)
    ∧ k0_off120 k 0 = 3072 + (4 * k.val + 3)
    ∧ k0_off95 k 0 = cell (4 * k.val + 0)
    ∧ k0_off104 k 0 = cell (4 * k.val + 1)
    ∧ k0_off113 k 0 = cell (4 * k.val + 2)
    ∧ k0_off122 k 0 = cell (4 * k.val + 3) := by
  unfold cell; decide +kernel

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips. -/
def inv_t9 (X6 : BufTy.Contents (Elt F) arg6.view.ty) (X9 : BufTy.Contents (Elt F) arg9.view.ty)
    (X14 : BufTy.Contents (Elt F) arg14.view.ty) (n : ℕ) (_ : Unit) : sProp 𝕄 :=
  iprop(held c arg6 X6 ∗ held c arg9 X9 ∗ held c arg14 X14 ∗ ∃ g, held c arg8 g ∗
    ⌜∀ r, r < n → ∀ i, i < 4 → rows (N := 1027) arg8.view g (cell (4 * r + i)) = fwdAt (rows (N := 1027) arg9.view X9) (rows (N := 713) arg14.view X14) (slotOf arg6 X6) r i⌝)

/-- One trip. -/
theorem trip_t9 (X6 : BufTy.Contents (Elt F) arg6.view.ty) (X9 : BufTy.Contents (Elt F) arg9.view.ty)
    (X14 : BufTy.Contents (Elt F) arg14.view.ty) (h6 : SlotsOK arg6 X6) (k : Fin k0_t9_loop.trips) (E : Set ℕ) (acc : Unit) :
    inv_t9 c arg6 arg8 arg9 arg14 X6 X9 X14 k.val acc ⊢
      wp frame (wpE (defs₀ (F := F)) 𝒱 (c : Thread nD τ) bd) E (k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k acc)
        (fun acc => inv_t9 c arg6 arg8 arg9 arg14 X6 X9 X14 (k.val + 1) acc) := by
  have hk : k.val < 256 := Nat.lt_of_lt_of_le k.isLt k0_t9_abs.2.1
  have hs := slot_lt arg6 X6 h6
  have k0_hw33 : k0_chk33 (arg6.view.readAt (Elt F) (Rect.unit (s := S4096) (k0_off87 k) S1.size (k0_off87_inb k)).toLoadRect X6 (Shape.Idx.first (numel1_S1.symm ▸ Nat.one_pos))) := chk33_of (hs _ _ _)
  have k0_hw34 : k0_chk34 (arg6.view.readAt (Elt F) (Rect.unit (s := S4096) (k0_off89 k) S1.size (k0_off89_inb k)).toLoadRect X6 (Shape.Idx.first (numel1_S1.symm ▸ Nat.one_pos))) := chk34_of (hs _ _ _)
  have k0_hw35 : k0_chk35 (arg6.view.readAt (Elt F) (Rect.unit (s := S4096) (k0_off91 k) S1.size (k0_off91_inb k)).toLoadRect X6 (Shape.Idx.first (numel1_S1.symm ▸ Nat.one_pos))) := chk35_of (hs _ _ _)
  have k0_hw36 : k0_chk36 (arg6.view.readAt (Elt F) (Rect.unit (s := S4096) (k0_off93 k) S1.size (k0_off93_inb k)).toLoadRect X6 (Shape.Idx.first (numel1_S1.symm ▸ Nat.one_pos))) := chk36_of (hs _ _ _)
  have k0_hw37 : k0_chk37 (arg6.view.readAt (Elt F) (Rect.unit (s := S4096) (k0_off96 k) S1.size (k0_off96_inb k)).toLoadRect X6 (Shape.Idx.first (numel1_S1.symm ▸ Nat.one_pos))) := chk37_of (hs _ _ _)
  have k0_hw38 : k0_chk38 (arg6.view.readAt (Elt F) (Rect.unit (s := S4096) (k0_off98 k) S1.size (k0_off98_inb k)).toLoadRect X6 (Shape.Idx.first (numel1_S1.symm ▸ Nat.one_pos))) := chk38_of (hs _ _ _)
  have k0_hw39 : k0_chk39 (arg6.view.readAt (Elt F) (Rect.unit (s := S4096) (k0_off100 k) S1.size (k0_off100_inb k)).toLoadRect X6 (Shape.Idx.first (numel1_S1.symm ▸ Nat.one_pos))) := chk39_of (hs _ _ _)
  have k0_hw40 : k0_chk40 (arg6.view.readAt (Elt F) (Rect.unit (s := S4096) (k0_off102 k) S1.size (k0_off102_inb k)).toLoadRect X6 (Shape.Idx.first (numel1_S1.symm ▸ Nat.one_pos))) := chk40_of (hs _ _ _)
  have k0_hw41 : k0_chk41 (arg6.view.readAt (Elt F) (Rect.unit (s := S4096) (k0_off105 k) S1.size (k0_off105_inb k)).toLoadRect X6 (Shape.Idx.first (numel1_S1.symm ▸ Nat.one_pos))) := chk41_of (hs _ _ _)
  have k0_hw42 : k0_chk42 (arg6.view.readAt (Elt F) (Rect.unit (s := S4096) (k0_off107 k) S1.size (k0_off107_inb k)).toLoadRect X6 (Shape.Idx.first (numel1_S1.symm ▸ Nat.one_pos))) := chk42_of (hs _ _ _)
  have k0_hw43 : k0_chk43 (arg6.view.readAt (Elt F) (Rect.unit (s := S4096) (k0_off109 k) S1.size (k0_off109_inb k)).toLoadRect X6 (Shape.Idx.first (numel1_S1.symm ▸ Nat.one_pos))) := chk43_of (hs _ _ _)
  have k0_hw44 : k0_chk44 (arg6.view.readAt (Elt F) (Rect.unit (s := S4096) (k0_off111 k) S1.size (k0_off111_inb k)).toLoadRect X6 (Shape.Idx.first (numel1_S1.symm ▸ Nat.one_pos))) := chk44_of (hs _ _ _)
  have k0_hw45 : k0_chk45 (arg6.view.readAt (Elt F) (Rect.unit (s := S4096) (k0_off114 k) S1.size (k0_off114_inb k)).toLoadRect X6 (Shape.Idx.first (numel1_S1.symm ▸ Nat.one_pos))) := chk45_of (hs _ _ _)
  have k0_hw46 : k0_chk46 (arg6.view.readAt (Elt F) (Rect.unit (s := S4096) (k0_off116 k) S1.size (k0_off116_inb k)).toLoadRect X6 (Shape.Idx.first (numel1_S1.symm ▸ Nat.one_pos))) := chk46_of (hs _ _ _)
  have k0_hw47 : k0_chk47 (arg6.view.readAt (Elt F) (Rect.unit (s := S4096) (k0_off118 k) S1.size (k0_off118_inb k)).toLoadRect X6 (Shape.Idx.first (numel1_S1.symm ▸ Nat.one_pos))) := chk47_of (hs _ _ _)
  have k0_hw48 : k0_chk48 (arg6.view.readAt (Elt F) (Rect.unit (s := S4096) (k0_off120 k) S1.size (k0_off120_inb k)).toLoadRect X6 (Shape.Idx.first (numel1_S1.symm ▸ Nat.one_pos))) := chk48_of (hs _ _ _)
  unfold k0_t9_body inv_t9
  iintro ⟨H6, HS, HT, %f, HD, %hf⟩
  sl_exec
  sl_step
  isplitl [H6]; · iexact H6
  isplitl [HS]; · iexact HS
  isplitl [HT]; · iexact HT
  iexists _; isplitl [HD]; · iexact HD
  ipureintro
  have eS := fun off inb => cast_load' (F := F) (N := 1027) arg9.view X9 (off := off) inb shapeCasts_S1x8x128_S8x128
  have eT := fun off inb => cast_load' (F := F) (N := 713) arg14.view X14 (off := off) inb shapeCasts_S1x8x128_S8x128
  have e6 := fun off inb y => word_load' (F := F) (N := 4096) arg6.view X6 (off := off) inb y
  obtain ⟨s0, s1, s2, s3, w0, w1, w2, w3, w4, w5, w6, w7, w8, w9, w10, w11, w12, w13, w14, w15, d0, d1, d2, d3⟩ := offs_t9 k
  sl_unfold_run_names
  intro r hr i hi
  simp only [k0_pay60, k0_pay61, k0_pay62, k0_pay63, k0_pay64, k0_pay65, k0_pay66, k0_pay67, k0_pay68, k0_pay69, k0_pay70, k0_pay71, k0_pay72, k0_pay73, k0_pay74, k0_pay75, k0_pay8, rows_writes_cons', rows_writes_nil, eS, eT, e6]
  have t0 : ∀ w, k0_off88 w 0 = BitVec.toNat w := fun w => rfl
  have t1 : ∀ w, k0_off90 w 0 = BitVec.toNat w := fun w => rfl
  have t2 : ∀ w, k0_off92 w 0 = BitVec.toNat w := fun w => rfl
  have t3 : ∀ w, k0_off94 w 0 = BitVec.toNat w := fun w => rfl
  have t4 : ∀ w, k0_off97 w 0 = BitVec.toNat w := fun w => rfl
  have t5 : ∀ w, k0_off99 w 0 = BitVec.toNat w := fun w => rfl
  have t6 : ∀ w, k0_off101 w 0 = BitVec.toNat w := fun w => rfl
  have t7 : ∀ w, k0_off103 w 0 = BitVec.toNat w := fun w => rfl
  have t8 : ∀ w, k0_off106 w 0 = BitVec.toNat w := fun w => rfl
  have t9 : ∀ w, k0_off108 w 0 = BitVec.toNat w := fun w => rfl
  have t10 : ∀ w, k0_off110 w 0 = BitVec.toNat w := fun w => rfl
  have t11 : ∀ w, k0_off112 w 0 = BitVec.toNat w := fun w => rfl
  have t12 : ∀ w, k0_off115 w 0 = BitVec.toNat w := fun w => rfl
  have t13 : ∀ w, k0_off117 w 0 = BitVec.toNat w := fun w => rfl
  have t14 : ∀ w, k0_off119 w 0 = BitVec.toNat w := fun w => rfl
  have t15 : ∀ w, k0_off121 w 0 = BitVec.toNat w := fun w => rfl
  simp only [s0, s1, s2, s3, w0, w1, w2, w3, w4, w5, w6, w7, w8, w9, w10, w11, w12, w13, w14, w15, d0, d1, d2, d3, t0, t1, t2, t3, t4, t5, t6, t7, t8, t9, t10, t11, t12, t13, t14, t15]
  by_cases hrk : r < k.val
  · rw [if_neg (by unfold cell; omega), if_neg (by unfold cell; omega), if_neg (by unfold cell; omega), if_neg (by unfold cell; omega)]
    exact hf r hrk i hi
  · obtain rfl : r = k.val := by omega
    match i, hi with
    | 0, _ => rw [if_neg (by unfold cell; omega), if_neg (by unfold cell; omega), if_neg (by unfold cell; omega), if_pos (by unfold cell; omega)]; rfl
    | 1, _ => rw [if_neg (by unfold cell; omega), if_neg (by unfold cell; omega), if_pos (by unfold cell; omega)]; rfl
    | 2, _ => rw [if_neg (by unfold cell; omega), if_pos (by unfold cell; omega)]; rfl
    | 3, _ => rw [if_pos (by unfold cell; omega)]; rfl

end

end Cert.KernelIdeal.Run

end
-- ==== Proof.Run.Backward.lean ====
/-
  One backward step of the trellis costs, as each of the kernel's two copies of it does it:
  a trip per remainder `r`, four stores each.
-/
module

public import proofs.«01_k».proof.Proof.Run.Common

@[expose] public section

set_option maxRecDepth 8192
set_option maxHeartbeats 4000000

noncomputable section

namespace Cert.KernelIdeal.Run

open Cert.KernelIdeal Cert.KernelIdeal.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

/-! ## The backward step of loop 7 -/

theorem chk17_of {w : BitVec 32} (h : w.toNat < 713) : k0_chk17 w := row_inb h
theorem chk18_of {w : BitVec 32} (h : w.toNat < 713) : k0_chk18 w := row_inb h
theorem chk19_of {w : BitVec 32} (h : w.toNat < 713) : k0_chk19 w := row_inb h
theorem chk20_of {w : BitVec 32} (h : w.toNat < 713) : k0_chk20 w := row_inb h
theorem chk21_of {w : BitVec 32} (h : w.toNat < 713) : k0_chk21 w := row_inb h
theorem chk22_of {w : BitVec 32} (h : w.toNat < 713) : k0_chk22 w := row_inb h
theorem chk23_of {w : BitVec 32} (h : w.toNat < 713) : k0_chk23 w := row_inb h
theorem chk24_of {w : BitVec 32} (h : w.toNat < 713) : k0_chk24 w := row_inb h
theorem chk25_of {w : BitVec 32} (h : w.toNat < 713) : k0_chk25 w := row_inb h
theorem chk26_of {w : BitVec 32} (h : w.toNat < 713) : k0_chk26 w := row_inb h
theorem chk27_of {w : BitVec 32} (h : w.toNat < 713) : k0_chk27 w := row_inb h
theorem chk28_of {w : BitVec 32} (h : w.toNat < 713) : k0_chk28 w := row_inb h
theorem chk29_of {w : BitVec 32} (h : w.toNat < 713) : k0_chk29 w := row_inb h
theorem chk30_of {w : BitVec 32} (h : w.toNat < 713) : k0_chk30 w := row_inb h
theorem chk31_of {w : BitVec 32} (h : w.toNat < 713) : k0_chk31 w := row_inb h
theorem chk32_of {w : BitVec 32} (h : w.toNat < 713) : k0_chk32 w := row_inb h

/-- The places that one trip reads and writes. -/
theorem offs_t7 : ∀ k : Fin k0_t7_loop.trips, k0_off46 k 0#32 0 = cell (4 * k.val + 0)
    ∧ k0_off46 k 1#32 0 = cell (4 * k.val + 1)
    ∧ k0_off46 k 2#32 0 = cell (4 * k.val + 2)
    ∧ k0_off46 k 3#32 0 = cell (4 * k.val + 3)
    ∧ k0_off47 k 0 = 0 + (4 * k.val + 0)
    ∧ k0_off49 k 0 = 0 + (4 * k.val + 1)
    ∧ k0_off51 k 0 = 0 + (4 * k.val + 2)
    ∧ k0_off53 k 0 = 0 + (4 * k.val + 3)
    ∧ k0_off56 k 0 = 1024 + (4 * k.val + 0)
    ∧ k0_off58 k 0 = 1024 + (4 * k.val + 1)
    ∧ k0_off60 k 0 = 1024 + (4 * k.val + 2)
    ∧ k0_off62 k 0 = 1024 + (4 * k.val + 3)
    ∧ k0_off65 k 0 = 2048 + (4 * k.val + 0)
    ∧ k0_off67 k 0 = 2048 + (4 * k.val + 1)
    ∧ k0_off69 k 0 = 2048 + (4 * k.val + 2)
    ∧ k0_off71 k 0 = 2048 + (4 * k.val + 3)
    ∧ k0_off74 k 0 = 3072 + (4 * k.val + 0)
    ∧ k0_off76 k 0 = 3072 + (4 * k.val + 1)
    ∧ k0_off78 k 0 = 3072 + (4 * k.val + 2)
    ∧ k0_off80 k 0 = 3072 + (4 * k.val + 3)
    ∧ k0_off55 k 0 = k.val + 0
    ∧ k0_off64 k 0 = k.val + 257
    ∧ k0_off73 k 0 = k.val + 514
    ∧ k0_off82 k 0 = k.val + 771 := by
  unfold cell; decide +kernel

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips. -/
def inv_t7 (X6 : BufTy.Contents (Elt F) arg6.view.ty) (X10 : BufTy.Contents (Elt F) arg10.view.ty)
    (X15 : BufTy.Contents (Elt F) arg15.view.ty) (n : ℕ) (_ : Unit) : sProp 𝕄 :=
  iprop(held c arg6 X6 ∗ held c arg10 X10 ∗ held c arg15 X15 ∗ ∃ g, held c arg11 g ∗
    ⌜∀ r, r < n → ∀ i, i < 4 → rows (N := 1027) arg11.view g (r + 257 * i) = bwdAt (rows (N := 1027) arg10.view X10) (rows (N := 713) arg15.view X15) (slotOf arg6 X6) r i⌝)

/-- One trip. -/
theorem trip_t7 (X6 : BufTy.Contents (Elt F) arg6.view.ty) (X10 : BufTy.Contents (Elt F) arg10.view.ty)
    (X15 : BufTy.Contents (Elt F) arg15.view.ty) (h6 : SlotsOK arg6 X6) (k0_t2 : Fin k0_t2_loop.trips) (arg16 : BitVec 32) (v23 : FVec F S8x128 .f32) (v26 : FVec F S8x128 .f32) (k0_t3 : Fin k0_t3_loop.trips) (k : Fin k0_t7_loop.trips) (E : Set ℕ) (acc : Unit) :
    inv_t7 c arg6 arg10 arg11 arg15 X6 X10 X15 k.val acc ⊢
      wp frame (wpE (defs₀ (F := F)) 𝒱 (c : Thread nD τ) bd) E (k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k0_t2 arg16 v23 v26 0#32 1#32 k0_t3 k acc)
        (fun acc => inv_t7 c arg6 arg10 arg11 arg15 X6 X10 X15 (k.val + 1) acc) := by
  have hk : k.val < 256 := Nat.lt_of_lt_of_le k.isLt k0_t7_abs.2.1
  have hs := slot_lt arg6 X6 h6
  have k0_hw17 : k0_chk17 (arg6.view.readAt (Elt F) (Rect.unit (s := S4096) (k0_off47 k) S1.size (k0_off47_inb k)).toLoadRect X6 (Shape.Idx.first (numel1_S1.symm ▸ Nat.one_pos))) := chk17_of (hs _ _ _)
  have k0_hw18 : k0_chk18 (arg6.view.readAt (Elt F) (Rect.unit (s := S4096) (k0_off49 k) S1.size (k0_off49_inb k)).toLoadRect X6 (Shape.Idx.first (numel1_S1.symm ▸ Nat.one_pos))) := chk18_of (hs _ _ _)
  have k0_hw19 : k0_chk19 (arg6.view.readAt (Elt F) (Rect.unit (s := S4096) (k0_off51 k) S1.size (k0_off51_inb k)).toLoadRect X6 (Shape.Idx.first (numel1_S1.symm ▸ Nat.one_pos))) := chk19_of (hs _ _ _)
  have k0_hw20 : k0_chk20 (arg6.view.readAt (Elt F) (Rect.unit (s := S4096) (k0_off53 k) S1.size (k0_off53_inb k)).toLoadRect X6 (Shape.Idx.first (numel1_S1.symm ▸ Nat.one_pos))) := chk20_of (hs _ _ _)
  have k0_hw21 : k0_chk21 (arg6.view.readAt (Elt F) (Rect.unit (s := S4096) (k0_off56 k) S1.size (k0_off56_inb k)).toLoadRect X6 (Shape.Idx.first (numel1_S1.symm ▸ Nat.one_pos))) := chk21_of (hs _ _ _)
  have k0_hw22 : k0_chk22 (arg6.view.readAt (Elt F) (Rect.unit (s := S4096) (k0_off58 k) S1.size (k0_off58_inb k)).toLoadRect X6 (Shape.Idx.first (numel1_S1.symm ▸ Nat.one_pos))) := chk22_of (hs _ _ _)
  have k0_hw23 : k0_chk23 (arg6.view.readAt (Elt F) (Rect.unit (s := S4096) (k0_off60 k) S1.size (k0_off60_inb k)).toLoadRect X6 (Shape.Idx.first (numel1_S1.symm ▸ Nat.one_pos))) := chk23_of (hs _ _ _)
  have k0_hw24 : k0_chk24 (arg6.view.readAt (Elt F) (Rect.unit (s := S4096) (k0_off62 k) S1.size (k0_off62_inb k)).toLoadRect X6 (Shape.Idx.first (numel1_S1.symm ▸ Nat.one_pos))) := chk24_of (hs _ _ _)
  have k0_hw25 : k0_chk25 (arg6.view.readAt (Elt F) (Rect.unit (s := S4096) (k0_off65 k) S1.size (k0_off65_inb k)).toLoadRect X6 (Shape.Idx.first (numel1_S1.symm ▸ Nat.one_pos))) := chk25_of (hs _ _ _)
  have k0_hw26 : k0_chk26 (arg6.view.readAt (Elt F) (Rect.unit (s := S4096) (k0_off67 k) S1.size (k0_off67_inb k)).toLoadRect X6 (Shape.Idx.first (numel1_S1.symm ▸ Nat.one_pos))) := chk26_of (hs _ _ _)
  have k0_hw27 : k0_chk27 (arg6.view.readAt (Elt F) (Rect.unit (s := S4096) (k0_off69 k) S1.size (k0_off69_inb k)).toLoadRect X6 (Shape.Idx.first (numel1_S1.symm ▸ Nat.one_pos))) := chk27_of (hs _ _ _)
  have k0_hw28 : k0_chk28 (arg6.view.readAt (Elt F) (Rect.unit (s := S4096) (k0_off71 k) S1.size (k0_off71_inb k)).toLoadRect X6 (Shape.Idx.first (numel1_S1.symm ▸ Nat.one_pos))) := chk28_of (hs _ _ _)
  have k0_hw29 : k0_chk29 (arg6.view.readAt (Elt F) (Rect.unit (s := S4096) (k0_off74 k) S1.size (k0_off74_inb k)).toLoadRect X6 (Shape.Idx.first (numel1_S1.symm ▸ Nat.one_pos))) := chk29_of (hs _ _ _)
  have k0_hw30 : k0_chk30 (arg6.view.readAt (Elt F) (Rect.unit (s := S4096) (k0_off76 k) S1.size (k0_off76_inb k)).toLoadRect X6 (Shape.Idx.first (numel1_S1.symm ▸ Nat.one_pos))) := chk30_of (hs _ _ _)
  have k0_hw31 : k0_chk31 (arg6.view.readAt (Elt F) (Rect.unit (s := S4096) (k0_off78 k) S1.size (k0_off78_inb k)).toLoadRect X6 (Shape.Idx.first (numel1_S1.symm ▸ Nat.one_pos))) := chk31_of (hs _ _ _)
  have k0_hw32 : k0_chk32 (arg6.view.readAt (Elt F) (Rect.unit (s := S4096) (k0_off80 k) S1.size (k0_off80_inb k)).toLoadRect X6 (Shape.Idx.first (numel1_S1.symm ▸ Nat.one_pos))) := chk32_of (hs _ _ _)
  unfold k0_t7_body inv_t7
  iintro ⟨H6, HS, HT, %f, HD, %hf⟩
  sl_exec
  sl_step
  isplitl [H6]; · iexact H6
  isplitl [HS]; · iexact HS
  isplitl [HT]; · iexact HT
  iexists _; isplitl [HD]; · iexact HD
  ipureintro
  have eS := fun off inb => cast_load' (F := F) (N := 1027) arg10.view X10 (off := off) inb shapeCasts_S1x8x128_S8x128
  have eT := fun off inb => cast_load' (F := F) (N := 713) arg15.view X15 (off := off) inb shapeCasts_S1x8x128_S8x128
  have e6 := fun off inb y => word_load' (F := F) (N := 4096) arg6.view X6 (off := off) inb y
  obtain ⟨s0, s1, s2, s3, w0, w1, w2, w3, w4, w5, w6, w7, w8, w9, w10, w11, w12, w13, w14, w15, d0, d1, d2, d3⟩ := offs_t7 k
  sl_unfold_run_names
  intro r hr i hi
  simp only [k0_pay44, k0_pay45, k0_pay46, k0_pay47, k0_pay48, k0_pay49, k0_pay50, k0_pay51, k0_pay52, k0_pay53, k0_pay54, k0_pay55, k0_pay56, k0_pay57, k0_pay58, k0_pay59, k0_pay95, rows_writes_cons', rows_writes_nil, eS, eT, e6]
  have t0 : ∀ w, k0_off48 w 0 = BitVec.toNat w := fun w => rfl
  have t1 : ∀ w, k0_off50 w 0 = BitVec.toNat w := fun w => rfl
  have t2 : ∀ w, k0_off52 w 0 = BitVec.toNat w := fun w => rfl
  have t3 : ∀ w, k0_off54 w 0 = BitVec.toNat w := fun w => rfl
  have t4 : ∀ w, k0_off57 w 0 = BitVec.toNat w := fun w => rfl
  have t5 : ∀ w, k0_off59 w 0 = BitVec.toNat w := fun w => rfl
  have t6 : ∀ w, k0_off61 w 0 = BitVec.toNat w := fun w => rfl
  have t7 : ∀ w, k0_off63 w 0 = BitVec.toNat w := fun w => rfl
  have t8 : ∀ w, k0_off66 w 0 = BitVec.toNat w := fun w => rfl
  have t9 : ∀ w, k0_off68 w 0 = BitVec.toNat w := fun w => rfl
  have t10 : ∀ w, k0_off70 w 0 = BitVec.toNat w := fun w => rfl
  have t11 : ∀ w, k0_off72 w 0 = BitVec.toNat w := fun w => rfl
  have t12 : ∀ w, k0_off75 w 0 = BitVec.toNat w := fun w => rfl
  have t13 : ∀ w, k0_off77 w 0 = BitVec.toNat w := fun w => rfl
  have t14 : ∀ w, k0_off79 w 0 = BitVec.toNat w := fun w => rfl
  have t15 : ∀ w, k0_off81 w 0 = BitVec.toNat w := fun w => rfl
  simp only [s0, s1, s2, s3, w0, w1, w2, w3, w4, w5, w6, w7, w8, w9, w10, w11, w12, w13, w14, w15, d0, d1, d2, d3, t0, t1, t2, t3, t4, t5, t6, t7, t8, t9, t10, t11, t12, t13, t14, t15]
  by_cases hrk : r < k.val
  · rw [if_neg (by omega), if_neg (by omega), if_neg (by omega), if_neg (by omega)]
    exact hf r hrk i hi
  · obtain rfl : r = k.val := by omega
    match i, hi with
    | 0, _ => rw [if_neg (by omega), if_neg (by omega), if_neg (by omega), if_pos (by omega)]; rfl
    | 1, _ => rw [if_neg (by omega), if_neg (by omega), if_pos (by omega)]; rfl
    | 2, _ => rw [if_neg (by omega), if_pos (by omega)]; rfl
    | 3, _ => rw [if_pos (by omega)]; rfl

end

section

/-! ## The backward step of loop 11 -/

theorem chk49_of {w : BitVec 32} (h : w.toNat < 713) : k0_chk49 w := row_inb h
theorem chk50_of {w : BitVec 32} (h : w.toNat < 713) : k0_chk50 w := row_inb h
theorem chk51_of {w : BitVec 32} (h : w.toNat < 713) : k0_chk51 w := row_inb h
theorem chk52_of {w : BitVec 32} (h : w.toNat < 713) : k0_chk52 w := row_inb h
theorem chk53_of {w : BitVec 32} (h : w.toNat < 713) : k0_chk53 w := row_inb h
theorem chk54_of {w : BitVec 32} (h : w.toNat < 713) : k0_chk54 w := row_inb h
theorem chk55_of {w : BitVec 32} (h : w.toNat < 713) : k0_chk55 w := row_inb h
theorem chk56_of {w : BitVec 32} (h : w.toNat < 713) : k0_chk56 w := row_inb h
theorem chk57_of {w : BitVec 32} (h : w.toNat < 713) : k0_chk57 w := row_inb h
theorem chk58_of {w : BitVec 32} (h : w.toNat < 713) : k0_chk58 w := row_inb h
theorem chk59_of {w : BitVec 32} (h : w.toNat < 713) : k0_chk59 w := row_inb h
theorem chk60_of {w : BitVec 32} (h : w.toNat < 713) : k0_chk60 w := row_inb h
theorem chk61_of {w : BitVec 32} (h : w.toNat < 713) : k0_chk61 w := row_inb h
theorem chk62_of {w : BitVec 32} (h : w.toNat < 713) : k0_chk62 w := row_inb h
theorem chk63_of {w : BitVec 32} (h : w.toNat < 713) : k0_chk63 w := row_inb h
theorem chk64_of {w : BitVec 32} (h : w.toNat < 713) : k0_chk64 w := row_inb h

/-- The places that one trip reads and writes. -/
theorem offs_t11 : ∀ k : Fin k0_t11_loop.trips, k0_off125 k 0#32 0 = cell (4 * k.val + 0)
    ∧ k0_off125 k 1#32 0 = cell (4 * k.val + 1)
    ∧ k0_off125 k 2#32 0 = cell (4 * k.val + 2)
    ∧ k0_off125 k 3#32 0 = cell (4 * k.val + 3)
    ∧ k0_off126 k 0 = 0 + (4 * k.val + 0)
    ∧ k0_off128 k 0 = 0 + (4 * k.val + 1)
    ∧ k0_off130 k 0 = 0 + (4 * k.val + 2)
    ∧ k0_off132 k 0 = 0 + (4 * k.val + 3)
    ∧ k0_off135 k 0 = 1024 + (4 * k.val + 0)
    ∧ k0_off137 k 0 = 1024 + (4 * k.val + 1)
    ∧ k0_off139 k 0 = 1024 + (4 * k.val + 2)
    ∧ k0_off141 k 0 = 1024 + (4 * k.val + 3)
    ∧ k0_off144 k 0 = 2048 + (4 * k.val + 0)
    ∧ k0_off146 k 0 = 2048 + (4 * k.val + 1)
    ∧ k0_off148 k 0 = 2048 + (4 * k.val + 2)
    ∧ k0_off150 k 0 = 2048 + (4 * k.val + 3)
    ∧ k0_off153 k 0 = 3072 + (4 * k.val + 0)
    ∧ k0_off155 k 0 = 3072 + (4 * k.val + 1)
    ∧ k0_off157 k 0 = 3072 + (4 * k.val + 2)
    ∧ k0_off159 k 0 = 3072 + (4 * k.val + 3)
    ∧ k0_off134 k 0 = k.val + 0
    ∧ k0_off143 k 0 = k.val + 257
    ∧ k0_off152 k 0 = k.val + 514
    ∧ k0_off161 k 0 = k.val + 771 := by
  unfold cell; decide +kernel

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips. -/
def inv_t11 (X6 : BufTy.Contents (Elt F) arg6.view.ty) (X11 : BufTy.Contents (Elt F) arg11.view.ty)
    (X15 : BufTy.Contents (Elt F) arg15.view.ty) (n : ℕ) (_ : Unit) : sProp 𝕄 :=
  iprop(held c arg6 X6 ∗ held c arg11 X11 ∗ held c arg15 X15 ∗ ∃ g, held c arg10 g ∗
    ⌜∀ r, r < n → ∀ i, i < 4 → rows (N := 1027) arg10.view g (r + 257 * i) = bwdAt (rows (N := 1027) arg11.view X11) (rows (N := 713) arg15.view X15) (slotOf arg6 X6) r i⌝)

/-- One trip. -/
theorem trip_t11 (X6 : BufTy.Contents (Elt F) arg6.view.ty) (X11 : BufTy.Contents (Elt F) arg11.view.ty)
    (X15 : BufTy.Contents (Elt F) arg15.view.ty) (h6 : SlotsOK arg6 X6) (k : Fin k0_t11_loop.trips) (E : Set ℕ) (acc : Unit) :
    inv_t11 c arg6 arg10 arg11 arg15 X6 X11 X15 k.val acc ⊢
      wp frame (wpE (defs₀ (F := F)) 𝒱 (c : Thread nD τ) bd) E (k0_t11_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k acc)
        (fun acc => inv_t11 c arg6 arg10 arg11 arg15 X6 X11 X15 (k.val + 1) acc) := by
  have hk : k.val < 256 := Nat.lt_of_lt_of_le k.isLt k0_t11_abs.2.1
  have hs := slot_lt arg6 X6 h6
  have k0_hw49 : k0_chk49 (arg6.view.readAt (Elt F) (Rect.unit (s := S4096) (k0_off126 k) S1.size (k0_off126_inb k)).toLoadRect X6 (Shape.Idx.first (numel1_S1.symm ▸ Nat.one_pos))) := chk49_of (hs _ _ _)
  have k0_hw50 : k0_chk50 (arg6.view.readAt (Elt F) (Rect.unit (s := S4096) (k0_off128 k) S1.size (k0_off128_inb k)).toLoadRect X6 (Shape.Idx.first (numel1_S1.symm ▸ Nat.one_pos))) := chk50_of (hs _ _ _)
  have k0_hw51 : k0_chk51 (arg6.view.readAt (Elt F) (Rect.unit (s := S4096) (k0_off130 k) S1.size (k0_off130_inb k)).toLoadRect X6 (Shape.Idx.first (numel1_S1.symm ▸ Nat.one_pos))) := chk51_of (hs _ _ _)
  have k0_hw52 : k0_chk52 (arg6.view.readAt (Elt F) (Rect.unit (s := S4096) (k0_off132 k) S1.size (k0_off132_inb k)).toLoadRect X6 (Shape.Idx.first (numel1_S1.symm ▸ Nat.one_pos))) := chk52_of (hs _ _ _)
  have k0_hw53 : k0_chk53 (arg6.view.readAt (Elt F) (Rect.unit (s := S4096) (k0_off135 k) S1.size (k0_off135_inb k)).toLoadRect X6 (Shape.Idx.first (numel1_S1.symm ▸ Nat.one_pos))) := chk53_of (hs _ _ _)
  have k0_hw54 : k0_chk54 (arg6.view.readAt (Elt F) (Rect.unit (s := S4096) (k0_off137 k) S1.size (k0_off137_inb k)).toLoadRect X6 (Shape.Idx.first (numel1_S1.symm ▸ Nat.one_pos))) := chk54_of (hs _ _ _)
  have k0_hw55 : k0_chk55 (arg6.view.readAt (Elt F) (Rect.unit (s := S4096) (k0_off139 k) S1.size (k0_off139_inb k)).toLoadRect X6 (Shape.Idx.first (numel1_S1.symm ▸ Nat.one_pos))) := chk55_of (hs _ _ _)
  have k0_hw56 : k0_chk56 (arg6.view.readAt (Elt F) (Rect.unit (s := S4096) (k0_off141 k) S1.size (k0_off141_inb k)).toLoadRect X6 (Shape.Idx.first (numel1_S1.symm ▸ Nat.one_pos))) := chk56_of (hs _ _ _)
  have k0_hw57 : k0_chk57 (arg6.view.readAt (Elt F) (Rect.unit (s := S4096) (k0_off144 k) S1.size (k0_off144_inb k)).toLoadRect X6 (Shape.Idx.first (numel1_S1.symm ▸ Nat.one_pos))) := chk57_of (hs _ _ _)
  have k0_hw58 : k0_chk58 (arg6.view.readAt (Elt F) (Rect.unit (s := S4096) (k0_off146 k) S1.size (k0_off146_inb k)).toLoadRect X6 (Shape.Idx.first (numel1_S1.symm ▸ Nat.one_pos))) := chk58_of (hs _ _ _)
  have k0_hw59 : k0_chk59 (arg6.view.readAt (Elt F) (Rect.unit (s := S4096) (k0_off148 k) S1.size (k0_off148_inb k)).toLoadRect X6 (Shape.Idx.first (numel1_S1.symm ▸ Nat.one_pos))) := chk59_of (hs _ _ _)
  have k0_hw60 : k0_chk60 (arg6.view.readAt (Elt F) (Rect.unit (s := S4096) (k0_off150 k) S1.size (k0_off150_inb k)).toLoadRect X6 (Shape.Idx.first (numel1_S1.symm ▸ Nat.one_pos))) := chk60_of (hs _ _ _)
  have k0_hw61 : k0_chk61 (arg6.view.readAt (Elt F) (Rect.unit (s := S4096) (k0_off153 k) S1.size (k0_off153_inb k)).toLoadRect X6 (Shape.Idx.first (numel1_S1.symm ▸ Nat.one_pos))) := chk61_of (hs _ _ _)
  have k0_hw62 : k0_chk62 (arg6.view.readAt (Elt F) (Rect.unit (s := S4096) (k0_off155 k) S1.size (k0_off155_inb k)).toLoadRect X6 (Shape.Idx.first (numel1_S1.symm ▸ Nat.one_pos))) := chk62_of (hs _ _ _)
  have k0_hw63 : k0_chk63 (arg6.view.readAt (Elt F) (Rect.unit (s := S4096) (k0_off157 k) S1.size (k0_off157_inb k)).toLoadRect X6 (Shape.Idx.first (numel1_S1.symm ▸ Nat.one_pos))) := chk63_of (hs _ _ _)
  have k0_hw64 : k0_chk64 (arg6.view.readAt (Elt F) (Rect.unit (s := S4096) (k0_off159 k) S1.size (k0_off159_inb k)).toLoadRect X6 (Shape.Idx.first (numel1_S1.symm ▸ Nat.one_pos))) := chk64_of (hs _ _ _)
  unfold k0_t11_body inv_t11
  iintro ⟨H6, HS, HT, %f, HD, %hf⟩
  sl_exec
  sl_step
  isplitl [H6]; · iexact H6
  isplitl [HS]; · iexact HS
  isplitl [HT]; · iexact HT
  iexists _; isplitl [HD]; · iexact HD
  ipureintro
  have eS := fun off inb => cast_load' (F := F) (N := 1027) arg11.view X11 (off := off) inb shapeCasts_S1x8x128_S8x128
  have eT := fun off inb => cast_load' (F := F) (N := 713) arg15.view X15 (off := off) inb shapeCasts_S1x8x128_S8x128
  have e6 := fun off inb y => word_load' (F := F) (N := 4096) arg6.view X6 (off := off) inb y
  obtain ⟨s0, s1, s2, s3, w0, w1, w2, w3, w4, w5, w6, w7, w8, w9, w10, w11, w12, w13, w14, w15, d0, d1, d2, d3⟩ := offs_t11 k
  sl_unfold_run_names
  intro r hr i hi
  simp only [k0_pay76, k0_pay77, k0_pay78, k0_pay79, k0_pay80, k0_pay81, k0_pay82, k0_pay83, k0_pay84, k0_pay85, k0_pay86, k0_pay87, k0_pay88, k0_pay89, k0_pay90, k0_pay91, k0_pay10, rows_writes_cons', rows_writes_nil, eS, eT, e6]
  have t0 : ∀ w, k0_off127 w 0 = BitVec.toNat w := fun w => rfl
  have t1 : ∀ w, k0_off129 w 0 = BitVec.toNat w := fun w => rfl
  have t2 : ∀ w, k0_off131 w 0 = BitVec.toNat w := fun w => rfl
  have t3 : ∀ w, k0_off133 w 0 = BitVec.toNat w := fun w => rfl
  have t4 : ∀ w, k0_off136 w 0 = BitVec.toNat w := fun w => rfl
  have t5 : ∀ w, k0_off138 w 0 = BitVec.toNat w := fun w => rfl
  have t6 : ∀ w, k0_off140 w 0 = BitVec.toNat w := fun w => rfl
  have t7 : ∀ w, k0_off142 w 0 = BitVec.toNat w := fun w => rfl
  have t8 : ∀ w, k0_off145 w 0 = BitVec.toNat w := fun w => rfl
  have t9 : ∀ w, k0_off147 w 0 = BitVec.toNat w := fun w => rfl
  have t10 : ∀ w, k0_off149 w 0 = BitVec.toNat w := fun w => rfl
  have t11 : ∀ w, k0_off151 w 0 = BitVec.toNat w := fun w => rfl
  have t12 : ∀ w, k0_off154 w 0 = BitVec.toNat w := fun w => rfl
  have t13 : ∀ w, k0_off156 w 0 = BitVec.toNat w := fun w => rfl
  have t14 : ∀ w, k0_off158 w 0 = BitVec.toNat w := fun w => rfl
  have t15 : ∀ w, k0_off160 w 0 = BitVec.toNat w := fun w => rfl
  simp only [s0, s1, s2, s3, w0, w1, w2, w3, w4, w5, w6, w7, w8, w9, w10, w11, w12, w13, w14, w15, d0, d1, d2, d3, t0, t1, t2, t3, t4, t5, t6, t7, t8, t9, t10, t11, t12, t13, t14, t15]
  by_cases hrk : r < k.val
  · rw [if_neg (by omega), if_neg (by omega), if_neg (by omega), if_neg (by omega)]
    exact hf r hrk i hi
  · obtain rfl : r = k.val := by omega
    match i, hi with
    | 0, _ => rw [if_neg (by omega), if_neg (by omega), if_neg (by omega), if_pos (by omega)]; rfl
    | 1, _ => rw [if_neg (by omega), if_neg (by omega), if_pos (by omega)]; rfl
    | 2, _ => rw [if_neg (by omega), if_pos (by omega)]; rfl
    | 3, _ => rw [if_pos (by omega)]; rfl

end

end Cert.KernelIdeal.Run

end
-- ==== Proof.Run.Steps.lean ====
/-
  The trellis costs block by block: one forward or backward step on the costs of the 1024 states, the iterates of such
  steps, and what the buffers of costs hold of them.  Nothing here speaks of a particular program.
-/
module

public import proofs.«01_k».proof.Proof.Run.Rows
public import Idealize.ShloMosaic.Lib.KernelVsHost

@[expose] public section

noncomputable section

namespace Cert.Trellis

open Idealize.ShloMosaic Idealize.ShloMosaic.TcCoe

variable {F : FTy → Type} [FloatOps F]

/-- The block of zeros. -/
def zeroB : Blk F := fun _ => Scalar.ofBits .f32 0x00000000#32

/-- The block of plus infinities. -/
def infB : Blk F := fun _ => Scalar.ofBits .f32 0x7F800000#32

/-- The first four rows of one block over the last four of another. -/
def mixB (lo hi : Blk F) : Blk F := fun j => if (j 0).val < 4 then lo j else hi j

/-- A block with its two halves of four rows exchanged. -/
def rotB (v : Blk F) : Blk F := fun j => v (ix2 ⟨((j 0).val + 4) % 8, Nat.mod_lt _ (by decide)⟩ (j 1))

/-- The weighted squared distance of a block of targets from one number of the codebook. -/
def errB (t h : Blk F) (x : F .f32) : Blk F := mulf h (mulf (subf t (fun _ => x)) (subf t (fun _ => x)))

/-- One forward step: the cost at `q` from the costs at the four states `256 x + q / 4`. -/
def fwdStep (E μ : ℕ → Blk F) (q : ℕ) : Blk F :=
  least4 (addf (μ (256 * 0 + q / 4)) (E (1024 * 0 + q))) (addf (μ (256 * 1 + q / 4)) (E (1024 * 1 + q)))
    (addf (μ (256 * 2 + q / 4)) (E (1024 * 2 + q))) (addf (μ (256 * 3 + q / 4)) (E (1024 * 3 + q)))

/-- One backward step: the cost at `q` from the costs at the four states `4 (q mod 256) + y`. -/
def bwdStep (E ν : ℕ → Blk F) (q : ℕ) : Blk F :=
  least4 (addf (ν (4 * (q % 256) + 0)) (E (1024 * (q / 256) + (4 * (q % 256) + 0))))
    (addf (ν (4 * (q % 256) + 1)) (E (1024 * (q / 256) + (4 * (q % 256) + 1))))
    (addf (ν (4 * (q % 256) + 2)) (E (1024 * (q / 256) + (4 * (q % 256) + 2))))
    (addf (ν (4 * (q % 256) + 3)) (E (1024 * (q / 256) + (4 * (q % 256) + 3))))

/-- The iterates of a step. -/
def iter (step : (ℕ → Blk F) → (ℕ → Blk F) → ℕ → Blk F) (E : ℕ → ℕ → Blk F) (μ : ℕ → Blk F) : ℕ → ℕ → Blk F
  | 0 => μ
  | n + 1 => step (E n) (iter step E μ n)

/-- The least over the first `n` of a sequence of blocks. -/
def accB (f : ℕ → Blk F) : ℕ → Blk F
  | 0 => infB
  | n + 1 => minimumf (accB f n) (f n)

/-- A buffer of costs holds the costs `μ` of the 1024 states. -/
def Holds {sig : RefSig} {κ : Kind} {sp : Space} (v : View sig κ sp ⟨3, ![1027, 8, 128]⟩ .f32) (f : v.ty.Contents (Elt F)) (μ : ℕ → Blk F) : Prop :=
  ∀ q, q < 1024 → rows v f (cell q) = μ q

/-- A table of blocks holds the distances from the 713 numbers of the codebook. -/
def Filled {sig : RefSig} {κ : Kind} {sp : Space} (v : View sig κ sp ⟨3, ![713, 8, 128]⟩ .f32) (f : v.ty.Contents (Elt F)) (t h : Blk F) (x : ℕ → F .f32) : Prop :=
  ∀ n, n < 713 → rows v f n = errB t h (x n)

theorem cell_of (x r : ℕ) (hr : r < 256) : cell (256 * x + r) = r + 257 * x := by unfold cell; omega

/-- A buffer written by the trips of a forward step holds the step of what was held. -/
theorem holds_fwd {sig : RefSig} {κ : Kind} {sp sp' sp'' : Space} (v : View sig κ sp ⟨3, ![1027, 8, 128]⟩ .f32) (f : v.ty.Contents (Elt F))
    (v' : View sig κ sp' ⟨3, ![1027, 8, 128]⟩ .f32) (f' : v'.ty.Contents (Elt F))
    (u : View sig κ sp'' ⟨3, ![713, 8, 128]⟩ .f32) (g : u.ty.Contents (Elt F)) (w : ℕ → ℕ) (hw : ∀ s, w s < 713)
    (μ : ℕ → Blk F) (t h : Blk F) (x : ℕ → F .f32) (hS : Holds v f μ) (hT : Filled u g t h x)
    (hD : ∀ r, r < 256 → ∀ i, i < 4 → rows v' f' (cell (4 * r + i)) = fwdAt (rows v f) (rows u g) w r i) :
    Holds v' f' (fwdStep (fun s => errB t h (x (w s))) μ) := by
  intro q hq
  have e := hD (q / 4) (by omega) (q % 4) (by omega)
  rw [show 4 * (q / 4) + q % 4 = q by omega] at e
  rw [e]
  unfold fwdAt fwdStep
  rw [show 4 * (q / 4) + q % 4 = q by omega, ← hS (256 * 0 + q / 4) (by omega), ← hS (256 * 1 + q / 4) (by omega), ← hS (256 * 2 + q / 4) (by omega),
    ← hS (256 * 3 + q / 4) (by omega), cell_of 0 _ (by omega), cell_of 1 _ (by omega), cell_of 2 _ (by omega), cell_of 3 _ (by omega),
    hT _ (hw _), hT _ (hw _), hT _ (hw _), hT _ (hw _)]

/-- A buffer written by the trips of a backward step holds the step of what was held. -/
theorem holds_bwd {sig : RefSig} {κ : Kind} {sp sp' sp'' : Space} (v : View sig κ sp ⟨3, ![1027, 8, 128]⟩ .f32) (f : v.ty.Contents (Elt F))
    (v' : View sig κ sp' ⟨3, ![1027, 8, 128]⟩ .f32) (f' : v'.ty.Contents (Elt F))
    (u : View sig κ sp'' ⟨3, ![713, 8, 128]⟩ .f32) (g : u.ty.Contents (Elt F)) (w : ℕ → ℕ) (hw : ∀ s, w s < 713)
    (μ : ℕ → Blk F) (t h : Blk F) (x : ℕ → F .f32) (hS : Holds v f μ) (hT : Filled u g t h x)
    (hD : ∀ r, r < 256 → ∀ i, i < 4 → rows v' f' (r + 257 * i) = bwdAt (rows v f) (rows u g) w r i) :
    Holds v' f' (bwdStep (fun s => errB t h (x (w s))) μ) := by
  intro q hq
  have e := hD (q % 256) (by omega) (q / 256) (by omega)
  rw [← cell_of _ _ (by omega), show 256 * (q / 256) + q % 256 = q by omega] at e
  rw [e]
  unfold bwdAt bwdStep
  rw [hS _ (by omega), hS _ (by omega), hS _ (by omega), hS _ (by omega), hT _ (hw _), hT _ (hw _), hT _ (hw _), hT _ (hw _)]

section

variable {sig : RefSig} {κ : Kind} {sp : Space} {N : ℕ}

/-- Block `c` of a buffer of blocks of 8-bit codes. -/
def brows (v : View sig κ sp ⟨3, ![N, 8, 128]⟩ .i8) (f : v.ty.Contents (Elt F)) (c : ℕ) : (⟨2, ![8, 128]⟩ : Shape).Idx → BitVec 8 :=
  fun j => if h : c < N then v.read (Elt F) f (ix3 ⟨c, h⟩ (j 0) (j 1)) else 0#8

/-- A load of one block of codes, its unit axis dropped, is that block. -/
theorem bcast_load (v : View sig κ sp ⟨3, ![N, 8, 128]⟩ .i8) (f : v.ty.Contents (Elt F)) {off : Fin 3 → ℕ}
    (inb : ∀ a, off a + (![1, 8, 128] : Fin 3 → ℕ) a ≤ (⟨3, ![N, 8, 128]⟩ : Shape).size a)
    (h : (⟨3, ![1, 8, 128]⟩ : Shape).ShapeCasts ⟨2, ![8, 128]⟩) :
    shapeCast ⟨2, ![8, 128]⟩ (v.readAt (Elt F) (Rect.unit (s := ⟨3, ![N, 8, 128]⟩) off ![1, 8, 128] inb).toLoadRect f) h = brows v f (off 0) := by
  funext j
  obtain ⟨a, b, rfl⟩ : ∃ (a : Fin 8) (b : Fin 128), j = ix2 a b := ⟨j 0, j 1, eq_ix2 j⟩
  refine (drop_at _ h a b).trans ?_
  have ho := off_eq inb
  have hc : off 0 < N := by
    have h0 : off 0 + 1 ≤ N := inb 0
    omega
  unfold brows
  rw [dif_pos hc, View.readAt_eq_ld]
  show v.read (Elt F) f _ = v.read (Elt F) f _
  congr 1
  funext i
  apply Fin.ext
  match i with
  | ⟨0, _⟩ => show off 0 + 1 * 0 = off 0; omega
  | ⟨1, _⟩ =>
    have : off 1 = 0 := congrFun ho 1
    show off 1 + 1 * a.val = a.val
    omega
  | ⟨2, _⟩ =>
    have : off 2 = 0 := congrFun ho 2
    show off 2 + 1 * b.val = b.val
    omega

/-- Block `(a, k)` of a buffer of two by three blocks. -/
def srow (v : View sig κ sp ⟨4, ![2, 3, 8, 128]⟩ .f32) (f : v.ty.Contents (Elt F)) (a : Fin 2) (k : Fin 3) : Blk F :=
  fun j => v.read (Elt F) f (ix4 a k (j 0) (j 1))

/-- Dropping the two unit axes in front of a block. -/
theorem drop2_at {α : Type} (x : (⟨4, ![1, 1, 8, 128]⟩ : Shape).Idx → α) (h : (⟨4, ![1, 1, 8, 128]⟩ : Shape).ShapeCasts ⟨2, ![8, 128]⟩)
    (a : Fin 8) (b : Fin 128) : shapeCast ⟨2, ![8, 128]⟩ x h (ix2 a b) = x (ix4 0 0 a b) := by
  pointwise

/-- A load of one of the two by three blocks, its unit axes dropped, is that block. -/
theorem scast_load (v : View sig κ sp ⟨4, ![2, 3, 8, 128]⟩ .f32) (f : v.ty.Contents (Elt F)) {off : Fin 4 → ℕ}
    (inb : ∀ a, off a + (![1, 1, 8, 128] : Fin 4 → ℕ) a ≤ (⟨4, ![2, 3, 8, 128]⟩ : Shape).size a) (u : Fin 2) (k : Fin 3)
    (ho : off = ![u.val, k.val, 0, 0])
    (h : (⟨4, ![1, 1, 8, 128]⟩ : Shape).ShapeCasts ⟨2, ![8, 128]⟩) :
    shapeCast ⟨2, ![8, 128]⟩ (v.readAt (Elt F) (Rect.unit (s := ⟨4, ![2, 3, 8, 128]⟩) off ![1, 1, 8, 128] inb).toLoadRect f) h = srow v f u k := by
  subst ho
  funext j
  obtain ⟨a, b, rfl⟩ : ∃ (a : Fin 8) (b : Fin 128), j = ix2 a b := ⟨j 0, j 1, eq_ix2 j⟩
  refine (drop2_at _ h a b).trans ?_
  unfold srow
  rw [View.readAt_eq_ld]
  show v.read (Elt F) f _ = v.read (Elt F) f _
  congr 1
  funext i
  apply Fin.ext
  match i with
  | ⟨0, _⟩ => show u.val + 1 * 0 = u.val; omega
  | ⟨1, _⟩ => show k.val + 1 * 0 = k.val; omega
  | ⟨2, _⟩ => show 0 + 1 * a.val = a.val; omega
  | ⟨3, _⟩ => show 0 + 1 * b.val = b.val; omega

end

/-- A rotation by four of the eight rows exchanges the halves. -/
theorem rot_eq (v : Blk F) (h : (⟨2, ![8, 128]⟩ : Shape).Rotates 0 none) :
    dynamicRotate (s := ⟨2, ![8, 128]⟩) 0 4#32 none v h = rotB v := by
  funext j
  obtain ⟨a, b, rfl⟩ : ∃ (a : Fin 8) (b : Fin 128), j = ix2 a b := ⟨j 0, j 1, eq_ix2 j⟩
  unfold dynamicRotate rotB
  show v _ = v _
  congr 1
  funext i
  match i with
  | ⟨0, _⟩ =>
    apply Fin.ext
    show (a.val + 8 - 4 % 8) % 8 = (a.val + 4) % 8
    omega
  | ⟨1, _⟩ => rfl

/-- A selection by the rows below four takes the halves of two blocks. -/
theorem select_low (m : (⟨2, ![8, 128]⟩ : Shape).Idx → BitVec 1) (hm : ∀ (a : Fin 8) (b : Fin 128), m (ix2 a b) = if a.val < 4 then 1#1 else 0#1)
    (x y : Blk F) : select m x y = mixB x y := by
  funext j
  obtain ⟨a, b, rfl⟩ : ∃ (a : Fin 8) (b : Fin 128), j = ix2 a b := ⟨j 0, j 1, eq_ix2 j⟩
  unfold select mixB
  rw [hm]
  show Scalar.select _ _ _ = if a.val < 4 then _ else _
  unfold Scalar.select
  by_cases ha : a.val < 4
  · rw [if_pos ha, if_pos ha]; rfl
  · rw [if_neg ha, if_neg ha]; rfl

end Cert.Trellis

end
-- ==== Proof.Run.Fill.lean ====
/-
  The two tables of weighted squared distances, filled anew for each position: a trip per number of the codebook.
-/
module

public import proofs.«01_k».proof.Proof.Run.Common
public import proofs.«01_k».proof.Proof.Run.Steps

@[expose] public section

set_option maxRecDepth 8192
set_option maxHeartbeats 4000000

noncomputable section

namespace Cert.KernelIdeal.Run

open Cert.KernelIdeal Cert.KernelIdeal.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

/-! ## The table that loop 4 fills -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips. -/
def inv_t4 (X5 : BufTy.Contents (Elt F) arg5.view.ty) (tg hh : Blk F) (n : ℕ) (_ : Unit) : sProp 𝕄 :=
  iprop(held c arg5 X5 ∗ ∃ g, held c arg14 g ∗ ⌜∀ i, i < n → rows (N := 713) arg14.view g i = errB tg hh (nums (N := 713) arg5.view X5 i)⌝)

/-- One trip. -/
theorem trip_t4 (X5 : BufTy.Contents (Elt F) arg5.view.ty) (k0_t2 : Fin k0_t2_loop.trips) (arg16 : BitVec 32) (v23 : FVec F S8x128 .f32) (v26 : FVec F S8x128 .f32) (k0_t3 : Fin k0_t3_loop.trips) (vc : Vec F S1x8x128 .i8) (vh : Vec F S1x8x128 .f32) (k : Fin k0_t4_loop.trips) (E : Set ℕ) (acc : Unit) :
    inv_t4 c arg5 arg14 X5 (mulf (sitofp .f32 (shapeCast S8x128 vc shapeCasts_S1x8x128_S8x128)) v23) (shapeCast S8x128 vh shapeCasts_S1x8x128_S8x128) k.val acc ⊢
      wp frame (wpE (defs₀ (F := F)) 𝒱 (c : Thread nD τ) bd) E (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k0_t2 arg16 v23 v26 0#32 1#32 k0_t3 vc vh k acc)
        (fun acc => inv_t4 c arg5 arg14 X5 (mulf (sitofp .f32 (shapeCast S8x128 vc shapeCasts_S1x8x128_S8x128)) v23) (shapeCast S8x128 vh shapeCasts_S1x8x128_S8x128) (k.val + 1) acc) := by
  unfold k0_t4_body inv_t4
  iintro ⟨H5, %f, HD, %hf⟩
  sl_exec
  sl_step
  isplitl [H5]; · iexact H5
  iexists _; isplitl [HD]; · iexact HD
  ipureintro
  have e5 := fun off inb y => num_load' (F := F) (N := 713) arg5.view X5 (off := off) inb y
  have s0 : k0_off5 k 0 = k.val := by rw [k0_off5_eq]; rfl
  have d0 : k0_off6 k 0 = k.val := by rw [k0_off6_eq]; rfl
  sl_unfold_run_names
  intro i hi
  simp only [k0_pay92, rows_writes_cons', rows_writes_nil, e5, s0, d0]
  by_cases hik : i < k.val
  · rw [if_neg (by omega)]
    exact hf i hik
  · obtain rfl : i = k.val := by omega
    rw [if_pos rfl]; rfl

end

section

/-! ## The table that loop 6 fills -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips. -/
def inv_t6 (X5 : BufTy.Contents (Elt F) arg5.view.ty) (tg hh : Blk F) (n : ℕ) (_ : Unit) : sProp 𝕄 :=
  iprop(held c arg5 X5 ∗ ∃ g, held c arg15 g ∗ ⌜∀ i, i < n → rows (N := 713) arg15.view g i = errB tg hh (nums (N := 713) arg5.view X5 i)⌝)

/-- One trip. -/
theorem trip_t6 (X5 : BufTy.Contents (Elt F) arg5.view.ty) (k0_t2 : Fin k0_t2_loop.trips) (arg16 : BitVec 32) (v23 : FVec F S8x128 .f32) (v26 : FVec F S8x128 .f32) (k0_t3 : Fin k0_t3_loop.trips) (vc : Vec F S1x8x128 .i8) (vh : Vec F S1x8x128 .f32) (k : Fin k0_t6_loop.trips) (E : Set ℕ) (acc : Unit) :
    inv_t6 c arg5 arg15 X5 (mulf (sitofp .f32 (shapeCast S8x128 vc shapeCasts_S1x8x128_S8x128)) v26) (shapeCast S8x128 vh shapeCasts_S1x8x128_S8x128) k.val acc ⊢
      wp frame (wpE (defs₀ (F := F)) 𝒱 (c : Thread nD τ) bd) E (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k0_t2 arg16 v23 v26 0#32 1#32 k0_t3 vc vh k acc)
        (fun acc => inv_t6 c arg5 arg15 X5 (mulf (sitofp .f32 (shapeCast S8x128 vc shapeCasts_S1x8x128_S8x128)) v26) (shapeCast S8x128 vh shapeCasts_S1x8x128_S8x128) (k.val + 1) acc) := by
  unfold k0_t6_body inv_t6
  iintro ⟨H5, %f, HD, %hf⟩
  sl_exec
  sl_step
  isplitl [H5]; · iexact H5
  iexists _; isplitl [HD]; · iexact HD
  ipureintro
  have e5 := fun off inb y => num_load' (F := F) (N := 713) arg5.view X5 (off := off) inb y
  have s0 : k0_off44 k 0 = k.val := by rw [k0_off44_eq]; rfl
  have d0 : k0_off45 k 0 = k.val := by rw [k0_off45_eq]; rfl
  sl_unfold_run_names
  intro i hi
  simp only [k0_pay94, rows_writes_cons', rows_writes_nil, e5, s0, d0]
  by_cases hik : i < k.val
  · rw [if_neg (by omega)]
    exact hf i hik
  · obtain rfl : i = k.val := by omega
    rw [if_pos rfl]; rfl

end

section

/-! ## The table that loop 8 fills -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips. -/
def inv_t8 (X5 : BufTy.Contents (Elt F) arg5.view.ty) (tg hh : Blk F) (n : ℕ) (_ : Unit) : sProp 𝕄 :=
  iprop(held c arg5 X5 ∗ ∃ g, held c arg14 g ∗ ⌜∀ i, i < n → rows (N := 713) arg14.view g i = errB tg hh (nums (N := 713) arg5.view X5 i)⌝)

/-- One trip. -/
theorem trip_t8 (X5 : BufTy.Contents (Elt F) arg5.view.ty) (v22 : Vec F S1x1x8x128 .f32) (vc : Vec F S1x8x128 .i8) (vh : Vec F S1x8x128 .f32) (k : Fin k0_t8_loop.trips) (E : Set ℕ) (acc : Unit) :
    inv_t8 c arg5 arg14 X5 (mulf (sitofp .f32 (shapeCast S8x128 vc shapeCasts_S1x8x128_S8x128)) (k0_pay5 v22)) (shapeCast S8x128 vh shapeCasts_S1x8x128_S8x128) k.val acc ⊢
      wp frame (wpE (defs₀ (F := F)) 𝒱 (c : Thread nD τ) bd) E (k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v22 vc vh k acc)
        (fun acc => inv_t8 c arg5 arg14 X5 (mulf (sitofp .f32 (shapeCast S8x128 vc shapeCasts_S1x8x128_S8x128)) (k0_pay5 v22)) (shapeCast S8x128 vh shapeCasts_S1x8x128_S8x128) (k.val + 1) acc) := by
  unfold k0_t8_body inv_t8
  iintro ⟨H5, %f, HD, %hf⟩
  sl_exec
  sl_step
  isplitl [H5]; · iexact H5
  iexists _; isplitl [HD]; · iexact HD
  ipureintro
  have e5 := fun off inb y => num_load' (F := F) (N := 713) arg5.view X5 (off := off) inb y
  have s0 : k0_off84 k 0 = k.val := by rw [k0_off84_eq]; rfl
  have d0 : k0_off85 k 0 = k.val := by rw [k0_off85_eq]; rfl
  sl_unfold_run_names
  intro i hi
  simp only [k0_pay7, rows_writes_cons', rows_writes_nil, e5, s0, d0]
  by_cases hik : i < k.val
  · rw [if_neg (by omega)]
    exact hf i hik
  · obtain rfl : i = k.val := by omega
    rw [if_pos rfl]; rfl

end

section

/-! ## The table that loop 10 fills -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips. -/
def inv_t10 (X5 : BufTy.Contents (Elt F) arg5.view.ty) (tg hh : Blk F) (n : ℕ) (_ : Unit) : sProp 𝕄 :=
  iprop(held c arg5 X5 ∗ ∃ g, held c arg15 g ∗ ⌜∀ i, i < n → rows (N := 713) arg15.view g i = errB tg hh (nums (N := 713) arg5.view X5 i)⌝)

/-- One trip. -/
theorem trip_t10 (X5 : BufTy.Contents (Elt F) arg5.view.ty) (v22 : Vec F S1x1x8x128 .f32) (vc : Vec F S1x8x128 .i8) (vh : Vec F S1x8x128 .f32) (k : Fin k0_t10_loop.trips) (E : Set ℕ) (acc : Unit) :
    inv_t10 c arg5 arg15 X5 (mulf (sitofp .f32 (shapeCast S8x128 vc shapeCasts_S1x8x128_S8x128)) (k0_pay6 v22)) (shapeCast S8x128 vh shapeCasts_S1x8x128_S8x128) k.val acc ⊢
      wp frame (wpE (defs₀ (F := F)) 𝒱 (c : Thread nD τ) bd) E (k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v22 vc vh k acc)
        (fun acc => inv_t10 c arg5 arg15 X5 (mulf (sitofp .f32 (shapeCast S8x128 vc shapeCasts_S1x8x128_S8x128)) (k0_pay6 v22)) (shapeCast S8x128 vh shapeCasts_S1x8x128_S8x128) (k.val + 1) acc) := by
  unfold k0_t10_body inv_t10
  iintro ⟨H5, %f, HD, %hf⟩
  sl_exec
  sl_step
  isplitl [H5]; · iexact H5
  iexists _; isplitl [HD]; · iexact HD
  ipureintro
  have e5 := fun off inb y => num_load' (F := F) (N := 713) arg5.view X5 (off := off) inb y
  have s0 : k0_off123 k 0 = k.val := by rw [k0_off123_eq]; rfl
  have d0 : k0_off124 k 0 = k.val := by rw [k0_off124_eq]; rfl
  sl_unfold_run_names
  intro i hi
  simp only [k0_pay9, rows_writes_cons', rows_writes_nil, e5, s0, d0]
  by_cases hik : i < k.val
  · rw [if_neg (by omega)]
    exact hf i hik
  · obtain rfl : i = k.val := by omega
    rw [if_pos rfl]; rfl

end

end Cert.KernelIdeal.Run

end
-- ==== Proof.Run.Segment.lean ====
/-
  Two positions of the forward and of the backward recursion: what one trip of the position loop does.
-/
module

public import proofs.«01_k».proof.Proof.Run.Forward
public import proofs.«01_k».proof.Proof.Run.Backward
public import proofs.«01_k».proof.Proof.Run.Fill

@[expose] public section

set_option maxRecDepth 8192
set_option maxHeartbeats 4000000

noncomputable section

namespace Cert.KernelIdeal.Run

open Cert.KernelIdeal Cert.KernelIdeal.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The weighted squared distance at position `p` and state `s`, as the buffers spell it: the target is the code times the
scale, the number that of the state's slot in the codebook. -/
def errAt (a0 : Memref sig .tc .vmem S192x8x128 .i8) (X0 : BufTy.Contents (Elt F) a0.view.ty)
    (a1 : Memref sig .tc .vmem S192x8x128 .f32) (X1 : BufTy.Contents (Elt F) a1.view.ty) (a5 : Memref sig .tc .smem S713 .f32) (X5 : BufTy.Contents (Elt F) a5.view.ty)
    (w : ℕ → ℕ) (sc : Blk F) (p s : ℕ) : Blk F :=
  errB (mulf (sitofp .f32 (brows (N := 192) a0.view X0 p)) sc) (rows (N := 192) a1.view X1 p) (nums (N := 713) a5.view X5 (w s))

section

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- The buffer of costs holds the costs `μ`. -/
def costs (c : Dev nD) (a : Memref sig .tc .vmem S1027x8x128 .f32) (μ : ℕ → Blk F) : sProp 𝕄 :=
  iprop(∃ f, held c a f ∗ ⌜Holds a.view f μ⌝)

/-- The buffer holds something. -/
def any (c : Dev nD) {s : Shape} (a : Memref sig .tc .vmem s .f32) : sProp 𝕄 := iprop(∃ f, held c a f)

variable (X0 : BufTy.Contents (Elt F) arg0.view.ty) (X1 : BufTy.Contents (Elt F) arg1.view.ty) (X2 : BufTy.Contents (Elt F) arg2.view.ty)
  (X3 : BufTy.Contents (Elt F) arg3.view.ty) (X5 : BufTy.Contents (Elt F) arg5.view.ty) (X6 : BufTy.Contents (Elt F) arg6.view.ty)

/-- What the position loop of a segment that begins at position `b` has done after `n` trips, from the costs `μ` and `ν`. -/
def inv_t3 (b : ℕ) (sf sb : Blk F) (μ ν : ℕ → Blk F) (n : ℕ) (_ : Unit) : sProp 𝕄 :=
  iprop(held c arg0 X0 ∗ held c arg1 X1 ∗ held c arg2 X2 ∗ held c arg3 X3 ∗ held c arg5 X5 ∗ held c arg6 X6 ∗
    costs c arg8 (iter fwdStep (fun p => errAt arg0 X0 arg1 X1 arg5 X5 (slotOf arg6 X6) sf (b + p)) μ (2 * n)) ∗
    costs c arg10 (iter bwdStep (fun p => errAt arg2 X2 arg3 X3 arg5 X5 (slotOf arg6 X6) sb (b + p)) ν (2 * n)) ∗
    any c arg9 ∗ any c arg11 ∗ any c arg14 ∗ any c arg15)

/-- One trip of the position loop. -/
theorem trip_t3 (h6 : SlotsOK arg6 X6) (μ ν : ℕ → Blk F) (k0_t2 : Fin k0_t2_loop.trips) (arg16 : BitVec 32) (v22 v25 : Vec F S1x1x8x128 .f32)
    (k : Fin k0_t3_loop.trips) (E : Set ℕ) (acc : Unit) :
    inv_t3 c arg0 arg1 arg2 arg3 arg5 arg6 arg8 arg9 arg10 arg11 arg14 arg15 X0 X1 X2 X3 X5 X6 (64 * k0_t2.val) (k0_pay5 v22) (k0_pay6 v25) μ ν k.val acc ⊢
      wp frame (wpE (defs₀ (F := F)) 𝒱 (c : Thread nD τ) bd) E (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k0_t2 arg16 v22 v25 k acc)
        (fun acc => inv_t3 c arg0 arg1 arg2 arg3 arg5 arg6 arg8 arg9 arg10 arg11 arg14 arg15 X0 X1 X2 X3 X5 X6 (64 * k0_t2.val) (k0_pay5 v22) (k0_pay6 v25) μ ν (k.val + 1) acc) := by
  unfold k0_t3_body inv_t3 costs any
  iintro ⟨H0, H1, H2, H3, H5, H6, ⟨%f8, H8, %h8⟩, ⟨%f10, H10, %h10⟩, ⟨%f9, H9⟩, ⟨%f11, H11⟩, ⟨%f14, H14⟩, %f15, H15⟩
  sl_exec
  have e0_4 : shapeCast S8x128 (arg0.view.readAt (Elt F) (Rect.unit (s := S192x8x128) (k0_off4 k0_t2 k) S1x8x128.size (k0_off4_inb k0_t2 k)).toLoadRect X0) shapeCasts_S1x8x128_S8x128 = brows (N := 192) arg0.view X0 (64 * k0_t2.val + 2 * k.val) :=
    (bcast_load (N := 192) arg0.view X0 (k0_off4_inb k0_t2 k) shapeCasts_S1x8x128_S8x128).trans (congrArg _ ((congrFun (k0_off4_eq k0_t2 k) 0).trans (by simp only [Matrix.cons_val_zero] <;> omega)))
  have e1_4 : shapeCast S8x128 (arg1.view.readAt (Elt F) (Rect.unit (s := S192x8x128) (k0_off4 k0_t2 k) S1x8x128.size (k0_off4_inb k0_t2 k)).toLoadRect X1) shapeCasts_S1x8x128_S8x128 = rows (N := 192) arg1.view X1 (64 * k0_t2.val + 2 * k.val) :=
    (cast_load' (N := 192) arg1.view X1 (off := k0_off4 k0_t2 k) (k0_off4_inb k0_t2 k) shapeCasts_S1x8x128_S8x128).trans (congrArg _ ((congrFun (k0_off4_eq k0_t2 k) 0).trans (by simp only [Matrix.cons_val_zero] <;> omega)))
  have e2_4 : shapeCast S8x128 (arg2.view.readAt (Elt F) (Rect.unit (s := S192x8x128) (k0_off4 k0_t2 k) S1x8x128.size (k0_off4_inb k0_t2 k)).toLoadRect X2) shapeCasts_S1x8x128_S8x128 = brows (N := 192) arg2.view X2 (64 * k0_t2.val + 2 * k.val) :=
    (bcast_load (N := 192) arg2.view X2 (k0_off4_inb k0_t2 k) shapeCasts_S1x8x128_S8x128).trans (congrArg _ ((congrFun (k0_off4_eq k0_t2 k) 0).trans (by simp only [Matrix.cons_val_zero] <;> omega)))
  have e3_4 : shapeCast S8x128 (arg3.view.readAt (Elt F) (Rect.unit (s := S192x8x128) (k0_off4 k0_t2 k) S1x8x128.size (k0_off4_inb k0_t2 k)).toLoadRect X3) shapeCasts_S1x8x128_S8x128 = rows (N := 192) arg3.view X3 (64 * k0_t2.val + 2 * k.val) :=
    (cast_load' (N := 192) arg3.view X3 (off := k0_off4 k0_t2 k) (k0_off4_inb k0_t2 k) shapeCasts_S1x8x128_S8x128).trans (congrArg _ ((congrFun (k0_off4_eq k0_t2 k) 0).trans (by simp only [Matrix.cons_val_zero] <;> omega)))
  have e0_83 : shapeCast S8x128 (arg0.view.readAt (Elt F) (Rect.unit (s := S192x8x128) (k0_off83 k0_t2 k) S1x8x128.size (k0_off83_inb k0_t2 k)).toLoadRect X0) shapeCasts_S1x8x128_S8x128 = brows (N := 192) arg0.view X0 (64 * k0_t2.val + (2 * k.val + 1)) :=
    (bcast_load (N := 192) arg0.view X0 (k0_off83_inb k0_t2 k) shapeCasts_S1x8x128_S8x128).trans (congrArg _ ((congrFun (k0_off83_eq k0_t2 k) 0).trans (by simp only [Matrix.cons_val_zero] <;> omega)))
  have e1_83 : shapeCast S8x128 (arg1.view.readAt (Elt F) (Rect.unit (s := S192x8x128) (k0_off83 k0_t2 k) S1x8x128.size (k0_off83_inb k0_t2 k)).toLoadRect X1) shapeCasts_S1x8x128_S8x128 = rows (N := 192) arg1.view X1 (64 * k0_t2.val + (2 * k.val + 1)) :=
    (cast_load' (N := 192) arg1.view X1 (off := k0_off83 k0_t2 k) (k0_off83_inb k0_t2 k) shapeCasts_S1x8x128_S8x128).trans (congrArg _ ((congrFun (k0_off83_eq k0_t2 k) 0).trans (by simp only [Matrix.cons_val_zero] <;> omega)))
  have e2_83 : shapeCast S8x128 (arg2.view.readAt (Elt F) (Rect.unit (s := S192x8x128) (k0_off83 k0_t2 k) S1x8x128.size (k0_off83_inb k0_t2 k)).toLoadRect X2) shapeCasts_S1x8x128_S8x128 = brows (N := 192) arg2.view X2 (64 * k0_t2.val + (2 * k.val + 1)) :=
    (bcast_load (N := 192) arg2.view X2 (k0_off83_inb k0_t2 k) shapeCasts_S1x8x128_S8x128).trans (congrArg _ ((congrFun (k0_off83_eq k0_t2 k) 0).trans (by simp only [Matrix.cons_val_zero] <;> omega)))
  have e3_83 : shapeCast S8x128 (arg3.view.readAt (Elt F) (Rect.unit (s := S192x8x128) (k0_off83 k0_t2 k) S1x8x128.size (k0_off83_inb k0_t2 k)).toLoadRect X3) shapeCasts_S1x8x128_S8x128 = rows (N := 192) arg3.view X3 (64 * k0_t2.val + (2 * k.val + 1)) :=
    (cast_load' (N := 192) arg3.view X3 (off := k0_off83 k0_t2 k) (k0_off83_inb k0_t2 k) shapeCasts_S1x8x128_S8x128).trans (congrArg _ ((congrFun (k0_off83_eq k0_t2 k) 0).trans (by simp only [Matrix.cons_val_zero] <;> omega)))
  sl_for (inv_t4 c arg5 arg14 X5 (mulf (sitofp .f32 (brows (N := 192) arg0.view X0 (64 * k0_t2.val + 2 * k.val))) (k0_pay5 v22)) (rows (N := 192) arg1.view X1 (64 * k0_t2.val + 2 * k.val))) $$ [H5 H14]
  · intro j acc
    have T := trip_t4 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X5 k0_t2 arg16 (k0_pay5 v22) (k0_pay6 v25) k (arg0.view.readAt (Elt F) (Rect.unit (s := S192x8x128) (k0_off4 k0_t2 k) S1x8x128.size (k0_off4_inb k0_t2 k)).toLoadRect X0) (arg1.view.readAt (Elt F) (Rect.unit (s := S192x8x128) (k0_off4 k0_t2 k) S1x8x128.size (k0_off4_inb k0_t2 k)).toLoadRect X1) j E acc
    rw [e0_4, e1_4] at T
    exact T
  · unfold inv_t4
    isplitl [H5]; · iexact H5
    iexists _; isplitl [H14]; · iexact H14
    ipureintro
    intro i hi
    omega
  iintro %a4 HI
  unfold inv_t4
  icases HI with ⟨H5, %g4, H14, %hT4⟩
  rw [show Scf.trips k0_t4_loop.lb k0_t4_loop.ub k0_t4_loop.st = 713 by decide] at hT4
  sl_exec
  sl_for (inv_t5 c arg6 arg8 arg9 arg14 X6 f8 g4) $$ [H6 H8 H14 H9]
  · intro j acc
    exact trip_t5 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X6 f8 g4 h6 k0_t2 arg16 (k0_pay5 v22) (k0_pay6 v25) k j E acc
  · unfold inv_t5
    isplitl [H6]; · iexact H6
    isplitl [H8]; · iexact H8
    isplitl [H14]; · iexact H14
    iexists _; isplitl [H9]; · iexact H9
    ipureintro
    intro i hi
    omega
  iintro %a5 HI
  unfold inv_t5
  icases HI with ⟨H6, H8, H14, %d5, H9, %hD5⟩
  rw [show Scf.trips k0_t5_loop.lb k0_t5_loop.ub k0_t5_loop.st = 256 by decide] at hD5
  have h9 := holds_fwd arg8.view f8 arg9.view d5 arg14.view g4 _ h6 _ _ _ _ h8 hT4 hD5
  sl_exec
  sl_for (inv_t6 c arg5 arg15 X5 (mulf (sitofp .f32 (brows (N := 192) arg2.view X2 (64 * k0_t2.val + 2 * k.val))) (k0_pay6 v25)) (rows (N := 192) arg3.view X3 (64 * k0_t2.val + 2 * k.val))) $$ [H5 H15]
  · intro j acc
    have T := trip_t6 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X5 k0_t2 arg16 (k0_pay5 v22) (k0_pay6 v25) k (arg2.view.readAt (Elt F) (Rect.unit (s := S192x8x128) (k0_off4 k0_t2 k) S1x8x128.size (k0_off4_inb k0_t2 k)).toLoadRect X2) (arg3.view.readAt (Elt F) (Rect.unit (s := S192x8x128) (k0_off4 k0_t2 k) S1x8x128.size (k0_off4_inb k0_t2 k)).toLoadRect X3) j E acc
    rw [e2_4, e3_4] at T
    exact T
  · unfold inv_t6
    isplitl [H5]; · iexact H5
    iexists _; isplitl [H15]; · iexact H15
    ipureintro
    intro i hi
    omega
  iintro %a6 HI
  unfold inv_t6
  icases HI with ⟨H5, %g6, H15, %hT6⟩
  rw [show Scf.trips k0_t6_loop.lb k0_t6_loop.ub k0_t6_loop.st = 713 by decide] at hT6
  sl_exec
  sl_for (inv_t7 c arg6 arg10 arg11 arg15 X6 f10 g6) $$ [H6 H10 H15 H11]
  · intro j acc
    exact trip_t7 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X6 f10 g6 h6 k0_t2 arg16 (k0_pay5 v22) (k0_pay6 v25) k j E acc
  · unfold inv_t7
    isplitl [H6]; · iexact H6
    isplitl [H10]; · iexact H10
    isplitl [H15]; · iexact H15
    iexists _; isplitl [H11]; · iexact H11
    ipureintro
    intro i hi
    omega
  iintro %a7 HI
  unfold inv_t7
  icases HI with ⟨H6, H10, H15, %d7, H11, %hD7⟩
  rw [show Scf.trips k0_t7_loop.lb k0_t7_loop.ub k0_t7_loop.st = 256 by decide] at hD7
  have h11 := holds_bwd arg10.view f10 arg11.view d7 arg15.view g6 _ h6 _ _ _ _ h10 hT6 hD7
  sl_exec
  sl_for (inv_t8 c arg5 arg14 X5 (mulf (sitofp .f32 (brows (N := 192) arg0.view X0 (64 * k0_t2.val + (2 * k.val + 1)))) (k0_pay5 v22)) (rows (N := 192) arg1.view X1 (64 * k0_t2.val + (2 * k.val + 1)))) $$ [H5 H14]
  · intro j acc
    have T := trip_t8 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X5 v22 (arg0.view.readAt (Elt F) (Rect.unit (s := S192x8x128) (k0_off83 k0_t2 k) S1x8x128.size (k0_off83_inb k0_t2 k)).toLoadRect X0) (arg1.view.readAt (Elt F) (Rect.unit (s := S192x8x128) (k0_off83 k0_t2 k) S1x8x128.size (k0_off83_inb k0_t2 k)).toLoadRect X1) j E acc
    rw [e0_83, e1_83] at T
    exact T
  · unfold inv_t8
    isplitl [H5]; · iexact H5
    iexists _; isplitl [H14]; · iexact H14
    ipureintro
    intro i hi
    omega
  iintro %a8 HI
  unfold inv_t8
  icases HI with ⟨H5, %g8, H14, %hT8⟩
  rw [show Scf.trips k0_t8_loop.lb k0_t8_loop.ub k0_t8_loop.st = 713 by decide] at hT8
  sl_exec
  sl_for (inv_t9 c arg6 arg8 arg9 arg14 X6 d5 g8) $$ [H6 H9 H14 H8]
  · intro j acc
    exact trip_t9 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X6 d5 g8 h6 j E acc
  · unfold inv_t9
    isplitl [H6]; · iexact H6
    isplitl [H9]; · iexact H9
    isplitl [H14]; · iexact H14
    iexists _; isplitl [H8]; · iexact H8
    ipureintro
    intro i hi
    omega
  iintro %a9 HI
  unfold inv_t9
  icases HI with ⟨H6, H9, H14, %d9, H8, %hD9⟩
  rw [show Scf.trips k0_t9_loop.lb k0_t9_loop.ub k0_t9_loop.st = 256 by decide] at hD9
  have h8' := holds_fwd arg9.view d5 arg8.view d9 arg14.view g8 _ h6 _ _ _ _ h9 hT8 hD9
  sl_exec
  sl_for (inv_t10 c arg5 arg15 X5 (mulf (sitofp .f32 (brows (N := 192) arg2.view X2 (64 * k0_t2.val + (2 * k.val + 1)))) (k0_pay6 v25)) (rows (N := 192) arg3.view X3 (64 * k0_t2.val + (2 * k.val + 1)))) $$ [H5 H15]
  · intro j acc
    have T := trip_t10 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X5 v25 (arg2.view.readAt (Elt F) (Rect.unit (s := S192x8x128) (k0_off83 k0_t2 k) S1x8x128.size (k0_off83_inb k0_t2 k)).toLoadRect X2) (arg3.view.readAt (Elt F) (Rect.unit (s := S192x8x128) (k0_off83 k0_t2 k) S1x8x128.size (k0_off83_inb k0_t2 k)).toLoadRect X3) j E acc
    rw [e2_83, e3_83] at T
    exact T
  · unfold inv_t10
    isplitl [H5]; · iexact H5
    iexists _; isplitl [H15]; · iexact H15
    ipureintro
    intro i hi
    omega
  iintro %a10 HI
  unfold inv_t10
  icases HI with ⟨H5, %g10, H15, %hT10⟩
  rw [show Scf.trips k0_t10_loop.lb k0_t10_loop.ub k0_t10_loop.st = 713 by decide] at hT10
  sl_exec
  sl_for (inv_t11 c arg6 arg10 arg11 arg15 X6 d7 g10) $$ [H6 H11 H15 H10]
  · intro j acc
    exact trip_t11 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X6 d7 g10 h6 j E acc
  · unfold inv_t11
    isplitl [H6]; · iexact H6
    isplitl [H11]; · iexact H11
    isplitl [H15]; · iexact H15
    iexists _; isplitl [H10]; · iexact H10
    ipureintro
    intro i hi
    omega
  iintro %a11 HI
  unfold inv_t11
  icases HI with ⟨H6, H11, H15, %d11, H10, %hD11⟩
  rw [show Scf.trips k0_t11_loop.lb k0_t11_loop.ub k0_t11_loop.st = 256 by decide] at hD11
  have h10' := holds_bwd arg11.view d7 arg10.view d11 arg15.view g10 _ h6 _ _ _ _ h11 hT10 hD11
  sl_exec
  sl_step
  rw [show 2 * (k.val + 1) = 2 * k.val + 1 + 1 by omega]
  isplitl [H0]; · iexact H0
  isplitl [H1]; · iexact H1
  isplitl [H2]; · iexact H2
  isplitl [H3]; · iexact H3
  isplitl [H5]; · iexact H5
  isplitl [H6]; · iexact H6
  isplitl [H8]
  · iexists _; isplitl [H8]; · iexact H8
    ipureintro
    exact h8'
  isplitl [H10]
  · iexists _; isplitl [H10]; · iexact H10
    ipureintro
    exact h10'
  isplitl [H9]; · iexists _; iexact H9
  isplitl [H11]; · iexists _; iexact H11
  isplitl [H14]; · iexists _; iexact H14
  iexists _; iexact H15

end

end Cert.KernelIdeal.Run

end
-- ==== Proof.Run.Clear.lean ====
/-
  The clearing of the costs before the first position, and the copy with a partial clearing after a segment.
-/
module

public import proofs.«01_k».proof.Proof.Run.Common
public import proofs.«01_k».proof.Proof.Run.Steps

@[expose] public section

set_option maxRecDepth 8192
set_option maxHeartbeats 4000000

noncomputable section

namespace Cert.KernelIdeal.Run

open Cert.KernelIdeal Cert.KernelIdeal.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

/-! ## The clearing of the costs -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips. -/
def inv_t1 (n : ℕ) (_ : Unit) : sProp 𝕄 :=
  iprop((∃ f, held c arg8 f ∗ ⌜∀ i, i < n → rows (N := 1027) arg8.view f i = zeroB⌝) ∗
    ∃ g, held c arg10 g ∗ ⌜∀ i, i < n → rows (N := 1027) arg10.view g i = zeroB⌝)

/-- One trip. -/
theorem trip_t1 (k : Fin k0_t1_loop.trips) (E : Set ℕ) (acc : Unit) :
    inv_t1 c arg8 arg10 k.val acc ⊢
      wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k acc)
        (fun acc => inv_t1 c arg8 arg10 (k.val + 1) acc) := by
  unfold k0_t1_body inv_t1
  iintro ⟨⟨%f, HS, %hf⟩, %g, HD, %hg⟩
  sl_exec
  sl_step
  have d0 : k0_off1 k 0 = k.val := by rw [k0_off1_eq]; rfl
  isplitl [HS]
  · iexists _; isplitl [HS]; · iexact HS
    ipureintro
    sl_unfold_run_names
    intro i hi
    simp only [k0_pay3, k0_pay2, rows_writes_cons', rows_writes_nil, d0]
    by_cases hik : i = k.val
    · rw [if_pos hik]; rfl
    · rw [if_neg hik]
      exact hf i (by omega)
  · iexists _; isplitl [HD]; · iexact HD
    ipureintro
    sl_unfold_run_names
    intro i hi
    simp only [k0_pay4, k0_pay2, rows_writes_cons', rows_writes_nil, d0]
    by_cases hik : i = k.val
    · rw [if_pos hik]; rfl
    · rw [if_neg hik]
      exact hg i (by omega)

end

/-- The kernel's mask is set in the first four rows. -/
theorem mask_low (a : Fin 8) (b : Fin 128) : k0_pay1 (ix2 a b) = if a.val < 4 then 1#1 else 0#1 := by
  have h : ∀ a : Fin 8, (Scalar.cmpi .slt (BitVec.ofNat 32 (0 * 8 + a.val)) 4#32 : BitVec 1) = if a.val < 4 then 1#1 else 0#1 := by decide
  exact h a

section

/-! ## The copy and the partial clearing of loop 12 -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips: the costs copied and their last four rows cleared. -/
def inv_t12 (S : ℕ → Blk F) (n : ℕ) (_ : Unit) : sProp 𝕄 :=
  iprop((∃ f, held c arg10 f ∗ ⌜∀ i, i < 1027 → rows (N := 1027) arg10.view f i = if i < n then mixB (S i) zeroB else S i⌝) ∗
    ∃ g, held c arg13 g ∗ ⌜∀ i, i < n → rows (N := 1027) arg13.view g i = S i⌝)

/-- One trip. -/
theorem trip_t12 (S : ℕ → Blk F) (k0_t2 : Fin k0_t2_loop.trips) (k0_h1 : k0_cond1 k0_t2 = 1#1) (k : Fin k0_t12_loop.trips) (E : Set ℕ) (acc : Unit) :
    inv_t12 c arg10 arg13 S k.val acc ⊢
      wp frame (wpE (defs₀ (F := F)) 𝒱 (c : Thread nD τ) bd) E (k0_t12_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k0_t2 k0_h1 k acc)
        (fun acc => inv_t12 c arg10 arg13 S (k.val + 1) acc) := by
  have hk : k.val < 1027 := Nat.lt_of_lt_of_le k.isLt k0_t12_abs.2.1
  unfold k0_t12_body inv_t12
  iintro ⟨⟨%f, HS, %hf⟩, %g, HD, %hg⟩
  sl_exec
  sl_step
  have e := fun off inb => cast_load' (F := F) (N := 1027) arg10.view f (off := off) inb shapeCasts_S1x8x128_S8x128
  have d0 : k0_off162 k 0 = k.val := by rw [k0_off162_eq]; rfl
  isplitl [HS]
  · iexists _; isplitl [HS]; · iexact HS
    ipureintro
    sl_unfold_run_names
    intro i hi
    simp only [k0_pay13, k0_pay11, rows_writes_cons', rows_writes_nil, e, d0]
    by_cases hik : i = k.val
    · subst hik
      rw [if_pos rfl, if_pos (by omega), hf k.val hk, if_neg (by omega)]
      exact select_low _ mask_low _ _
    · rw [if_neg hik, hf i hi]
      by_cases h2 : i < k.val
      · rw [if_pos h2, if_pos (by omega)]
      · rw [if_neg h2, if_neg (by omega)]
  · iexists _; isplitl [HD]; · iexact HD
    ipureintro
    sl_unfold_run_names
    intro i hi
    simp only [k0_pay12, k0_pay11, rows_writes_cons', rows_writes_nil, e, d0]
    by_cases hik : i = k.val
    · subst hik
      rw [if_pos rfl, hf k.val hk, if_neg (by omega)]
    · rw [if_neg hik]
      exact hg i (by omega)

end

section

/-! ## The copy and the partial clearing of loop 13 -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips: the costs copied and their last four rows cleared. -/
def inv_t13 (S : ℕ → Blk F) (n : ℕ) (_ : Unit) : sProp 𝕄 :=
  iprop((∃ f, held c arg8 f ∗ ⌜∀ i, i < 1027 → rows (N := 1027) arg8.view f i = if i < n then mixB (S i) zeroB else S i⌝) ∗
    ∃ g, held c arg12 g ∗ ⌜∀ i, i < n → rows (N := 1027) arg12.view g i = S i⌝)

/-- One trip. -/
theorem trip_t13 (S : ℕ → Blk F) (k0_t2 : Fin k0_t2_loop.trips) (k0_h2 : k0_cond2 k0_t2 = 1#1) (k : Fin k0_t13_loop.trips) (E : Set ℕ) (acc : Unit) :
    inv_t13 c arg8 arg12 S k.val acc ⊢
      wp frame (wpE (defs₀ (F := F)) 𝒱 (c : Thread nD τ) bd) E (k0_t13_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k0_t2 k0_h2 k acc)
        (fun acc => inv_t13 c arg8 arg12 S (k.val + 1) acc) := by
  have hk : k.val < 1027 := Nat.lt_of_lt_of_le k.isLt k0_t13_abs.2.1
  unfold k0_t13_body inv_t13
  iintro ⟨⟨%f, HS, %hf⟩, %g, HD, %hg⟩
  sl_exec
  sl_step
  have e := fun off inb => cast_load' (F := F) (N := 1027) arg8.view f (off := off) inb shapeCasts_S1x8x128_S8x128
  have d0 : k0_off163 k 0 = k.val := by rw [k0_off163_eq]; rfl
  isplitl [HS]
  · iexists _; isplitl [HS]; · iexact HS
    ipureintro
    sl_unfold_run_names
    intro i hi
    simp only [k0_pay16, k0_pay14, rows_writes_cons', rows_writes_nil, e, d0]
    by_cases hik : i = k.val
    · subst hik
      rw [if_pos rfl, if_pos (by omega), hf k.val hk, if_neg (by omega)]
      exact select_low _ mask_low _ _
    · rw [if_neg hik, hf i hi]
      by_cases h2 : i < k.val
      · rw [if_pos h2, if_pos (by omega)]
      · rw [if_neg h2, if_neg (by omega)]
  · iexists _; isplitl [HD]; · iexact HD
    ipureintro
    sl_unfold_run_names
    intro i hi
    simp only [k0_pay15, k0_pay14, rows_writes_cons', rows_writes_nil, e, d0]
    by_cases hik : i = k.val
    · subst hik
      rw [if_pos rfl, hf k.val hk, if_neg (by omega)]
    · rw [if_neg hik]
      exact hg i (by omega)

end

end Cert.KernelIdeal.Run

end
-- ==== Proof.Run.Segments.lean ====
/-
  The three segments of 64 positions: the forward and the backward costs after each of them, with what is saved and cleared
  between them.
-/
module

public import proofs.«01_k».proof.Proof.Run.Segment
public import proofs.«01_k».proof.Proof.Run.Clear

@[expose] public section

set_option maxRecDepth 8192
set_option maxHeartbeats 4000000

noncomputable section

namespace Cert.KernelIdeal.Run

open Cert.KernelIdeal Cert.KernelIdeal.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable (arg0 : Memref sig .tc .vmem S192x8x128 .i8) (arg1 : Memref sig .tc .vmem S192x8x128 .f32) (arg2 : Memref sig .tc .vmem S192x8x128 .i8)
  (arg3 : Memref sig .tc .vmem S192x8x128 .f32) (arg4 : Memref sig .tc .vmem S2x3x8x128 .f32) (arg5 : Memref sig .tc .smem S713 .f32) (arg6 : Memref sig .tc .smem S4096 .i32)
  (X0 : BufTy.Contents (Elt F) arg0.view.ty) (X1 : BufTy.Contents (Elt F) arg1.view.ty) (X2 : BufTy.Contents (Elt F) arg2.view.ty)
  (X3 : BufTy.Contents (Elt F) arg3.view.ty) (X4 : BufTy.Contents (Elt F) arg4.view.ty) (X5 : BufTy.Contents (Elt F) arg5.view.ty) (X6 : BufTy.Contents (Elt F) arg6.view.ty)

/-- Segment `k` of the forward recursion. -/
def fwdSeg (k : Fin 3) (μ : ℕ → Blk F) : ℕ → Blk F :=
  iter fwdStep (fun p => errAt arg0 X0 arg1 X1 arg5 X5 (slotOf arg6 X6) (srow arg4.view X4 0 k) (64 * k.val + p)) μ 64

/-- Segment `k` of the backward recursion. -/
def bwdSeg (k : Fin 3) (ν : ℕ → Blk F) : ℕ → Blk F :=
  iter bwdStep (fun p => errAt arg2 X2 arg3 X3 arg5 X5 (slotOf arg6 X6) (srow arg4.view X4 1 k) (64 * k.val + p)) ν 64

/-- The last four rows cleared. -/
def clearHigh (μ : ℕ → Blk F) (q : ℕ) : Blk F := mixB (μ q) zeroB

/-- The forward costs saved after the second segment. -/
def fwdSaved : ℕ → Blk F := fwdSeg arg0 arg1 arg4 arg5 arg6 X0 X1 X4 X5 X6 1 (fwdSeg arg0 arg1 arg4 arg5 arg6 X0 X1 X4 X5 X6 0 (fun _ => zeroB))

/-- The backward costs saved after the first segment. -/
def bwdSaved : ℕ → Blk F := bwdSeg arg2 arg3 arg4 arg5 arg6 X2 X3 X4 X5 X6 0 (fun _ => zeroB)

/-- The forward costs after `n` segments. -/
def fwdAfter : ℕ → ℕ → Blk F
  | 0 => fun _ => zeroB
  | 1 => fwdSeg arg0 arg1 arg4 arg5 arg6 X0 X1 X4 X5 X6 0 (fun _ => zeroB)
  | 2 => clearHigh (fwdSaved arg0 arg1 arg4 arg5 arg6 X0 X1 X4 X5 X6)
  | _ => fwdSeg arg0 arg1 arg4 arg5 arg6 X0 X1 X4 X5 X6 2 (clearHigh (fwdSaved arg0 arg1 arg4 arg5 arg6 X0 X1 X4 X5 X6))

/-- The backward costs after `n` segments. -/
def bwdAfter : ℕ → ℕ → Blk F
  | 0 => fun _ => zeroB
  | 1 => clearHigh (bwdSaved arg2 arg3 arg4 arg5 arg6 X2 X3 X4 X5 X6)
  | 2 => bwdSeg arg2 arg3 arg4 arg5 arg6 X2 X3 X4 X5 X6 1 (clearHigh (bwdSaved arg2 arg3 arg4 arg5 arg6 X2 X3 X4 X5 X6))
  | _ => bwdSeg arg2 arg3 arg4 arg5 arg6 X2 X3 X4 X5 X6 2 (bwdSeg arg2 arg3 arg4 arg5 arg6 X2 X3 X4 X5 X6 1 (clearHigh (bwdSaved arg2 arg3 arg4 arg5 arg6 X2 X3 X4 X5 X6)))

end

theorem cell_lt (q : ℕ) (h : q < 1024) : cell q < 1027 := by unfold cell; omega

/-- Clearing the last four rows of every block clears those of the costs. -/
theorem holds_clear (a : Memref sig .tc .vmem S1027x8x128 .f32) (f f' : BufTy.Contents (Elt F) a.view.ty) (μ : ℕ → Blk F) (h : Holds a.view f μ)
    (h' : ∀ i, i < 1027 → rows (N := 1027) a.view f' i = if i < 1027 then mixB (rows (N := 1027) a.view f i) zeroB else rows (N := 1027) a.view f i) :
    Holds a.view f' (clearHigh μ) := by
  intro q hq
  rw [h' _ (cell_lt q hq), if_pos (cell_lt q hq), h q hq]
  rfl

/-- A copy holds the same costs. -/
theorem holds_copy (a a' : Memref sig .tc .vmem S1027x8x128 .f32) (f : BufTy.Contents (Elt F) a.view.ty) (f' : BufTy.Contents (Elt F) a'.view.ty) (μ : ℕ → Blk F)
    (h : Holds a.view f μ) (h' : ∀ i, i < 1027 → rows (N := 1027) a'.view f' i = rows (N := 1027) a.view f i) : Holds a'.view f' μ := by
  intro q hq
  rw [h' _ (cell_lt q hq), h q hq]

theorem cond1_iff : ∀ k : Fin k0_t2_loop.trips, k0_cond1 k = 1#1 ↔ k.val = 0 := by decide +kernel
theorem cond2_iff : ∀ k : Fin k0_t2_loop.trips, k0_cond2 k = 1#1 ↔ k.val = 1 := by decide +kernel

section

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

variable (X0 : BufTy.Contents (Elt F) arg0.view.ty) (X1 : BufTy.Contents (Elt F) arg1.view.ty) (X2 : BufTy.Contents (Elt F) arg2.view.ty)
  (X3 : BufTy.Contents (Elt F) arg3.view.ty) (X4 : BufTy.Contents (Elt F) arg4.view.ty) (X5 : BufTy.Contents (Elt F) arg5.view.ty) (X6 : BufTy.Contents (Elt F) arg6.view.ty)

/-- What the segment loop has done after `n` trips. -/
def inv_t2 (n : ℕ) (_ : Unit) : sProp 𝕄 :=
  iprop(held c arg0 X0 ∗ held c arg1 X1 ∗ held c arg2 X2 ∗ held c arg3 X3 ∗ held c arg4 X4 ∗ held c arg5 X5 ∗ held c arg6 X6 ∗
    costs c arg8 (fwdAfter arg0 arg1 arg4 arg5 arg6 X0 X1 X4 X5 X6 n) ∗ costs c arg10 (bwdAfter arg2 arg3 arg4 arg5 arg6 X2 X3 X4 X5 X6 n) ∗
    (∃ f, held c arg12 f ∗ ⌜2 ≤ n → Holds arg12.view f (fwdSaved arg0 arg1 arg4 arg5 arg6 X0 X1 X4 X5 X6)⌝) ∗
    (∃ f, held c arg13 f ∗ ⌜1 ≤ n → Holds arg13.view f (bwdSaved arg2 arg3 arg4 arg5 arg6 X2 X3 X4 X5 X6)⌝) ∗
    any c arg9 ∗ any c arg11 ∗ any c arg14 ∗ any c arg15)

/-- One trip of the segment loop. -/
theorem trip_t2 (h6 : SlotsOK arg6 X6) (k : Fin k0_t2_loop.trips) (E : Set ℕ) (acc : Unit) :
    inv_t2 c arg0 arg1 arg2 arg3 arg4 arg5 arg6 arg8 arg9 arg10 arg11 arg12 arg13 arg14 arg15 X0 X1 X2 X3 X4 X5 X6 k.val acc ⊢
      wp frame (wpE (defs₀ (F := F)) 𝒱 (c : Thread nD τ) bd) E (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k acc)
        (fun acc => inv_t2 c arg0 arg1 arg2 arg3 arg4 arg5 arg6 arg8 arg9 arg10 arg11 arg12 arg13 arg14 arg15 X0 X1 X2 X3 X4 X5 X6 (k.val + 1) acc) := by
  have hk : k.val < 3 := Nat.lt_of_lt_of_le k.isLt k0_t2_abs.2.1
  have es : k0_pay5 (arg4.view.readAt (Elt F) (Rect.unit (s := S2x3x8x128) (k0_off2 k) S1x1x8x128.size (k0_off2_inb k)).toLoadRect X4) = srow arg4.view X4 0 ⟨k.val, hk⟩ :=
    scast_load arg4.view X4 (k0_off2_inb k) 0 ⟨k.val, hk⟩ (k0_off2_eq k) _
  have et : k0_pay6 (arg4.view.readAt (Elt F) (Rect.unit (s := S2x3x8x128) (k0_off3 k) S1x1x8x128.size (k0_off3_inb k)).toLoadRect X4) = srow arg4.view X4 1 ⟨k.val, hk⟩ :=
    scast_load arg4.view X4 (k0_off3_inb k) 1 ⟨k.val, hk⟩ (k0_off3_eq k) _
  unfold k0_t2_body inv_t2
  iintro ⟨H0, H1, H2, H3, H4, H5, H6, H8, H10, ⟨%f12, H12, %h12⟩, ⟨%f13, H13, %h13⟩, H9, H11, H14, H15⟩
  sl_exec
  sl_for (inv_t3 c arg0 arg1 arg2 arg3 arg5 arg6 arg8 arg9 arg10 arg11 arg14 arg15 X0 X1 X2 X3 X5 X6 (64 * k.val) (srow arg4.view X4 0 ⟨k.val, hk⟩) (srow arg4.view X4 1 ⟨k.val, hk⟩)
    (fwdAfter arg0 arg1 arg4 arg5 arg6 X0 X1 X4 X5 X6 k.val) (bwdAfter arg2 arg3 arg4 arg5 arg6 X2 X3 X4 X5 X6 k.val)) $$ [H0 H1 H2 H3 H5 H6 H8 H10 H9 H11 H14 H15]
  · intro j acc
    have T := trip_t3 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X0 X1 X2 X3 X5 X6 h6 (fwdAfter arg0 arg1 arg4 arg5 arg6 X0 X1 X4 X5 X6 k.val) (bwdAfter arg2 arg3 arg4 arg5 arg6 X2 X3 X4 X5 X6 k.val)
      k (Scf.iv 0#32 1#32 k) (arg4.view.readAt (Elt F) (Rect.unit (s := S2x3x8x128) (k0_off2 k) S1x1x8x128.size (k0_off2_inb k)).toLoadRect X4)
      (arg4.view.readAt (Elt F) (Rect.unit (s := S2x3x8x128) (k0_off3 k) S1x1x8x128.size (k0_off3_inb k)).toLoadRect X4) j E acc
    rw [es, et] at T
    exact T
  · unfold inv_t3
    isplitl [H0]; · iexact H0
    isplitl [H1]; · iexact H1
    isplitl [H2]; · iexact H2
    isplitl [H3]; · iexact H3
    isplitl [H5]; · iexact H5
    isplitl [H6]; · iexact H6
    isplitl [H8]; · iexact H8
    isplitl [H10]; · iexact H10
    isplitl [H9]; · iexact H9
    isplitl [H11]; · iexact H11
    isplitl [H14]; · iexact H14
    iexact H15
  iintro %a3 HI
  unfold inv_t3
  icases HI with ⟨H0, H1, H2, H3, H5, H6, H8, H10, H9, H11, H14, H15⟩
  rw [show Scf.trips k0_t3_loop.lb k0_t3_loop.ub k0_t3_loop.st = 32 by decide]
  unfold costs
  icases H8 with ⟨%f8, H8, %h8⟩
  icases H10 with ⟨%f10, H10, %h10⟩
  obtain h0 | h1 | h2 : k.val = 0 ∨ k.val = 1 ∨ k.val = 2 := by omega
  · have k0_h1 : k0_cond1 k = 1#1 := (cond1_iff k).2 h0
    have k0_h2 : ¬ k0_cond2 k = 1#1 := fun h => by have := (cond2_iff k).1 h; omega
    obtain rfl : k = ⟨0, by decide⟩ := Fin.ext h0
    sl_exec
    sl_for (inv_t12 c arg10 arg13 (rows (N := 1027) arg10.view f10)) $$ [H10 H13]
    · intro j acc
      exact trip_t12 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 (rows (N := 1027) arg10.view f10) ⟨0, by decide⟩ k0_h1 j E acc
    · unfold inv_t12
      isplitl [H10]
      · iexists _; isplitl [H10]; · iexact H10
        ipureintro
        intro i hi
        rw [if_neg (by omega)]
      · iexists _; isplitl [H13]; · iexact H13
        ipureintro
        intro i hi
        omega
    iintro %a12 HI
    unfold inv_t12
    icases HI with ⟨⟨%g10, H10, %h10'⟩, %g13, H13, %h13'⟩
    rw [show Scf.trips k0_t12_loop.lb k0_t12_loop.ub k0_t12_loop.st = 1027 by decide] at h10' h13'
    sl_exec
    sl_step
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]
    · iexists _; isplitl [H8]; · iexact H8
      ipureintro
      exact h8
    isplitl [H10]
    · iexists _; isplitl [H10]; · iexact H10
      ipureintro
      exact holds_clear _ _ _ _ h10 h10'
    isplitl [H12]
    · iexists _; isplitl [H12]; · iexact H12
      ipureintro
      intro h; omega
    isplitl [H13]
    · iexists _; isplitl [H13]; · iexact H13
      ipureintro
      intro _; exact holds_copy _ _ _ _ _ h10 h13'
    isplitl [H9]; · iexact H9
    isplitl [H11]; · iexact H11
    isplitl [H14]; · iexact H14
    iexact H15

  · have k0_h1 : ¬ k0_cond1 k = 1#1 := fun h => by have := (cond1_iff k).1 h; omega
    have k0_h2 : k0_cond2 k = 1#1 := (cond2_iff k).2 h1
    obtain rfl : k = ⟨1, by decide⟩ := Fin.ext h1
    sl_exec
    sl_for (inv_t13 c arg8 arg12 (rows (N := 1027) arg8.view f8)) $$ [H8 H12]
    · intro j acc
      exact trip_t13 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 (rows (N := 1027) arg8.view f8) ⟨1, by decide⟩ k0_h2 j E acc
    · unfold inv_t13
      isplitl [H8]
      · iexists _; isplitl [H8]; · iexact H8
        ipureintro
        intro i hi
        rw [if_neg (by omega)]
      · iexists _; isplitl [H12]; · iexact H12
        ipureintro
        intro i hi
        omega
    iintro %a13 HI
    unfold inv_t13
    icases HI with ⟨⟨%g8, H8, %h8'⟩, %g12, H12, %h12'⟩
    rw [show Scf.trips k0_t13_loop.lb k0_t13_loop.ub k0_t13_loop.st = 1027 by decide] at h8' h12'
    sl_exec
    sl_step
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]
    · iexists _; isplitl [H8]; · iexact H8
      ipureintro
      exact holds_clear _ _ _ _ h8 h8'
    isplitl [H10]
    · iexists _; isplitl [H10]; · iexact H10
      ipureintro
      exact h10
    isplitl [H12]
    · iexists _; isplitl [H12]; · iexact H12
      ipureintro
      intro _; exact holds_copy _ _ _ _ _ h8 h12'
    isplitl [H13]
    · iexists _; isplitl [H13]; · iexact H13
      ipureintro
      intro _; exact h13 (by decide)
    isplitl [H9]; · iexact H9
    isplitl [H11]; · iexact H11
    isplitl [H14]; · iexact H14
    iexact H15

  · have k0_h1 : ¬ k0_cond1 k = 1#1 := fun h => by have := (cond1_iff k).1 h; omega
    have k0_h2 : ¬ k0_cond2 k = 1#1 := fun h => by have := (cond2_iff k).1 h; omega
    obtain rfl : k = ⟨2, by decide⟩ := Fin.ext h2
    sl_exec
    sl_step
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]
    · iexists _; isplitl [H8]; · iexact H8
      ipureintro
      exact h8
    isplitl [H10]
    · iexists _; isplitl [H10]; · iexact H10
      ipureintro
      exact h10
    isplitl [H12]
    · iexists _; isplitl [H12]; · iexact H12
      ipureintro
      intro _; exact h12 (by decide)
    isplitl [H13]
    · iexists _; isplitl [H13]; · iexact H13
      ipureintro
      intro _; exact h13 (by decide)
    isplitl [H9]; · iexact H9
    isplitl [H11]; · iexact H11
    isplitl [H14]; · iexact H14
    iexact H15

end

end Cert.KernelIdeal.Run

end
-- ==== Proof.Run.Join.lean ====
/-
  The join of the forward with the backward costs: the least sum over the states, a trip per state.
-/
module

public import proofs.«01_k».proof.Proof.Run.Clear

@[expose] public section

set_option maxRecDepth 8192
set_option maxHeartbeats 4000000

noncomputable section

namespace Cert.KernelIdeal.Run

open Cert.KernelIdeal Cert.KernelIdeal.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The sums at state `q` for the first and the third group of four rows: the backward costs are those of the running
buffer in the first four rows and of the saved one in the last four, and the halves change places. -/
def joinAC (S8 S10 S13 : ℕ → Blk F) (q : ℕ) : Blk F := addf (S8 (cell q)) (rotB (mixB (S10 (cell q)) (S13 (cell q))))

/-- The sums at state `q` for the second group of four rows. -/
def joinB (S12 S10 : ℕ → Blk F) (q : ℕ) : Blk F := addf (S12 (cell q)) (S10 (cell q))

section

/-! ## The part of the join that loop 14 does -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has found after `n` trips. -/
def inv_t14 (X8 : BufTy.Contents (Elt F) arg8.view.ty) (X10 : BufTy.Contents (Elt F) arg10.view.ty) (X12 : BufTy.Contents (Elt F) arg12.view.ty)
    (X13 : BufTy.Contents (Elt F) arg13.view.ty) (n : ℕ) (acc : FVec F S8x128 .f32 × FVec F S8x128 .f32) : sProp 𝕄 :=
  iprop(held c arg8 X8 ∗ held c arg10 X10 ∗ held c arg12 X12 ∗ held c arg13 X13 ∗
    ⌜acc.1 = accB (joinAC (rows (N := 1027) arg8.view X8) (rows (N := 1027) arg10.view X10) (rows (N := 1027) arg13.view X13)) (0 + n)
      ∧ acc.2 = accB (joinB (rows (N := 1027) arg12.view X12) (rows (N := 1027) arg10.view X10)) (0 + n)⌝)

/-- One trip. -/
theorem trip_t14 (X8 : BufTy.Contents (Elt F) arg8.view.ty) (X10 : BufTy.Contents (Elt F) arg10.view.ty) (X12 : BufTy.Contents (Elt F) arg12.view.ty)
    (X13 : BufTy.Contents (Elt F) arg13.view.ty) (k : Fin k0_t14_loop.trips) (E : Set ℕ) (acc : FVec F S8x128 .f32 × FVec F S8x128 .f32) :
    inv_t14 c arg8 arg10 arg12 arg13 X8 X10 X12 X13 k.val acc ⊢
      wp frame (wpE (defs₀ (F := F)) 𝒱 (c : Thread nD τ) bd) E (k0_t14_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k acc)
        (fun acc => inv_t14 c arg8 arg10 arg12 arg13 X8 X10 X12 X13 (k.val + 1) acc) := by
  have hk : k.val < 256 := Nat.lt_of_lt_of_le k.isLt k0_t14_abs.2.1
  obtain ⟨a1, a2⟩ := acc
  unfold k0_t14_body inv_t14
  iintro ⟨H8, H10, H12, H13, %ha⟩
  obtain ⟨h1, h2⟩ := ha
  dsimp only at h1 h2
  sl_exec
  sl_step
  isplitl [H8]; · iexact H8
  isplitl [H10]; · iexact H10
  isplitl [H12]; · iexact H12
  isplitl [H13]; · iexact H13
  ipureintro
  have e8 := fun off inb => cast_load' (F := F) (N := 1027) arg8.view X8 (off := off) inb shapeCasts_S1x8x128_S8x128
  have e10 := fun off inb => cast_load' (F := F) (N := 1027) arg10.view X10 (off := off) inb shapeCasts_S1x8x128_S8x128
  have e12 := fun off inb => cast_load' (F := F) (N := 1027) arg12.view X12 (off := off) inb shapeCasts_S1x8x128_S8x128
  have e13 := fun off inb => cast_load' (F := F) (N := 1027) arg13.view X13 (off := off) inb shapeCasts_S1x8x128_S8x128
  have d0 : k0_off164 k 0 = cell (0 + k.val) := by rw [k0_off164_eq]; show _ = _ + _; simp only [Matrix.cons_val_zero]; omega
  constructor
  · rw [show 0 + (k.val + 1) = (0 + k.val) + 1 by omega, accB, ← h1]
    simp only [k0_pay18, e8, e10, e13, d0, select_low _ mask_low, joinAC]
    rw [rot_eq]
  · rw [show 0 + (k.val + 1) = (0 + k.val) + 1 by omega, accB, ← h2]
    simp only [k0_pay19, e10, e12, d0, joinB]

end

section

/-! ## The part of the join that loop 15 does -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has found after `n` trips. -/
def inv_t15 (X8 : BufTy.Contents (Elt F) arg8.view.ty) (X10 : BufTy.Contents (Elt F) arg10.view.ty) (X12 : BufTy.Contents (Elt F) arg12.view.ty)
    (X13 : BufTy.Contents (Elt F) arg13.view.ty) (n : ℕ) (acc : FVec F S8x128 .f32 × FVec F S8x128 .f32) : sProp 𝕄 :=
  iprop(held c arg8 X8 ∗ held c arg10 X10 ∗ held c arg12 X12 ∗ held c arg13 X13 ∗
    ⌜acc.1 = accB (joinAC (rows (N := 1027) arg8.view X8) (rows (N := 1027) arg10.view X10) (rows (N := 1027) arg13.view X13)) (256 + n)
      ∧ acc.2 = accB (joinB (rows (N := 1027) arg12.view X12) (rows (N := 1027) arg10.view X10)) (256 + n)⌝)

/-- One trip. -/
theorem trip_t15 (X8 : BufTy.Contents (Elt F) arg8.view.ty) (X10 : BufTy.Contents (Elt F) arg10.view.ty) (X12 : BufTy.Contents (Elt F) arg12.view.ty)
    (X13 : BufTy.Contents (Elt F) arg13.view.ty) (k : Fin k0_t15_loop.trips) (E : Set ℕ) (acc : FVec F S8x128 .f32 × FVec F S8x128 .f32) :
    inv_t15 c arg8 arg10 arg12 arg13 X8 X10 X12 X13 k.val acc ⊢
      wp frame (wpE (defs₀ (F := F)) 𝒱 (c : Thread nD τ) bd) E (k0_t15_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k acc)
        (fun acc => inv_t15 c arg8 arg10 arg12 arg13 X8 X10 X12 X13 (k.val + 1) acc) := by
  have hk : k.val < 256 := Nat.lt_of_lt_of_le k.isLt k0_t15_abs.2.1
  obtain ⟨a1, a2⟩ := acc
  unfold k0_t15_body inv_t15
  iintro ⟨H8, H10, H12, H13, %ha⟩
  obtain ⟨h1, h2⟩ := ha
  dsimp only at h1 h2
  sl_exec
  sl_step
  isplitl [H8]; · iexact H8
  isplitl [H10]; · iexact H10
  isplitl [H12]; · iexact H12
  isplitl [H13]; · iexact H13
  ipureintro
  have e8 := fun off inb => cast_load' (F := F) (N := 1027) arg8.view X8 (off := off) inb shapeCasts_S1x8x128_S8x128
  have e10 := fun off inb => cast_load' (F := F) (N := 1027) arg10.view X10 (off := off) inb shapeCasts_S1x8x128_S8x128
  have e12 := fun off inb => cast_load' (F := F) (N := 1027) arg12.view X12 (off := off) inb shapeCasts_S1x8x128_S8x128
  have e13 := fun off inb => cast_load' (F := F) (N := 1027) arg13.view X13 (off := off) inb shapeCasts_S1x8x128_S8x128
  have d0 : k0_off165 k 0 = cell (256 + k.val) := by rw [k0_off165_eq]; show _ = _ + _; simp only [Matrix.cons_val_zero]; omega
  constructor
  · rw [show 256 + (k.val + 1) = (256 + k.val) + 1 by omega, accB, ← h1]
    simp only [k0_pay20, e8, e10, e13, d0, select_low _ mask_low, joinAC]
    rw [rot_eq]
  · rw [show 256 + (k.val + 1) = (256 + k.val) + 1 by omega, accB, ← h2]
    simp only [k0_pay21, e10, e12, d0, joinB]

end

section

/-! ## The part of the join that loop 16 does -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has found after `n` trips. -/
def inv_t16 (X8 : BufTy.Contents (Elt F) arg8.view.ty) (X10 : BufTy.Contents (Elt F) arg10.view.ty) (X12 : BufTy.Contents (Elt F) arg12.view.ty)
    (X13 : BufTy.Contents (Elt F) arg13.view.ty) (n : ℕ) (acc : FVec F S8x128 .f32 × FVec F S8x128 .f32) : sProp 𝕄 :=
  iprop(held c arg8 X8 ∗ held c arg10 X10 ∗ held c arg12 X12 ∗ held c arg13 X13 ∗
    ⌜acc.1 = accB (joinAC (rows (N := 1027) arg8.view X8) (rows (N := 1027) arg10.view X10) (rows (N := 1027) arg13.view X13)) (512 + n)
      ∧ acc.2 = accB (joinB (rows (N := 1027) arg12.view X12) (rows (N := 1027) arg10.view X10)) (512 + n)⌝)

/-- One trip. -/
theorem trip_t16 (X8 : BufTy.Contents (Elt F) arg8.view.ty) (X10 : BufTy.Contents (Elt F) arg10.view.ty) (X12 : BufTy.Contents (Elt F) arg12.view.ty)
    (X13 : BufTy.Contents (Elt F) arg13.view.ty) (k : Fin k0_t16_loop.trips) (E : Set ℕ) (acc : FVec F S8x128 .f32 × FVec F S8x128 .f32) :
    inv_t16 c arg8 arg10 arg12 arg13 X8 X10 X12 X13 k.val acc ⊢
      wp frame (wpE (defs₀ (F := F)) 𝒱 (c : Thread nD τ) bd) E (k0_t16_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k acc)
        (fun acc => inv_t16 c arg8 arg10 arg12 arg13 X8 X10 X12 X13 (k.val + 1) acc) := by
  have hk : k.val < 256 := Nat.lt_of_lt_of_le k.isLt k0_t16_abs.2.1
  obtain ⟨a1, a2⟩ := acc
  unfold k0_t16_body inv_t16
  iintro ⟨H8, H10, H12, H13, %ha⟩
  obtain ⟨h1, h2⟩ := ha
  dsimp only at h1 h2
  sl_exec
  sl_step
  isplitl [H8]; · iexact H8
  isplitl [H10]; · iexact H10
  isplitl [H12]; · iexact H12
  isplitl [H13]; · iexact H13
  ipureintro
  have e8 := fun off inb => cast_load' (F := F) (N := 1027) arg8.view X8 (off := off) inb shapeCasts_S1x8x128_S8x128
  have e10 := fun off inb => cast_load' (F := F) (N := 1027) arg10.view X10 (off := off) inb shapeCasts_S1x8x128_S8x128
  have e12 := fun off inb => cast_load' (F := F) (N := 1027) arg12.view X12 (off := off) inb shapeCasts_S1x8x128_S8x128
  have e13 := fun off inb => cast_load' (F := F) (N := 1027) arg13.view X13 (off := off) inb shapeCasts_S1x8x128_S8x128
  have d0 : k0_off166 k 0 = cell (512 + k.val) := by rw [k0_off166_eq]; show _ = _ + _; simp only [Matrix.cons_val_zero]; omega
  constructor
  · rw [show 512 + (k.val + 1) = (512 + k.val) + 1 by omega, accB, ← h1]
    simp only [k0_pay22, e8, e10, e13, d0, select_low _ mask_low, joinAC]
    rw [rot_eq]
  · rw [show 512 + (k.val + 1) = (512 + k.val) + 1 by omega, accB, ← h2]
    simp only [k0_pay23, e10, e12, d0, joinB]

end

section

/-! ## The part of the join that loop 17 does -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has found after `n` trips. -/
def inv_t17 (X8 : BufTy.Contents (Elt F) arg8.view.ty) (X10 : BufTy.Contents (Elt F) arg10.view.ty) (X12 : BufTy.Contents (Elt F) arg12.view.ty)
    (X13 : BufTy.Contents (Elt F) arg13.view.ty) (n : ℕ) (acc : FVec F S8x128 .f32 × FVec F S8x128 .f32) : sProp 𝕄 :=
  iprop(held c arg8 X8 ∗ held c arg10 X10 ∗ held c arg12 X12 ∗ held c arg13 X13 ∗
    ⌜acc.1 = accB (joinAC (rows (N := 1027) arg8.view X8) (rows (N := 1027) arg10.view X10) (rows (N := 1027) arg13.view X13)) (768 + n)
      ∧ acc.2 = accB (joinB (rows (N := 1027) arg12.view X12) (rows (N := 1027) arg10.view X10)) (768 + n)⌝)

/-- One trip. -/
theorem trip_t17 (X8 : BufTy.Contents (Elt F) arg8.view.ty) (X10 : BufTy.Contents (Elt F) arg10.view.ty) (X12 : BufTy.Contents (Elt F) arg12.view.ty)
    (X13 : BufTy.Contents (Elt F) arg13.view.ty) (k : Fin k0_t17_loop.trips) (E : Set ℕ) (acc : FVec F S8x128 .f32 × FVec F S8x128 .f32) :
    inv_t17 c arg8 arg10 arg12 arg13 X8 X10 X12 X13 k.val acc ⊢
      wp frame (wpE (defs₀ (F := F)) 𝒱 (c : Thread nD τ) bd) E (k0_t17_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k acc)
        (fun acc => inv_t17 c arg8 arg10 arg12 arg13 X8 X10 X12 X13 (k.val + 1) acc) := by
  have hk : k.val < 256 := Nat.lt_of_lt_of_le k.isLt k0_t17_abs.2.1
  obtain ⟨a1, a2⟩ := acc
  unfold k0_t17_body inv_t17
  iintro ⟨H8, H10, H12, H13, %ha⟩
  obtain ⟨h1, h2⟩ := ha
  dsimp only at h1 h2
  sl_exec
  sl_step
  isplitl [H8]; · iexact H8
  isplitl [H10]; · iexact H10
  isplitl [H12]; · iexact H12
  isplitl [H13]; · iexact H13
  ipureintro
  have e8 := fun off inb => cast_load' (F := F) (N := 1027) arg8.view X8 (off := off) inb shapeCasts_S1x8x128_S8x128
  have e10 := fun off inb => cast_load' (F := F) (N := 1027) arg10.view X10 (off := off) inb shapeCasts_S1x8x128_S8x128
  have e12 := fun off inb => cast_load' (F := F) (N := 1027) arg12.view X12 (off := off) inb shapeCasts_S1x8x128_S8x128
  have e13 := fun off inb => cast_load' (F := F) (N := 1027) arg13.view X13 (off := off) inb shapeCasts_S1x8x128_S8x128
  have d0 : k0_off167 k 0 = cell (768 + k.val) := by rw [k0_off167_eq]; show _ = _ + _; simp only [Matrix.cons_val_zero]; omega
  constructor
  · rw [show 768 + (k.val + 1) = (768 + k.val) + 1 by omega, accB, ← h1]
    simp only [k0_pay24, e8, e10, e13, d0, select_low _ mask_low, joinAC]
    rw [rot_eq]
  · rw [show 768 + (k.val + 1) = (768 + k.val) + 1 by omega, accB, ← h2]
    simp only [k0_pay25, e10, e12, d0, joinB]

end

end Cert.KernelIdeal.Run

end
-- ==== Proof.Run.Body.lean ====
/-
  The whole kernel: what its output buffer holds in terms of its inputs.
-/
module

public import proofs.«01_k».proof.Proof.Run.Segments
public import proofs.«01_k».proof.Proof.Run.Join

@[expose] public section

set_option maxRecDepth 8192
set_option maxHeartbeats 4000000

noncomputable section

namespace Cert.KernelIdeal.Run

open Cert.KernelIdeal Cert.KernelIdeal.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable (arg0 : Memref sig .tc .vmem S192x8x128 .i8) (arg1 : Memref sig .tc .vmem S192x8x128 .f32) (arg2 : Memref sig .tc .vmem S192x8x128 .i8)
  (arg3 : Memref sig .tc .vmem S192x8x128 .f32) (arg4 : Memref sig .tc .vmem S2x3x8x128 .f32) (arg5 : Memref sig .tc .smem S713 .f32) (arg6 : Memref sig .tc .smem S4096 .i32)
  (X0 : BufTy.Contents (Elt F) arg0.view.ty) (X1 : BufTy.Contents (Elt F) arg1.view.ty) (X2 : BufTy.Contents (Elt F) arg2.view.ty)
  (X3 : BufTy.Contents (Elt F) arg3.view.ty) (X4 : BufTy.Contents (Elt F) arg4.view.ty) (X5 : BufTy.Contents (Elt F) arg5.view.ty) (X6 : BufTy.Contents (Elt F) arg6.view.ty)

/-- The first block of the output: the costs of the first group of rows over those of the third. -/
def outAC : Blk F := accB (fun q => addf (fwdAfter arg0 arg1 arg4 arg5 arg6 X0 X1 X4 X5 X6 3 q) (rotB (mixB (bwdAfter arg2 arg3 arg4 arg5 arg6 X2 X3 X4 X5 X6 3 q) (bwdSaved arg2 arg3 arg4 arg5 arg6 X2 X3 X4 X5 X6 q)))) 1024

/-- The second block of the output, whose last four rows are the costs of the second group. -/
def outB : Blk F := accB (fun q => addf (fwdSaved arg0 arg1 arg4 arg5 arg6 X0 X1 X4 X5 X6 q) (bwdAfter arg2 arg3 arg4 arg5 arg6 X2 X3 X4 X5 X6 3 q)) 1024

end

/-- The least over the same blocks. -/
theorem accB_congr {f g : ℕ → Blk F} : ∀ n, (∀ q, q < n → f q = g q) → accB f n = accB g n
  | 0, _ => rfl
  | n + 1, h => by rw [accB, accB, accB_congr n (fun q hq => h q (by omega)), h n (by omega)]

section

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

variable (X0 : BufTy.Contents (Elt F) arg0.view.ty) (X1 : BufTy.Contents (Elt F) arg1.view.ty) (X2 : BufTy.Contents (Elt F) arg2.view.ty)
  (X3 : BufTy.Contents (Elt F) arg3.view.ty) (X4 : BufTy.Contents (Elt F) arg4.view.ty) (X5 : BufTy.Contents (Elt F) arg5.view.ty) (X6 : BufTy.Contents (Elt F) arg6.view.ty)

/-- What the kernel needs. -/
def bodyPre : sProp 𝕄 :=
  iprop(held c arg0 X0 ∗ held c arg1 X1 ∗ held c arg2 X2 ∗ held c arg3 X3 ∗ held c arg4 X4 ∗ held c arg5 X5 ∗ held c arg6 X6 ∗
    any c arg7 ∗ any c arg8 ∗ any c arg9 ∗ any c arg10 ∗ any c arg11 ∗ any c arg12 ∗ any c arg13 ∗ any c arg14 ∗ any c arg15)

/-- What the kernel leaves. -/
def bodyPost : sProp 𝕄 :=
  iprop(held c arg0 X0 ∗ held c arg1 X1 ∗ held c arg2 X2 ∗ held c arg3 X3 ∗ held c arg4 X4 ∗ held c arg5 X5 ∗ held c arg6 X6 ∗
    (∃ f, held c arg7 f ∗ ⌜rows (N := 2) arg7.view f 0 = outAC arg0 arg1 arg2 arg3 arg4 arg5 arg6 X0 X1 X2 X3 X4 X5 X6 ∧ rows (N := 2) arg7.view f 1 = outB arg0 arg1 arg2 arg3 arg4 arg5 arg6 X0 X1 X2 X3 X4 X5 X6⌝) ∗
    any c arg8 ∗ any c arg9 ∗ any c arg10 ∗ any c arg11 ∗ any c arg12 ∗ any c arg13 ∗ any c arg14 ∗ any c arg15)

/-- The kernel's run. -/
theorem body_run (h6 : SlotsOK arg6 X6) (E : Set ℕ) :
    bodyPre c arg0 arg1 arg2 arg3 arg4 arg5 arg6 arg7 arg8 arg9 arg10 arg11 arg12 arg13 arg14 arg15 X0 X1 X2 X3 X4 X5 X6 ⊢
      wp frame (wpE (defs₀ (F := F)) 𝒱 (c : Thread nD τ) bd) E (cc0_viterbi (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15)
        (fun _ => bodyPost c arg0 arg1 arg2 arg3 arg4 arg5 arg6 arg7 arg8 arg9 arg10 arg11 arg12 arg13 arg14 arg15 X0 X1 X2 X3 X4 X5 X6) := by
  rw [cc0_viterbi_eq_skeleton]
  unfold cc0_viterbi_skel bodyPre bodyPost any
  iintro ⟨H0, H1, H2, H3, H4, H5, H6, ⟨%f7, H7⟩, ⟨%f8, H8⟩, H9, ⟨%f10, H10⟩, H11, ⟨%f12, H12⟩, ⟨%f13, H13⟩, H14, H15⟩
  sl_for (inv_t1 c arg8 arg10) $$ [H8 H10]
  · intro j acc
    exact trip_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 j E acc
  · unfold inv_t1
    isplitl [H8]
    · iexists _; isplitl [H8]; · iexact H8
      ipureintro
      intro i hi
      omega
    · iexists _; isplitl [H10]; · iexact H10
      ipureintro
      intro i hi
      omega
  iintro %a1 HI
  unfold inv_t1
  icases HI with ⟨⟨%g8, H8, %h8⟩, %g10, H10, %h10⟩
  rw [show Scf.trips k0_t1_loop.lb k0_t1_loop.ub k0_t1_loop.st = 1027 by decide] at h8 h10
  sl_exec
  sl_for (inv_t2 c arg0 arg1 arg2 arg3 arg4 arg5 arg6 arg8 arg9 arg10 arg11 arg12 arg13 arg14 arg15 X0 X1 X2 X3 X4 X5 X6) $$ [H0 H1 H2 H3 H4 H5 H6 H8 H9 H10 H11 H12 H13 H14 H15]
  · intro j acc
    exact trip_t2 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X0 X1 X2 X3 X4 X5 X6 h6 j E acc
  · unfold inv_t2 costs any
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]
    · iexists _; isplitl [H8]; · iexact H8
      ipureintro
      intro q hq
      exact h8 _ (cell_lt q hq)
    isplitl [H10]
    · iexists _; isplitl [H10]; · iexact H10
      ipureintro
      intro q hq
      exact h10 _ (cell_lt q hq)
    isplitl [H12]
    · iexists _; isplitl [H12]; · iexact H12
      ipureintro
      intro h; omega
    isplitl [H13]
    · iexists _; isplitl [H13]; · iexact H13
      ipureintro
      intro h; omega
    isplitl [H9]; · iexact H9
    isplitl [H11]; · iexact H11
    isplitl [H14]; · iexact H14
    iexact H15
  iintro %a2 HI
  unfold inv_t2 costs any
  rw [show Scf.trips k0_t2_loop.lb k0_t2_loop.ub k0_t2_loop.st = 3 by decide]
  icases HI with ⟨H0, H1, H2, H3, H4, H5, H6, ⟨%m8, H8, %h8'⟩, ⟨%m10, H10, %h10'⟩, ⟨%m12, H12, %h12'⟩, ⟨%m13, H13, %h13'⟩, H9, H11, H14, H15⟩
  sl_exec
  sl_for (inv_t14 c arg8 arg10 arg12 arg13 m8 m10 m12 m13) $$ [H8 H10 H12 H13]
  · intro j acc
    exact trip_t14 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 m8 m10 m12 m13 j E acc
  · unfold inv_t14
    isplitl [H8]; · iexact H8
    isplitl [H10]; · iexact H10
    isplitl [H12]; · iexact H12
    isplitl [H13]; · iexact H13
    ipureintro
    exact ⟨rfl, rfl⟩
  iintro %a14 HI
  unfold inv_t14
  rw [show Scf.trips k0_t14_loop.lb k0_t14_loop.ub k0_t14_loop.st = 256 by decide]
  icases HI with ⟨H8, H10, H12, H13, %h14⟩
  sl_exec
  sl_for (inv_t15 c arg8 arg10 arg12 arg13 m8 m10 m12 m13) $$ [H8 H10 H12 H13]
  · intro j acc
    exact trip_t15 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 m8 m10 m12 m13 j E acc
  · unfold inv_t15
    isplitl [H8]; · iexact H8
    isplitl [H10]; · iexact H10
    isplitl [H12]; · iexact H12
    isplitl [H13]; · iexact H13
    ipureintro
    exact ⟨h14.1, h14.2⟩
  iintro %a15 HI
  unfold inv_t15
  rw [show Scf.trips k0_t15_loop.lb k0_t15_loop.ub k0_t15_loop.st = 256 by decide]
  icases HI with ⟨H8, H10, H12, H13, %h15⟩
  sl_exec
  sl_for (inv_t16 c arg8 arg10 arg12 arg13 m8 m10 m12 m13) $$ [H8 H10 H12 H13]
  · intro j acc
    exact trip_t16 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 m8 m10 m12 m13 j E acc
  · unfold inv_t16
    isplitl [H8]; · iexact H8
    isplitl [H10]; · iexact H10
    isplitl [H12]; · iexact H12
    isplitl [H13]; · iexact H13
    ipureintro
    exact ⟨h15.1, h15.2⟩
  iintro %a16 HI
  unfold inv_t16
  rw [show Scf.trips k0_t16_loop.lb k0_t16_loop.ub k0_t16_loop.st = 256 by decide]
  icases HI with ⟨H8, H10, H12, H13, %h16⟩
  sl_exec
  sl_for (inv_t17 c arg8 arg10 arg12 arg13 m8 m10 m12 m13) $$ [H8 H10 H12 H13]
  · intro j acc
    exact trip_t17 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 m8 m10 m12 m13 j E acc
  · unfold inv_t17
    isplitl [H8]; · iexact H8
    isplitl [H10]; · iexact H10
    isplitl [H12]; · iexact H12
    isplitl [H13]; · iexact H13
    ipureintro
    exact ⟨h16.1, h16.2⟩
  iintro %a17 HI
  unfold inv_t17
  rw [show Scf.trips k0_t17_loop.lb k0_t17_loop.ub k0_t17_loop.st = 256 by decide]
  icases HI with ⟨H8, H10, H12, H13, %h17⟩
  have eA : a17.1 = outAC arg0 arg1 arg2 arg3 arg4 arg5 arg6 X0 X1 X2 X3 X4 X5 X6 := by
    rw [h17.1]
    exact accB_congr 1024 fun q hq => by rw [joinAC, h8' q hq, h10' q hq, h13' (by decide) q hq]
  have eB : a17.2 = outB arg0 arg1 arg2 arg3 arg4 arg5 arg6 X0 X1 X2 X3 X4 X5 X6 := by
    rw [h17.2]
    exact accB_congr 1024 fun q hq => by rw [joinB, h10' q hq, h12' (by decide) q hq]
  obtain ⟨b1, b2⟩ := a17
  dsimp only at eA eB
  subst eA eB
  sl_exec
  sl_step
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro
    sl_unfold_run_names
    simp only [k0_pay26, k0_pay27, rows_writes_cons', rows_writes_nil]
    exact ⟨rfl, rfl⟩
  isplitl [H8]; · iexists _; iexact H8
  isplitl [H9]; · iexact H9
  isplitl [H10]; · iexists _; iexact H10
  isplitl [H11]; · iexact H11
  isplitl [H12]; · iexists _; iexact H12
  isplitl [H13]; · iexists _; iexact H13
  isplitl [H14]; · iexact H14
  iexact H15

/-- The kernel's run, to any continuation. -/
theorem body_run_k (h6 : SlotsOK arg6 X6) (E : Set ℕ) (K : PUnit → sProp 𝕄) :
    iprop(bodyPre c arg0 arg1 arg2 arg3 arg4 arg5 arg6 arg7 arg8 arg9 arg10 arg11 arg12 arg13 arg14 arg15 X0 X1 X2 X3 X4 X5 X6 ∗
      (bodyPost c arg0 arg1 arg2 arg3 arg4 arg5 arg6 arg7 arg8 arg9 arg10 arg11 arg12 arg13 arg14 arg15 X0 X1 X2 X3 X4 X5 X6 -∗ K ⟨⟩)) ⊢
      wp frame (wpE (defs₀ (F := F)) 𝒱 (c : Thread nD τ) bd) E (cc0_viterbi (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨HP, HK⟩
  iapply wp_wand_r
  isplitl [HP]
  · iapply (body_run 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X0 X1 X2 X3 X4 X5 X6 h6 E)
    iexact HP
  · iintro %a Q
    iapply HK
    iexact Q

end

end Cert.KernelIdeal.Run

end
-- ==== Proof.Run.Launch.lean ====
/-
  The run of the program: the kernel's body as the pipeline calls it, and what every array holds at the end.
-/
module

public import proofs.«01_k».proof.Proof.Run.Body
public import proofs.«01_k».proof.Proof.Gen.KernelIdeal.Frame
public import Idealize.ShloMosaic.Lib.Claim

@[expose] public section

set_option maxRecDepth 8192
set_option maxHeartbeats 4000000

noncomputable section

namespace Cert.KernelIdeal.Run

open Cert.KernelIdeal Cert.KernelIdeal.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation cellOf ΦA)

local notation "𝕄" => MT nD τ sig Unit (Elt F) ℕ (UR sig nD τ) ℕ

/-- No transfer is in flight across a loop. -/
abbrev 𝒱₀ : Variants := Variants.none

abbrev ms0_0 (t : Fin cfg0.N) : Memref sig .tc .vmem S192x8x128 .i8 := win0_0.stage (cfg0.slots t 0)
abbrev hs0_0 (t : Fin cfg0.N) : (ms0_0 t).IsWhole := hstage0_0 0
abbrev ms0_1 (t : Fin cfg0.N) : Memref sig .tc .vmem S192x8x128 .f32 := win0_1.stage (cfg0.slots t 1)
abbrev hs0_1 (t : Fin cfg0.N) : (ms0_1 t).IsWhole := hstage0_1 0
abbrev ms0_2 (t : Fin cfg0.N) : Memref sig .tc .vmem S192x8x128 .i8 := win0_2.stage (cfg0.slots t 2)
abbrev hs0_2 (t : Fin cfg0.N) : (ms0_2 t).IsWhole := hstage0_2 0
abbrev ms0_3 (t : Fin cfg0.N) : Memref sig .tc .vmem S192x8x128 .f32 := win0_3.stage (cfg0.slots t 3)
abbrev hs0_3 (t : Fin cfg0.N) : (ms0_3 t).IsWhole := hstage0_3 0
abbrev ms0_4 (t : Fin cfg0.N) : Memref sig .tc .vmem S2x3x8x128 .f32 := win0_4.stage (cfg0.slots t 4)
abbrev hs0_4 (t : Fin cfg0.N) : (ms0_4 t).IsWhole := hstage0_4 0
abbrev ms0_5 (t : Fin cfg0.N) : Memref sig .tc .smem S713 .f32 := win0_5.stage (cfg0.slots t 5)
abbrev hs0_5 (t : Fin cfg0.N) : (ms0_5 t).IsWhole := hstage0_5 0
abbrev ms0_6 (t : Fin cfg0.N) : Memref sig .tc .smem S4096 .i32 := win0_6.stage (cfg0.slots t 6)
abbrev hs0_6 (t : Fin cfg0.N) : (ms0_6 t).IsWhole := hstage0_6 0
abbrev ms0_7 (t : Fin cfg0.N) : Memref sig .tc .vmem S2x8x128 .f32 := win0_7.stage (cfg0.slots t 7)
abbrev hs0_7 (t : Fin cfg0.N) : (ms0_7 t).IsWhole := hstage0_7 0
abbrev sc0 : Memref sig .tc .vmem S1027x8x128 .f32 := Memref.whole cc0_scratch0
abbrev sc1 : Memref sig .tc .vmem S1027x8x128 .f32 := Memref.whole cc0_scratch1
abbrev sc2 : Memref sig .tc .vmem S1027x8x128 .f32 := Memref.whole cc0_scratch2
abbrev sc3 : Memref sig .tc .vmem S1027x8x128 .f32 := Memref.whole cc0_scratch3
abbrev sc4 : Memref sig .tc .vmem S1027x8x128 .f32 := Memref.whole cc0_scratch4
abbrev sc5 : Memref sig .tc .vmem S1027x8x128 .f32 := Memref.whole cc0_scratch5
abbrev sc6 : Memref sig .tc .vmem S713x8x128 .f32 := Memref.whole cc0_scratch6
abbrev sc7 : Memref sig .tc .vmem S713x8x128 .f32 := Memref.whole cc0_scratch7

/-- A scratch buffer held at something. -/
theorem any_whole (c : Dev nD) (b : Ref sig .tc) :
    (iprop(∃ f : Buf (Elt F) ((c : Thread nD τ).loc b), held c (Memref.whole b) f) : sProp 𝕄) = iprop(∃ f : Buf (Elt F) ((c : Thread nD τ).loc b), ((c : Thread nD τ).loc b) ↦{fullShare} f) := by
  unfold held
  simp only [View.set_whole]

theorem any_sc0 (c : Dev nD) : (any c sc0 : sProp 𝕄) = iprop(∃ f : Buf (Elt F) ((c : Thread nD τ).loc cc0_scratch0), ((c : Thread nD τ).loc cc0_scratch0) ↦{fullShare} f) :=
  any_whole c cc0_scratch0
theorem any_sc1 (c : Dev nD) : (any c sc1 : sProp 𝕄) = iprop(∃ f : Buf (Elt F) ((c : Thread nD τ).loc cc0_scratch1), ((c : Thread nD τ).loc cc0_scratch1) ↦{fullShare} f) :=
  any_whole c cc0_scratch1
theorem any_sc2 (c : Dev nD) : (any c sc2 : sProp 𝕄) = iprop(∃ f : Buf (Elt F) ((c : Thread nD τ).loc cc0_scratch2), ((c : Thread nD τ).loc cc0_scratch2) ↦{fullShare} f) :=
  any_whole c cc0_scratch2
theorem any_sc3 (c : Dev nD) : (any c sc3 : sProp 𝕄) = iprop(∃ f : Buf (Elt F) ((c : Thread nD τ).loc cc0_scratch3), ((c : Thread nD τ).loc cc0_scratch3) ↦{fullShare} f) :=
  any_whole c cc0_scratch3
theorem any_sc4 (c : Dev nD) : (any c sc4 : sProp 𝕄) = iprop(∃ f : Buf (Elt F) ((c : Thread nD τ).loc cc0_scratch4), ((c : Thread nD τ).loc cc0_scratch4) ↦{fullShare} f) :=
  any_whole c cc0_scratch4
theorem any_sc5 (c : Dev nD) : (any c sc5 : sProp 𝕄) = iprop(∃ f : Buf (Elt F) ((c : Thread nD τ).loc cc0_scratch5), ((c : Thread nD τ).loc cc0_scratch5) ↦{fullShare} f) :=
  any_whole c cc0_scratch5
theorem any_sc6 (c : Dev nD) : (any c sc6 : sProp 𝕄) = iprop(∃ f : Buf (Elt F) ((c : Thread nD τ).loc cc0_scratch6), ((c : Thread nD τ).loc cc0_scratch6) ↦{fullShare} f) :=
  any_whole c cc0_scratch6
theorem any_sc7 (c : Dev nD) : (any c sc7 : sProp 𝕄) = iprop(∃ f : Buf (Elt F) ((c : Thread nD τ).loc cc0_scratch7), ((c : Thread nD τ).loc cc0_scratch7) ↦{fullShare} f) :=
  any_whole c cc0_scratch7

/-- The two blocks of the output. -/
def outV (A B : Blk F) : Vec F S2x8x128 .f32 := fun i => if (i 0).val = 0 then A (ix2 (i 1) (i 2)) else B (ix2 (i 1) (i 2))

/-- A buffer of two blocks is its blocks. -/
theorem read_out (v : View sig .tc .vmem S2x8x128 .f32) (f : v.ty.Contents (Elt F)) (A B : Blk F) (hA : rows (N := 2) v f 0 = A) (hB : rows (N := 2) v f 1 = B) :
    v.read (Elt F) f = outV A B := by
  funext i
  obtain ⟨a, b, d, rfl⟩ : ∃ (a : Fin 2) (b : Fin 8) (d : Fin 128), i = ix3 a b d := ⟨i 0, i 1, i 2, eq_ix3 i⟩
  subst hA hB
  match a with
  | ⟨0, _⟩ => rfl
  | ⟨1, _⟩ => rfl

section

variable (m : (ℓ : Loc nD τ sig) → Buf (Elt F) ℓ) (ρ : Dev nD → PrngReg)

/-- What the body leaves in the output's buffer. -/
def outsAt (c : Dev nD) (t : Fin cfg0.N) : Vec F S2x8x128 .f32 :=
  outV (outAC (ms0_0 t) (ms0_1 t) (ms0_2 t) (ms0_3 t) (ms0_4 t) (ms0_5 t) (ms0_6 t)
      ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)))
    (outB (ms0_0 t) (ms0_1 t) (ms0_2 t) (ms0_3 t) (ms0_4 t) (ms0_5 t) (ms0_6 t)
      ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)))

/-- The pipeline's data: the arrays as the region finds them, each input's buffer at its block, the output's at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outsAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The host lines after the two tables do not write what holds the tables. -/
theorem V_table (c : Dev nD) (b : Ref sig .tc) (h : (hostOps0.drop 2 : List (HloOp τ sig (Elt F))).Forall fun op => Proc.devRef .tc b ∉ op.writes) :
    V m c b = StableHlo.after (hostOps0.take 2) (fun b => m (c, b)) (Proc.devRef .tc b) :=
  StableHlo.after_of_forall_not_mem (b := Proc.devRef .tc b) (hostOps0.drop 2) (StableHlo.after (hostOps0.take 2) (fun b => m (c, b)))
    (List.forall_iff_forall_mem.mp h)

/-- The table of slots as the region finds it. -/
theorem V_slots (c : Dev nD) : (V m c main_c : (⟨S4096, .i32⟩ : BufTy).Contents (Elt F)) = fun i => lit1 (S4096.rowMajor i) := by
  refine (V_table m c main_c ?_).trans ?_
  · simp only [hostOps0, List.drop_succ_cons, List.drop_zero, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)
  · simp only [hostOps0, List.take_succ_cons, List.take_zero, StableHlo.after_cons, StableHlo.after_nil]
    exact StableHlo.nullary_result _ _ _ _

/-- The codebook as the region finds it. -/
theorem V_codes (c : Dev nD) : (V m c main_cst : (⟨S713, .f32⟩ : BufTy).Contents (Elt F)) = fun i => FloatOps.ofBits .f32 (lit0 (S713.rowMajor i)) := by
  refine (V_table m c main_cst ?_).trans ?_
  · simp only [hostOps0, List.drop_succ_cons, List.drop_zero, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)
  · simp only [hostOps0, List.take_succ_cons, List.take_zero, StableHlo.after_cons, StableHlo.after_nil]
    refine (StableHlo.nullary_result_ne _ _ _ _ (r := main_cst) ?_).trans (StableHlo.nullary_result _ _ _ _)
    decide

/-- Every slot of the printed table is a row of the codebook. -/
theorem lit_slots : ∀ i : Fin 4096, (lit1 i).toNat < 713 := by decide +kernel

/-- Every slot the kernel reads is a row of the codebook. -/
theorem slots_ok (c : Dev nD) (t : Fin cfg0.N) : SlotsOK (ms0_6 t) ((hs0_6 t).unread (iblk m c 6 t)) := by
  intro s
  unfold slotOf words
  by_cases h : s < 4096
  · rw [dif_pos h, (hs0_6 t).read_unread]
    show (V m c main_c (((cfg0.win 6).blk t).view.emb _)).toNat < 713
    rw [V_slots]
    exact lit_slots _
  · rw [dif_neg h]; decide

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7]
  unfold Pipeline.ΦA
  rw [scopedRest0_eq, ← any_sc0, ← any_sc1, ← any_sc2, ← any_sc3, ← any_sc4, ← any_sc5, ← any_sc6, ← any_sc7]
  unfold owns
  iintro ⟨⟨⟨S0, S1, S2, S3, S4, S5, S6, S7⟩, Hr⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩⟩
  obtain rfl := (hs0_0 t).eq_unread hf0
  obtain rfl := (hs0_1 t).eq_unread hf1
  obtain rfl := (hs0_2 t).eq_unread hf2
  obtain rfl := (hs0_3 t).eq_unread hf3
  obtain rfl := (hs0_4 t).eq_unread hf4
  obtain rfl := (hs0_5 t).eq_unread hf5
  obtain rfl := (hs0_6 t).eq_unread hf6
  iapply (body_run_k 𝒱₀ c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) (slots_ok m c t) Set.univ _)
  unfold bodyPre bodyPost
  isplitl [S0 S1 S2 S3 S4 S5 S6 S7 H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · unfold any; iexists _; iexact H7
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro ⟨H0, H1, H2, H3, H4, H5, H6, ⟨%f7', H7, %h7⟩, S0, S1, S2, S3, S4, S5, S6, S7⟩
  isplitl [S0 S1 S2 S3 S4 S5 S6 S7 Hr]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    · iexact Hr
  isplitl [Ho]; · iexact Ho
  isplitl [H0]
  · iexists _; isplitr; · ipureintro; exact (hs0_0 t).read_unread _
    iexact H0
  isplitl [H1]
  · iexists _; isplitr; · ipureintro; exact (hs0_1 t).read_unread _
    iexact H1
  isplitl [H2]
  · iexists _; isplitr; · ipureintro; exact (hs0_2 t).read_unread _
    iexact H2
  isplitl [H3]
  · iexists _; isplitr; · ipureintro; exact (hs0_3 t).read_unread _
    iexact H3
  isplitl [H4]
  · iexists _; isplitr; · ipureintro; exact (hs0_4 t).read_unread _
    iexact H4
  isplitl [H5]
  · iexists _; isplitr; · ipureintro; exact (hs0_5 t).read_unread _
    iexact H5
  isplitl [H6]
  · iexists _; isplitr; · ipureintro; exact (hs0_6 t).read_unread _
    iexact H6
  iexists _; isplitr; swap; · iexact H7
  ipureintro
  exact read_out _ _ _ _ h7.1 h7.2

-- the implicit arguments are found by unifying the conclusion with this one, which takes unfolding plain definitions in a
-- metavariable's type
set_option backward.isDefEq.respectTransparency.types false in
/-- Every execution of the program ends with every array at what the pipeline's data and the later host lines make of it,
and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The arguments end unchanged, and every semaphore counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) (fun _ _ => rfl)) (run_main m ρ)

end

end Cert.KernelIdeal.Run

end
-- ==== Proof.RunP.Common.lean ====
/-
  What the trips of the kernel's loops have in common: a buffer held whole, and the range of the table of slots.
-/
module

public import proofs.«01_k».proof.Proof.Gen.Kernel.Skeleton
public import proofs.«01_k».proof.Proof.Run.Rows
public import Idealize.ShloMosaic.Lib.Pipeline.Kit

@[expose] public section

set_option maxRecDepth 8192
set_option maxHeartbeats 4000000

noncomputable section

namespace Cert.Kernel.Run

open Cert.Kernel Cert.Kernel.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A buffer held whole at given contents. -/
abbrev held (c : Dev nD) {sp : Space} {s : Shape} {e : EltTy} (m : Memref sig .tc sp s e) (f : BufTy.Contents (Elt F) m.view.ty) : sProp 𝕄 :=
  m.view.loc (c : Thread nD τ) ↦[m.view.set]{fullShare} f

/-- The slot of state `s`. -/
abbrev slotOf (arg6 : Memref sig .tc .smem S4096 .i32) (X6 : BufTy.Contents (Elt F) arg6.view.ty) (s : ℕ) : ℕ :=
  (words (F := F) (N := 4096) arg6.view X6 s).toNat

/-- Every slot lies in the table of 713 blocks. -/
abbrev SlotsOK (arg6 : Memref sig .tc .smem S4096 .i32) (X6 : BufTy.Contents (Elt F) arg6.view.ty) : Prop :=
  ∀ s, slotOf (F := F) arg6 X6 s < 713

/-- A block read at a slot below 713 lies in the table. -/
theorem row_inb {w : BitVec 32} (h : w.toNat < 713) : ∀ a, (![w.toNat, 0, 0] : Fin 3 → ℕ) a + S1x8x128.size a ≤ S713x8x128.size a := by
  intro a
  match a with
  | ⟨0, _⟩ => show w.toNat + 1 ≤ 713; omega
  | ⟨1, _⟩ => show 0 + 8 ≤ 8; omega
  | ⟨2, _⟩ => show 0 + 128 ≤ 128; omega

/-- A slot that a trip loads lies below 713. -/
theorem slot_lt (arg6 : Memref sig .tc .smem S4096 .i32) (X6 : BufTy.Contents (Elt F) arg6.view.ty) (h : SlotsOK arg6 X6)
    (off : Fin 1 → ℕ) (inb : ∀ a, off a + S1.size a ≤ S4096.size a) (y : (Rect.unit (s := S4096) off S1.size inb).toLoadRect.shape.Idx) :
    (arg6.view.readAt (Elt F) (Rect.unit (s := S4096) off S1.size inb).toLoadRect X6 y : BitVec 32).toNat < 713 := by
  have e := word_load' (F := F) (N := 4096) arg6.view X6 inb y
  rw [e]; exact h _

end Cert.Kernel.Run

end
-- ==== Proof.RunP.Forward.lean ====
/-
  One forward step of the trellis costs, as each of the kernel's two copies of it does it:
  a trip per remainder `r`, four stores each.
-/
module

public import proofs.«01_k».proof.Proof.RunP.Common

@[expose] public section

set_option maxRecDepth 8192
set_option maxHeartbeats 4000000

noncomputable section

namespace Cert.Kernel.Run

open Cert.Kernel Cert.Kernel.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

/-! ## The forward step of loop 5 -/

theorem off16_eq : ∀ k : Fin k0_t5_loop.trips, k0_off16 k = ![4 * k.val + 0 + (4 * k.val + 0) / 256, 0, 0] := by decide +kernel
instance (k : Fin k0_t5_loop.trips) : ClosedOff (k0_off16 k) := ⟨_, off16_eq k⟩
theorem off25_eq : ∀ k : Fin k0_t5_loop.trips, k0_off25 k = ![4 * k.val + 1 + (4 * k.val + 1) / 256, 0, 0] := by decide +kernel
instance (k : Fin k0_t5_loop.trips) : ClosedOff (k0_off25 k) := ⟨_, off25_eq k⟩
theorem off34_eq : ∀ k : Fin k0_t5_loop.trips, k0_off34 k = ![4 * k.val + 2 + (4 * k.val + 2) / 256, 0, 0] := by decide +kernel
instance (k : Fin k0_t5_loop.trips) : ClosedOff (k0_off34 k) := ⟨_, off34_eq k⟩
theorem off43_eq : ∀ k : Fin k0_t5_loop.trips, k0_off43 k = ![4 * k.val + 3 + (4 * k.val + 3) / 256, 0, 0] := by decide +kernel
instance (k : Fin k0_t5_loop.trips) : ClosedOff (k0_off43 k) := ⟨_, off43_eq k⟩

theorem chk1_of {w : BitVec 32} (h : w.toNat < 713) : k0_chk1 w := row_inb h
theorem chk2_of {w : BitVec 32} (h : w.toNat < 713) : k0_chk2 w := row_inb h
theorem chk3_of {w : BitVec 32} (h : w.toNat < 713) : k0_chk3 w := row_inb h
theorem chk4_of {w : BitVec 32} (h : w.toNat < 713) : k0_chk4 w := row_inb h
theorem chk5_of {w : BitVec 32} (h : w.toNat < 713) : k0_chk5 w := row_inb h
theorem chk6_of {w : BitVec 32} (h : w.toNat < 713) : k0_chk6 w := row_inb h
theorem chk7_of {w : BitVec 32} (h : w.toNat < 713) : k0_chk7 w := row_inb h
theorem chk8_of {w : BitVec 32} (h : w.toNat < 713) : k0_chk8 w := row_inb h
theorem chk9_of {w : BitVec 32} (h : w.toNat < 713) : k0_chk9 w := row_inb h
theorem chk10_of {w : BitVec 32} (h : w.toNat < 713) : k0_chk10 w := row_inb h
theorem chk11_of {w : BitVec 32} (h : w.toNat < 713) : k0_chk11 w := row_inb h
theorem chk12_of {w : BitVec 32} (h : w.toNat < 713) : k0_chk12 w := row_inb h
theorem chk13_of {w : BitVec 32} (h : w.toNat < 713) : k0_chk13 w := row_inb h
theorem chk14_of {w : BitVec 32} (h : w.toNat < 713) : k0_chk14 w := row_inb h
theorem chk15_of {w : BitVec 32} (h : w.toNat < 713) : k0_chk15 w := row_inb h
theorem chk16_of {w : BitVec 32} (h : w.toNat < 713) : k0_chk16 w := row_inb h

/-- The places that one trip reads and writes. -/
theorem offs_t5 : ∀ k : Fin k0_t5_loop.trips, k0_off7 k 0#32 0 = k.val + 0
    ∧ k0_off7 k 257#32 0 = k.val + 257
    ∧ k0_off7 k 514#32 0 = k.val + 514
    ∧ k0_off7 k 771#32 0 = k.val + 771
    ∧ k0_off8 k 0 = 0 + (4 * k.val + 0)
    ∧ k0_off10 k 0 = 1024 + (4 * k.val + 0)
    ∧ k0_off12 k 0 = 2048 + (4 * k.val + 0)
    ∧ k0_off14 k 0 = 3072 + (4 * k.val + 0)
    ∧ k0_off17 k 0 = 0 + (4 * k.val + 1)
    ∧ k0_off19 k 0 = 1024 + (4 * k.val + 1)
    ∧ k0_off21 k 0 = 2048 + (4 * k.val + 1)
    ∧ k0_off23 k 0 = 3072 + (4 * k.val + 1)
    ∧ k0_off26 k 0 = 0 + (4 * k.val + 2)
    ∧ k0_off28 k 0 = 1024 + (4 * k.val + 2)
    ∧ k0_off30 k 0 = 2048 + (4 * k.val + 2)
    ∧ k0_off32 k 0 = 3072 + (4 * k.val + 2)
    ∧ k0_off35 k 0 = 0 + (4 * k.val + 3)
    ∧ k0_off37 k 0 = 1024 + (4 * k.val + 3)
    ∧ k0_off39 k 0 = 2048 + (4 * k.val + 3)
    ∧ k0_off41 k 0 = 3072 + (4 * k.val + 3)
    ∧ k0_off16 k 0 = cell (4 * k.val + 0)
    ∧ k0_off25 k 0 = cell (4 * k.val + 1)
    ∧ k0_off34 k 0 = cell (4 * k.val + 2)
    ∧ k0_off43 k 0 = cell (4 * k.val + 3) := by
  unfold cell; decide +kernel

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips. -/
def inv_t5 (X6 : BufTy.Contents (Elt F) arg6.view.ty) (X8 : BufTy.Contents (Elt F) arg8.view.ty)
    (X14 : BufTy.Contents (Elt F) arg14.view.ty) (n : ℕ) (_ : Unit) : sProp 𝕄 :=
  iprop(held c arg6 X6 ∗ held c arg8 X8 ∗ held c arg14 X14 ∗ ∃ g, held c arg9 g ∗
    ⌜∀ r, r < n → ∀ i, i < 4 → rows (N := 1027) arg9.view g (cell (4 * r + i)) = fwdAt (rows (N := 1027) arg8.view X8) (rows (N := 713) arg14.view X14) (slotOf arg6 X6) r i⌝)

/-- One trip. -/
theorem trip_t5 (X6 : BufTy.Contents (Elt F) arg6.view.ty) (X8 : BufTy.Contents (Elt F) arg8.view.ty)
    (X14 : BufTy.Contents (Elt F) arg14.view.ty) (h6 : SlotsOK arg6 X6) (k0_t2 : Fin k0_t2_loop.trips) (arg16 : BitVec 32) (v23 : FVec F S8x128 .f32) (v26 : FVec F S8x128 .f32) (k0_t3 : Fin k0_t3_loop.trips) (k : Fin k0_t5_loop.trips) (E : Set ℕ) (acc : Unit) :
    inv_t5 c arg6 arg8 arg9 arg14 X6 X8 X14 k.val acc ⊢
      wp frame (wpE (defs₀ (F := F)) 𝒱 (c : Thread nD τ) bd) E (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k0_t2 arg16 v23 v26 0#32 1#32 k0_t3 k acc)
        (fun acc => inv_t5 c arg6 arg8 arg9 arg14 X6 X8 X14 (k.val + 1) acc) := by
  have hk : k.val < 256 := Nat.lt_of_lt_of_le k.isLt k0_t5_abs.2.1
  have hs := slot_lt arg6 X6 h6
  have k0_hw1 : k0_chk1 (arg6.view.readAt (Elt F) (Rect.unit (s := S4096) (k0_off8 k) S1.size (k0_off8_inb k)).toLoadRect X6 (Shape.Idx.first (numel1_S1.symm ▸ Nat.one_pos))) := chk1_of (hs _ _ _)
  have k0_hw2 : k0_chk2 (arg6.view.readAt (Elt F) (Rect.unit (s := S4096) (k0_off10 k) S1.size (k0_off10_inb k)).toLoadRect X6 (Shape.Idx.first (numel1_S1.symm ▸ Nat.one_pos))) := chk2_of (hs _ _ _)
  have k0_hw3 : k0_chk3 (arg6.view.readAt (Elt F) (Rect.unit (s := S4096) (k0_off12 k) S1.size (k0_off12_inb k)).toLoadRect X6 (Shape.Idx.first (numel1_S1.symm ▸ Nat.one_pos))) := chk3_of (hs _ _ _)
  have k0_hw4 : k0_chk4 (arg6.view.readAt (Elt F) (Rect.unit (s := S4096) (k0_off14 k) S1.size (k0_off14_inb k)).toLoadRect X6 (Shape.Idx.first (numel1_S1.symm ▸ Nat.one_pos))) := chk4_of (hs _ _ _)
  have k0_hw5 : k0_chk5 (arg6.view.readAt (Elt F) (Rect.unit (s := S4096) (k0_off17 k) S1.size (k0_off17_inb k)).toLoadRect X6 (Shape.Idx.first (numel1_S1.symm ▸ Nat.one_pos))) := chk5_of (hs _ _ _)
  have k0_hw6 : k0_chk6 (arg6.view.readAt (Elt F) (Rect.unit (s := S4096) (k0_off19 k) S1.size (k0_off19_inb k)).toLoadRect X6 (Shape.Idx.first (numel1_S1.symm ▸ Nat.one_pos))) := chk6_of (hs _ _ _)
  have k0_hw7 : k0_chk7 (arg6.view.readAt (Elt F) (Rect.unit (s := S4096) (k0_off21 k) S1.size (k0_off21_inb k)).toLoadRect X6 (Shape.Idx.first (numel1_S1.symm ▸ Nat.one_pos))) := chk7_of (hs _ _ _)
  have k0_hw8 : k0_chk8 (arg6.view.readAt (Elt F) (Rect.unit (s := S4096) (k0_off23 k) S1.size (k0_off23_inb k)).toLoadRect X6 (Shape.Idx.first (numel1_S1.symm ▸ Nat.one_pos))) := chk8_of (hs _ _ _)
  have k0_hw9 : k0_chk9 (arg6.view.readAt (Elt F) (Rect.unit (s := S4096) (k0_off26 k) S1.size (k0_off26_inb k)).toLoadRect X6 (Shape.Idx.first (numel1_S1.symm ▸ Nat.one_pos))) := chk9_of (hs _ _ _)
  have k0_hw10 : k0_chk10 (arg6.view.readAt (Elt F) (Rect.unit (s := S4096) (k0_off28 k) S1.size (k0_off28_inb k)).toLoadRect X6 (Shape.Idx.first (numel1_S1.symm ▸ Nat.one_pos))) := chk10_of (hs _ _ _)
  have k0_hw11 : k0_chk11 (arg6.view.readAt (Elt F) (Rect.unit (s := S4096) (k0_off30 k) S1.size (k0_off30_inb k)).toLoadRect X6 (Shape.Idx.first (numel1_S1.symm ▸ Nat.one_pos))) := chk11_of (hs _ _ _)
  have k0_hw12 : k0_chk12 (arg6.view.readAt (Elt F) (Rect.unit (s := S4096) (k0_off32 k) S1.size (k0_off32_inb k)).toLoadRect X6 (Shape.Idx.first (numel1_S1.symm ▸ Nat.one_pos))) := chk12_of (hs _ _ _)
  have k0_hw13 : k0_chk13 (arg6.view.readAt (Elt F) (Rect.unit (s := S4096) (k0_off35 k) S1.size (k0_off35_inb k)).toLoadRect X6 (Shape.Idx.first (numel1_S1.symm ▸ Nat.one_pos))) := chk13_of (hs _ _ _)
  have k0_hw14 : k0_chk14 (arg6.view.readAt (Elt F) (Rect.unit (s := S4096) (k0_off37 k) S1.size (k0_off37_inb k)).toLoadRect X6 (Shape.Idx.first (numel1_S1.symm ▸ Nat.one_pos))) := chk14_of (hs _ _ _)
  have k0_hw15 : k0_chk15 (arg6.view.readAt (Elt F) (Rect.unit (s := S4096) (k0_off39 k) S1.size (k0_off39_inb k)).toLoadRect X6 (Shape.Idx.first (numel1_S1.symm ▸ Nat.one_pos))) := chk15_of (hs _ _ _)
  have k0_hw16 : k0_chk16 (arg6.view.readAt (Elt F) (Rect.unit (s := S4096) (k0_off41 k) S1.size (k0_off41_inb k)).toLoadRect X6 (Shape.Idx.first (numel1_S1.symm ▸ Nat.one_pos))) := chk16_of (hs _ _ _)
  unfold k0_t5_body inv_t5
  iintro ⟨H6, HS, HT, %f, HD, %hf⟩
  sl_exec
  sl_step
  isplitl [H6]; · iexact H6
  isplitl [HS]; · iexact HS
  isplitl [HT]; · iexact HT
  iexists _; isplitl [HD]; · iexact HD
  ipureintro
  have eS := fun off inb => cast_load' (F := F) (N := 1027) arg8.view X8 (off := off) inb shapeCasts_S1x8x128_S8x128
  have eT := fun off inb => cast_load' (F := F) (N := 713) arg14.view X14 (off := off) inb shapeCasts_S1x8x128_S8x128
  have e6 := fun off inb y => word_load' (F := F) (N := 4096) arg6.view X6 (off := off) inb y
  obtain ⟨s0, s1, s2, s3, w0, w1, w2, w3, w4, w5, w6, w7, w8, w9, w10, w11, w12, w13, w14, w15, d0, d1, d2, d3⟩ := offs_t5 k
  sl_unfold_run_names
  intro r hr i hi
  simp only [k0_pay28, k0_pay29, k0_pay30, k0_pay31, k0_pay32, k0_pay33, k0_pay34, k0_pay35, k0_pay36, k0_pay37, k0_pay38, k0_pay39, k0_pay40, k0_pay41, k0_pay42, k0_pay43, k0_pay93, rows_writes_cons', rows_writes_nil, eS, eT, e6]
  have t0 : ∀ w, k0_off9 w 0 = BitVec.toNat w := fun w => rfl
  have t1 : ∀ w, k0_off11 w 0 = BitVec.toNat w := fun w => rfl
  have t2 : ∀ w, k0_off13 w 0 = BitVec.toNat w := fun w => rfl
  have t3 : ∀ w, k0_off15 w 0 = BitVec.toNat w := fun w => rfl
  have t4 : ∀ w, k0_off18 w 0 = BitVec.toNat w := fun w => rfl
  have t5 : ∀ w, k0_off20 w 0 = BitVec.toNat w := fun w => rfl
  have t6 : ∀ w, k0_off22 w 0 = BitVec.toNat w := fun w => rfl
  have t7 : ∀ w, k0_off24 w 0 = BitVec.toNat w := fun w => rfl
  have t8 : ∀ w, k0_off27 w 0 = BitVec.toNat w := fun w => rfl
  have t9 : ∀ w, k0_off29 w 0 = BitVec.toNat w := fun w => rfl
  have t10 : ∀ w, k0_off31 w 0 = BitVec.toNat w := fun w => rfl
  have t11 : ∀ w, k0_off33 w 0 = BitVec.toNat w := fun w => rfl
  have t12 : ∀ w, k0_off36 w 0 = BitVec.toNat w := fun w => rfl
  have t13 : ∀ w, k0_off38 w 0 = BitVec.toNat w := fun w => rfl
  have t14 : ∀ w, k0_off40 w 0 = BitVec.toNat w := fun w => rfl
  have t15 : ∀ w, k0_off42 w 0 = BitVec.toNat w := fun w => rfl
  simp only [s0, s1, s2, s3, w0, w1, w2, w3, w4, w5, w6, w7, w8, w9, w10, w11, w12, w13, w14, w15, d0, d1, d2, d3, t0, t1, t2, t3, t4, t5, t6, t7, t8, t9, t10, t11, t12, t13, t14, t15]
  by_cases hrk : r < k.val
  · rw [if_neg (by unfold cell; omega), if_neg (by unfold cell; omega), if_neg (by unfold cell; omega), if_neg (by unfold cell; omega)]
    exact hf r hrk i hi
  · obtain rfl : r = k.val := by omega
    match i, hi with
    | 0, _ => rw [if_neg (by unfold cell; omega), if_neg (by unfold cell; omega), if_neg (by unfold cell; omega), if_pos (by unfold cell; omega)]; rfl
    | 1, _ => rw [if_neg (by unfold cell; omega), if_neg (by unfold cell; omega), if_pos (by unfold cell; omega)]; rfl
    | 2, _ => rw [if_neg (by unfold cell; omega), if_pos (by unfold cell; omega)]; rfl
    | 3, _ => rw [if_pos (by unfold cell; omega)]; rfl

end

section

/-! ## The forward step of loop 9 -/

theorem off95_eq : ∀ k : Fin k0_t9_loop.trips, k0_off95 k = ![4 * k.val + 0 + (4 * k.val + 0) / 256, 0, 0] := by decide +kernel
instance (k : Fin k0_t9_loop.trips) : ClosedOff (k0_off95 k) := ⟨_, off95_eq k⟩
theorem off104_eq : ∀ k : Fin k0_t9_loop.trips, k0_off104 k = ![4 * k.val + 1 + (4 * k.val + 1) / 256, 0, 0] := by decide +kernel
instance (k : Fin k0_t9_loop.trips) : ClosedOff (k0_off104 k) := ⟨_, off104_eq k⟩
theorem off113_eq : ∀ k : Fin k0_t9_loop.trips, k0_off113 k = ![4 * k.val + 2 + (4 * k.val + 2) / 256, 0, 0] := by decide +kernel
instance (k : Fin k0_t9_loop.trips) : ClosedOff (k0_off113 k) := ⟨_, off113_eq k⟩
theorem off122_eq : ∀ k : Fin k0_t9_loop.trips, k0_off122 k = ![4 * k.val + 3 + (4 * k.val + 3) / 256, 0, 0] := by decide +kernel
instance (k : Fin k0_t9_loop.trips) : ClosedOff (k0_off122 k) := ⟨_, off122_eq k⟩

theorem chk33_of {w : BitVec 32} (h : w.toNat < 713) : k0_chk33 w := row_inb h
theorem chk34_of {w : BitVec 32} (h : w.toNat < 713) : k0_chk34 w := row_inb h
theorem chk35_of {w : BitVec 32} (h : w.toNat < 713) : k0_chk35 w := row_inb h
theorem chk36_of {w : BitVec 32} (h : w.toNat < 713) : k0_chk36 w := row_inb h
theorem chk37_of {w : BitVec 32} (h : w.toNat < 713) : k0_chk37 w := row_inb h
theorem chk38_of {w : BitVec 32} (h : w.toNat < 713) : k0_chk38 w := row_inb h
theorem chk39_of {w : BitVec 32} (h : w.toNat < 713) : k0_chk39 w := row_inb h
theorem chk40_of {w : BitVec 32} (h : w.toNat < 713) : k0_chk40 w := row_inb h
theorem chk41_of {w : BitVec 32} (h : w.toNat < 713) : k0_chk41 w := row_inb h
theorem chk42_of {w : BitVec 32} (h : w.toNat < 713) : k0_chk42 w := row_inb h
theorem chk43_of {w : BitVec 32} (h : w.toNat < 713) : k0_chk43 w := row_inb h
theorem chk44_of {w : BitVec 32} (h : w.toNat < 713) : k0_chk44 w := row_inb h
theorem chk45_of {w : BitVec 32} (h : w.toNat < 713) : k0_chk45 w := row_inb h
theorem chk46_of {w : BitVec 32} (h : w.toNat < 713) : k0_chk46 w := row_inb h
theorem chk47_of {w : BitVec 32} (h : w.toNat < 713) : k0_chk47 w := row_inb h
theorem chk48_of {w : BitVec 32} (h : w.toNat < 713) : k0_chk48 w := row_inb h

/-- The places that one trip reads and writes. -/
theorem offs_t9 : ∀ k : Fin k0_t9_loop.trips, k0_off86 k 0#32 0 = k.val + 0
    ∧ k0_off86 k 257#32 0 = k.val + 257
    ∧ k0_off86 k 514#32 0 = k.val + 514
    ∧ k0_off86 k 771#32 0 = k.val + 771
    ∧ k0_off87 k 0 = 0 + (4 * k.val + 0)
    ∧ k0_off89 k 0 = 1024 + (4 * k.val + 0)
    ∧ k0_off91 k 0 = 2048 + (4 * k.val + 0)
    ∧ k0_off93 k 0 = 3072 + (4 * k.val + 0)
    ∧ k0_off96 k 0 = 0 + (4 * k.val + 1)
    ∧ k0_off98 k 0 = 1024 + (4 * k.val + 1)
    ∧ k0_off100 k 0 = 2048 + (4 * k.val + 1)
    ∧ k0_off102 k 0 = 3072 + (4 * k.val + 1)
    ∧ k0_off105 k 0 = 0 + (4 * k.val + 2)
    ∧ k0_off107 k 0 = 1024 + (4 * k.val + 2)
    ∧ k0_off109 k 0 = 2048 + (4 * k.val + 2)
    ∧ k0_off111 k 0 = 3072 + (4 * k.val + 2)
    ∧ k0_off114 k 0 = 0 + (4 * k.val + 3)
    ∧ k0_off116 k 0 = 1024 + (4 * k.val + 3)
    ∧ k0_off118 k 0 = 2048 + (4 * k.val + 3)
    ∧ k0_off120 k 0 = 3072 + (4 * k.val + 3)
    ∧ k0_off95 k 0 = cell (4 * k.val + 0)
    ∧ k0_off104 k 0 = cell (4 * k.val + 1)
    ∧ k0_off113 k 0 = cell (4 * k.val + 2)
    ∧ k0_off122 k 0 = cell (4 * k.val + 3) := by
  unfold cell; decide +kernel

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips. -/
def inv_t9 (X6 : BufTy.Contents (Elt F) arg6.view.ty) (X9 : BufTy.Contents (Elt F) arg9.view.ty)
    (X14 : BufTy.Contents (Elt F) arg14.view.ty) (n : ℕ) (_ : Unit) : sProp 𝕄 :=
  iprop(held c arg6 X6 ∗ held c arg9 X9 ∗ held c arg14 X14 ∗ ∃ g, held c arg8 g ∗
    ⌜∀ r, r < n → ∀ i, i < 4 → rows (N := 1027) arg8.view g (cell (4 * r + i)) = fwdAt (rows (N := 1027) arg9.view X9) (rows (N := 713) arg14.view X14) (slotOf arg6 X6) r i⌝)

/-- One trip. -/
theorem trip_t9 (X6 : BufTy.Contents (Elt F) arg6.view.ty) (X9 : BufTy.Contents (Elt F) arg9.view.ty)
    (X14 : BufTy.Contents (Elt F) arg14.view.ty) (h6 : SlotsOK arg6 X6) (k : Fin k0_t9_loop.trips) (E : Set ℕ) (acc : Unit) :
    inv_t9 c arg6 arg8 arg9 arg14 X6 X9 X14 k.val acc ⊢
      wp frame (wpE (defs₀ (F := F)) 𝒱 (c : Thread nD τ) bd) E (k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k acc)
        (fun acc => inv_t9 c arg6 arg8 arg9 arg14 X6 X9 X14 (k.val + 1) acc) := by
  have hk : k.val < 256 := Nat.lt_of_lt_of_le k.isLt k0_t9_abs.2.1
  have hs := slot_lt arg6 X6 h6
  have k0_hw33 : k0_chk33 (arg6.view.readAt (Elt F) (Rect.unit (s := S4096) (k0_off87 k) S1.size (k0_off87_inb k)).toLoadRect X6 (Shape.Idx.first (numel1_S1.symm ▸ Nat.one_pos))) := chk33_of (hs _ _ _)
  have k0_hw34 : k0_chk34 (arg6.view.readAt (Elt F) (Rect.unit (s := S4096) (k0_off89 k) S1.size (k0_off89_inb k)).toLoadRect X6 (Shape.Idx.first (numel1_S1.symm ▸ Nat.one_pos))) := chk34_of (hs _ _ _)
  have k0_hw35 : k0_chk35 (arg6.view.readAt (Elt F) (Rect.unit (s := S4096) (k0_off91 k) S1.size (k0_off91_inb k)).toLoadRect X6 (Shape.Idx.first (numel1_S1.symm ▸ Nat.one_pos))) := chk35_of (hs _ _ _)
  have k0_hw36 : k0_chk36 (arg6.view.readAt (Elt F) (Rect.unit (s := S4096) (k0_off93 k) S1.size (k0_off93_inb k)).toLoadRect X6 (Shape.Idx.first (numel1_S1.symm ▸ Nat.one_pos))) := chk36_of (hs _ _ _)
  have k0_hw37 : k0_chk37 (arg6.view.readAt (Elt F) (Rect.unit (s := S4096) (k0_off96 k) S1.size (k0_off96_inb k)).toLoadRect X6 (Shape.Idx.first (numel1_S1.symm ▸ Nat.one_pos))) := chk37_of (hs _ _ _)
  have k0_hw38 : k0_chk38 (arg6.view.readAt (Elt F) (Rect.unit (s := S4096) (k0_off98 k) S1.size (k0_off98_inb k)).toLoadRect X6 (Shape.Idx.first (numel1_S1.symm ▸ Nat.one_pos))) := chk38_of (hs _ _ _)
  have k0_hw39 : k0_chk39 (arg6.view.readAt (Elt F) (Rect.unit (s := S4096) (k0_off100 k) S1.size (k0_off100_inb k)).toLoadRect X6 (Shape.Idx.first (numel1_S1.symm ▸ Nat.one_pos))) := chk39_of (hs _ _ _)
  have k0_hw40 : k0_chk40 (arg6.view.readAt (Elt F) (Rect.unit (s := S4096) (k0_off102 k) S1.size (k0_off102_inb k)).toLoadRect X6 (Shape.Idx.first (numel1_S1.symm ▸ Nat.one_pos))) := chk40_of (hs _ _ _)
  have k0_hw41 : k0_chk41 (arg6.view.readAt (Elt F) (Rect.unit (s := S4096) (k0_off105 k) S1.size (k0_off105_inb k)).toLoadRect X6 (Shape.Idx.first (numel1_S1.symm ▸ Nat.one_pos))) := chk41_of (hs _ _ _)
  have k0_hw42 : k0_chk42 (arg6.view.readAt (Elt F) (Rect.unit (s := S4096) (k0_off107 k) S1.size (k0_off107_inb k)).toLoadRect X6 (Shape.Idx.first (numel1_S1.symm ▸ Nat.one_pos))) := chk42_of (hs _ _ _)
  have k0_hw43 : k0_chk43 (arg6.view.readAt (Elt F) (Rect.unit (s := S4096) (k0_off109 k) S1.size (k0_off109_inb k)).toLoadRect X6 (Shape.Idx.first (numel1_S1.symm ▸ Nat.one_pos))) := chk43_of (hs _ _ _)
  have k0_hw44 : k0_chk44 (arg6.view.readAt (Elt F) (Rect.unit (s := S4096) (k0_off111 k) S1.size (k0_off111_inb k)).toLoadRect X6 (Shape.Idx.first (numel1_S1.symm ▸ Nat.one_pos))) := chk44_of (hs _ _ _)
  have k0_hw45 : k0_chk45 (arg6.view.readAt (Elt F) (Rect.unit (s := S4096) (k0_off114 k) S1.size (k0_off114_inb k)).toLoadRect X6 (Shape.Idx.first (numel1_S1.symm ▸ Nat.one_pos))) := chk45_of (hs _ _ _)
  have k0_hw46 : k0_chk46 (arg6.view.readAt (Elt F) (Rect.unit (s := S4096) (k0_off116 k) S1.size (k0_off116_inb k)).toLoadRect X6 (Shape.Idx.first (numel1_S1.symm ▸ Nat.one_pos))) := chk46_of (hs _ _ _)
  have k0_hw47 : k0_chk47 (arg6.view.readAt (Elt F) (Rect.unit (s := S4096) (k0_off118 k) S1.size (k0_off118_inb k)).toLoadRect X6 (Shape.Idx.first (numel1_S1.symm ▸ Nat.one_pos))) := chk47_of (hs _ _ _)
  have k0_hw48 : k0_chk48 (arg6.view.readAt (Elt F) (Rect.unit (s := S4096) (k0_off120 k) S1.size (k0_off120_inb k)).toLoadRect X6 (Shape.Idx.first (numel1_S1.symm ▸ Nat.one_pos))) := chk48_of (hs _ _ _)
  unfold k0_t9_body inv_t9
  iintro ⟨H6, HS, HT, %f, HD, %hf⟩
  sl_exec
  sl_step
  isplitl [H6]; · iexact H6
  isplitl [HS]; · iexact HS
  isplitl [HT]; · iexact HT
  iexists _; isplitl [HD]; · iexact HD
  ipureintro
  have eS := fun off inb => cast_load' (F := F) (N := 1027) arg9.view X9 (off := off) inb shapeCasts_S1x8x128_S8x128
  have eT := fun off inb => cast_load' (F := F) (N := 713) arg14.view X14 (off := off) inb shapeCasts_S1x8x128_S8x128
  have e6 := fun off inb y => word_load' (F := F) (N := 4096) arg6.view X6 (off := off) inb y
  obtain ⟨s0, s1, s2, s3, w0, w1, w2, w3, w4, w5, w6, w7, w8, w9, w10, w11, w12, w13, w14, w15, d0, d1, d2, d3⟩ := offs_t9 k
  sl_unfold_run_names
  intro r hr i hi
  simp only [k0_pay60, k0_pay61, k0_pay62, k0_pay63, k0_pay64, k0_pay65, k0_pay66, k0_pay67, k0_pay68, k0_pay69, k0_pay70, k0_pay71, k0_pay72, k0_pay73, k0_pay74, k0_pay75, k0_pay8, rows_writes_cons', rows_writes_nil, eS, eT, e6]
  have t0 : ∀ w, k0_off88 w 0 = BitVec.toNat w := fun w => rfl
  have t1 : ∀ w, k0_off90 w 0 = BitVec.toNat w := fun w => rfl
  have t2 : ∀ w, k0_off92 w 0 = BitVec.toNat w := fun w => rfl
  have t3 : ∀ w, k0_off94 w 0 = BitVec.toNat w := fun w => rfl
  have t4 : ∀ w, k0_off97 w 0 = BitVec.toNat w := fun w => rfl
  have t5 : ∀ w, k0_off99 w 0 = BitVec.toNat w := fun w => rfl
  have t6 : ∀ w, k0_off101 w 0 = BitVec.toNat w := fun w => rfl
  have t7 : ∀ w, k0_off103 w 0 = BitVec.toNat w := fun w => rfl
  have t8 : ∀ w, k0_off106 w 0 = BitVec.toNat w := fun w => rfl
  have t9 : ∀ w, k0_off108 w 0 = BitVec.toNat w := fun w => rfl
  have t10 : ∀ w, k0_off110 w 0 = BitVec.toNat w := fun w => rfl
  have t11 : ∀ w, k0_off112 w 0 = BitVec.toNat w := fun w => rfl
  have t12 : ∀ w, k0_off115 w 0 = BitVec.toNat w := fun w => rfl
  have t13 : ∀ w, k0_off117 w 0 = BitVec.toNat w := fun w => rfl
  have t14 : ∀ w, k0_off119 w 0 = BitVec.toNat w := fun w => rfl
  have t15 : ∀ w, k0_off121 w 0 = BitVec.toNat w := fun w => rfl
  simp only [s0, s1, s2, s3, w0, w1, w2, w3, w4, w5, w6, w7, w8, w9, w10, w11, w12, w13, w14, w15, d0, d1, d2, d3, t0, t1, t2, t3, t4, t5, t6, t7, t8, t9, t10, t11, t12, t13, t14, t15]
  by_cases hrk : r < k.val
  · rw [if_neg (by unfold cell; omega), if_neg (by unfold cell; omega), if_neg (by unfold cell; omega), if_neg (by unfold cell; omega)]
    exact hf r hrk i hi
  · obtain rfl : r = k.val := by omega
    match i, hi with
    | 0, _ => rw [if_neg (by unfold cell; omega), if_neg (by unfold cell; omega), if_neg (by unfold cell; omega), if_pos (by unfold cell; omega)]; rfl
    | 1, _ => rw [if_neg (by unfold cell; omega), if_neg (by unfold cell; omega), if_pos (by unfold cell; omega)]; rfl
    | 2, _ => rw [if_neg (by unfold cell; omega), if_pos (by unfold cell; omega)]; rfl
    | 3, _ => rw [if_pos (by unfold cell; omega)]; rfl

end

end Cert.Kernel.Run

end
-- ==== Proof.RunP.Backward.lean ====
/-
  One backward step of the trellis costs, as each of the kernel's two copies of it does it:
  a trip per remainder `r`, four stores each.
-/
module

public import proofs.«01_k».proof.Proof.RunP.Common

@[expose] public section

set_option maxRecDepth 8192
set_option maxHeartbeats 4000000

noncomputable section

namespace Cert.Kernel.Run

open Cert.Kernel Cert.Kernel.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

/-! ## The backward step of loop 7 -/

theorem chk17_of {w : BitVec 32} (h : w.toNat < 713) : k0_chk17 w := row_inb h
theorem chk18_of {w : BitVec 32} (h : w.toNat < 713) : k0_chk18 w := row_inb h
theorem chk19_of {w : BitVec 32} (h : w.toNat < 713) : k0_chk19 w := row_inb h
theorem chk20_of {w : BitVec 32} (h : w.toNat < 713) : k0_chk20 w := row_inb h
theorem chk21_of {w : BitVec 32} (h : w.toNat < 713) : k0_chk21 w := row_inb h
theorem chk22_of {w : BitVec 32} (h : w.toNat < 713) : k0_chk22 w := row_inb h
theorem chk23_of {w : BitVec 32} (h : w.toNat < 713) : k0_chk23 w := row_inb h
theorem chk24_of {w : BitVec 32} (h : w.toNat < 713) : k0_chk24 w := row_inb h
theorem chk25_of {w : BitVec 32} (h : w.toNat < 713) : k0_chk25 w := row_inb h
theorem chk26_of {w : BitVec 32} (h : w.toNat < 713) : k0_chk26 w := row_inb h
theorem chk27_of {w : BitVec 32} (h : w.toNat < 713) : k0_chk27 w := row_inb h
theorem chk28_of {w : BitVec 32} (h : w.toNat < 713) : k0_chk28 w := row_inb h
theorem chk29_of {w : BitVec 32} (h : w.toNat < 713) : k0_chk29 w := row_inb h
theorem chk30_of {w : BitVec 32} (h : w.toNat < 713) : k0_chk30 w := row_inb h
theorem chk31_of {w : BitVec 32} (h : w.toNat < 713) : k0_chk31 w := row_inb h
theorem chk32_of {w : BitVec 32} (h : w.toNat < 713) : k0_chk32 w := row_inb h

/-- The places that one trip reads and writes. -/
theorem offs_t7 : ∀ k : Fin k0_t7_loop.trips, k0_off46 k 0#32 0 = cell (4 * k.val + 0)
    ∧ k0_off46 k 1#32 0 = cell (4 * k.val + 1)
    ∧ k0_off46 k 2#32 0 = cell (4 * k.val + 2)
    ∧ k0_off46 k 3#32 0 = cell (4 * k.val + 3)
    ∧ k0_off47 k 0 = 0 + (4 * k.val + 0)
    ∧ k0_off49 k 0 = 0 + (4 * k.val + 1)
    ∧ k0_off51 k 0 = 0 + (4 * k.val + 2)
    ∧ k0_off53 k 0 = 0 + (4 * k.val + 3)
    ∧ k0_off56 k 0 = 1024 + (4 * k.val + 0)
    ∧ k0_off58 k 0 = 1024 + (4 * k.val + 1)
    ∧ k0_off60 k 0 = 1024 + (4 * k.val + 2)
    ∧ k0_off62 k 0 = 1024 + (4 * k.val + 3)
    ∧ k0_off65 k 0 = 2048 + (4 * k.val + 0)
    ∧ k0_off67 k 0 = 2048 + (4 * k.val + 1)
    ∧ k0_off69 k 0 = 2048 + (4 * k.val + 2)
    ∧ k0_off71 k 0 = 2048 + (4 * k.val + 3)
    ∧ k0_off74 k 0 = 3072 + (4 * k.val + 0)
    ∧ k0_off76 k 0 = 3072 + (4 * k.val + 1)
    ∧ k0_off78 k 0 = 3072 + (4 * k.val + 2)
    ∧ k0_off80 k 0 = 3072 + (4 * k.val + 3)
    ∧ k0_off55 k 0 = k.val + 0
    ∧ k0_off64 k 0 = k.val + 257
    ∧ k0_off73 k 0 = k.val + 514
    ∧ k0_off82 k 0 = k.val + 771 := by
  unfold cell; decide +kernel

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips. -/
def inv_t7 (X6 : BufTy.Contents (Elt F) arg6.view.ty) (X10 : BufTy.Contents (Elt F) arg10.view.ty)
    (X15 : BufTy.Contents (Elt F) arg15.view.ty) (n : ℕ) (_ : Unit) : sProp 𝕄 :=
  iprop(held c arg6 X6 ∗ held c arg10 X10 ∗ held c arg15 X15 ∗ ∃ g, held c arg11 g ∗
    ⌜∀ r, r < n → ∀ i, i < 4 → rows (N := 1027) arg11.view g (r + 257 * i) = bwdAt (rows (N := 1027) arg10.view X10) (rows (N := 713) arg15.view X15) (slotOf arg6 X6) r i⌝)

/-- One trip. -/
theorem trip_t7 (X6 : BufTy.Contents (Elt F) arg6.view.ty) (X10 : BufTy.Contents (Elt F) arg10.view.ty)
    (X15 : BufTy.Contents (Elt F) arg15.view.ty) (h6 : SlotsOK arg6 X6) (k0_t2 : Fin k0_t2_loop.trips) (arg16 : BitVec 32) (v23 : FVec F S8x128 .f32) (v26 : FVec F S8x128 .f32) (k0_t3 : Fin k0_t3_loop.trips) (k : Fin k0_t7_loop.trips) (E : Set ℕ) (acc : Unit) :
    inv_t7 c arg6 arg10 arg11 arg15 X6 X10 X15 k.val acc ⊢
      wp frame (wpE (defs₀ (F := F)) 𝒱 (c : Thread nD τ) bd) E (k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k0_t2 arg16 v23 v26 0#32 1#32 k0_t3 k acc)
        (fun acc => inv_t7 c arg6 arg10 arg11 arg15 X6 X10 X15 (k.val + 1) acc) := by
  have hk : k.val < 256 := Nat.lt_of_lt_of_le k.isLt k0_t7_abs.2.1
  have hs := slot_lt arg6 X6 h6
  have k0_hw17 : k0_chk17 (arg6.view.readAt (Elt F) (Rect.unit (s := S4096) (k0_off47 k) S1.size (k0_off47_inb k)).toLoadRect X6 (Shape.Idx.first (numel1_S1.symm ▸ Nat.one_pos))) := chk17_of (hs _ _ _)
  have k0_hw18 : k0_chk18 (arg6.view.readAt (Elt F) (Rect.unit (s := S4096) (k0_off49 k) S1.size (k0_off49_inb k)).toLoadRect X6 (Shape.Idx.first (numel1_S1.symm ▸ Nat.one_pos))) := chk18_of (hs _ _ _)
  have k0_hw19 : k0_chk19 (arg6.view.readAt (Elt F) (Rect.unit (s := S4096) (k0_off51 k) S1.size (k0_off51_inb k)).toLoadRect X6 (Shape.Idx.first (numel1_S1.symm ▸ Nat.one_pos))) := chk19_of (hs _ _ _)
  have k0_hw20 : k0_chk20 (arg6.view.readAt (Elt F) (Rect.unit (s := S4096) (k0_off53 k) S1.size (k0_off53_inb k)).toLoadRect X6 (Shape.Idx.first (numel1_S1.symm ▸ Nat.one_pos))) := chk20_of (hs _ _ _)
  have k0_hw21 : k0_chk21 (arg6.view.readAt (Elt F) (Rect.unit (s := S4096) (k0_off56 k) S1.size (k0_off56_inb k)).toLoadRect X6 (Shape.Idx.first (numel1_S1.symm ▸ Nat.one_pos))) := chk21_of (hs _ _ _)
  have k0_hw22 : k0_chk22 (arg6.view.readAt (Elt F) (Rect.unit (s := S4096) (k0_off58 k) S1.size (k0_off58_inb k)).toLoadRect X6 (Shape.Idx.first (numel1_S1.symm ▸ Nat.one_pos))) := chk22_of (hs _ _ _)
  have k0_hw23 : k0_chk23 (arg6.view.readAt (Elt F) (Rect.unit (s := S4096) (k0_off60 k) S1.size (k0_off60_inb k)).toLoadRect X6 (Shape.Idx.first (numel1_S1.symm ▸ Nat.one_pos))) := chk23_of (hs _ _ _)
  have k0_hw24 : k0_chk24 (arg6.view.readAt (Elt F) (Rect.unit (s := S4096) (k0_off62 k) S1.size (k0_off62_inb k)).toLoadRect X6 (Shape.Idx.first (numel1_S1.symm ▸ Nat.one_pos))) := chk24_of (hs _ _ _)
  have k0_hw25 : k0_chk25 (arg6.view.readAt (Elt F) (Rect.unit (s := S4096) (k0_off65 k) S1.size (k0_off65_inb k)).toLoadRect X6 (Shape.Idx.first (numel1_S1.symm ▸ Nat.one_pos))) := chk25_of (hs _ _ _)
  have k0_hw26 : k0_chk26 (arg6.view.readAt (Elt F) (Rect.unit (s := S4096) (k0_off67 k) S1.size (k0_off67_inb k)).toLoadRect X6 (Shape.Idx.first (numel1_S1.symm ▸ Nat.one_pos))) := chk26_of (hs _ _ _)
  have k0_hw27 : k0_chk27 (arg6.view.readAt (Elt F) (Rect.unit (s := S4096) (k0_off69 k) S1.size (k0_off69_inb k)).toLoadRect X6 (Shape.Idx.first (numel1_S1.symm ▸ Nat.one_pos))) := chk27_of (hs _ _ _)
  have k0_hw28 : k0_chk28 (arg6.view.readAt (Elt F) (Rect.unit (s := S4096) (k0_off71 k) S1.size (k0_off71_inb k)).toLoadRect X6 (Shape.Idx.first (numel1_S1.symm ▸ Nat.one_pos))) := chk28_of (hs _ _ _)
  have k0_hw29 : k0_chk29 (arg6.view.readAt (Elt F) (Rect.unit (s := S4096) (k0_off74 k) S1.size (k0_off74_inb k)).toLoadRect X6 (Shape.Idx.first (numel1_S1.symm ▸ Nat.one_pos))) := chk29_of (hs _ _ _)
  have k0_hw30 : k0_chk30 (arg6.view.readAt (Elt F) (Rect.unit (s := S4096) (k0_off76 k) S1.size (k0_off76_inb k)).toLoadRect X6 (Shape.Idx.first (numel1_S1.symm ▸ Nat.one_pos))) := chk30_of (hs _ _ _)
  have k0_hw31 : k0_chk31 (arg6.view.readAt (Elt F) (Rect.unit (s := S4096) (k0_off78 k) S1.size (k0_off78_inb k)).toLoadRect X6 (Shape.Idx.first (numel1_S1.symm ▸ Nat.one_pos))) := chk31_of (hs _ _ _)
  have k0_hw32 : k0_chk32 (arg6.view.readAt (Elt F) (Rect.unit (s := S4096) (k0_off80 k) S1.size (k0_off80_inb k)).toLoadRect X6 (Shape.Idx.first (numel1_S1.symm ▸ Nat.one_pos))) := chk32_of (hs _ _ _)
  unfold k0_t7_body inv_t7
  iintro ⟨H6, HS, HT, %f, HD, %hf⟩
  sl_exec
  sl_step
  isplitl [H6]; · iexact H6
  isplitl [HS]; · iexact HS
  isplitl [HT]; · iexact HT
  iexists _; isplitl [HD]; · iexact HD
  ipureintro
  have eS := fun off inb => cast_load' (F := F) (N := 1027) arg10.view X10 (off := off) inb shapeCasts_S1x8x128_S8x128
  have eT := fun off inb => cast_load' (F := F) (N := 713) arg15.view X15 (off := off) inb shapeCasts_S1x8x128_S8x128
  have e6 := fun off inb y => word_load' (F := F) (N := 4096) arg6.view X6 (off := off) inb y
  obtain ⟨s0, s1, s2, s3, w0, w1, w2, w3, w4, w5, w6, w7, w8, w9, w10, w11, w12, w13, w14, w15, d0, d1, d2, d3⟩ := offs_t7 k
  sl_unfold_run_names
  intro r hr i hi
  simp only [k0_pay44, k0_pay45, k0_pay46, k0_pay47, k0_pay48, k0_pay49, k0_pay50, k0_pay51, k0_pay52, k0_pay53, k0_pay54, k0_pay55, k0_pay56, k0_pay57, k0_pay58, k0_pay59, k0_pay95, rows_writes_cons', rows_writes_nil, eS, eT, e6]
  have t0 : ∀ w, k0_off48 w 0 = BitVec.toNat w := fun w => rfl
  have t1 : ∀ w, k0_off50 w 0 = BitVec.toNat w := fun w => rfl
  have t2 : ∀ w, k0_off52 w 0 = BitVec.toNat w := fun w => rfl
  have t3 : ∀ w, k0_off54 w 0 = BitVec.toNat w := fun w => rfl
  have t4 : ∀ w, k0_off57 w 0 = BitVec.toNat w := fun w => rfl
  have t5 : ∀ w, k0_off59 w 0 = BitVec.toNat w := fun w => rfl
  have t6 : ∀ w, k0_off61 w 0 = BitVec.toNat w := fun w => rfl
  have t7 : ∀ w, k0_off63 w 0 = BitVec.toNat w := fun w => rfl
  have t8 : ∀ w, k0_off66 w 0 = BitVec.toNat w := fun w => rfl
  have t9 : ∀ w, k0_off68 w 0 = BitVec.toNat w := fun w => rfl
  have t10 : ∀ w, k0_off70 w 0 = BitVec.toNat w := fun w => rfl
  have t11 : ∀ w, k0_off72 w 0 = BitVec.toNat w := fun w => rfl
  have t12 : ∀ w, k0_off75 w 0 = BitVec.toNat w := fun w => rfl
  have t13 : ∀ w, k0_off77 w 0 = BitVec.toNat w := fun w => rfl
  have t14 : ∀ w, k0_off79 w 0 = BitVec.toNat w := fun w => rfl
  have t15 : ∀ w, k0_off81 w 0 = BitVec.toNat w := fun w => rfl
  simp only [s0, s1, s2, s3, w0, w1, w2, w3, w4, w5, w6, w7, w8, w9, w10, w11, w12, w13, w14, w15, d0, d1, d2, d3, t0, t1, t2, t3, t4, t5, t6, t7, t8, t9, t10, t11, t12, t13, t14, t15]
  by_cases hrk : r < k.val
  · rw [if_neg (by omega), if_neg (by omega), if_neg (by omega), if_neg (by omega)]
    exact hf r hrk i hi
  · obtain rfl : r = k.val := by omega
    match i, hi with
    | 0, _ => rw [if_neg (by omega), if_neg (by omega), if_neg (by omega), if_pos (by omega)]; rfl
    | 1, _ => rw [if_neg (by omega), if_neg (by omega), if_pos (by omega)]; rfl
    | 2, _ => rw [if_neg (by omega), if_pos (by omega)]; rfl
    | 3, _ => rw [if_pos (by omega)]; rfl

end

section

/-! ## The backward step of loop 11 -/

theorem chk49_of {w : BitVec 32} (h : w.toNat < 713) : k0_chk49 w := row_inb h
theorem chk50_of {w : BitVec 32} (h : w.toNat < 713) : k0_chk50 w := row_inb h
theorem chk51_of {w : BitVec 32} (h : w.toNat < 713) : k0_chk51 w := row_inb h
theorem chk52_of {w : BitVec 32} (h : w.toNat < 713) : k0_chk52 w := row_inb h
theorem chk53_of {w : BitVec 32} (h : w.toNat < 713) : k0_chk53 w := row_inb h
theorem chk54_of {w : BitVec 32} (h : w.toNat < 713) : k0_chk54 w := row_inb h
theorem chk55_of {w : BitVec 32} (h : w.toNat < 713) : k0_chk55 w := row_inb h
theorem chk56_of {w : BitVec 32} (h : w.toNat < 713) : k0_chk56 w := row_inb h
theorem chk57_of {w : BitVec 32} (h : w.toNat < 713) : k0_chk57 w := row_inb h
theorem chk58_of {w : BitVec 32} (h : w.toNat < 713) : k0_chk58 w := row_inb h
theorem chk59_of {w : BitVec 32} (h : w.toNat < 713) : k0_chk59 w := row_inb h
theorem chk60_of {w : BitVec 32} (h : w.toNat < 713) : k0_chk60 w := row_inb h
theorem chk61_of {w : BitVec 32} (h : w.toNat < 713) : k0_chk61 w := row_inb h
theorem chk62_of {w : BitVec 32} (h : w.toNat < 713) : k0_chk62 w := row_inb h
theorem chk63_of {w : BitVec 32} (h : w.toNat < 713) : k0_chk63 w := row_inb h
theorem chk64_of {w : BitVec 32} (h : w.toNat < 713) : k0_chk64 w := row_inb h

/-- The places that one trip reads and writes. -/
theorem offs_t11 : ∀ k : Fin k0_t11_loop.trips, k0_off125 k 0#32 0 = cell (4 * k.val + 0)
    ∧ k0_off125 k 1#32 0 = cell (4 * k.val + 1)
    ∧ k0_off125 k 2#32 0 = cell (4 * k.val + 2)
    ∧ k0_off125 k 3#32 0 = cell (4 * k.val + 3)
    ∧ k0_off126 k 0 = 0 + (4 * k.val + 0)
    ∧ k0_off128 k 0 = 0 + (4 * k.val + 1)
    ∧ k0_off130 k 0 = 0 + (4 * k.val + 2)
    ∧ k0_off132 k 0 = 0 + (4 * k.val + 3)
    ∧ k0_off135 k 0 = 1024 + (4 * k.val + 0)
    ∧ k0_off137 k 0 = 1024 + (4 * k.val + 1)
    ∧ k0_off139 k 0 = 1024 + (4 * k.val + 2)
    ∧ k0_off141 k 0 = 1024 + (4 * k.val + 3)
    ∧ k0_off144 k 0 = 2048 + (4 * k.val + 0)
    ∧ k0_off146 k 0 = 2048 + (4 * k.val + 1)
    ∧ k0_off148 k 0 = 2048 + (4 * k.val + 2)
    ∧ k0_off150 k 0 = 2048 + (4 * k.val + 3)
    ∧ k0_off153 k 0 = 3072 + (4 * k.val + 0)
    ∧ k0_off155 k 0 = 3072 + (4 * k.val + 1)
    ∧ k0_off157 k 0 = 3072 + (4 * k.val + 2)
    ∧ k0_off159 k 0 = 3072 + (4 * k.val + 3)
    ∧ k0_off134 k 0 = k.val + 0
    ∧ k0_off143 k 0 = k.val + 257
    ∧ k0_off152 k 0 = k.val + 514
    ∧ k0_off161 k 0 = k.val + 771 := by
  unfold cell; decide +kernel

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips. -/
def inv_t11 (X6 : BufTy.Contents (Elt F) arg6.view.ty) (X11 : BufTy.Contents (Elt F) arg11.view.ty)
    (X15 : BufTy.Contents (Elt F) arg15.view.ty) (n : ℕ) (_ : Unit) : sProp 𝕄 :=
  iprop(held c arg6 X6 ∗ held c arg11 X11 ∗ held c arg15 X15 ∗ ∃ g, held c arg10 g ∗
    ⌜∀ r, r < n → ∀ i, i < 4 → rows (N := 1027) arg10.view g (r + 257 * i) = bwdAt (rows (N := 1027) arg11.view X11) (rows (N := 713) arg15.view X15) (slotOf arg6 X6) r i⌝)

/-- One trip. -/
theorem trip_t11 (X6 : BufTy.Contents (Elt F) arg6.view.ty) (X11 : BufTy.Contents (Elt F) arg11.view.ty)
    (X15 : BufTy.Contents (Elt F) arg15.view.ty) (h6 : SlotsOK arg6 X6) (k : Fin k0_t11_loop.trips) (E : Set ℕ) (acc : Unit) :
    inv_t11 c arg6 arg10 arg11 arg15 X6 X11 X15 k.val acc ⊢
      wp frame (wpE (defs₀ (F := F)) 𝒱 (c : Thread nD τ) bd) E (k0_t11_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k acc)
        (fun acc => inv_t11 c arg6 arg10 arg11 arg15 X6 X11 X15 (k.val + 1) acc) := by
  have hk : k.val < 256 := Nat.lt_of_lt_of_le k.isLt k0_t11_abs.2.1
  have hs := slot_lt arg6 X6 h6
  have k0_hw49 : k0_chk49 (arg6.view.readAt (Elt F) (Rect.unit (s := S4096) (k0_off126 k) S1.size (k0_off126_inb k)).toLoadRect X6 (Shape.Idx.first (numel1_S1.symm ▸ Nat.one_pos))) := chk49_of (hs _ _ _)
  have k0_hw50 : k0_chk50 (arg6.view.readAt (Elt F) (Rect.unit (s := S4096) (k0_off128 k) S1.size (k0_off128_inb k)).toLoadRect X6 (Shape.Idx.first (numel1_S1.symm ▸ Nat.one_pos))) := chk50_of (hs _ _ _)
  have k0_hw51 : k0_chk51 (arg6.view.readAt (Elt F) (Rect.unit (s := S4096) (k0_off130 k) S1.size (k0_off130_inb k)).toLoadRect X6 (Shape.Idx.first (numel1_S1.symm ▸ Nat.one_pos))) := chk51_of (hs _ _ _)
  have k0_hw52 : k0_chk52 (arg6.view.readAt (Elt F) (Rect.unit (s := S4096) (k0_off132 k) S1.size (k0_off132_inb k)).toLoadRect X6 (Shape.Idx.first (numel1_S1.symm ▸ Nat.one_pos))) := chk52_of (hs _ _ _)
  have k0_hw53 : k0_chk53 (arg6.view.readAt (Elt F) (Rect.unit (s := S4096) (k0_off135 k) S1.size (k0_off135_inb k)).toLoadRect X6 (Shape.Idx.first (numel1_S1.symm ▸ Nat.one_pos))) := chk53_of (hs _ _ _)
  have k0_hw54 : k0_chk54 (arg6.view.readAt (Elt F) (Rect.unit (s := S4096) (k0_off137 k) S1.size (k0_off137_inb k)).toLoadRect X6 (Shape.Idx.first (numel1_S1.symm ▸ Nat.one_pos))) := chk54_of (hs _ _ _)
  have k0_hw55 : k0_chk55 (arg6.view.readAt (Elt F) (Rect.unit (s := S4096) (k0_off139 k) S1.size (k0_off139_inb k)).toLoadRect X6 (Shape.Idx.first (numel1_S1.symm ▸ Nat.one_pos))) := chk55_of (hs _ _ _)
  have k0_hw56 : k0_chk56 (arg6.view.readAt (Elt F) (Rect.unit (s := S4096) (k0_off141 k) S1.size (k0_off141_inb k)).toLoadRect X6 (Shape.Idx.first (numel1_S1.symm ▸ Nat.one_pos))) := chk56_of (hs _ _ _)
  have k0_hw57 : k0_chk57 (arg6.view.readAt (Elt F) (Rect.unit (s := S4096) (k0_off144 k) S1.size (k0_off144_inb k)).toLoadRect X6 (Shape.Idx.first (numel1_S1.symm ▸ Nat.one_pos))) := chk57_of (hs _ _ _)
  have k0_hw58 : k0_chk58 (arg6.view.readAt (Elt F) (Rect.unit (s := S4096) (k0_off146 k) S1.size (k0_off146_inb k)).toLoadRect X6 (Shape.Idx.first (numel1_S1.symm ▸ Nat.one_pos))) := chk58_of (hs _ _ _)
  have k0_hw59 : k0_chk59 (arg6.view.readAt (Elt F) (Rect.unit (s := S4096) (k0_off148 k) S1.size (k0_off148_inb k)).toLoadRect X6 (Shape.Idx.first (numel1_S1.symm ▸ Nat.one_pos))) := chk59_of (hs _ _ _)
  have k0_hw60 : k0_chk60 (arg6.view.readAt (Elt F) (Rect.unit (s := S4096) (k0_off150 k) S1.size (k0_off150_inb k)).toLoadRect X6 (Shape.Idx.first (numel1_S1.symm ▸ Nat.one_pos))) := chk60_of (hs _ _ _)
  have k0_hw61 : k0_chk61 (arg6.view.readAt (Elt F) (Rect.unit (s := S4096) (k0_off153 k) S1.size (k0_off153_inb k)).toLoadRect X6 (Shape.Idx.first (numel1_S1.symm ▸ Nat.one_pos))) := chk61_of (hs _ _ _)
  have k0_hw62 : k0_chk62 (arg6.view.readAt (Elt F) (Rect.unit (s := S4096) (k0_off155 k) S1.size (k0_off155_inb k)).toLoadRect X6 (Shape.Idx.first (numel1_S1.symm ▸ Nat.one_pos))) := chk62_of (hs _ _ _)
  have k0_hw63 : k0_chk63 (arg6.view.readAt (Elt F) (Rect.unit (s := S4096) (k0_off157 k) S1.size (k0_off157_inb k)).toLoadRect X6 (Shape.Idx.first (numel1_S1.symm ▸ Nat.one_pos))) := chk63_of (hs _ _ _)
  have k0_hw64 : k0_chk64 (arg6.view.readAt (Elt F) (Rect.unit (s := S4096) (k0_off159 k) S1.size (k0_off159_inb k)).toLoadRect X6 (Shape.Idx.first (numel1_S1.symm ▸ Nat.one_pos))) := chk64_of (hs _ _ _)
  unfold k0_t11_body inv_t11
  iintro ⟨H6, HS, HT, %f, HD, %hf⟩
  sl_exec
  sl_step
  isplitl [H6]; · iexact H6
  isplitl [HS]; · iexact HS
  isplitl [HT]; · iexact HT
  iexists _; isplitl [HD]; · iexact HD
  ipureintro
  have eS := fun off inb => cast_load' (F := F) (N := 1027) arg11.view X11 (off := off) inb shapeCasts_S1x8x128_S8x128
  have eT := fun off inb => cast_load' (F := F) (N := 713) arg15.view X15 (off := off) inb shapeCasts_S1x8x128_S8x128
  have e6 := fun off inb y => word_load' (F := F) (N := 4096) arg6.view X6 (off := off) inb y
  obtain ⟨s0, s1, s2, s3, w0, w1, w2, w3, w4, w5, w6, w7, w8, w9, w10, w11, w12, w13, w14, w15, d0, d1, d2, d3⟩ := offs_t11 k
  sl_unfold_run_names
  intro r hr i hi
  simp only [k0_pay76, k0_pay77, k0_pay78, k0_pay79, k0_pay80, k0_pay81, k0_pay82, k0_pay83, k0_pay84, k0_pay85, k0_pay86, k0_pay87, k0_pay88, k0_pay89, k0_pay90, k0_pay91, k0_pay10, rows_writes_cons', rows_writes_nil, eS, eT, e6]
  have t0 : ∀ w, k0_off127 w 0 = BitVec.toNat w := fun w => rfl
  have t1 : ∀ w, k0_off129 w 0 = BitVec.toNat w := fun w => rfl
  have t2 : ∀ w, k0_off131 w 0 = BitVec.toNat w := fun w => rfl
  have t3 : ∀ w, k0_off133 w 0 = BitVec.toNat w := fun w => rfl
  have t4 : ∀ w, k0_off136 w 0 = BitVec.toNat w := fun w => rfl
  have t5 : ∀ w, k0_off138 w 0 = BitVec.toNat w := fun w => rfl
  have t6 : ∀ w, k0_off140 w 0 = BitVec.toNat w := fun w => rfl
  have t7 : ∀ w, k0_off142 w 0 = BitVec.toNat w := fun w => rfl
  have t8 : ∀ w, k0_off145 w 0 = BitVec.toNat w := fun w => rfl
  have t9 : ∀ w, k0_off147 w 0 = BitVec.toNat w := fun w => rfl
  have t10 : ∀ w, k0_off149 w 0 = BitVec.toNat w := fun w => rfl
  have t11 : ∀ w, k0_off151 w 0 = BitVec.toNat w := fun w => rfl
  have t12 : ∀ w, k0_off154 w 0 = BitVec.toNat w := fun w => rfl
  have t13 : ∀ w, k0_off156 w 0 = BitVec.toNat w := fun w => rfl
  have t14 : ∀ w, k0_off158 w 0 = BitVec.toNat w := fun w => rfl
  have t15 : ∀ w, k0_off160 w 0 = BitVec.toNat w := fun w => rfl
  simp only [s0, s1, s2, s3, w0, w1, w2, w3, w4, w5, w6, w7, w8, w9, w10, w11, w12, w13, w14, w15, d0, d1, d2, d3, t0, t1, t2, t3, t4, t5, t6, t7, t8, t9, t10, t11, t12, t13, t14, t15]
  by_cases hrk : r < k.val
  · rw [if_neg (by omega), if_neg (by omega), if_neg (by omega), if_neg (by omega)]
    exact hf r hrk i hi
  · obtain rfl : r = k.val := by omega
    match i, hi with
    | 0, _ => rw [if_neg (by omega), if_neg (by omega), if_neg (by omega), if_pos (by omega)]; rfl
    | 1, _ => rw [if_neg (by omega), if_neg (by omega), if_pos (by omega)]; rfl
    | 2, _ => rw [if_neg (by omega), if_pos (by omega)]; rfl
    | 3, _ => rw [if_pos (by omega)]; rfl

end

end Cert.Kernel.Run

end
-- ==== Proof.RunP.Fill.lean ====
/-
  The two tables of weighted squared distances, filled anew for each position: a trip per number of the codebook.
-/
module

public import proofs.«01_k».proof.Proof.RunP.Common
public import proofs.«01_k».proof.Proof.Run.Steps

@[expose] public section

set_option maxRecDepth 8192
set_option maxHeartbeats 4000000

noncomputable section

namespace Cert.Kernel.Run

open Cert.Kernel Cert.Kernel.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

/-! ## The table that loop 4 fills -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips. -/
def inv_t4 (X5 : BufTy.Contents (Elt F) arg5.view.ty) (tg hh : Blk F) (n : ℕ) (_ : Unit) : sProp 𝕄 :=
  iprop(held c arg5 X5 ∗ ∃ g, held c arg14 g ∗ ⌜∀ i, i < n → rows (N := 713) arg14.view g i = errB tg hh (nums (N := 713) arg5.view X5 i)⌝)

/-- One trip. -/
theorem trip_t4 (X5 : BufTy.Contents (Elt F) arg5.view.ty) (k0_t2 : Fin k0_t2_loop.trips) (arg16 : BitVec 32) (v23 : FVec F S8x128 .f32) (v26 : FVec F S8x128 .f32) (k0_t3 : Fin k0_t3_loop.trips) (vc : Vec F S1x8x128 .i8) (vh : Vec F S1x8x128 .f32) (k : Fin k0_t4_loop.trips) (E : Set ℕ) (acc : Unit) :
    inv_t4 c arg5 arg14 X5 (mulf (sitofp .f32 (shapeCast S8x128 vc shapeCasts_S1x8x128_S8x128)) v23) (shapeCast S8x128 vh shapeCasts_S1x8x128_S8x128) k.val acc ⊢
      wp frame (wpE (defs₀ (F := F)) 𝒱 (c : Thread nD τ) bd) E (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k0_t2 arg16 v23 v26 0#32 1#32 k0_t3 vc vh k acc)
        (fun acc => inv_t4 c arg5 arg14 X5 (mulf (sitofp .f32 (shapeCast S8x128 vc shapeCasts_S1x8x128_S8x128)) v23) (shapeCast S8x128 vh shapeCasts_S1x8x128_S8x128) (k.val + 1) acc) := by
  unfold k0_t4_body inv_t4
  iintro ⟨H5, %f, HD, %hf⟩
  sl_exec
  sl_step
  isplitl [H5]; · iexact H5
  iexists _; isplitl [HD]; · iexact HD
  ipureintro
  have e5 := fun off inb y => num_load' (F := F) (N := 713) arg5.view X5 (off := off) inb y
  have s0 : k0_off5 k 0 = k.val := by rw [k0_off5_eq]; rfl
  have d0 : k0_off6 k 0 = k.val := by rw [k0_off6_eq]; rfl
  sl_unfold_run_names
  intro i hi
  simp only [k0_pay92, rows_writes_cons', rows_writes_nil, e5, s0, d0]
  by_cases hik : i < k.val
  · rw [if_neg (by omega)]
    exact hf i hik
  · obtain rfl : i = k.val := by omega
    rw [if_pos rfl]; rfl

end

section

/-! ## The table that loop 6 fills -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips. -/
def inv_t6 (X5 : BufTy.Contents (Elt F) arg5.view.ty) (tg hh : Blk F) (n : ℕ) (_ : Unit) : sProp 𝕄 :=
  iprop(held c arg5 X5 ∗ ∃ g, held c arg15 g ∗ ⌜∀ i, i < n → rows (N := 713) arg15.view g i = errB tg hh (nums (N := 713) arg5.view X5 i)⌝)

/-- One trip. -/
theorem trip_t6 (X5 : BufTy.Contents (Elt F) arg5.view.ty) (k0_t2 : Fin k0_t2_loop.trips) (arg16 : BitVec 32) (v23 : FVec F S8x128 .f32) (v26 : FVec F S8x128 .f32) (k0_t3 : Fin k0_t3_loop.trips) (vc : Vec F S1x8x128 .i8) (vh : Vec F S1x8x128 .f32) (k : Fin k0_t6_loop.trips) (E : Set ℕ) (acc : Unit) :
    inv_t6 c arg5 arg15 X5 (mulf (sitofp .f32 (shapeCast S8x128 vc shapeCasts_S1x8x128_S8x128)) v26) (shapeCast S8x128 vh shapeCasts_S1x8x128_S8x128) k.val acc ⊢
      wp frame (wpE (defs₀ (F := F)) 𝒱 (c : Thread nD τ) bd) E (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k0_t2 arg16 v23 v26 0#32 1#32 k0_t3 vc vh k acc)
        (fun acc => inv_t6 c arg5 arg15 X5 (mulf (sitofp .f32 (shapeCast S8x128 vc shapeCasts_S1x8x128_S8x128)) v26) (shapeCast S8x128 vh shapeCasts_S1x8x128_S8x128) (k.val + 1) acc) := by
  unfold k0_t6_body inv_t6
  iintro ⟨H5, %f, HD, %hf⟩
  sl_exec
  sl_step
  isplitl [H5]; · iexact H5
  iexists _; isplitl [HD]; · iexact HD
  ipureintro
  have e5 := fun off inb y => num_load' (F := F) (N := 713) arg5.view X5 (off := off) inb y
  have s0 : k0_off44 k 0 = k.val := by rw [k0_off44_eq]; rfl
  have d0 : k0_off45 k 0 = k.val := by rw [k0_off45_eq]; rfl
  sl_unfold_run_names
  intro i hi
  simp only [k0_pay94, rows_writes_cons', rows_writes_nil, e5, s0, d0]
  by_cases hik : i < k.val
  · rw [if_neg (by omega)]
    exact hf i hik
  · obtain rfl : i = k.val := by omega
    rw [if_pos rfl]; rfl

end

section

/-! ## The table that loop 8 fills -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips. -/
def inv_t8 (X5 : BufTy.Contents (Elt F) arg5.view.ty) (tg hh : Blk F) (n : ℕ) (_ : Unit) : sProp 𝕄 :=
  iprop(held c arg5 X5 ∗ ∃ g, held c arg14 g ∗ ⌜∀ i, i < n → rows (N := 713) arg14.view g i = errB tg hh (nums (N := 713) arg5.view X5 i)⌝)

/-- One trip. -/
theorem trip_t8 (X5 : BufTy.Contents (Elt F) arg5.view.ty) (v22 : Vec F S1x1x8x128 .f32) (vc : Vec F S1x8x128 .i8) (vh : Vec F S1x8x128 .f32) (k : Fin k0_t8_loop.trips) (E : Set ℕ) (acc : Unit) :
    inv_t8 c arg5 arg14 X5 (mulf (sitofp .f32 (shapeCast S8x128 vc shapeCasts_S1x8x128_S8x128)) (k0_pay5 v22)) (shapeCast S8x128 vh shapeCasts_S1x8x128_S8x128) k.val acc ⊢
      wp frame (wpE (defs₀ (F := F)) 𝒱 (c : Thread nD τ) bd) E (k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v22 vc vh k acc)
        (fun acc => inv_t8 c arg5 arg14 X5 (mulf (sitofp .f32 (shapeCast S8x128 vc shapeCasts_S1x8x128_S8x128)) (k0_pay5 v22)) (shapeCast S8x128 vh shapeCasts_S1x8x128_S8x128) (k.val + 1) acc) := by
  unfold k0_t8_body inv_t8
  iintro ⟨H5, %f, HD, %hf⟩
  sl_exec
  sl_step
  isplitl [H5]; · iexact H5
  iexists _; isplitl [HD]; · iexact HD
  ipureintro
  have e5 := fun off inb y => num_load' (F := F) (N := 713) arg5.view X5 (off := off) inb y
  have s0 : k0_off84 k 0 = k.val := by rw [k0_off84_eq]; rfl
  have d0 : k0_off85 k 0 = k.val := by rw [k0_off85_eq]; rfl
  sl_unfold_run_names
  intro i hi
  simp only [k0_pay7, rows_writes_cons', rows_writes_nil, e5, s0, d0]
  by_cases hik : i < k.val
  · rw [if_neg (by omega)]
    exact hf i hik
  · obtain rfl : i = k.val := by omega
    rw [if_pos rfl]; rfl

end

section

/-! ## The table that loop 10 fills -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips. -/
def inv_t10 (X5 : BufTy.Contents (Elt F) arg5.view.ty) (tg hh : Blk F) (n : ℕ) (_ : Unit) : sProp 𝕄 :=
  iprop(held c arg5 X5 ∗ ∃ g, held c arg15 g ∗ ⌜∀ i, i < n → rows (N := 713) arg15.view g i = errB tg hh (nums (N := 713) arg5.view X5 i)⌝)

/-- One trip. -/
theorem trip_t10 (X5 : BufTy.Contents (Elt F) arg5.view.ty) (v22 : Vec F S1x1x8x128 .f32) (vc : Vec F S1x8x128 .i8) (vh : Vec F S1x8x128 .f32) (k : Fin k0_t10_loop.trips) (E : Set ℕ) (acc : Unit) :
    inv_t10 c arg5 arg15 X5 (mulf (sitofp .f32 (shapeCast S8x128 vc shapeCasts_S1x8x128_S8x128)) (k0_pay6 v22)) (shapeCast S8x128 vh shapeCasts_S1x8x128_S8x128) k.val acc ⊢
      wp frame (wpE (defs₀ (F := F)) 𝒱 (c : Thread nD τ) bd) E (k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v22 vc vh k acc)
        (fun acc => inv_t10 c arg5 arg15 X5 (mulf (sitofp .f32 (shapeCast S8x128 vc shapeCasts_S1x8x128_S8x128)) (k0_pay6 v22)) (shapeCast S8x128 vh shapeCasts_S1x8x128_S8x128) (k.val + 1) acc) := by
  unfold k0_t10_body inv_t10
  iintro ⟨H5, %f, HD, %hf⟩
  sl_exec
  sl_step
  isplitl [H5]; · iexact H5
  iexists _; isplitl [HD]; · iexact HD
  ipureintro
  have e5 := fun off inb y => num_load' (F := F) (N := 713) arg5.view X5 (off := off) inb y
  have s0 : k0_off123 k 0 = k.val := by rw [k0_off123_eq]; rfl
  have d0 : k0_off124 k 0 = k.val := by rw [k0_off124_eq]; rfl
  sl_unfold_run_names
  intro i hi
  simp only [k0_pay9, rows_writes_cons', rows_writes_nil, e5, s0, d0]
  by_cases hik : i < k.val
  · rw [if_neg (by omega)]
    exact hf i hik
  · obtain rfl : i = k.val := by omega
    rw [if_pos rfl]; rfl

end

end Cert.Kernel.Run

end
-- ==== Proof.RunP.Segment.lean ====
/-
  Two positions of the forward and of the backward recursion: what one trip of the position loop does.
-/
module

public import proofs.«01_k».proof.Proof.RunP.Forward
public import proofs.«01_k».proof.Proof.RunP.Backward
public import proofs.«01_k».proof.Proof.RunP.Fill

@[expose] public section

set_option maxRecDepth 8192
set_option maxHeartbeats 4000000

noncomputable section

namespace Cert.Kernel.Run

open Cert.Kernel Cert.Kernel.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The weighted squared distance at position `p` and state `s`, as the buffers spell it: the target is the code times the
scale, the number that of the state's slot in the codebook. -/
def errAt (a0 : Memref sig .tc .vmem S192x8x128 .i8) (X0 : BufTy.Contents (Elt F) a0.view.ty)
    (a1 : Memref sig .tc .vmem S192x8x128 .f32) (X1 : BufTy.Contents (Elt F) a1.view.ty) (a5 : Memref sig .tc .smem S713 .f32) (X5 : BufTy.Contents (Elt F) a5.view.ty)
    (w : ℕ → ℕ) (sc : Blk F) (p s : ℕ) : Blk F :=
  errB (mulf (sitofp .f32 (brows (N := 192) a0.view X0 p)) sc) (rows (N := 192) a1.view X1 p) (nums (N := 713) a5.view X5 (w s))

section

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- The buffer of costs holds the costs `μ`. -/
def costs (c : Dev nD) (a : Memref sig .tc .vmem S1027x8x128 .f32) (μ : ℕ → Blk F) : sProp 𝕄 :=
  iprop(∃ f, held c a f ∗ ⌜Holds a.view f μ⌝)

/-- The buffer holds something. -/
def any (c : Dev nD) {s : Shape} (a : Memref sig .tc .vmem s .f32) : sProp 𝕄 := iprop(∃ f, held c a f)

variable (X0 : BufTy.Contents (Elt F) arg0.view.ty) (X1 : BufTy.Contents (Elt F) arg1.view.ty) (X2 : BufTy.Contents (Elt F) arg2.view.ty)
  (X3 : BufTy.Contents (Elt F) arg3.view.ty) (X5 : BufTy.Contents (Elt F) arg5.view.ty) (X6 : BufTy.Contents (Elt F) arg6.view.ty)

/-- What the position loop of a segment that begins at position `b` has done after `n` trips, from the costs `μ` and `ν`. -/
def inv_t3 (b : ℕ) (sf sb : Blk F) (μ ν : ℕ → Blk F) (n : ℕ) (_ : Unit) : sProp 𝕄 :=
  iprop(held c arg0 X0 ∗ held c arg1 X1 ∗ held c arg2 X2 ∗ held c arg3 X3 ∗ held c arg5 X5 ∗ held c arg6 X6 ∗
    costs c arg8 (iter fwdStep (fun p => errAt arg0 X0 arg1 X1 arg5 X5 (slotOf arg6 X6) sf (b + p)) μ (2 * n)) ∗
    costs c arg10 (iter bwdStep (fun p => errAt arg2 X2 arg3 X3 arg5 X5 (slotOf arg6 X6) sb (b + p)) ν (2 * n)) ∗
    any c arg9 ∗ any c arg11 ∗ any c arg14 ∗ any c arg15)

/-- One trip of the position loop. -/
theorem trip_t3 (h6 : SlotsOK arg6 X6) (μ ν : ℕ → Blk F) (k0_t2 : Fin k0_t2_loop.trips) (arg16 : BitVec 32) (v22 v25 : Vec F S1x1x8x128 .f32)
    (k : Fin k0_t3_loop.trips) (E : Set ℕ) (acc : Unit) :
    inv_t3 c arg0 arg1 arg2 arg3 arg5 arg6 arg8 arg9 arg10 arg11 arg14 arg15 X0 X1 X2 X3 X5 X6 (64 * k0_t2.val) (k0_pay5 v22) (k0_pay6 v25) μ ν k.val acc ⊢
      wp frame (wpE (defs₀ (F := F)) 𝒱 (c : Thread nD τ) bd) E (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k0_t2 arg16 v22 v25 k acc)
        (fun acc => inv_t3 c arg0 arg1 arg2 arg3 arg5 arg6 arg8 arg9 arg10 arg11 arg14 arg15 X0 X1 X2 X3 X5 X6 (64 * k0_t2.val) (k0_pay5 v22) (k0_pay6 v25) μ ν (k.val + 1) acc) := by
  unfold k0_t3_body inv_t3 costs any
  iintro ⟨H0, H1, H2, H3, H5, H6, ⟨%f8, H8, %h8⟩, ⟨%f10, H10, %h10⟩, ⟨%f9, H9⟩, ⟨%f11, H11⟩, ⟨%f14, H14⟩, %f15, H15⟩
  sl_exec
  have e0_4 : shapeCast S8x128 (arg0.view.readAt (Elt F) (Rect.unit (s := S192x8x128) (k0_off4 k0_t2 k) S1x8x128.size (k0_off4_inb k0_t2 k)).toLoadRect X0) shapeCasts_S1x8x128_S8x128 = brows (N := 192) arg0.view X0 (64 * k0_t2.val + 2 * k.val) :=
    (bcast_load (N := 192) arg0.view X0 (k0_off4_inb k0_t2 k) shapeCasts_S1x8x128_S8x128).trans (congrArg _ ((congrFun (k0_off4_eq k0_t2 k) 0).trans (by simp only [Matrix.cons_val_zero] <;> omega)))
  have e1_4 : shapeCast S8x128 (arg1.view.readAt (Elt F) (Rect.unit (s := S192x8x128) (k0_off4 k0_t2 k) S1x8x128.size (k0_off4_inb k0_t2 k)).toLoadRect X1) shapeCasts_S1x8x128_S8x128 = rows (N := 192) arg1.view X1 (64 * k0_t2.val + 2 * k.val) :=
    (cast_load' (N := 192) arg1.view X1 (off := k0_off4 k0_t2 k) (k0_off4_inb k0_t2 k) shapeCasts_S1x8x128_S8x128).trans (congrArg _ ((congrFun (k0_off4_eq k0_t2 k) 0).trans (by simp only [Matrix.cons_val_zero] <;> omega)))
  have e2_4 : shapeCast S8x128 (arg2.view.readAt (Elt F) (Rect.unit (s := S192x8x128) (k0_off4 k0_t2 k) S1x8x128.size (k0_off4_inb k0_t2 k)).toLoadRect X2) shapeCasts_S1x8x128_S8x128 = brows (N := 192) arg2.view X2 (64 * k0_t2.val + 2 * k.val) :=
    (bcast_load (N := 192) arg2.view X2 (k0_off4_inb k0_t2 k) shapeCasts_S1x8x128_S8x128).trans (congrArg _ ((congrFun (k0_off4_eq k0_t2 k) 0).trans (by simp only [Matrix.cons_val_zero] <;> omega)))
  have e3_4 : shapeCast S8x128 (arg3.view.readAt (Elt F) (Rect.unit (s := S192x8x128) (k0_off4 k0_t2 k) S1x8x128.size (k0_off4_inb k0_t2 k)).toLoadRect X3) shapeCasts_S1x8x128_S8x128 = rows (N := 192) arg3.view X3 (64 * k0_t2.val + 2 * k.val) :=
    (cast_load' (N := 192) arg3.view X3 (off := k0_off4 k0_t2 k) (k0_off4_inb k0_t2 k) shapeCasts_S1x8x128_S8x128).trans (congrArg _ ((congrFun (k0_off4_eq k0_t2 k) 0).trans (by simp only [Matrix.cons_val_zero] <;> omega)))
  have e0_83 : shapeCast S8x128 (arg0.view.readAt (Elt F) (Rect.unit (s := S192x8x128) (k0_off83 k0_t2 k) S1x8x128.size (k0_off83_inb k0_t2 k)).toLoadRect X0) shapeCasts_S1x8x128_S8x128 = brows (N := 192) arg0.view X0 (64 * k0_t2.val + (2 * k.val + 1)) :=
    (bcast_load (N := 192) arg0.view X0 (k0_off83_inb k0_t2 k) shapeCasts_S1x8x128_S8x128).trans (congrArg _ ((congrFun (k0_off83_eq k0_t2 k) 0).trans (by simp only [Matrix.cons_val_zero] <;> omega)))
  have e1_83 : shapeCast S8x128 (arg1.view.readAt (Elt F) (Rect.unit (s := S192x8x128) (k0_off83 k0_t2 k) S1x8x128.size (k0_off83_inb k0_t2 k)).toLoadRect X1) shapeCasts_S1x8x128_S8x128 = rows (N := 192) arg1.view X1 (64 * k0_t2.val + (2 * k.val + 1)) :=
    (cast_load' (N := 192) arg1.view X1 (off := k0_off83 k0_t2 k) (k0_off83_inb k0_t2 k) shapeCasts_S1x8x128_S8x128).trans (congrArg _ ((congrFun (k0_off83_eq k0_t2 k) 0).trans (by simp only [Matrix.cons_val_zero] <;> omega)))
  have e2_83 : shapeCast S8x128 (arg2.view.readAt (Elt F) (Rect.unit (s := S192x8x128) (k0_off83 k0_t2 k) S1x8x128.size (k0_off83_inb k0_t2 k)).toLoadRect X2) shapeCasts_S1x8x128_S8x128 = brows (N := 192) arg2.view X2 (64 * k0_t2.val + (2 * k.val + 1)) :=
    (bcast_load (N := 192) arg2.view X2 (k0_off83_inb k0_t2 k) shapeCasts_S1x8x128_S8x128).trans (congrArg _ ((congrFun (k0_off83_eq k0_t2 k) 0).trans (by simp only [Matrix.cons_val_zero] <;> omega)))
  have e3_83 : shapeCast S8x128 (arg3.view.readAt (Elt F) (Rect.unit (s := S192x8x128) (k0_off83 k0_t2 k) S1x8x128.size (k0_off83_inb k0_t2 k)).toLoadRect X3) shapeCasts_S1x8x128_S8x128 = rows (N := 192) arg3.view X3 (64 * k0_t2.val + (2 * k.val + 1)) :=
    (cast_load' (N := 192) arg3.view X3 (off := k0_off83 k0_t2 k) (k0_off83_inb k0_t2 k) shapeCasts_S1x8x128_S8x128).trans (congrArg _ ((congrFun (k0_off83_eq k0_t2 k) 0).trans (by simp only [Matrix.cons_val_zero] <;> omega)))
  sl_for (inv_t4 c arg5 arg14 X5 (mulf (sitofp .f32 (brows (N := 192) arg0.view X0 (64 * k0_t2.val + 2 * k.val))) (k0_pay5 v22)) (rows (N := 192) arg1.view X1 (64 * k0_t2.val + 2 * k.val))) $$ [H5 H14]
  · intro j acc
    have T := trip_t4 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X5 k0_t2 arg16 (k0_pay5 v22) (k0_pay6 v25) k (arg0.view.readAt (Elt F) (Rect.unit (s := S192x8x128) (k0_off4 k0_t2 k) S1x8x128.size (k0_off4_inb k0_t2 k)).toLoadRect X0) (arg1.view.readAt (Elt F) (Rect.unit (s := S192x8x128) (k0_off4 k0_t2 k) S1x8x128.size (k0_off4_inb k0_t2 k)).toLoadRect X1) j E acc
    rw [e0_4, e1_4] at T
    exact T
  · unfold inv_t4
    isplitl [H5]; · iexact H5
    iexists _; isplitl [H14]; · iexact H14
    ipureintro
    intro i hi
    omega
  iintro %a4 HI
  unfold inv_t4
  icases HI with ⟨H5, %g4, H14, %hT4⟩
  rw [show Scf.trips k0_t4_loop.lb k0_t4_loop.ub k0_t4_loop.st = 713 by decide] at hT4
  sl_exec
  sl_for (inv_t5 c arg6 arg8 arg9 arg14 X6 f8 g4) $$ [H6 H8 H14 H9]
  · intro j acc
    exact trip_t5 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X6 f8 g4 h6 k0_t2 arg16 (k0_pay5 v22) (k0_pay6 v25) k j E acc
  · unfold inv_t5
    isplitl [H6]; · iexact H6
    isplitl [H8]; · iexact H8
    isplitl [H14]; · iexact H14
    iexists _; isplitl [H9]; · iexact H9
    ipureintro
    intro i hi
    omega
  iintro %a5 HI
  unfold inv_t5
  icases HI with ⟨H6, H8, H14, %d5, H9, %hD5⟩
  rw [show Scf.trips k0_t5_loop.lb k0_t5_loop.ub k0_t5_loop.st = 256 by decide] at hD5
  have h9 := holds_fwd arg8.view f8 arg9.view d5 arg14.view g4 _ h6 _ _ _ _ h8 hT4 hD5
  sl_exec
  sl_for (inv_t6 c arg5 arg15 X5 (mulf (sitofp .f32 (brows (N := 192) arg2.view X2 (64 * k0_t2.val + 2 * k.val))) (k0_pay6 v25)) (rows (N := 192) arg3.view X3 (64 * k0_t2.val + 2 * k.val))) $$ [H5 H15]
  · intro j acc
    have T := trip_t6 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X5 k0_t2 arg16 (k0_pay5 v22) (k0_pay6 v25) k (arg2.view.readAt (Elt F) (Rect.unit (s := S192x8x128) (k0_off4 k0_t2 k) S1x8x128.size (k0_off4_inb k0_t2 k)).toLoadRect X2) (arg3.view.readAt (Elt F) (Rect.unit (s := S192x8x128) (k0_off4 k0_t2 k) S1x8x128.size (k0_off4_inb k0_t2 k)).toLoadRect X3) j E acc
    rw [e2_4, e3_4] at T
    exact T
  · unfold inv_t6
    isplitl [H5]; · iexact H5
    iexists _; isplitl [H15]; · iexact H15
    ipureintro
    intro i hi
    omega
  iintro %a6 HI
  unfold inv_t6
  icases HI with ⟨H5, %g6, H15, %hT6⟩
  rw [show Scf.trips k0_t6_loop.lb k0_t6_loop.ub k0_t6_loop.st = 713 by decide] at hT6
  sl_exec
  sl_for (inv_t7 c arg6 arg10 arg11 arg15 X6 f10 g6) $$ [H6 H10 H15 H11]
  · intro j acc
    exact trip_t7 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X6 f10 g6 h6 k0_t2 arg16 (k0_pay5 v22) (k0_pay6 v25) k j E acc
  · unfold inv_t7
    isplitl [H6]; · iexact H6
    isplitl [H10]; · iexact H10
    isplitl [H15]; · iexact H15
    iexists _; isplitl [H11]; · iexact H11
    ipureintro
    intro i hi
    omega
  iintro %a7 HI
  unfold inv_t7
  icases HI with ⟨H6, H10, H15, %d7, H11, %hD7⟩
  rw [show Scf.trips k0_t7_loop.lb k0_t7_loop.ub k0_t7_loop.st = 256 by decide] at hD7
  have h11 := holds_bwd arg10.view f10 arg11.view d7 arg15.view g6 _ h6 _ _ _ _ h10 hT6 hD7
  sl_exec
  sl_for (inv_t8 c arg5 arg14 X5 (mulf (sitofp .f32 (brows (N := 192) arg0.view X0 (64 * k0_t2.val + (2 * k.val + 1)))) (k0_pay5 v22)) (rows (N := 192) arg1.view X1 (64 * k0_t2.val + (2 * k.val + 1)))) $$ [H5 H14]
  · intro j acc
    have T := trip_t8 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X5 v22 (arg0.view.readAt (Elt F) (Rect.unit (s := S192x8x128) (k0_off83 k0_t2 k) S1x8x128.size (k0_off83_inb k0_t2 k)).toLoadRect X0) (arg1.view.readAt (Elt F) (Rect.unit (s := S192x8x128) (k0_off83 k0_t2 k) S1x8x128.size (k0_off83_inb k0_t2 k)).toLoadRect X1) j E acc
    rw [e0_83, e1_83] at T
    exact T
  · unfold inv_t8
    isplitl [H5]; · iexact H5
    iexists _; isplitl [H14]; · iexact H14
    ipureintro
    intro i hi
    omega
  iintro %a8 HI
  unfold inv_t8
  icases HI with ⟨H5, %g8, H14, %hT8⟩
  rw [show Scf.trips k0_t8_loop.lb k0_t8_loop.ub k0_t8_loop.st = 713 by decide] at hT8
  sl_exec
  sl_for (inv_t9 c arg6 arg8 arg9 arg14 X6 d5 g8) $$ [H6 H9 H14 H8]
  · intro j acc
    exact trip_t9 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X6 d5 g8 h6 j E acc
  · unfold inv_t9
    isplitl [H6]; · iexact H6
    isplitl [H9]; · iexact H9
    isplitl [H14]; · iexact H14
    iexists _; isplitl [H8]; · iexact H8
    ipureintro
    intro i hi
    omega
  iintro %a9 HI
  unfold inv_t9
  icases HI with ⟨H6, H9, H14, %d9, H8, %hD9⟩
  rw [show Scf.trips k0_t9_loop.lb k0_t9_loop.ub k0_t9_loop.st = 256 by decide] at hD9
  have h8' := holds_fwd arg9.view d5 arg8.view d9 arg14.view g8 _ h6 _ _ _ _ h9 hT8 hD9
  sl_exec
  sl_for (inv_t10 c arg5 arg15 X5 (mulf (sitofp .f32 (brows (N := 192) arg2.view X2 (64 * k0_t2.val + (2 * k.val + 1)))) (k0_pay6 v25)) (rows (N := 192) arg3.view X3 (64 * k0_t2.val + (2 * k.val + 1)))) $$ [H5 H15]
  · intro j acc
    have T := trip_t10 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X5 v25 (arg2.view.readAt (Elt F) (Rect.unit (s := S192x8x128) (k0_off83 k0_t2 k) S1x8x128.size (k0_off83_inb k0_t2 k)).toLoadRect X2) (arg3.view.readAt (Elt F) (Rect.unit (s := S192x8x128) (k0_off83 k0_t2 k) S1x8x128.size (k0_off83_inb k0_t2 k)).toLoadRect X3) j E acc
    rw [e2_83, e3_83] at T
    exact T
  · unfold inv_t10
    isplitl [H5]; · iexact H5
    iexists _; isplitl [H15]; · iexact H15
    ipureintro
    intro i hi
    omega
  iintro %a10 HI
  unfold inv_t10
  icases HI with ⟨H5, %g10, H15, %hT10⟩
  rw [show Scf.trips k0_t10_loop.lb k0_t10_loop.ub k0_t10_loop.st = 713 by decide] at hT10
  sl_exec
  sl_for (inv_t11 c arg6 arg10 arg11 arg15 X6 d7 g10) $$ [H6 H11 H15 H10]
  · intro j acc
    exact trip_t11 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X6 d7 g10 h6 j E acc
  · unfold inv_t11
    isplitl [H6]; · iexact H6
    isplitl [H11]; · iexact H11
    isplitl [H15]; · iexact H15
    iexists _; isplitl [H10]; · iexact H10
    ipureintro
    intro i hi
    omega
  iintro %a11 HI
  unfold inv_t11
  icases HI with ⟨H6, H11, H15, %d11, H10, %hD11⟩
  rw [show Scf.trips k0_t11_loop.lb k0_t11_loop.ub k0_t11_loop.st = 256 by decide] at hD11
  have h10' := holds_bwd arg11.view d7 arg10.view d11 arg15.view g10 _ h6 _ _ _ _ h11 hT10 hD11
  sl_exec
  sl_step
  rw [show 2 * (k.val + 1) = 2 * k.val + 1 + 1 by omega]
  isplitl [H0]; · iexact H0
  isplitl [H1]; · iexact H1
  isplitl [H2]; · iexact H2
  isplitl [H3]; · iexact H3
  isplitl [H5]; · iexact H5
  isplitl [H6]; · iexact H6
  isplitl [H8]
  · iexists _; isplitl [H8]; · iexact H8
    ipureintro
    exact h8'
  isplitl [H10]
  · iexists _; isplitl [H10]; · iexact H10
    ipureintro
    exact h10'
  isplitl [H9]; · iexists _; iexact H9
  isplitl [H11]; · iexists _; iexact H11
  isplitl [H14]; · iexists _; iexact H14
  iexists _; iexact H15

end

end Cert.Kernel.Run

end
-- ==== Proof.RunP.Clear.lean ====
/-
  The clearing of the costs before the first position, and the copy with a partial clearing after a segment.
-/
module

public import proofs.«01_k».proof.Proof.RunP.Common
public import proofs.«01_k».proof.Proof.Run.Steps

@[expose] public section

set_option maxRecDepth 8192
set_option maxHeartbeats 4000000

noncomputable section

namespace Cert.Kernel.Run

open Cert.Kernel Cert.Kernel.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

/-! ## The clearing of the costs -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips. -/
def inv_t1 (n : ℕ) (_ : Unit) : sProp 𝕄 :=
  iprop((∃ f, held c arg8 f ∗ ⌜∀ i, i < n → rows (N := 1027) arg8.view f i = zeroB⌝) ∗
    ∃ g, held c arg10 g ∗ ⌜∀ i, i < n → rows (N := 1027) arg10.view g i = zeroB⌝)

/-- One trip. -/
theorem trip_t1 (k : Fin k0_t1_loop.trips) (E : Set ℕ) (acc : Unit) :
    inv_t1 c arg8 arg10 k.val acc ⊢
      wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k acc)
        (fun acc => inv_t1 c arg8 arg10 (k.val + 1) acc) := by
  unfold k0_t1_body inv_t1
  iintro ⟨⟨%f, HS, %hf⟩, %g, HD, %hg⟩
  sl_exec
  sl_step
  have d0 : k0_off1 k 0 = k.val := by rw [k0_off1_eq]; rfl
  isplitl [HS]
  · iexists _; isplitl [HS]; · iexact HS
    ipureintro
    sl_unfold_run_names
    intro i hi
    simp only [k0_pay3, k0_pay2, rows_writes_cons', rows_writes_nil, d0]
    by_cases hik : i = k.val
    · rw [if_pos hik]; rfl
    · rw [if_neg hik]
      exact hf i (by omega)
  · iexists _; isplitl [HD]; · iexact HD
    ipureintro
    sl_unfold_run_names
    intro i hi
    simp only [k0_pay4, k0_pay2, rows_writes_cons', rows_writes_nil, d0]
    by_cases hik : i = k.val
    · rw [if_pos hik]; rfl
    · rw [if_neg hik]
      exact hg i (by omega)

end

/-- The kernel's mask is set in the first four rows. -/
theorem mask_low (a : Fin 8) (b : Fin 128) : k0_pay1 (ix2 a b) = if a.val < 4 then 1#1 else 0#1 := by
  have h : ∀ a : Fin 8, (Scalar.cmpi .slt (BitVec.ofNat 32 (0 * 8 + a.val)) 4#32 : BitVec 1) = if a.val < 4 then 1#1 else 0#1 := by decide
  exact h a

section

/-! ## The copy and the partial clearing of loop 12 -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips: the costs copied and their last four rows cleared. -/
def inv_t12 (S : ℕ → Blk F) (n : ℕ) (_ : Unit) : sProp 𝕄 :=
  iprop((∃ f, held c arg10 f ∗ ⌜∀ i, i < 1027 → rows (N := 1027) arg10.view f i = if i < n then mixB (S i) zeroB else S i⌝) ∗
    ∃ g, held c arg13 g ∗ ⌜∀ i, i < n → rows (N := 1027) arg13.view g i = S i⌝)

/-- One trip. -/
theorem trip_t12 (S : ℕ → Blk F) (k0_t2 : Fin k0_t2_loop.trips) (k0_h1 : k0_cond1 k0_t2 = 1#1) (k : Fin k0_t12_loop.trips) (E : Set ℕ) (acc : Unit) :
    inv_t12 c arg10 arg13 S k.val acc ⊢
      wp frame (wpE (defs₀ (F := F)) 𝒱 (c : Thread nD τ) bd) E (k0_t12_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k0_t2 k0_h1 k acc)
        (fun acc => inv_t12 c arg10 arg13 S (k.val + 1) acc) := by
  have hk : k.val < 1027 := Nat.lt_of_lt_of_le k.isLt k0_t12_abs.2.1
  unfold k0_t12_body inv_t12
  iintro ⟨⟨%f, HS, %hf⟩, %g, HD, %hg⟩
  sl_exec
  sl_step
  have e := fun off inb => cast_load' (F := F) (N := 1027) arg10.view f (off := off) inb shapeCasts_S1x8x128_S8x128
  have d0 : k0_off162 k 0 = k.val := by rw [k0_off162_eq]; rfl
  isplitl [HS]
  · iexists _; isplitl [HS]; · iexact HS
    ipureintro
    sl_unfold_run_names
    intro i hi
    simp only [k0_pay13, k0_pay11, rows_writes_cons', rows_writes_nil, e, d0]
    by_cases hik : i = k.val
    · subst hik
      rw [if_pos rfl, if_pos (by omega), hf k.val hk, if_neg (by omega)]
      exact select_low _ mask_low _ _
    · rw [if_neg hik, hf i hi]
      by_cases h2 : i < k.val
      · rw [if_pos h2, if_pos (by omega)]
      · rw [if_neg h2, if_neg (by omega)]
  · iexists _; isplitl [HD]; · iexact HD
    ipureintro
    sl_unfold_run_names
    intro i hi
    simp only [k0_pay12, k0_pay11, rows_writes_cons', rows_writes_nil, e, d0]
    by_cases hik : i = k.val
    · subst hik
      rw [if_pos rfl, hf k.val hk, if_neg (by omega)]
    · rw [if_neg hik]
      exact hg i (by omega)

end

section

/-! ## The copy and the partial clearing of loop 13 -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has done after `n` trips: the costs copied and their last four rows cleared. -/
def inv_t13 (S : ℕ → Blk F) (n : ℕ) (_ : Unit) : sProp 𝕄 :=
  iprop((∃ f, held c arg8 f ∗ ⌜∀ i, i < 1027 → rows (N := 1027) arg8.view f i = if i < n then mixB (S i) zeroB else S i⌝) ∗
    ∃ g, held c arg12 g ∗ ⌜∀ i, i < n → rows (N := 1027) arg12.view g i = S i⌝)

/-- One trip. -/
theorem trip_t13 (S : ℕ → Blk F) (k0_t2 : Fin k0_t2_loop.trips) (k0_h2 : k0_cond2 k0_t2 = 1#1) (k : Fin k0_t13_loop.trips) (E : Set ℕ) (acc : Unit) :
    inv_t13 c arg8 arg12 S k.val acc ⊢
      wp frame (wpE (defs₀ (F := F)) 𝒱 (c : Thread nD τ) bd) E (k0_t13_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k0_t2 k0_h2 k acc)
        (fun acc => inv_t13 c arg8 arg12 S (k.val + 1) acc) := by
  have hk : k.val < 1027 := Nat.lt_of_lt_of_le k.isLt k0_t13_abs.2.1
  unfold k0_t13_body inv_t13
  iintro ⟨⟨%f, HS, %hf⟩, %g, HD, %hg⟩
  sl_exec
  sl_step
  have e := fun off inb => cast_load' (F := F) (N := 1027) arg8.view f (off := off) inb shapeCasts_S1x8x128_S8x128
  have d0 : k0_off163 k 0 = k.val := by rw [k0_off163_eq]; rfl
  isplitl [HS]
  · iexists _; isplitl [HS]; · iexact HS
    ipureintro
    sl_unfold_run_names
    intro i hi
    simp only [k0_pay16, k0_pay14, rows_writes_cons', rows_writes_nil, e, d0]
    by_cases hik : i = k.val
    · subst hik
      rw [if_pos rfl, if_pos (by omega), hf k.val hk, if_neg (by omega)]
      exact select_low _ mask_low _ _
    · rw [if_neg hik, hf i hi]
      by_cases h2 : i < k.val
      · rw [if_pos h2, if_pos (by omega)]
      · rw [if_neg h2, if_neg (by omega)]
  · iexists _; isplitl [HD]; · iexact HD
    ipureintro
    sl_unfold_run_names
    intro i hi
    simp only [k0_pay15, k0_pay14, rows_writes_cons', rows_writes_nil, e, d0]
    by_cases hik : i = k.val
    · subst hik
      rw [if_pos rfl, hf k.val hk, if_neg (by omega)]
    · rw [if_neg hik]
      exact hg i (by omega)

end

end Cert.Kernel.Run

end
-- ==== Proof.RunP.Segments.lean ====
/-
  The three segments of 64 positions: the forward and the backward costs after each of them, with what is saved and cleared
  between them.
-/
module

public import proofs.«01_k».proof.Proof.RunP.Segment
public import proofs.«01_k».proof.Proof.RunP.Clear

@[expose] public section

set_option maxRecDepth 8192
set_option maxHeartbeats 4000000

noncomputable section

namespace Cert.Kernel.Run

open Cert.Kernel Cert.Kernel.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable (arg0 : Memref sig .tc .vmem S192x8x128 .i8) (arg1 : Memref sig .tc .vmem S192x8x128 .f32) (arg2 : Memref sig .tc .vmem S192x8x128 .i8)
  (arg3 : Memref sig .tc .vmem S192x8x128 .f32) (arg4 : Memref sig .tc .vmem S2x3x8x128 .f32) (arg5 : Memref sig .tc .smem S713 .f32) (arg6 : Memref sig .tc .smem S4096 .i32)
  (X0 : BufTy.Contents (Elt F) arg0.view.ty) (X1 : BufTy.Contents (Elt F) arg1.view.ty) (X2 : BufTy.Contents (Elt F) arg2.view.ty)
  (X3 : BufTy.Contents (Elt F) arg3.view.ty) (X4 : BufTy.Contents (Elt F) arg4.view.ty) (X5 : BufTy.Contents (Elt F) arg5.view.ty) (X6 : BufTy.Contents (Elt F) arg6.view.ty)

/-- Segment `k` of the forward recursion. -/
def fwdSeg (k : Fin 3) (μ : ℕ → Blk F) : ℕ → Blk F :=
  iter fwdStep (fun p => errAt arg0 X0 arg1 X1 arg5 X5 (slotOf arg6 X6) (srow arg4.view X4 0 k) (64 * k.val + p)) μ 64

/-- Segment `k` of the backward recursion. -/
def bwdSeg (k : Fin 3) (ν : ℕ → Blk F) : ℕ → Blk F :=
  iter bwdStep (fun p => errAt arg2 X2 arg3 X3 arg5 X5 (slotOf arg6 X6) (srow arg4.view X4 1 k) (64 * k.val + p)) ν 64

/-- The last four rows cleared. -/
def clearHigh (μ : ℕ → Blk F) (q : ℕ) : Blk F := mixB (μ q) zeroB

/-- The forward costs saved after the second segment. -/
def fwdSaved : ℕ → Blk F := fwdSeg arg0 arg1 arg4 arg5 arg6 X0 X1 X4 X5 X6 1 (fwdSeg arg0 arg1 arg4 arg5 arg6 X0 X1 X4 X5 X6 0 (fun _ => zeroB))

/-- The backward costs saved after the first segment. -/
def bwdSaved : ℕ → Blk F := bwdSeg arg2 arg3 arg4 arg5 arg6 X2 X3 X4 X5 X6 0 (fun _ => zeroB)

/-- The forward costs after `n` segments. -/
def fwdAfter : ℕ → ℕ → Blk F
  | 0 => fun _ => zeroB
  | 1 => fwdSeg arg0 arg1 arg4 arg5 arg6 X0 X1 X4 X5 X6 0 (fun _ => zeroB)
  | 2 => clearHigh (fwdSaved arg0 arg1 arg4 arg5 arg6 X0 X1 X4 X5 X6)
  | _ => fwdSeg arg0 arg1 arg4 arg5 arg6 X0 X1 X4 X5 X6 2 (clearHigh (fwdSaved arg0 arg1 arg4 arg5 arg6 X0 X1 X4 X5 X6))

/-- The backward costs after `n` segments. -/
def bwdAfter : ℕ → ℕ → Blk F
  | 0 => fun _ => zeroB
  | 1 => clearHigh (bwdSaved arg2 arg3 arg4 arg5 arg6 X2 X3 X4 X5 X6)
  | 2 => bwdSeg arg2 arg3 arg4 arg5 arg6 X2 X3 X4 X5 X6 1 (clearHigh (bwdSaved arg2 arg3 arg4 arg5 arg6 X2 X3 X4 X5 X6))
  | _ => bwdSeg arg2 arg3 arg4 arg5 arg6 X2 X3 X4 X5 X6 2 (bwdSeg arg2 arg3 arg4 arg5 arg6 X2 X3 X4 X5 X6 1 (clearHigh (bwdSaved arg2 arg3 arg4 arg5 arg6 X2 X3 X4 X5 X6)))

end

theorem cell_lt (q : ℕ) (h : q < 1024) : cell q < 1027 := by unfold cell; omega

/-- Clearing the last four rows of every block clears those of the costs. -/
theorem holds_clear (a : Memref sig .tc .vmem S1027x8x128 .f32) (f f' : BufTy.Contents (Elt F) a.view.ty) (μ : ℕ → Blk F) (h : Holds a.view f μ)
    (h' : ∀ i, i < 1027 → rows (N := 1027) a.view f' i = if i < 1027 then mixB (rows (N := 1027) a.view f i) zeroB else rows (N := 1027) a.view f i) :
    Holds a.view f' (clearHigh μ) := by
  intro q hq
  rw [h' _ (cell_lt q hq), if_pos (cell_lt q hq), h q hq]
  rfl

/-- A copy holds the same costs. -/
theorem holds_copy (a a' : Memref sig .tc .vmem S1027x8x128 .f32) (f : BufTy.Contents (Elt F) a.view.ty) (f' : BufTy.Contents (Elt F) a'.view.ty) (μ : ℕ → Blk F)
    (h : Holds a.view f μ) (h' : ∀ i, i < 1027 → rows (N := 1027) a'.view f' i = rows (N := 1027) a.view f i) : Holds a'.view f' μ := by
  intro q hq
  rw [h' _ (cell_lt q hq), h q hq]

theorem cond1_iff : ∀ k : Fin k0_t2_loop.trips, k0_cond1 k = 1#1 ↔ k.val = 0 := by decide +kernel
theorem cond2_iff : ∀ k : Fin k0_t2_loop.trips, k0_cond2 k = 1#1 ↔ k.val = 1 := by decide +kernel

section

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

variable (X0 : BufTy.Contents (Elt F) arg0.view.ty) (X1 : BufTy.Contents (Elt F) arg1.view.ty) (X2 : BufTy.Contents (Elt F) arg2.view.ty)
  (X3 : BufTy.Contents (Elt F) arg3.view.ty) (X4 : BufTy.Contents (Elt F) arg4.view.ty) (X5 : BufTy.Contents (Elt F) arg5.view.ty) (X6 : BufTy.Contents (Elt F) arg6.view.ty)

/-- What the segment loop has done after `n` trips. -/
def inv_t2 (n : ℕ) (_ : Unit) : sProp 𝕄 :=
  iprop(held c arg0 X0 ∗ held c arg1 X1 ∗ held c arg2 X2 ∗ held c arg3 X3 ∗ held c arg4 X4 ∗ held c arg5 X5 ∗ held c arg6 X6 ∗
    costs c arg8 (fwdAfter arg0 arg1 arg4 arg5 arg6 X0 X1 X4 X5 X6 n) ∗ costs c arg10 (bwdAfter arg2 arg3 arg4 arg5 arg6 X2 X3 X4 X5 X6 n) ∗
    (∃ f, held c arg12 f ∗ ⌜2 ≤ n → Holds arg12.view f (fwdSaved arg0 arg1 arg4 arg5 arg6 X0 X1 X4 X5 X6)⌝) ∗
    (∃ f, held c arg13 f ∗ ⌜1 ≤ n → Holds arg13.view f (bwdSaved arg2 arg3 arg4 arg5 arg6 X2 X3 X4 X5 X6)⌝) ∗
    any c arg9 ∗ any c arg11 ∗ any c arg14 ∗ any c arg15)

/-- One trip of the segment loop. -/
theorem trip_t2 (h6 : SlotsOK arg6 X6) (k : Fin k0_t2_loop.trips) (E : Set ℕ) (acc : Unit) :
    inv_t2 c arg0 arg1 arg2 arg3 arg4 arg5 arg6 arg8 arg9 arg10 arg11 arg12 arg13 arg14 arg15 X0 X1 X2 X3 X4 X5 X6 k.val acc ⊢
      wp frame (wpE (defs₀ (F := F)) 𝒱 (c : Thread nD τ) bd) E (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k acc)
        (fun acc => inv_t2 c arg0 arg1 arg2 arg3 arg4 arg5 arg6 arg8 arg9 arg10 arg11 arg12 arg13 arg14 arg15 X0 X1 X2 X3 X4 X5 X6 (k.val + 1) acc) := by
  have hk : k.val < 3 := Nat.lt_of_lt_of_le k.isLt k0_t2_abs.2.1
  have es : k0_pay5 (arg4.view.readAt (Elt F) (Rect.unit (s := S2x3x8x128) (k0_off2 k) S1x1x8x128.size (k0_off2_inb k)).toLoadRect X4) = srow arg4.view X4 0 ⟨k.val, hk⟩ :=
    scast_load arg4.view X4 (k0_off2_inb k) 0 ⟨k.val, hk⟩ (k0_off2_eq k) _
  have et : k0_pay6 (arg4.view.readAt (Elt F) (Rect.unit (s := S2x3x8x128) (k0_off3 k) S1x1x8x128.size (k0_off3_inb k)).toLoadRect X4) = srow arg4.view X4 1 ⟨k.val, hk⟩ :=
    scast_load arg4.view X4 (k0_off3_inb k) 1 ⟨k.val, hk⟩ (k0_off3_eq k) _
  unfold k0_t2_body inv_t2
  iintro ⟨H0, H1, H2, H3, H4, H5, H6, H8, H10, ⟨%f12, H12, %h12⟩, ⟨%f13, H13, %h13⟩, H9, H11, H14, H15⟩
  sl_exec
  sl_for (inv_t3 c arg0 arg1 arg2 arg3 arg5 arg6 arg8 arg9 arg10 arg11 arg14 arg15 X0 X1 X2 X3 X5 X6 (64 * k.val) (srow arg4.view X4 0 ⟨k.val, hk⟩) (srow arg4.view X4 1 ⟨k.val, hk⟩)
    (fwdAfter arg0 arg1 arg4 arg5 arg6 X0 X1 X4 X5 X6 k.val) (bwdAfter arg2 arg3 arg4 arg5 arg6 X2 X3 X4 X5 X6 k.val)) $$ [H0 H1 H2 H3 H5 H6 H8 H10 H9 H11 H14 H15]
  · intro j acc
    have T := trip_t3 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X0 X1 X2 X3 X5 X6 h6 (fwdAfter arg0 arg1 arg4 arg5 arg6 X0 X1 X4 X5 X6 k.val) (bwdAfter arg2 arg3 arg4 arg5 arg6 X2 X3 X4 X5 X6 k.val)
      k (Scf.iv 0#32 1#32 k) (arg4.view.readAt (Elt F) (Rect.unit (s := S2x3x8x128) (k0_off2 k) S1x1x8x128.size (k0_off2_inb k)).toLoadRect X4)
      (arg4.view.readAt (Elt F) (Rect.unit (s := S2x3x8x128) (k0_off3 k) S1x1x8x128.size (k0_off3_inb k)).toLoadRect X4) j E acc
    rw [es, et] at T
    exact T
  · unfold inv_t3
    isplitl [H0]; · iexact H0
    isplitl [H1]; · iexact H1
    isplitl [H2]; · iexact H2
    isplitl [H3]; · iexact H3
    isplitl [H5]; · iexact H5
    isplitl [H6]; · iexact H6
    isplitl [H8]; · iexact H8
    isplitl [H10]; · iexact H10
    isplitl [H9]; · iexact H9
    isplitl [H11]; · iexact H11
    isplitl [H14]; · iexact H14
    iexact H15
  iintro %a3 HI
  unfold inv_t3
  icases HI with ⟨H0, H1, H2, H3, H5, H6, H8, H10, H9, H11, H14, H15⟩
  rw [show Scf.trips k0_t3_loop.lb k0_t3_loop.ub k0_t3_loop.st = 32 by decide]
  unfold costs
  icases H8 with ⟨%f8, H8, %h8⟩
  icases H10 with ⟨%f10, H10, %h10⟩
  obtain h0 | h1 | h2 : k.val = 0 ∨ k.val = 1 ∨ k.val = 2 := by omega
  · have k0_h1 : k0_cond1 k = 1#1 := (cond1_iff k).2 h0
    have k0_h2 : ¬ k0_cond2 k = 1#1 := fun h => by have := (cond2_iff k).1 h; omega
    obtain rfl : k = ⟨0, by decide⟩ := Fin.ext h0
    sl_exec
    sl_for (inv_t12 c arg10 arg13 (rows (N := 1027) arg10.view f10)) $$ [H10 H13]
    · intro j acc
      exact trip_t12 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 (rows (N := 1027) arg10.view f10) ⟨0, by decide⟩ k0_h1 j E acc
    · unfold inv_t12
      isplitl [H10]
      · iexists _; isplitl [H10]; · iexact H10
        ipureintro
        intro i hi
        rw [if_neg (by omega)]
      · iexists _; isplitl [H13]; · iexact H13
        ipureintro
        intro i hi
        omega
    iintro %a12 HI
    unfold inv_t12
    icases HI with ⟨⟨%g10, H10, %h10'⟩, %g13, H13, %h13'⟩
    rw [show Scf.trips k0_t12_loop.lb k0_t12_loop.ub k0_t12_loop.st = 1027 by decide] at h10' h13'
    sl_exec
    sl_step
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]
    · iexists _; isplitl [H8]; · iexact H8
      ipureintro
      exact h8
    isplitl [H10]
    · iexists _; isplitl [H10]; · iexact H10
      ipureintro
      exact holds_clear _ _ _ _ h10 h10'
    isplitl [H12]
    · iexists _; isplitl [H12]; · iexact H12
      ipureintro
      intro h; omega
    isplitl [H13]
    · iexists _; isplitl [H13]; · iexact H13
      ipureintro
      intro _; exact holds_copy _ _ _ _ _ h10 h13'
    isplitl [H9]; · iexact H9
    isplitl [H11]; · iexact H11
    isplitl [H14]; · iexact H14
    iexact H15

  · have k0_h1 : ¬ k0_cond1 k = 1#1 := fun h => by have := (cond1_iff k).1 h; omega
    have k0_h2 : k0_cond2 k = 1#1 := (cond2_iff k).2 h1
    obtain rfl : k = ⟨1, by decide⟩ := Fin.ext h1
    sl_exec
    sl_for (inv_t13 c arg8 arg12 (rows (N := 1027) arg8.view f8)) $$ [H8 H12]
    · intro j acc
      exact trip_t13 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 (rows (N := 1027) arg8.view f8) ⟨1, by decide⟩ k0_h2 j E acc
    · unfold inv_t13
      isplitl [H8]
      · iexists _; isplitl [H8]; · iexact H8
        ipureintro
        intro i hi
        rw [if_neg (by omega)]
      · iexists _; isplitl [H12]; · iexact H12
        ipureintro
        intro i hi
        omega
    iintro %a13 HI
    unfold inv_t13
    icases HI with ⟨⟨%g8, H8, %h8'⟩, %g12, H12, %h12'⟩
    rw [show Scf.trips k0_t13_loop.lb k0_t13_loop.ub k0_t13_loop.st = 1027 by decide] at h8' h12'
    sl_exec
    sl_step
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]
    · iexists _; isplitl [H8]; · iexact H8
      ipureintro
      exact holds_clear _ _ _ _ h8 h8'
    isplitl [H10]
    · iexists _; isplitl [H10]; · iexact H10
      ipureintro
      exact h10
    isplitl [H12]
    · iexists _; isplitl [H12]; · iexact H12
      ipureintro
      intro _; exact holds_copy _ _ _ _ _ h8 h12'
    isplitl [H13]
    · iexists _; isplitl [H13]; · iexact H13
      ipureintro
      intro _; exact h13 (by decide)
    isplitl [H9]; · iexact H9
    isplitl [H11]; · iexact H11
    isplitl [H14]; · iexact H14
    iexact H15

  · have k0_h1 : ¬ k0_cond1 k = 1#1 := fun h => by have := (cond1_iff k).1 h; omega
    have k0_h2 : ¬ k0_cond2 k = 1#1 := fun h => by have := (cond2_iff k).1 h; omega
    obtain rfl : k = ⟨2, by decide⟩ := Fin.ext h2
    sl_exec
    sl_step
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]
    · iexists _; isplitl [H8]; · iexact H8
      ipureintro
      exact h8
    isplitl [H10]
    · iexists _; isplitl [H10]; · iexact H10
      ipureintro
      exact h10
    isplitl [H12]
    · iexists _; isplitl [H12]; · iexact H12
      ipureintro
      intro _; exact h12 (by decide)
    isplitl [H13]
    · iexists _; isplitl [H13]; · iexact H13
      ipureintro
      intro _; exact h13 (by decide)
    isplitl [H9]; · iexact H9
    isplitl [H11]; · iexact H11
    isplitl [H14]; · iexact H14
    iexact H15

end

end Cert.Kernel.Run

end
-- ==== Proof.RunP.Join.lean ====
/-
  The join of the forward with the backward costs: the least sum over the states, a trip per state.
-/
module

public import proofs.«01_k».proof.Proof.RunP.Clear

@[expose] public section

set_option maxRecDepth 8192
set_option maxHeartbeats 4000000

noncomputable section

namespace Cert.Kernel.Run

open Cert.Kernel Cert.Kernel.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The sums at state `q` for the first and the third group of four rows: the backward costs are those of the running
buffer in the first four rows and of the saved one in the last four, and the halves change places. -/
def joinAC (S8 S10 S13 : ℕ → Blk F) (q : ℕ) : Blk F := addf (S8 (cell q)) (rotB (mixB (S10 (cell q)) (S13 (cell q))))

/-- The sums at state `q` for the second group of four rows. -/
def joinB (S12 S10 : ℕ → Blk F) (q : ℕ) : Blk F := addf (S12 (cell q)) (S10 (cell q))

section

/-! ## The part of the join that loop 14 does -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has found after `n` trips. -/
def inv_t14 (X8 : BufTy.Contents (Elt F) arg8.view.ty) (X10 : BufTy.Contents (Elt F) arg10.view.ty) (X12 : BufTy.Contents (Elt F) arg12.view.ty)
    (X13 : BufTy.Contents (Elt F) arg13.view.ty) (n : ℕ) (acc : FVec F S8x128 .f32 × FVec F S8x128 .f32) : sProp 𝕄 :=
  iprop(held c arg8 X8 ∗ held c arg10 X10 ∗ held c arg12 X12 ∗ held c arg13 X13 ∗
    ⌜acc.1 = accB (joinAC (rows (N := 1027) arg8.view X8) (rows (N := 1027) arg10.view X10) (rows (N := 1027) arg13.view X13)) (0 + n)
      ∧ acc.2 = accB (joinB (rows (N := 1027) arg12.view X12) (rows (N := 1027) arg10.view X10)) (0 + n)⌝)

/-- One trip. -/
theorem trip_t14 (X8 : BufTy.Contents (Elt F) arg8.view.ty) (X10 : BufTy.Contents (Elt F) arg10.view.ty) (X12 : BufTy.Contents (Elt F) arg12.view.ty)
    (X13 : BufTy.Contents (Elt F) arg13.view.ty) (k : Fin k0_t14_loop.trips) (E : Set ℕ) (acc : FVec F S8x128 .f32 × FVec F S8x128 .f32) :
    inv_t14 c arg8 arg10 arg12 arg13 X8 X10 X12 X13 k.val acc ⊢
      wp frame (wpE (defs₀ (F := F)) 𝒱 (c : Thread nD τ) bd) E (k0_t14_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k acc)
        (fun acc => inv_t14 c arg8 arg10 arg12 arg13 X8 X10 X12 X13 (k.val + 1) acc) := by
  have hk : k.val < 256 := Nat.lt_of_lt_of_le k.isLt k0_t14_abs.2.1
  obtain ⟨a1, a2⟩ := acc
  unfold k0_t14_body inv_t14
  iintro ⟨H8, H10, H12, H13, %ha⟩
  obtain ⟨h1, h2⟩ := ha
  dsimp only at h1 h2
  sl_exec
  sl_step
  isplitl [H8]; · iexact H8
  isplitl [H10]; · iexact H10
  isplitl [H12]; · iexact H12
  isplitl [H13]; · iexact H13
  ipureintro
  have e8 := fun off inb => cast_load' (F := F) (N := 1027) arg8.view X8 (off := off) inb shapeCasts_S1x8x128_S8x128
  have e10 := fun off inb => cast_load' (F := F) (N := 1027) arg10.view X10 (off := off) inb shapeCasts_S1x8x128_S8x128
  have e12 := fun off inb => cast_load' (F := F) (N := 1027) arg12.view X12 (off := off) inb shapeCasts_S1x8x128_S8x128
  have e13 := fun off inb => cast_load' (F := F) (N := 1027) arg13.view X13 (off := off) inb shapeCasts_S1x8x128_S8x128
  have d0 : k0_off164 k 0 = cell (0 + k.val) := by rw [k0_off164_eq]; show _ = _ + _; simp only [Matrix.cons_val_zero]; omega
  constructor
  · rw [show 0 + (k.val + 1) = (0 + k.val) + 1 by omega, accB, ← h1]
    simp only [k0_pay18, e8, e10, e13, d0, select_low _ mask_low, joinAC]
    rw [rot_eq]
  · rw [show 0 + (k.val + 1) = (0 + k.val) + 1 by omega, accB, ← h2]
    simp only [k0_pay19, e10, e12, d0, joinB]

end

section

/-! ## The part of the join that loop 15 does -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has found after `n` trips. -/
def inv_t15 (X8 : BufTy.Contents (Elt F) arg8.view.ty) (X10 : BufTy.Contents (Elt F) arg10.view.ty) (X12 : BufTy.Contents (Elt F) arg12.view.ty)
    (X13 : BufTy.Contents (Elt F) arg13.view.ty) (n : ℕ) (acc : FVec F S8x128 .f32 × FVec F S8x128 .f32) : sProp 𝕄 :=
  iprop(held c arg8 X8 ∗ held c arg10 X10 ∗ held c arg12 X12 ∗ held c arg13 X13 ∗
    ⌜acc.1 = accB (joinAC (rows (N := 1027) arg8.view X8) (rows (N := 1027) arg10.view X10) (rows (N := 1027) arg13.view X13)) (256 + n)
      ∧ acc.2 = accB (joinB (rows (N := 1027) arg12.view X12) (rows (N := 1027) arg10.view X10)) (256 + n)⌝)

/-- One trip. -/
theorem trip_t15 (X8 : BufTy.Contents (Elt F) arg8.view.ty) (X10 : BufTy.Contents (Elt F) arg10.view.ty) (X12 : BufTy.Contents (Elt F) arg12.view.ty)
    (X13 : BufTy.Contents (Elt F) arg13.view.ty) (k : Fin k0_t15_loop.trips) (E : Set ℕ) (acc : FVec F S8x128 .f32 × FVec F S8x128 .f32) :
    inv_t15 c arg8 arg10 arg12 arg13 X8 X10 X12 X13 k.val acc ⊢
      wp frame (wpE (defs₀ (F := F)) 𝒱 (c : Thread nD τ) bd) E (k0_t15_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k acc)
        (fun acc => inv_t15 c arg8 arg10 arg12 arg13 X8 X10 X12 X13 (k.val + 1) acc) := by
  have hk : k.val < 256 := Nat.lt_of_lt_of_le k.isLt k0_t15_abs.2.1
  obtain ⟨a1, a2⟩ := acc
  unfold k0_t15_body inv_t15
  iintro ⟨H8, H10, H12, H13, %ha⟩
  obtain ⟨h1, h2⟩ := ha
  dsimp only at h1 h2
  sl_exec
  sl_step
  isplitl [H8]; · iexact H8
  isplitl [H10]; · iexact H10
  isplitl [H12]; · iexact H12
  isplitl [H13]; · iexact H13
  ipureintro
  have e8 := fun off inb => cast_load' (F := F) (N := 1027) arg8.view X8 (off := off) inb shapeCasts_S1x8x128_S8x128
  have e10 := fun off inb => cast_load' (F := F) (N := 1027) arg10.view X10 (off := off) inb shapeCasts_S1x8x128_S8x128
  have e12 := fun off inb => cast_load' (F := F) (N := 1027) arg12.view X12 (off := off) inb shapeCasts_S1x8x128_S8x128
  have e13 := fun off inb => cast_load' (F := F) (N := 1027) arg13.view X13 (off := off) inb shapeCasts_S1x8x128_S8x128
  have d0 : k0_off165 k 0 = cell (256 + k.val) := by rw [k0_off165_eq]; show _ = _ + _; simp only [Matrix.cons_val_zero]; omega
  constructor
  · rw [show 256 + (k.val + 1) = (256 + k.val) + 1 by omega, accB, ← h1]
    simp only [k0_pay20, e8, e10, e13, d0, select_low _ mask_low, joinAC]
    rw [rot_eq]
  · rw [show 256 + (k.val + 1) = (256 + k.val) + 1 by omega, accB, ← h2]
    simp only [k0_pay21, e10, e12, d0, joinB]

end

section

/-! ## The part of the join that loop 16 does -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has found after `n` trips. -/
def inv_t16 (X8 : BufTy.Contents (Elt F) arg8.view.ty) (X10 : BufTy.Contents (Elt F) arg10.view.ty) (X12 : BufTy.Contents (Elt F) arg12.view.ty)
    (X13 : BufTy.Contents (Elt F) arg13.view.ty) (n : ℕ) (acc : FVec F S8x128 .f32 × FVec F S8x128 .f32) : sProp 𝕄 :=
  iprop(held c arg8 X8 ∗ held c arg10 X10 ∗ held c arg12 X12 ∗ held c arg13 X13 ∗
    ⌜acc.1 = accB (joinAC (rows (N := 1027) arg8.view X8) (rows (N := 1027) arg10.view X10) (rows (N := 1027) arg13.view X13)) (512 + n)
      ∧ acc.2 = accB (joinB (rows (N := 1027) arg12.view X12) (rows (N := 1027) arg10.view X10)) (512 + n)⌝)

/-- One trip. -/
theorem trip_t16 (X8 : BufTy.Contents (Elt F) arg8.view.ty) (X10 : BufTy.Contents (Elt F) arg10.view.ty) (X12 : BufTy.Contents (Elt F) arg12.view.ty)
    (X13 : BufTy.Contents (Elt F) arg13.view.ty) (k : Fin k0_t16_loop.trips) (E : Set ℕ) (acc : FVec F S8x128 .f32 × FVec F S8x128 .f32) :
    inv_t16 c arg8 arg10 arg12 arg13 X8 X10 X12 X13 k.val acc ⊢
      wp frame (wpE (defs₀ (F := F)) 𝒱 (c : Thread nD τ) bd) E (k0_t16_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k acc)
        (fun acc => inv_t16 c arg8 arg10 arg12 arg13 X8 X10 X12 X13 (k.val + 1) acc) := by
  have hk : k.val < 256 := Nat.lt_of_lt_of_le k.isLt k0_t16_abs.2.1
  obtain ⟨a1, a2⟩ := acc
  unfold k0_t16_body inv_t16
  iintro ⟨H8, H10, H12, H13, %ha⟩
  obtain ⟨h1, h2⟩ := ha
  dsimp only at h1 h2
  sl_exec
  sl_step
  isplitl [H8]; · iexact H8
  isplitl [H10]; · iexact H10
  isplitl [H12]; · iexact H12
  isplitl [H13]; · iexact H13
  ipureintro
  have e8 := fun off inb => cast_load' (F := F) (N := 1027) arg8.view X8 (off := off) inb shapeCasts_S1x8x128_S8x128
  have e10 := fun off inb => cast_load' (F := F) (N := 1027) arg10.view X10 (off := off) inb shapeCasts_S1x8x128_S8x128
  have e12 := fun off inb => cast_load' (F := F) (N := 1027) arg12.view X12 (off := off) inb shapeCasts_S1x8x128_S8x128
  have e13 := fun off inb => cast_load' (F := F) (N := 1027) arg13.view X13 (off := off) inb shapeCasts_S1x8x128_S8x128
  have d0 : k0_off166 k 0 = cell (512 + k.val) := by rw [k0_off166_eq]; show _ = _ + _; simp only [Matrix.cons_val_zero]; omega
  constructor
  · rw [show 512 + (k.val + 1) = (512 + k.val) + 1 by omega, accB, ← h1]
    simp only [k0_pay22, e8, e10, e13, d0, select_low _ mask_low, joinAC]
    rw [rot_eq]
  · rw [show 512 + (k.val + 1) = (512 + k.val) + 1 by omega, accB, ← h2]
    simp only [k0_pay23, e10, e12, d0, joinB]

end

section

/-! ## The part of the join that loop 17 does -/

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

/-- What the loop has found after `n` trips. -/
def inv_t17 (X8 : BufTy.Contents (Elt F) arg8.view.ty) (X10 : BufTy.Contents (Elt F) arg10.view.ty) (X12 : BufTy.Contents (Elt F) arg12.view.ty)
    (X13 : BufTy.Contents (Elt F) arg13.view.ty) (n : ℕ) (acc : FVec F S8x128 .f32 × FVec F S8x128 .f32) : sProp 𝕄 :=
  iprop(held c arg8 X8 ∗ held c arg10 X10 ∗ held c arg12 X12 ∗ held c arg13 X13 ∗
    ⌜acc.1 = accB (joinAC (rows (N := 1027) arg8.view X8) (rows (N := 1027) arg10.view X10) (rows (N := 1027) arg13.view X13)) (768 + n)
      ∧ acc.2 = accB (joinB (rows (N := 1027) arg12.view X12) (rows (N := 1027) arg10.view X10)) (768 + n)⌝)

/-- One trip. -/
theorem trip_t17 (X8 : BufTy.Contents (Elt F) arg8.view.ty) (X10 : BufTy.Contents (Elt F) arg10.view.ty) (X12 : BufTy.Contents (Elt F) arg12.view.ty)
    (X13 : BufTy.Contents (Elt F) arg13.view.ty) (k : Fin k0_t17_loop.trips) (E : Set ℕ) (acc : FVec F S8x128 .f32 × FVec F S8x128 .f32) :
    inv_t17 c arg8 arg10 arg12 arg13 X8 X10 X12 X13 k.val acc ⊢
      wp frame (wpE (defs₀ (F := F)) 𝒱 (c : Thread nD τ) bd) E (k0_t17_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k acc)
        (fun acc => inv_t17 c arg8 arg10 arg12 arg13 X8 X10 X12 X13 (k.val + 1) acc) := by
  have hk : k.val < 256 := Nat.lt_of_lt_of_le k.isLt k0_t17_abs.2.1
  obtain ⟨a1, a2⟩ := acc
  unfold k0_t17_body inv_t17
  iintro ⟨H8, H10, H12, H13, %ha⟩
  obtain ⟨h1, h2⟩ := ha
  dsimp only at h1 h2
  sl_exec
  sl_step
  isplitl [H8]; · iexact H8
  isplitl [H10]; · iexact H10
  isplitl [H12]; · iexact H12
  isplitl [H13]; · iexact H13
  ipureintro
  have e8 := fun off inb => cast_load' (F := F) (N := 1027) arg8.view X8 (off := off) inb shapeCasts_S1x8x128_S8x128
  have e10 := fun off inb => cast_load' (F := F) (N := 1027) arg10.view X10 (off := off) inb shapeCasts_S1x8x128_S8x128
  have e12 := fun off inb => cast_load' (F := F) (N := 1027) arg12.view X12 (off := off) inb shapeCasts_S1x8x128_S8x128
  have e13 := fun off inb => cast_load' (F := F) (N := 1027) arg13.view X13 (off := off) inb shapeCasts_S1x8x128_S8x128
  have d0 : k0_off167 k 0 = cell (768 + k.val) := by rw [k0_off167_eq]; show _ = _ + _; simp only [Matrix.cons_val_zero]; omega
  constructor
  · rw [show 768 + (k.val + 1) = (768 + k.val) + 1 by omega, accB, ← h1]
    simp only [k0_pay24, e8, e10, e13, d0, select_low _ mask_low, joinAC]
    rw [rot_eq]
  · rw [show 768 + (k.val + 1) = (768 + k.val) + 1 by omega, accB, ← h2]
    simp only [k0_pay25, e10, e12, d0, joinB]

end

end Cert.Kernel.Run

end
-- ==== Proof.RunP.Body.lean ====
/-
  The whole kernel: what its output buffer holds in terms of its inputs.
-/
module

public import proofs.«01_k».proof.Proof.RunP.Segments
public import proofs.«01_k».proof.Proof.RunP.Join

@[expose] public section

set_option maxRecDepth 8192
set_option maxHeartbeats 4000000

noncomputable section

namespace Cert.Kernel.Run

open Cert.Kernel Cert.Kernel.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable (arg0 : Memref sig .tc .vmem S192x8x128 .i8) (arg1 : Memref sig .tc .vmem S192x8x128 .f32) (arg2 : Memref sig .tc .vmem S192x8x128 .i8)
  (arg3 : Memref sig .tc .vmem S192x8x128 .f32) (arg4 : Memref sig .tc .vmem S2x3x8x128 .f32) (arg5 : Memref sig .tc .smem S713 .f32) (arg6 : Memref sig .tc .smem S4096 .i32)
  (X0 : BufTy.Contents (Elt F) arg0.view.ty) (X1 : BufTy.Contents (Elt F) arg1.view.ty) (X2 : BufTy.Contents (Elt F) arg2.view.ty)
  (X3 : BufTy.Contents (Elt F) arg3.view.ty) (X4 : BufTy.Contents (Elt F) arg4.view.ty) (X5 : BufTy.Contents (Elt F) arg5.view.ty) (X6 : BufTy.Contents (Elt F) arg6.view.ty)

/-- The first block of the output: the costs of the first group of rows over those of the third. -/
def outAC : Blk F := accB (fun q => addf (fwdAfter arg0 arg1 arg4 arg5 arg6 X0 X1 X4 X5 X6 3 q) (rotB (mixB (bwdAfter arg2 arg3 arg4 arg5 arg6 X2 X3 X4 X5 X6 3 q) (bwdSaved arg2 arg3 arg4 arg5 arg6 X2 X3 X4 X5 X6 q)))) 1024

/-- The second block of the output, whose last four rows are the costs of the second group. -/
def outB : Blk F := accB (fun q => addf (fwdSaved arg0 arg1 arg4 arg5 arg6 X0 X1 X4 X5 X6 q) (bwdAfter arg2 arg3 arg4 arg5 arg6 X2 X3 X4 X5 X6 3 q)) 1024

end

/-- The least over the same blocks. -/
theorem accB_congr {f g : ℕ → Blk F} : ∀ n, (∀ q, q < n → f q = g q) → accB f n = accB g n
  | 0, _ => rfl
  | n + 1, h => by rw [accB, accB, accB_congr n (fun q hq => h q (by omega)), h n (by omega)]

section

variable (𝒱 : Variants) (c : Dev nD) (bd : Option 𝒱.V)
  (arg0 : Memref sig .tc .vmem S192x8x128 .i8) (harg0 : arg0.IsWhole)
  (arg1 : Memref sig .tc .vmem S192x8x128 .f32) (harg1 : arg1.IsWhole)
  (arg2 : Memref sig .tc .vmem S192x8x128 .i8) (harg2 : arg2.IsWhole)
  (arg3 : Memref sig .tc .vmem S192x8x128 .f32) (harg3 : arg3.IsWhole)
  (arg4 : Memref sig .tc .vmem S2x3x8x128 .f32) (harg4 : arg4.IsWhole)
  (arg5 : Memref sig .tc .smem S713 .f32) (harg5 : arg5.IsWhole)
  (arg6 : Memref sig .tc .smem S4096 .i32) (harg6 : arg6.IsWhole)
  (arg7 : Memref sig .tc .vmem S2x8x128 .f32) (harg7 : arg7.IsWhole)
  (arg8 : Memref sig .tc .vmem S1027x8x128 .f32) (harg8 : arg8.IsWhole)
  (arg9 : Memref sig .tc .vmem S1027x8x128 .f32) (harg9 : arg9.IsWhole)
  (arg10 : Memref sig .tc .vmem S1027x8x128 .f32) (harg10 : arg10.IsWhole)
  (arg11 : Memref sig .tc .vmem S1027x8x128 .f32) (harg11 : arg11.IsWhole)
  (arg12 : Memref sig .tc .vmem S1027x8x128 .f32) (harg12 : arg12.IsWhole)
  (arg13 : Memref sig .tc .vmem S1027x8x128 .f32) (harg13 : arg13.IsWhole)
  (arg14 : Memref sig .tc .vmem S713x8x128 .f32) (harg14 : arg14.IsWhole)
  (arg15 : Memref sig .tc .vmem S713x8x128 .f32) (harg15 : arg15.IsWhole)

variable (X0 : BufTy.Contents (Elt F) arg0.view.ty) (X1 : BufTy.Contents (Elt F) arg1.view.ty) (X2 : BufTy.Contents (Elt F) arg2.view.ty)
  (X3 : BufTy.Contents (Elt F) arg3.view.ty) (X4 : BufTy.Contents (Elt F) arg4.view.ty) (X5 : BufTy.Contents (Elt F) arg5.view.ty) (X6 : BufTy.Contents (Elt F) arg6.view.ty)

/-- What the kernel needs. -/
def bodyPre : sProp 𝕄 :=
  iprop(held c arg0 X0 ∗ held c arg1 X1 ∗ held c arg2 X2 ∗ held c arg3 X3 ∗ held c arg4 X4 ∗ held c arg5 X5 ∗ held c arg6 X6 ∗
    any c arg7 ∗ any c arg8 ∗ any c arg9 ∗ any c arg10 ∗ any c arg11 ∗ any c arg12 ∗ any c arg13 ∗ any c arg14 ∗ any c arg15)

/-- What the kernel leaves. -/
def bodyPost : sProp 𝕄 :=
  iprop(held c arg0 X0 ∗ held c arg1 X1 ∗ held c arg2 X2 ∗ held c arg3 X3 ∗ held c arg4 X4 ∗ held c arg5 X5 ∗ held c arg6 X6 ∗
    (∃ f, held c arg7 f ∗ ⌜rows (N := 2) arg7.view f 0 = outAC arg0 arg1 arg2 arg3 arg4 arg5 arg6 X0 X1 X2 X3 X4 X5 X6 ∧ rows (N := 2) arg7.view f 1 = outB arg0 arg1 arg2 arg3 arg4 arg5 arg6 X0 X1 X2 X3 X4 X5 X6⌝) ∗
    any c arg8 ∗ any c arg9 ∗ any c arg10 ∗ any c arg11 ∗ any c arg12 ∗ any c arg13 ∗ any c arg14 ∗ any c arg15)

/-- The kernel's run. -/
theorem body_run (h6 : SlotsOK arg6 X6) (E : Set ℕ) :
    bodyPre c arg0 arg1 arg2 arg3 arg4 arg5 arg6 arg7 arg8 arg9 arg10 arg11 arg12 arg13 arg14 arg15 X0 X1 X2 X3 X4 X5 X6 ⊢
      wp frame (wpE (defs₀ (F := F)) 𝒱 (c : Thread nD τ) bd) E (cc0_viterbi (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15)
        (fun _ => bodyPost c arg0 arg1 arg2 arg3 arg4 arg5 arg6 arg7 arg8 arg9 arg10 arg11 arg12 arg13 arg14 arg15 X0 X1 X2 X3 X4 X5 X6) := by
  rw [cc0_viterbi_eq_skeleton]
  unfold cc0_viterbi_skel bodyPre bodyPost any
  iintro ⟨H0, H1, H2, H3, H4, H5, H6, ⟨%f7, H7⟩, ⟨%f8, H8⟩, H9, ⟨%f10, H10⟩, H11, ⟨%f12, H12⟩, ⟨%f13, H13⟩, H14, H15⟩
  sl_for (inv_t1 c arg8 arg10) $$ [H8 H10]
  · intro j acc
    exact trip_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 j E acc
  · unfold inv_t1
    isplitl [H8]
    · iexists _; isplitl [H8]; · iexact H8
      ipureintro
      intro i hi
      omega
    · iexists _; isplitl [H10]; · iexact H10
      ipureintro
      intro i hi
      omega
  iintro %a1 HI
  unfold inv_t1
  icases HI with ⟨⟨%g8, H8, %h8⟩, %g10, H10, %h10⟩
  rw [show Scf.trips k0_t1_loop.lb k0_t1_loop.ub k0_t1_loop.st = 1027 by decide] at h8 h10
  sl_exec
  sl_for (inv_t2 c arg0 arg1 arg2 arg3 arg4 arg5 arg6 arg8 arg9 arg10 arg11 arg12 arg13 arg14 arg15 X0 X1 X2 X3 X4 X5 X6) $$ [H0 H1 H2 H3 H4 H5 H6 H8 H9 H10 H11 H12 H13 H14 H15]
  · intro j acc
    exact trip_t2 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X0 X1 X2 X3 X4 X5 X6 h6 j E acc
  · unfold inv_t2 costs any
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]
    · iexists _; isplitl [H8]; · iexact H8
      ipureintro
      intro q hq
      exact h8 _ (cell_lt q hq)
    isplitl [H10]
    · iexists _; isplitl [H10]; · iexact H10
      ipureintro
      intro q hq
      exact h10 _ (cell_lt q hq)
    isplitl [H12]
    · iexists _; isplitl [H12]; · iexact H12
      ipureintro
      intro h; omega
    isplitl [H13]
    · iexists _; isplitl [H13]; · iexact H13
      ipureintro
      intro h; omega
    isplitl [H9]; · iexact H9
    isplitl [H11]; · iexact H11
    isplitl [H14]; · iexact H14
    iexact H15
  iintro %a2 HI
  unfold inv_t2 costs any
  rw [show Scf.trips k0_t2_loop.lb k0_t2_loop.ub k0_t2_loop.st = 3 by decide]
  icases HI with ⟨H0, H1, H2, H3, H4, H5, H6, ⟨%m8, H8, %h8'⟩, ⟨%m10, H10, %h10'⟩, ⟨%m12, H12, %h12'⟩, ⟨%m13, H13, %h13'⟩, H9, H11, H14, H15⟩
  sl_exec
  sl_for (inv_t14 c arg8 arg10 arg12 arg13 m8 m10 m12 m13) $$ [H8 H10 H12 H13]
  · intro j acc
    exact trip_t14 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 m8 m10 m12 m13 j E acc
  · unfold inv_t14
    isplitl [H8]; · iexact H8
    isplitl [H10]; · iexact H10
    isplitl [H12]; · iexact H12
    isplitl [H13]; · iexact H13
    ipureintro
    exact ⟨rfl, rfl⟩
  iintro %a14 HI
  unfold inv_t14
  rw [show Scf.trips k0_t14_loop.lb k0_t14_loop.ub k0_t14_loop.st = 256 by decide]
  icases HI with ⟨H8, H10, H12, H13, %h14⟩
  sl_exec
  sl_for (inv_t15 c arg8 arg10 arg12 arg13 m8 m10 m12 m13) $$ [H8 H10 H12 H13]
  · intro j acc
    exact trip_t15 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 m8 m10 m12 m13 j E acc
  · unfold inv_t15
    isplitl [H8]; · iexact H8
    isplitl [H10]; · iexact H10
    isplitl [H12]; · iexact H12
    isplitl [H13]; · iexact H13
    ipureintro
    exact ⟨h14.1, h14.2⟩
  iintro %a15 HI
  unfold inv_t15
  rw [show Scf.trips k0_t15_loop.lb k0_t15_loop.ub k0_t15_loop.st = 256 by decide]
  icases HI with ⟨H8, H10, H12, H13, %h15⟩
  sl_exec
  sl_for (inv_t16 c arg8 arg10 arg12 arg13 m8 m10 m12 m13) $$ [H8 H10 H12 H13]
  · intro j acc
    exact trip_t16 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 m8 m10 m12 m13 j E acc
  · unfold inv_t16
    isplitl [H8]; · iexact H8
    isplitl [H10]; · iexact H10
    isplitl [H12]; · iexact H12
    isplitl [H13]; · iexact H13
    ipureintro
    exact ⟨h15.1, h15.2⟩
  iintro %a16 HI
  unfold inv_t16
  rw [show Scf.trips k0_t16_loop.lb k0_t16_loop.ub k0_t16_loop.st = 256 by decide]
  icases HI with ⟨H8, H10, H12, H13, %h16⟩
  sl_exec
  sl_for (inv_t17 c arg8 arg10 arg12 arg13 m8 m10 m12 m13) $$ [H8 H10 H12 H13]
  · intro j acc
    exact trip_t17 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 m8 m10 m12 m13 j E acc
  · unfold inv_t17
    isplitl [H8]; · iexact H8
    isplitl [H10]; · iexact H10
    isplitl [H12]; · iexact H12
    isplitl [H13]; · iexact H13
    ipureintro
    exact ⟨h16.1, h16.2⟩
  iintro %a17 HI
  unfold inv_t17
  rw [show Scf.trips k0_t17_loop.lb k0_t17_loop.ub k0_t17_loop.st = 256 by decide]
  icases HI with ⟨H8, H10, H12, H13, %h17⟩
  have eA : a17.1 = outAC arg0 arg1 arg2 arg3 arg4 arg5 arg6 X0 X1 X2 X3 X4 X5 X6 := by
    rw [h17.1]
    exact accB_congr 1024 fun q hq => by rw [joinAC, h8' q hq, h10' q hq, h13' (by decide) q hq]
  have eB : a17.2 = outB arg0 arg1 arg2 arg3 arg4 arg5 arg6 X0 X1 X2 X3 X4 X5 X6 := by
    rw [h17.2]
    exact accB_congr 1024 fun q hq => by rw [joinB, h10' q hq, h12' (by decide) q hq]
  obtain ⟨b1, b2⟩ := a17
  dsimp only at eA eB
  subst eA eB
  sl_exec
  sl_step
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro
    sl_unfold_run_names
    simp only [k0_pay26, k0_pay27, rows_writes_cons', rows_writes_nil]
    exact ⟨rfl, rfl⟩
  isplitl [H8]; · iexists _; iexact H8
  isplitl [H9]; · iexact H9
  isplitl [H10]; · iexists _; iexact H10
  isplitl [H11]; · iexact H11
  isplitl [H12]; · iexists _; iexact H12
  isplitl [H13]; · iexists _; iexact H13
  isplitl [H14]; · iexact H14
  iexact H15

/-- The kernel's run, to any continuation. -/
theorem body_run_k (h6 : SlotsOK arg6 X6) (E : Set ℕ) (K : PUnit → sProp 𝕄) :
    iprop(bodyPre c arg0 arg1 arg2 arg3 arg4 arg5 arg6 arg7 arg8 arg9 arg10 arg11 arg12 arg13 arg14 arg15 X0 X1 X2 X3 X4 X5 X6 ∗
      (bodyPost c arg0 arg1 arg2 arg3 arg4 arg5 arg6 arg7 arg8 arg9 arg10 arg11 arg12 arg13 arg14 arg15 X0 X1 X2 X3 X4 X5 X6 -∗ K ⟨⟩)) ⊢
      wp frame (wpE (defs₀ (F := F)) 𝒱 (c : Thread nD τ) bd) E (cc0_viterbi (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨HP, HK⟩
  iapply wp_wand_r
  isplitl [HP]
  · iapply (body_run 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X0 X1 X2 X3 X4 X5 X6 h6 E)
    iexact HP
  · iintro %a Q
    iapply HK
    iexact Q

end

end Cert.Kernel.Run

end
-- ==== Proof.RunP.Launch.lean ====
/-
  The run of the program: the kernel's body as the pipeline calls it, and what every array holds at the end.
-/
module

public import proofs.«01_k».proof.Proof.RunP.Body
public import proofs.«01_k».proof.Proof.Gen.Kernel.Frame
public import Idealize.ShloMosaic.Lib.Claim

@[expose] public section

set_option maxRecDepth 8192
set_option maxHeartbeats 4000000

noncomputable section

namespace Cert.Kernel.Run

open Cert.Kernel Cert.Kernel.Gen Cert.Trellis
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation cellOf ΦA)

local notation "𝕄" => MT nD τ sig Unit (Elt F) ℕ (UR sig nD τ) ℕ

/-- No transfer is in flight across a loop. -/
abbrev 𝒱₀ : Variants := Variants.none

abbrev ms0_0 (t : Fin cfg0.N) : Memref sig .tc .vmem S192x8x128 .i8 := win0_0.stage (cfg0.slots t 0)
abbrev hs0_0 (t : Fin cfg0.N) : (ms0_0 t).IsWhole := hstage0_0 0
abbrev ms0_1 (t : Fin cfg0.N) : Memref sig .tc .vmem S192x8x128 .f32 := win0_1.stage (cfg0.slots t 1)
abbrev hs0_1 (t : Fin cfg0.N) : (ms0_1 t).IsWhole := hstage0_1 0
abbrev ms0_2 (t : Fin cfg0.N) : Memref sig .tc .vmem S192x8x128 .i8 := win0_2.stage (cfg0.slots t 2)
abbrev hs0_2 (t : Fin cfg0.N) : (ms0_2 t).IsWhole := hstage0_2 0
abbrev ms0_3 (t : Fin cfg0.N) : Memref sig .tc .vmem S192x8x128 .f32 := win0_3.stage (cfg0.slots t 3)
abbrev hs0_3 (t : Fin cfg0.N) : (ms0_3 t).IsWhole := hstage0_3 0
abbrev ms0_4 (t : Fin cfg0.N) : Memref sig .tc .vmem S2x3x8x128 .f32 := win0_4.stage (cfg0.slots t 4)
abbrev hs0_4 (t : Fin cfg0.N) : (ms0_4 t).IsWhole := hstage0_4 0
abbrev ms0_5 (t : Fin cfg0.N) : Memref sig .tc .smem S713 .f32 := win0_5.stage (cfg0.slots t 5)
abbrev hs0_5 (t : Fin cfg0.N) : (ms0_5 t).IsWhole := hstage0_5 0
abbrev ms0_6 (t : Fin cfg0.N) : Memref sig .tc .smem S4096 .i32 := win0_6.stage (cfg0.slots t 6)
abbrev hs0_6 (t : Fin cfg0.N) : (ms0_6 t).IsWhole := hstage0_6 0
abbrev ms0_7 (t : Fin cfg0.N) : Memref sig .tc .vmem S2x8x128 .f32 := win0_7.stage (cfg0.slots t 7)
abbrev hs0_7 (t : Fin cfg0.N) : (ms0_7 t).IsWhole := hstage0_7 0
abbrev sc0 : Memref sig .tc .vmem S1027x8x128 .f32 := Memref.whole cc0_scratch0
abbrev sc1 : Memref sig .tc .vmem S1027x8x128 .f32 := Memref.whole cc0_scratch1
abbrev sc2 : Memref sig .tc .vmem S1027x8x128 .f32 := Memref.whole cc0_scratch2
abbrev sc3 : Memref sig .tc .vmem S1027x8x128 .f32 := Memref.whole cc0_scratch3
abbrev sc4 : Memref sig .tc .vmem S1027x8x128 .f32 := Memref.whole cc0_scratch4
abbrev sc5 : Memref sig .tc .vmem S1027x8x128 .f32 := Memref.whole cc0_scratch5
abbrev sc6 : Memref sig .tc .vmem S713x8x128 .f32 := Memref.whole cc0_scratch6
abbrev sc7 : Memref sig .tc .vmem S713x8x128 .f32 := Memref.whole cc0_scratch7

/-- A scratch buffer held at something. -/
theorem any_whole (c : Dev nD) (b : Ref sig .tc) :
    (iprop(∃ f : Buf (Elt F) ((c : Thread nD τ).loc b), held c (Memref.whole b) f) : sProp 𝕄) = iprop(∃ f : Buf (Elt F) ((c : Thread nD τ).loc b), ((c : Thread nD τ).loc b) ↦{fullShare} f) := by
  unfold held
  simp only [View.set_whole]

theorem any_sc0 (c : Dev nD) : (any c sc0 : sProp 𝕄) = iprop(∃ f : Buf (Elt F) ((c : Thread nD τ).loc cc0_scratch0), ((c : Thread nD τ).loc cc0_scratch0) ↦{fullShare} f) :=
  any_whole c cc0_scratch0
theorem any_sc1 (c : Dev nD) : (any c sc1 : sProp 𝕄) = iprop(∃ f : Buf (Elt F) ((c : Thread nD τ).loc cc0_scratch1), ((c : Thread nD τ).loc cc0_scratch1) ↦{fullShare} f) :=
  any_whole c cc0_scratch1
theorem any_sc2 (c : Dev nD) : (any c sc2 : sProp 𝕄) = iprop(∃ f : Buf (Elt F) ((c : Thread nD τ).loc cc0_scratch2), ((c : Thread nD τ).loc cc0_scratch2) ↦{fullShare} f) :=
  any_whole c cc0_scratch2
theorem any_sc3 (c : Dev nD) : (any c sc3 : sProp 𝕄) = iprop(∃ f : Buf (Elt F) ((c : Thread nD τ).loc cc0_scratch3), ((c : Thread nD τ).loc cc0_scratch3) ↦{fullShare} f) :=
  any_whole c cc0_scratch3
theorem any_sc4 (c : Dev nD) : (any c sc4 : sProp 𝕄) = iprop(∃ f : Buf (Elt F) ((c : Thread nD τ).loc cc0_scratch4), ((c : Thread nD τ).loc cc0_scratch4) ↦{fullShare} f) :=
  any_whole c cc0_scratch4
theorem any_sc5 (c : Dev nD) : (any c sc5 : sProp 𝕄) = iprop(∃ f : Buf (Elt F) ((c : Thread nD τ).loc cc0_scratch5), ((c : Thread nD τ).loc cc0_scratch5) ↦{fullShare} f) :=
  any_whole c cc0_scratch5
theorem any_sc6 (c : Dev nD) : (any c sc6 : sProp 𝕄) = iprop(∃ f : Buf (Elt F) ((c : Thread nD τ).loc cc0_scratch6), ((c : Thread nD τ).loc cc0_scratch6) ↦{fullShare} f) :=
  any_whole c cc0_scratch6
theorem any_sc7 (c : Dev nD) : (any c sc7 : sProp 𝕄) = iprop(∃ f : Buf (Elt F) ((c : Thread nD τ).loc cc0_scratch7), ((c : Thread nD τ).loc cc0_scratch7) ↦{fullShare} f) :=
  any_whole c cc0_scratch7

/-- The two blocks of the output. -/
def outV (A B : Blk F) : Vec F S2x8x128 .f32 := fun i => if (i 0).val = 0 then A (ix2 (i 1) (i 2)) else B (ix2 (i 1) (i 2))

/-- A buffer of two blocks is its blocks. -/
theorem read_out (v : View sig .tc .vmem S2x8x128 .f32) (f : v.ty.Contents (Elt F)) (A B : Blk F) (hA : rows (N := 2) v f 0 = A) (hB : rows (N := 2) v f 1 = B) :
    v.read (Elt F) f = outV A B := by
  funext i
  obtain ⟨a, b, d, rfl⟩ : ∃ (a : Fin 2) (b : Fin 8) (d : Fin 128), i = ix3 a b d := ⟨i 0, i 1, i 2, eq_ix3 i⟩
  subst hA hB
  match a with
  | ⟨0, _⟩ => rfl
  | ⟨1, _⟩ => rfl

section

variable (m : (ℓ : Loc nD τ sig) → Buf (Elt F) ℓ) (ρ : Dev nD → PrngReg)

/-- What the body leaves in the output's buffer. -/
def outsAt (c : Dev nD) (t : Fin cfg0.N) : Vec F S2x8x128 .f32 :=
  outV (outAC (ms0_0 t) (ms0_1 t) (ms0_2 t) (ms0_3 t) (ms0_4 t) (ms0_5 t) (ms0_6 t)
      ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)))
    (outB (ms0_0 t) (ms0_1 t) (ms0_2 t) (ms0_3 t) (ms0_4 t) (ms0_5 t) (ms0_6 t)
      ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)))

/-- The pipeline's data: the arrays as the region finds them, each input's buffer at its block, the output's at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outsAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The host lines after the two tables do not write what holds the tables. -/
theorem V_table (c : Dev nD) (b : Ref sig .tc) (h : (hostOps0.drop 2 : List (HloOp τ sig (Elt F))).Forall fun op => Proc.devRef .tc b ∉ op.writes) :
    V m c b = StableHlo.after (hostOps0.take 2) (fun b => m (c, b)) (Proc.devRef .tc b) :=
  StableHlo.after_of_forall_not_mem (b := Proc.devRef .tc b) (hostOps0.drop 2) (StableHlo.after (hostOps0.take 2) (fun b => m (c, b)))
    (List.forall_iff_forall_mem.mp h)

/-- The table of slots as the region finds it. -/
theorem V_slots (c : Dev nD) : (V m c main_c : (⟨S4096, .i32⟩ : BufTy).Contents (Elt F)) = fun i => lit1 (S4096.rowMajor i) := by
  refine (V_table m c main_c ?_).trans ?_
  · simp only [hostOps0, List.drop_succ_cons, List.drop_zero, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)
  · simp only [hostOps0, List.take_succ_cons, List.take_zero, StableHlo.after_cons, StableHlo.after_nil]
    exact StableHlo.nullary_result _ _ _ _

/-- The codebook as the region finds it. -/
theorem V_codes (c : Dev nD) : (V m c main_cst : (⟨S713, .f32⟩ : BufTy).Contents (Elt F)) = fun i => FloatOps.ofBits .f32 (lit0 (S713.rowMajor i)) := by
  refine (V_table m c main_cst ?_).trans ?_
  · simp only [hostOps0, List.drop_succ_cons, List.drop_zero, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)
  · simp only [hostOps0, List.take_succ_cons, List.take_zero, StableHlo.after_cons, StableHlo.after_nil]
    refine (StableHlo.nullary_result_ne _ _ _ _ (r := main_cst) ?_).trans (StableHlo.nullary_result _ _ _ _)
    decide

/-- Every slot of the printed table is a row of the codebook. -/
theorem lit_slots : ∀ i : Fin 4096, (lit1 i).toNat < 713 := by decide +kernel

/-- Every slot the kernel reads is a row of the codebook. -/
theorem slots_ok (c : Dev nD) (t : Fin cfg0.N) : SlotsOK (ms0_6 t) ((hs0_6 t).unread (iblk m c 6 t)) := by
  intro s
  unfold slotOf words
  by_cases h : s < 4096
  · rw [dif_pos h, (hs0_6 t).read_unread]
    show (V m c main_c (((cfg0.win 6).blk t).view.emb _)).toNat < 713
    rw [V_slots]
    exact lit_slots _
  · rw [dif_neg h]; decide

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7]
  unfold Pipeline.ΦA
  rw [scopedRest0_eq, ← any_sc0, ← any_sc1, ← any_sc2, ← any_sc3, ← any_sc4, ← any_sc5, ← any_sc6, ← any_sc7]
  unfold owns
  iintro ⟨⟨⟨S0, S1, S2, S3, S4, S5, S6, S7⟩, Hr⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩⟩
  obtain rfl := (hs0_0 t).eq_unread hf0
  obtain rfl := (hs0_1 t).eq_unread hf1
  obtain rfl := (hs0_2 t).eq_unread hf2
  obtain rfl := (hs0_3 t).eq_unread hf3
  obtain rfl := (hs0_4 t).eq_unread hf4
  obtain rfl := (hs0_5 t).eq_unread hf5
  obtain rfl := (hs0_6 t).eq_unread hf6
  iapply (body_run_k 𝒱₀ c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) (slots_ok m c t) Set.univ _)
  unfold bodyPre bodyPost
  isplitl [S0 S1 S2 S3 S4 S5 S6 S7 H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · unfold any; iexists _; iexact H7
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro ⟨H0, H1, H2, H3, H4, H5, H6, ⟨%f7', H7, %h7⟩, S0, S1, S2, S3, S4, S5, S6, S7⟩
  isplitl [S0 S1 S2 S3 S4 S5 S6 S7 Hr]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    · iexact Hr
  isplitl [Ho]; · iexact Ho
  isplitl [H0]
  · iexists _; isplitr; · ipureintro; exact (hs0_0 t).read_unread _
    iexact H0
  isplitl [H1]
  · iexists _; isplitr; · ipureintro; exact (hs0_1 t).read_unread _
    iexact H1
  isplitl [H2]
  · iexists _; isplitr; · ipureintro; exact (hs0_2 t).read_unread _
    iexact H2
  isplitl [H3]
  · iexists _; isplitr; · ipureintro; exact (hs0_3 t).read_unread _
    iexact H3
  isplitl [H4]
  · iexists _; isplitr; · ipureintro; exact (hs0_4 t).read_unread _
    iexact H4
  isplitl [H5]
  · iexists _; isplitr; · ipureintro; exact (hs0_5 t).read_unread _
    iexact H5
  isplitl [H6]
  · iexists _; isplitr; · ipureintro; exact (hs0_6 t).read_unread _
    iexact H6
  iexists _; isplitr; swap; · iexact H7
  ipureintro
  exact read_out _ _ _ _ h7.1 h7.2

-- the implicit arguments are found by unifying the conclusion with this one, which takes unfolding plain definitions in a
-- metavariable's type
set_option backward.isDefEq.respectTransparency.types false in
/-- Every execution of the program ends with every array at what the pipeline's data and the later host lines make of it,
and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The arguments end unchanged, and every semaphore counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) (fun _ _ => rfl)) (run_main m ρ)

end

end Cert.Kernel.Run

end
-- ==== Proof.Value.Trellis.lean ====
/-
  The trellis of 4096 states over extended reals: the cost reached forward from the first position, the cost left backward from the last,
  and that the least over the 1024 meeting states of their sum is the same wherever they meet, which is the cost of the plain recursion.
-/
module

public import Mathlib.Data.EReal.Operations
public import Mathlib.Order.CompleteLattice.Finset
public import Mathlib.Data.Finset.Lattice.Fold

@[expose] public section

noncomputable section

namespace Cert.Trellis.Scalar

open Finset

/-- The least of four. -/
def min4 (a b c d : EReal) : EReal := min (min a b) (min c d)

/-- One forward step: the cost at `q` from the costs at the four states `256 x + q / 4`. -/
def fwd (e μ : ℕ → EReal) (q : ℕ) : EReal :=
  min4 (μ (256 * 0 + q / 4) + e (1024 * 0 + q)) (μ (256 * 1 + q / 4) + e (1024 * 1 + q)) (μ (256 * 2 + q / 4) + e (1024 * 2 + q)) (μ (256 * 3 + q / 4) + e (1024 * 3 + q))

/-- One backward step: the cost at `q` from the costs at the four states `4 (q mod 256) + y`. -/
def bwd (e ν : ℕ → EReal) (q : ℕ) : EReal :=
  min4 (ν (4 * (q % 256) + 0) + e (1024 * (q / 256) + (4 * (q % 256) + 0))) (ν (4 * (q % 256) + 1) + e (1024 * (q / 256) + (4 * (q % 256) + 1)))
    (ν (4 * (q % 256) + 2) + e (1024 * (q / 256) + (4 * (q % 256) + 2))) (ν (4 * (q % 256) + 3) + e (1024 * (q / 256) + (4 * (q % 256) + 3)))

/-- The iterates of a step. -/
def iter (step : (ℕ → EReal) → (ℕ → EReal) → ℕ → EReal) (e : ℕ → ℕ → EReal) (μ : ℕ → EReal) : ℕ → ℕ → EReal
  | 0 => μ
  | n + 1 => step (e n) (iter step e μ n)

/-- The plain recursion: the least cost of a path of `p + 1` states that ends at state `s`. -/
def dist (e : ℕ → ℕ → EReal) : ℕ → ℕ → EReal
  | 0 => e 0
  | p + 1 => fun s => (range 4).inf (fun x => dist e p (1024 * x + s / 4)) + e (p + 1) s

theorem min_add (a b c : EReal) : min a b + c = min (a + c) (b + c) := by
  rcases le_total a b with h | h
  · rw [min_eq_left h, min_eq_left (add_le_add_left h c)]
  · rw [min_eq_right h, min_eq_right (add_le_add_left h c)]

theorem min4_add (a b c d e : EReal) : min4 a b c d + e = min4 (a + e) (b + e) (c + e) (d + e) := by
  unfold min4
  rw [min_add, min_add, min_add]

theorem add_min4 (a b c d e : EReal) : e + min4 a b c d = min4 (e + a) (e + b) (e + c) (e + d) := by
  rw [add_comm, min4_add, add_comm a, add_comm b, add_comm c, add_comm d]

theorem le_min4 {a b c d e : EReal} (h0 : e ≤ a) (h1 : e ≤ b) (h2 : e ≤ c) (h3 : e ≤ d) : e ≤ min4 a b c d :=
  le_min (le_min h0 h1) (le_min h2 h3)

theorem min4_le (f : ℕ → EReal) (x : ℕ) (hx : x < 4) : min4 (f 0) (f 1) (f 2) (f 3) ≤ f x := by
  unfold min4
  match x, hx with
  | 0, _ => exact (min_le_left _ _).trans (min_le_left _ _)
  | 1, _ => exact (min_le_left _ _).trans (min_le_right _ _)
  | 2, _ => exact (min_le_right _ _).trans (min_le_left _ _)
  | 3, _ => exact (min_le_right _ _).trans (min_le_right _ _)

theorem inf4 (f : ℕ → EReal) : (range 4).inf f = min4 (f 0) (f 1) (f 2) (f 3) := by
  refine le_antisymm (le_min4 ?_ ?_ ?_ ?_) (Finset.le_inf fun x hx => min4_le f x (mem_range.mp hx))
  all_goals exact Finset.inf_le (mem_range.mpr (by decide))

/-- The least, over all 4096 states, of the cost before, the state's own and the cost after. -/
def through (μ e ν : ℕ → EReal) : EReal := (range 4096).inf fun s => μ (s / 4) + (e s + ν (s % 1024))

theorem fwd_meet (μ e ν : ℕ → EReal) : ((range 1024).inf fun q => fwd e μ q + ν q) = through μ e ν := by
  unfold through
  refine le_antisymm (Finset.le_inf fun s hs => ?_) (Finset.le_inf fun q hq => ?_)
  · have hs' := mem_range.mp hs
    refine (Finset.inf_le (mem_range.mpr (Nat.mod_lt s (by decide)))).trans ?_
    unfold fwd
    rw [min4_add]
    refine (min4_le (fun x => μ (256 * x + s % 1024 / 4) + e (1024 * x + s % 1024) + ν (s % 1024)) (s / 1024) (by omega)).trans (le_of_eq ?_)
    show μ (256 * (s / 1024) + s % 1024 / 4) + e (1024 * (s / 1024) + s % 1024) + ν (s % 1024) = _
    rw [show 256 * (s / 1024) + s % 1024 / 4 = s / 4 by omega, show 1024 * (s / 1024) + s % 1024 = s by omega, add_assoc]
  · have hq' := mem_range.mp hq
    unfold fwd
    rw [min4_add]
    have key : ∀ x, x < 4 → ((range 4096).inf fun s => μ (s / 4) + (e s + ν (s % 1024))) ≤ μ (256 * x + q / 4) + e (1024 * x + q) + ν q := fun x hx => by
      refine (Finset.inf_le (mem_range.mpr (show 1024 * x + q < 4096 by omega))).trans (le_of_eq ?_)
      rw [show (1024 * x + q) / 4 = 256 * x + q / 4 by omega, show (1024 * x + q) % 1024 = q by omega, add_assoc]
    exact le_min4 (key 0 (by decide)) (key 1 (by decide)) (key 2 (by decide)) (key 3 (by decide))

theorem bwd_meet (μ e ν : ℕ → EReal) : ((range 1024).inf fun q => μ q + bwd e ν q) = through μ e ν := by
  unfold through
  refine le_antisymm (Finset.le_inf fun s hs => ?_) (Finset.le_inf fun q hq => ?_)
  · have hs' := mem_range.mp hs
    refine (Finset.inf_le (mem_range.mpr (show s / 4 < 1024 by omega))).trans ?_
    unfold bwd
    rw [add_min4]
    refine (min4_le (fun y => μ (s / 4) + (ν (4 * (s / 4 % 256) + y) + e (1024 * (s / 4 / 256) + (4 * (s / 4 % 256) + y)))) (s % 4) (by omega)).trans (le_of_eq ?_)
    show μ (s / 4) + (ν (4 * (s / 4 % 256) + s % 4) + e (1024 * (s / 4 / 256) + (4 * (s / 4 % 256) + s % 4))) = _
    rw [show 1024 * (s / 4 / 256) + (4 * (s / 4 % 256) + s % 4) = s by omega, show 4 * (s / 4 % 256) + s % 4 = s % 1024 by omega, add_comm (ν _)]
  · have hq' := mem_range.mp hq
    unfold bwd
    rw [add_min4]
    have key : ∀ y, y < 4 → ((range 4096).inf fun s => μ (s / 4) + (e s + ν (s % 1024)))
        ≤ μ q + (ν (4 * (q % 256) + y) + e (1024 * (q / 256) + (4 * (q % 256) + y))) := fun y hy => by
      refine (Finset.inf_le (mem_range.mpr (show 1024 * (q / 256) + (4 * (q % 256) + y) < 4096 by omega))).trans (le_of_eq ?_)
      rw [show (1024 * (q / 256) + (4 * (q % 256) + y)) / 4 = q by omega,
        show (1024 * (q / 256) + (4 * (q % 256) + y)) % 1024 = 4 * (q % 256) + y by omega, add_comm (ν _)]
    exact le_min4 (key 0 (by decide)) (key 1 (by decide)) (key 2 (by decide)) (key 3 (by decide))

/-- The least cost of a path that meets at position `n`. -/
def meet (e : ℕ → ℕ → EReal) (n m : ℕ) : EReal :=
  (range 1024).inf fun q => iter fwd e (fun _ => 0) n q + iter bwd (fun p => e (255 - p)) (fun _ => 0) m q

theorem meet_step (e : ℕ → ℕ → EReal) (n m : ℕ) (h : n + m = 255) : meet e (n + 1) m = meet e n (m + 1) := by
  unfold meet
  show ((range 1024).inf fun q => fwd (e n) (iter fwd e (fun _ => 0) n) q + iter bwd (fun p => e (255 - p)) (fun _ => 0) m q)
    = (range 1024).inf fun q => iter fwd e (fun _ => 0) n q + bwd (e (255 - m)) (iter bwd (fun p => e (255 - p)) (fun _ => 0) m) q
  rw [fwd_meet, bwd_meet, show 255 - m = n by omega]

theorem meet_all (e : ℕ → ℕ → EReal) : ∀ m n, n + m = 256 → meet e n m = meet e 256 0
  | 0, n, h => by rw [show n = 256 by omega]
  | m + 1, n, h => by rw [← meet_step e n m (by omega), meet_all e m (n + 1) (by omega)]

/-- The forward costs are those of the plain recursion, one state's own cost still to come. -/
theorem dist_eq (e : ℕ → ℕ → EReal) : ∀ p s, s < 4096 → dist e p s = iter fwd e (fun _ => 0) p (s / 4) + e p s
  | 0, s, _ => by
    show e 0 s = 0 + e 0 s
    rw [zero_add]
  | p + 1, s, hs => by
    show (range 4).inf (fun x => dist e p (1024 * x + s / 4)) + e (p + 1) s = fwd (e p) (iter fwd e (fun _ => 0) p) (s / 4) + e (p + 1) s
    congr 1
    rw [inf4]
    refine Eq.trans ?_ (show _ = fwd (e p) (iter fwd e (fun _ => 0) p) (s / 4) from rfl)
    rw [dist_eq e p _ (by omega), dist_eq e p _ (by omega), dist_eq e p _ (by omega), dist_eq e p _ (by omega),
      show (1024 * 0 + s / 4) / 4 = 256 * 0 + s / 4 / 4 by omega, show (1024 * 1 + s / 4) / 4 = 256 * 1 + s / 4 / 4 by omega,
      show (1024 * 2 + s / 4) / 4 = 256 * 2 + s / 4 / 4 by omega, show (1024 * 3 + s / 4) / 4 = 256 * 3 + s / 4 / 4 by omega]
    rfl

/-- Wherever the two recursions meet, the least of the sums is the cost of the plain recursion. -/
theorem meet_eq (e : ℕ → ℕ → EReal) (n m : ℕ) (h : n + m = 256) : meet e n m = (range 4096).inf (dist e 255) := by
  rw [meet_all e m n h]
  unfold meet
  show ((range 1024).inf fun q => fwd (e 255) (iter fwd e (fun _ => 0) 255) q + 0) = _
  rw [fwd_meet _ _ (fun _ => 0)]
  unfold through
  refine Finset.inf_congr rfl fun s hs => ?_
  rw [dist_eq e 255 s (mem_range.mp hs), add_zero]

end Cert.Trellis.Scalar

end
-- ==== Proof.Value.Blocks.lean ====
/-
  The block by block costs, at exact arithmetic, entry by entry: each entry follows the scalar recursion of its own row and lane.
-/
module

public import proofs.«01_k».proof.Proof.Run.Steps
public import proofs.«01_k».proof.Proof.Value.Trellis
public import Idealize.ShloMosaic.PureOps.Ideal

@[expose] public section

noncomputable section

namespace Cert.Trellis

open Idealize.ShloMosaic Idealize.ShloMosaic.TcCoe

/-- The weighted squared distance of a target from a number of the codebook. -/
def err (t h x : EReal) : EReal := h * ((t - x) * (t - x))

theorem errB_at (t h : Blk Ideal) (x : Ideal .f32) (j : (⟨2, ![8, 128]⟩ : Shape).Idx) : errB t h x j = err (t j) (h j) x := rfl

theorem infB_at (j : (⟨2, ![8, 128]⟩ : Shape).Idx) : (infB : Blk Ideal) j = (⊤ : EReal) := by
  show Ideal.ofBits .f32 0x7F800000#32 = ⊤
  simp [Ideal.ofBits, Ideal.ieee]

theorem zeroB_at (j : (⟨2, ![8, 128]⟩ : Shape).Idx) : (zeroB : Blk Ideal) j = (0 : EReal) := by
  show Ideal.ofBits .f32 0x00000000#32 = 0
  simp [Ideal.ofBits, Ideal.ieee]

theorem fwdStep_at (E μ : ℕ → Blk Ideal) (q : ℕ) (j : (⟨2, ![8, 128]⟩ : Shape).Idx) :
    fwdStep E μ q j = Scalar.fwd (fun s => E s j) (fun q => μ q j) q := rfl

theorem bwdStep_at (E ν : ℕ → Blk Ideal) (q : ℕ) (j : (⟨2, ![8, 128]⟩ : Shape).Idx) :
    bwdStep E ν q j = Scalar.bwd (fun s => E s j) (fun q => ν q j) q := rfl

theorem iter_fwd_at (E : ℕ → ℕ → Blk Ideal) (μ : ℕ → Blk Ideal) (j : (⟨2, ![8, 128]⟩ : Shape).Idx) :
    ∀ n, (fun q => iter fwdStep E μ n q j) = Scalar.iter Scalar.fwd (fun p s => E p s j) (fun q => μ q j) n
  | 0 => rfl
  | n + 1 => by
    show (fun q => Scalar.fwd (fun s => E n s j) (fun q => iter fwdStep E μ n q j) q) = Scalar.fwd (fun s => E n s j) (Scalar.iter Scalar.fwd (fun p s => E p s j) (fun q => μ q j) n)
    rw [iter_fwd_at E μ j n]

theorem iter_bwd_at (E : ℕ → ℕ → Blk Ideal) (μ : ℕ → Blk Ideal) (j : (⟨2, ![8, 128]⟩ : Shape).Idx) :
    ∀ n, (fun q => iter bwdStep E μ n q j) = Scalar.iter Scalar.bwd (fun p s => E p s j) (fun q => μ q j) n
  | 0 => rfl
  | n + 1 => by
    show (fun q => Scalar.bwd (fun s => E n s j) (fun q => iter bwdStep E μ n q j) q) = Scalar.bwd (fun s => E n s j) (Scalar.iter Scalar.bwd (fun p s => E p s j) (fun q => μ q j) n)
    rw [iter_bwd_at E μ j n]

theorem accB_at (f : ℕ → Blk Ideal) (j : (⟨2, ![8, 128]⟩ : Shape).Idx) : ∀ n, accB f n j = (Finset.range n).inf fun q => (f q j : EReal)
  | 0 => (infB_at j).trans Finset.inf_empty.symm
  | n + 1 => by
    rw [Finset.range_add_one, Finset.inf_insert, ← accB_at f j n]
    exact min_comm _ _

/-- More steps after `a` steps are steps with later costs. -/
theorem Scalar.iter_add (step : (ℕ → EReal) → (ℕ → EReal) → ℕ → EReal) (e : ℕ → ℕ → EReal) (μ : ℕ → EReal) (a : ℕ) :
    ∀ n, Scalar.iter step (fun p => e (a + p)) (Scalar.iter step e μ a) n = Scalar.iter step e μ (a + n)
  | 0 => rfl
  | n + 1 => by
    show step (e (a + n)) (Scalar.iter step (fun p => e (a + p)) (Scalar.iter step e μ a) n) = step (e (a + n)) (Scalar.iter step e μ (a + n))
    rw [Scalar.iter_add step e μ a n]

/-! Steps whose costs agree on the states of the trellis. -/

theorem Scalar.fwd_congr (e e' μ μ' : ℕ → EReal) (h : ∀ s, s < 4096 → e s = e' s) (hμ : ∀ q, q < 1024 → μ q = μ' q) (q : ℕ) (hq : q < 1024) :
    Scalar.fwd e μ q = Scalar.fwd e' μ' q := by
  unfold Scalar.fwd
  rw [h _ (by omega), h _ (by omega), h _ (by omega), h _ (by omega), hμ _ (by omega), hμ _ (by omega), hμ _ (by omega), hμ _ (by omega)]

theorem Scalar.iter_fwd_congr (e e' : ℕ → ℕ → EReal) (μ μ' : ℕ → EReal) : ∀ n, (∀ p, p < n → ∀ s, s < 4096 → e p s = e' p s) → (∀ q, q < 1024 → μ q = μ' q) →
    ∀ q, q < 1024 → Scalar.iter Scalar.fwd e μ n q = Scalar.iter Scalar.fwd e' μ' n q
  | 0, _, hμ, q, hq => hμ q hq
  | n + 1, h, hμ, q, hq =>
    Scalar.fwd_congr (e n) (e' n) _ _ (h n (by omega)) (Scalar.iter_fwd_congr e e' μ μ' n (fun p hp => h p (by omega)) hμ) q hq

theorem Scalar.bwd_congr (e e' μ μ' : ℕ → EReal) (h : ∀ s, s < 4096 → e s = e' s) (hμ : ∀ q, q < 1024 → μ q = μ' q) (q : ℕ) (hq : q < 1024) :
    Scalar.bwd e μ q = Scalar.bwd e' μ' q := by
  unfold Scalar.bwd
  rw [h _ (by omega), h _ (by omega), h _ (by omega), h _ (by omega), hμ _ (by omega), hμ _ (by omega), hμ _ (by omega), hμ _ (by omega)]

theorem Scalar.iter_bwd_congr (e e' : ℕ → ℕ → EReal) (μ μ' : ℕ → EReal) : ∀ n, (∀ p, p < n → ∀ s, s < 4096 → e p s = e' p s) → (∀ q, q < 1024 → μ q = μ' q) →
    ∀ q, q < 1024 → Scalar.iter Scalar.bwd e μ n q = Scalar.iter Scalar.bwd e' μ' n q
  | 0, _, hμ, q, hq => hμ q hq
  | n + 1, h, hμ, q, hq =>
    Scalar.bwd_congr (e n) (e' n) _ _ (h n (by omega)) (Scalar.iter_bwd_congr e e' μ μ' n (fun p hp => h p (by omega)) hμ) q hq

end Cert.Trellis

end
-- ==== Proof.Value.Rows.lean ====
/-
  The rows of the output blocks: with each row's costs those of one group of one row of the matrix, every row that is read holds
  the least cost of a path of 256 steps.
-/
module

public import proofs.«01_k».proof.Proof.Run.Body
public import proofs.«01_k».proof.Proof.Value.Blocks

@[expose] public section

noncomputable section

namespace Cert.KernelIdeal.Run

open Cert.KernelIdeal Cert.KernelIdeal.Gen Cert.Trellis
open Idealize.ShloMosaic Idealize.ShloMosaic.TcCoe

/-- The group that row `r` of the forward blocks holds at position `p`. -/
def fR (r p : ℕ) : ℕ := if r < 4 then r else if p < 128 then r else r + 4
/-- The group's own position there. -/
def fP (r p : ℕ) : ℕ := if r < 4 then p else if p < 128 then p else p - 128
/-- The group that row `r` of the backward blocks holds at position `p`. -/
def bR (r p : ℕ) : ℕ := if r < 4 then 8 + r else if p < 64 then r - 4 else r
/-- The group's own position there. -/
def bP (r p : ℕ) : ℕ := if r < 4 then 255 - p else if p < 64 then 255 - p else 255 - (p - 64)

/-- Forward steps at an entry. -/
theorem iter_fwd_entry (E : ℕ → ℕ → Blk Ideal) (μ : ℕ → Blk Ideal) (j : (⟨2, ![8, 128]⟩ : Shape).Idx) (e : ℕ → ℕ → EReal) (μ' : ℕ → EReal) (n : ℕ)
    (hE : ∀ p, p < n → ∀ s, s < 4096 → E p s j = e p s) (hμ : ∀ q, q < 1024 → μ q j = μ' q) (q : ℕ) (hq : q < 1024) :
    iter fwdStep E μ n q j = Scalar.iter Scalar.fwd e μ' n q :=
  (congrFun (iter_fwd_at E μ j n) q).trans (Scalar.iter_fwd_congr _ _ _ _ n hE hμ q hq)

/-- Backward steps at an entry. -/
theorem iter_bwd_entry (E : ℕ → ℕ → Blk Ideal) (ν : ℕ → Blk Ideal) (j : (⟨2, ![8, 128]⟩ : Shape).Idx) (e : ℕ → ℕ → EReal) (ν' : ℕ → EReal) (n : ℕ)
    (hE : ∀ p, p < n → ∀ s, s < 4096 → E p s j = e p s) (hν : ∀ q, q < 1024 → ν q j = ν' q) (q : ℕ) (hq : q < 1024) :
    iter bwdStep E ν n q j = Scalar.iter Scalar.bwd e ν' n q :=
  (congrFun (iter_bwd_at E ν j n) q).trans (Scalar.iter_bwd_congr _ _ _ _ n hE hν q hq)

theorem clear_low (μ : ℕ → Blk Ideal) (q : ℕ) (r : Fin 8) (l : Fin 128) (hr : r.val < 4) : clearHigh μ q (ix2 r l) = μ q (ix2 r l) := if_pos hr
theorem clear_high (μ : ℕ → Blk Ideal) (q : ℕ) (r : Fin 8) (l : Fin 128) (hr : ¬ r.val < 4) : clearHigh μ q (ix2 r l) = (0 : EReal) := (if_neg hr).trans (zeroB_at _)

section

variable (arg0 : Memref sig .tc .vmem S192x8x128 .i8) (arg1 : Memref sig .tc .vmem S192x8x128 .f32) (arg2 : Memref sig .tc .vmem S192x8x128 .i8)
  (arg3 : Memref sig .tc .vmem S192x8x128 .f32) (arg4 : Memref sig .tc .vmem S2x3x8x128 .f32) (arg5 : Memref sig .tc .smem S713 .f32) (arg6 : Memref sig .tc .smem S4096 .i32)
  (X0 : BufTy.Contents (Elt Ideal) arg0.view.ty) (X1 : BufTy.Contents (Elt Ideal) arg1.view.ty) (X2 : BufTy.Contents (Elt Ideal) arg2.view.ty)
  (X3 : BufTy.Contents (Elt Ideal) arg3.view.ty) (X4 : BufTy.Contents (Elt Ideal) arg4.view.ty) (X5 : BufTy.Contents (Elt Ideal) arg5.view.ty) (X6 : BufTy.Contents (Elt Ideal) arg6.view.ty)

/-- The forward blocks' costs are the groups' costs `e`. -/
def FwdIs (e : ℕ → Fin 128 → ℕ → ℕ → EReal) : Prop := ∀ (k : Fin 3) (p : ℕ), p < 64 → ∀ s, s < 4096 → ∀ (r : Fin 8) (l : Fin 128),
  errAt arg0 X0 arg1 X1 arg5 X5 (slotOf arg6 X6) (srow arg4.view X4 0 k) (64 * k.val + p) s (ix2 r l) = e (fR r.val (64 * k.val + p)) l (fP r.val (64 * k.val + p)) s

/-- The backward blocks' costs are the groups' costs `e`. -/
def BwdIs (e : ℕ → Fin 128 → ℕ → ℕ → EReal) : Prop := ∀ (k : Fin 3) (p : ℕ), p < 64 → ∀ s, s < 4096 → ∀ (r : Fin 8) (l : Fin 128),
  errAt arg2 X2 arg3 X3 arg5 X5 (slotOf arg6 X6) (srow arg4.view X4 1 k) (64 * k.val + p) s (ix2 r l) = e (bR r.val (64 * k.val + p)) l (bP r.val (64 * k.val + p)) s

variable {arg0 arg1 arg2 arg3 arg4 arg5 arg6 X0 X1 X2 X3 X4 X5 X6} {e : ℕ → Fin 128 → ℕ → ℕ → EReal}

/-- One forward segment at an entry. -/
theorem fwdSeg_entry (hF : FwdIs arg0 arg1 arg4 arg5 arg6 X0 X1 X4 X5 X6 e) (k : Fin 3) (r : Fin 8) (l : Fin 128) (f : ℕ → ℕ → EReal) (μ : ℕ → Blk Ideal) (μ' : ℕ → EReal)
    (hf : ∀ p, p < 64 → e (fR r.val (64 * k.val + p)) l (fP r.val (64 * k.val + p)) = f p) (hμ : ∀ q, q < 1024 → μ q (ix2 r l) = μ' q) (q : ℕ) (hq : q < 1024) :
    fwdSeg arg0 arg1 arg4 arg5 arg6 X0 X1 X4 X5 X6 k μ q (ix2 r l) = Scalar.iter Scalar.fwd f μ' 64 q :=
  iter_fwd_entry _ _ _ _ _ 64 (fun p hp s hs => (hF k p hp s hs r l).trans (congrFun (hf p hp) s)) hμ q hq

/-- One backward segment at an entry. -/
theorem bwdSeg_entry (hB : BwdIs arg2 arg3 arg4 arg5 arg6 X2 X3 X4 X5 X6 e) (k : Fin 3) (r : Fin 8) (l : Fin 128) (f : ℕ → ℕ → EReal) (ν : ℕ → Blk Ideal) (ν' : ℕ → EReal)
    (hf : ∀ p, p < 64 → e (bR r.val (64 * k.val + p)) l (bP r.val (64 * k.val + p)) = f p) (hν : ∀ q, q < 1024 → ν q (ix2 r l) = ν' q) (q : ℕ) (hq : q < 1024) :
    bwdSeg arg2 arg3 arg4 arg5 arg6 X2 X3 X4 X5 X6 k ν q (ix2 r l) = Scalar.iter Scalar.bwd f ν' 64 q :=
  iter_bwd_entry _ _ _ _ _ 64 (fun p hp s hs => (hB k p hp s hs r l).trans (congrFun (hf p hp) s)) hν q hq

/-- The saved forward costs: 128 steps of the row's own group. -/
theorem fwdSaved_entry (hF : FwdIs arg0 arg1 arg4 arg5 arg6 X0 X1 X4 X5 X6 e) (r : Fin 8) (l : Fin 128) (q : ℕ) (hq : q < 1024) :
    fwdSaved arg0 arg1 arg4 arg5 arg6 X0 X1 X4 X5 X6 q (ix2 r l) = Scalar.iter Scalar.fwd (e r.val l) (fun _ => 0) 128 q := by
  unfold fwdSaved
  refine (fwdSeg_entry hF 1 r l (fun p => e r.val l (64 + p)) _ (Scalar.iter Scalar.fwd (e r.val l) (fun _ => 0) 64) ?_ ?_ q hq).trans
    (congrFun (Scalar.iter_add Scalar.fwd (e r.val l) (fun _ => 0) 64 64) q)
  · intro p hp
    show e (fR r.val (64 * 1 + p)) l (fP r.val (64 * 1 + p)) = _
    rw [show fR r.val (64 * 1 + p) = r.val from by unfold fR; split_ifs <;> omega, show fP r.val (64 * 1 + p) = 64 + p from by unfold fP; split_ifs <;> omega]
  · refine fwdSeg_entry hF 0 r l (e r.val l) _ (fun _ => 0) ?_ (fun q _ => zeroB_at _)
    intro p hp
    show e (fR r.val (64 * 0 + p)) l (fP r.val (64 * 0 + p)) = _
    rw [show fR r.val (64 * 0 + p) = r.val from by unfold fR; split_ifs <;> omega, show fP r.val (64 * 0 + p) = p from by unfold fP; split_ifs <;> omega]

/-- The last forward costs of the first four rows: 192 steps. -/
theorem fwdAfter_low (hF : FwdIs arg0 arg1 arg4 arg5 arg6 X0 X1 X4 X5 X6 e) (r : Fin 8) (l : Fin 128) (hr : r.val < 4) (q : ℕ) (hq : q < 1024) :
    fwdAfter arg0 arg1 arg4 arg5 arg6 X0 X1 X4 X5 X6 3 q (ix2 r l) = Scalar.iter Scalar.fwd (e r.val l) (fun _ => 0) 192 q := by
  show fwdSeg arg0 arg1 arg4 arg5 arg6 X0 X1 X4 X5 X6 2 (clearHigh (fwdSaved arg0 arg1 arg4 arg5 arg6 X0 X1 X4 X5 X6)) q (ix2 r l) = _
  refine (fwdSeg_entry hF 2 r l (fun p => e r.val l (128 + p)) _ (Scalar.iter Scalar.fwd (e r.val l) (fun _ => 0) 128) ?_ ?_ q hq).trans
    (congrFun (Scalar.iter_add Scalar.fwd (e r.val l) (fun _ => 0) 128 64) q)
  · intro p hp
    show e (fR r.val (64 * 2 + p)) l (fP r.val (64 * 2 + p)) = _
    rw [show fR r.val (64 * 2 + p) = r.val from by unfold fR; split_ifs <;> omega, show fP r.val (64 * 2 + p) = 128 + p from by unfold fP; split_ifs <;> omega]
  · intro q hq
    rw [clear_low _ _ _ _ hr]
    exact fwdSaved_entry hF r l q hq

/-- The last forward costs of the last four rows: 64 steps of the third group. -/
theorem fwdAfter_high (hF : FwdIs arg0 arg1 arg4 arg5 arg6 X0 X1 X4 X5 X6 e) (r : Fin 8) (l : Fin 128) (hr : ¬ r.val < 4) (q : ℕ) (hq : q < 1024) :
    fwdAfter arg0 arg1 arg4 arg5 arg6 X0 X1 X4 X5 X6 3 q (ix2 r l) = Scalar.iter Scalar.fwd (e (r.val + 4) l) (fun _ => 0) 64 q := by
  show fwdSeg arg0 arg1 arg4 arg5 arg6 X0 X1 X4 X5 X6 2 (clearHigh (fwdSaved arg0 arg1 arg4 arg5 arg6 X0 X1 X4 X5 X6)) q (ix2 r l) = _
  refine fwdSeg_entry hF 2 r l (e (r.val + 4) l) _ (fun _ => 0) ?_ (fun q _ => clear_high _ _ _ _ hr) q hq
  intro p hp
  show e (fR r.val (64 * 2 + p)) l (fP r.val (64 * 2 + p)) = _
  rw [show fR r.val (64 * 2 + p) = r.val + 4 from by unfold fR; split_ifs <;> omega, show fP r.val (64 * 2 + p) = p from by unfold fP; split_ifs <;> omega]

/-- The saved backward costs of the first four rows: 64 steps of the third group. -/
theorem bwdSaved_low (hB : BwdIs arg2 arg3 arg4 arg5 arg6 X2 X3 X4 X5 X6 e) (r : Fin 8) (l : Fin 128) (hr : r.val < 4) (q : ℕ) (hq : q < 1024) :
    bwdSaved arg2 arg3 arg4 arg5 arg6 X2 X3 X4 X5 X6 q (ix2 r l) = Scalar.iter Scalar.bwd (fun p => e (8 + r.val) l (255 - p)) (fun _ => 0) 64 q := by
  unfold bwdSaved
  refine bwdSeg_entry hB 0 r l _ _ (fun _ => 0) ?_ (fun q _ => zeroB_at _) q hq
  intro p hp
  show e (bR r.val (64 * 0 + p)) l (bP r.val (64 * 0 + p)) = _
  rw [show bR r.val (64 * 0 + p) = 8 + r.val from by unfold bR; split_ifs <;> omega, show bP r.val (64 * 0 + p) = 255 - p from by unfold bP; split_ifs <;> omega]

/-- The saved backward costs of the last four rows: 64 steps of the first group. -/
theorem bwdSaved_high (hB : BwdIs arg2 arg3 arg4 arg5 arg6 X2 X3 X4 X5 X6 e) (r : Fin 8) (l : Fin 128) (hr : ¬ r.val < 4) (q : ℕ) (hq : q < 1024) :
    bwdSaved arg2 arg3 arg4 arg5 arg6 X2 X3 X4 X5 X6 q (ix2 r l) = Scalar.iter Scalar.bwd (fun p => e (r.val - 4) l (255 - p)) (fun _ => 0) 64 q := by
  unfold bwdSaved
  refine bwdSeg_entry hB 0 r l _ _ (fun _ => 0) ?_ (fun q _ => zeroB_at _) q hq
  intro p hp
  show e (bR r.val (64 * 0 + p)) l (bP r.val (64 * 0 + p)) = _
  rw [show bR r.val (64 * 0 + p) = r.val - 4 from by unfold bR; split_ifs <;> omega, show bP r.val (64 * 0 + p) = 255 - p from by unfold bP; split_ifs <;> omega]

/-- The last backward costs of the first four rows: 192 steps of the third group. -/
theorem bwdAfter_low (hB : BwdIs arg2 arg3 arg4 arg5 arg6 X2 X3 X4 X5 X6 e) (r : Fin 8) (l : Fin 128) (hr : r.val < 4) (q : ℕ) (hq : q < 1024) :
    bwdAfter arg2 arg3 arg4 arg5 arg6 X2 X3 X4 X5 X6 3 q (ix2 r l) = Scalar.iter Scalar.bwd (fun p => e (8 + r.val) l (255 - p)) (fun _ => 0) 192 q := by
  show bwdSeg arg2 arg3 arg4 arg5 arg6 X2 X3 X4 X5 X6 2 (bwdSeg arg2 arg3 arg4 arg5 arg6 X2 X3 X4 X5 X6 1 (clearHigh (bwdSaved arg2 arg3 arg4 arg5 arg6 X2 X3 X4 X5 X6))) q (ix2 r l) = _
  refine (bwdSeg_entry hB 2 r l (fun p => e (8 + r.val) l (255 - (128 + p))) _ (Scalar.iter Scalar.bwd (fun p => e (8 + r.val) l (255 - p)) (fun _ => 0) 128) ?_ ?_ q hq).trans
    (congrFun (Scalar.iter_add Scalar.bwd (fun p => e (8 + r.val) l (255 - p)) (fun _ => 0) 128 64) q)
  · intro p hp
    show e (bR r.val (64 * 2 + p)) l (bP r.val (64 * 2 + p)) = _
    rw [show bR r.val (64 * 2 + p) = 8 + r.val from by unfold bR; split_ifs <;> omega, show bP r.val (64 * 2 + p) = 255 - (128 + p) from by unfold bP; split_ifs <;> omega]
  · intro q hq
    refine (bwdSeg_entry hB 1 r l (fun p => e (8 + r.val) l (255 - (64 + p))) _ (Scalar.iter Scalar.bwd (fun p => e (8 + r.val) l (255 - p)) (fun _ => 0) 64) ?_ ?_ q hq).trans
      (congrFun (Scalar.iter_add Scalar.bwd (fun p => e (8 + r.val) l (255 - p)) (fun _ => 0) 64 64) q)
    · intro p hp
      show e (bR r.val (64 * 1 + p)) l (bP r.val (64 * 1 + p)) = _
      rw [show bR r.val (64 * 1 + p) = 8 + r.val from by unfold bR; split_ifs <;> omega, show bP r.val (64 * 1 + p) = 255 - (64 + p) from by unfold bP; split_ifs <;> omega]
    · intro q hq
      rw [clear_low _ _ _ _ hr]
      exact bwdSaved_low hB r l hr q hq

/-- The last backward costs of the last four rows: 128 steps of the row's own group. -/
theorem bwdAfter_high (hB : BwdIs arg2 arg3 arg4 arg5 arg6 X2 X3 X4 X5 X6 e) (r : Fin 8) (l : Fin 128) (hr : ¬ r.val < 4) (q : ℕ) (hq : q < 1024) :
    bwdAfter arg2 arg3 arg4 arg5 arg6 X2 X3 X4 X5 X6 3 q (ix2 r l) = Scalar.iter Scalar.bwd (fun p => e r.val l (255 - p)) (fun _ => 0) 128 q := by
  show bwdSeg arg2 arg3 arg4 arg5 arg6 X2 X3 X4 X5 X6 2 (bwdSeg arg2 arg3 arg4 arg5 arg6 X2 X3 X4 X5 X6 1 (clearHigh (bwdSaved arg2 arg3 arg4 arg5 arg6 X2 X3 X4 X5 X6))) q (ix2 r l) = _
  refine (bwdSeg_entry hB 2 r l (fun p => e r.val l (255 - (64 + p))) _ (Scalar.iter Scalar.bwd (fun p => e r.val l (255 - p)) (fun _ => 0) 64) ?_ ?_ q hq).trans
    (congrFun (Scalar.iter_add Scalar.bwd (fun p => e r.val l (255 - p)) (fun _ => 0) 64 64) q)
  · intro p hp
    show e (bR r.val (64 * 2 + p)) l (bP r.val (64 * 2 + p)) = _
    rw [show bR r.val (64 * 2 + p) = r.val from by unfold bR; split_ifs <;> omega, show bP r.val (64 * 2 + p) = 255 - (64 + p) from by unfold bP; split_ifs <;> omega]
  · refine bwdSeg_entry hB 1 r l _ _ (fun _ => 0) ?_ (fun q _ => clear_high _ _ _ _ hr)
    intro p hp
    show e (bR r.val (64 * 1 + p)) l (bP r.val (64 * 1 + p)) = _
    rw [show bR r.val (64 * 1 + p) = r.val from by unfold bR; split_ifs <;> omega, show bP r.val (64 * 1 + p) = 255 - p from by unfold bP; split_ifs <;> omega]

/-- The least cost of a path of 256 steps of group `R`, lane `l`. -/
def least (e : ℕ → Fin 128 → ℕ → ℕ → EReal) (R : ℕ) (l : Fin 128) : EReal := (Finset.range 4096).inf (Scalar.dist (e R l) 255)

/-- A least over blocks that is, at an entry, a meeting of forward and backward costs. -/
theorem acc_meet (f : ℕ → Blk Ideal) (j : (⟨2, ![8, 128]⟩ : Shape).Idx) (R : ℕ) (l : Fin 128) (n m : ℕ) (hnm : n + m = 256)
    (h : ∀ q, q < 1024 → f q j = Scalar.iter Scalar.fwd (e R l) (fun _ => 0) n q + Scalar.iter Scalar.bwd (fun p => e R l (255 - p)) (fun _ => 0) m q) :
    accB f 1024 j = least e R l := by
  rw [accB_at]
  refine Eq.trans ?_ (Scalar.meet_eq (e R l) n m hnm)
  exact Finset.inf_congr rfl fun q hq => h q (Finset.mem_range.mp hq)

theorem outAC_low (hF : FwdIs arg0 arg1 arg4 arg5 arg6 X0 X1 X4 X5 X6 e) (hB : BwdIs arg2 arg3 arg4 arg5 arg6 X2 X3 X4 X5 X6 e) (r : Fin 8) (l : Fin 128) (hr : r.val < 4) :
    outAC arg0 arg1 arg2 arg3 arg4 arg5 arg6 X0 X1 X2 X3 X4 X5 X6 (ix2 r l) = least e r.val l := by
  refine acc_meet _ _ _ _ 192 64 rfl fun q hq => ?_
  refine congrArg₂ (fun x y : EReal => x + y) (fwdAfter_low hF r l hr q hq) ?_
  have h4 : ¬ (⟨(r.val + 4) % 8, Nat.mod_lt _ (by decide)⟩ : Fin 8).val < 4 := by show ¬ (r.val + 4) % 8 < 4; omega
  refine Eq.trans (show _ = (mixB (bwdAfter arg2 arg3 arg4 arg5 arg6 X2 X3 X4 X5 X6 3 q) (bwdSaved arg2 arg3 arg4 arg5 arg6 X2 X3 X4 X5 X6 q)) (ix2 ⟨(r.val + 4) % 8, Nat.mod_lt _ (by decide)⟩ l) from rfl) ?_
  refine (if_neg h4).trans ((bwdSaved_high hB _ l h4 q hq).trans ?_)
  rw [show (⟨(r.val + 4) % 8, Nat.mod_lt _ (by decide)⟩ : Fin 8).val - 4 = r.val from by show (r.val + 4) % 8 - 4 = r.val; omega]

theorem outAC_high (hF : FwdIs arg0 arg1 arg4 arg5 arg6 X0 X1 X4 X5 X6 e) (hB : BwdIs arg2 arg3 arg4 arg5 arg6 X2 X3 X4 X5 X6 e) (r : Fin 8) (l : Fin 128) (hr : ¬ r.val < 4) :
    outAC arg0 arg1 arg2 arg3 arg4 arg5 arg6 X0 X1 X2 X3 X4 X5 X6 (ix2 r l) = least e (r.val + 4) l := by
  refine acc_meet _ _ _ _ 64 192 rfl fun q hq => ?_
  refine congrArg₂ (fun x y : EReal => x + y) (fwdAfter_high hF r l hr q hq) ?_
  have h4 : (⟨(r.val + 4) % 8, Nat.mod_lt _ (by decide)⟩ : Fin 8).val < 4 := by show (r.val + 4) % 8 < 4; omega
  refine Eq.trans (show _ = (mixB (bwdAfter arg2 arg3 arg4 arg5 arg6 X2 X3 X4 X5 X6 3 q) (bwdSaved arg2 arg3 arg4 arg5 arg6 X2 X3 X4 X5 X6 q)) (ix2 ⟨(r.val + 4) % 8, Nat.mod_lt _ (by decide)⟩ l) from rfl) ?_
  refine (if_pos h4).trans ((bwdAfter_low hB _ l h4 q hq).trans ?_)
  rw [show 8 + (⟨(r.val + 4) % 8, Nat.mod_lt _ (by decide)⟩ : Fin 8).val = r.val + 4 from by show 8 + (r.val + 4) % 8 = r.val + 4; omega]

theorem outB_high (hF : FwdIs arg0 arg1 arg4 arg5 arg6 X0 X1 X4 X5 X6 e) (hB : BwdIs arg2 arg3 arg4 arg5 arg6 X2 X3 X4 X5 X6 e) (r : Fin 8) (l : Fin 128) (hr : ¬ r.val < 4) :
    outB arg0 arg1 arg2 arg3 arg4 arg5 arg6 X0 X1 X2 X3 X4 X5 X6 (ix2 r l) = least e r.val l :=
  acc_meet _ _ _ _ 128 128 rfl fun q hq => congrArg₂ (fun x y : EReal => x + y) (fwdSaved_entry hF r l q hq) (bwdAfter_high hB r l hr q hq)

end

end Cert.KernelIdeal.Run

end
-- ==== Proof.Value.HostAt.lean ====
/-
  The entries of the arguments, by group, lane and position.
-/
module

public import proofs.«01_k».proof.Proof.Value.Rows

@[expose] public section

set_option maxRecDepth 8192
set_option maxHeartbeats 4000000

noncomputable section

namespace Cert.KernelIdeal.Run

open Cert.KernelIdeal Cert.KernelIdeal.Gen Cert.Trellis
open Idealize.ShloMosaic Idealize.ShloMosaic.TcCoe

/-- The code of group `R` (six to a row of the matrix), lane `l`, position `p`. -/
def codeAt (x : S2x128x1536.Idx → BitVec 8) (R : ℕ) (l : Fin 128) (p : ℕ) : BitVec 8 :=
  x (ix3 ⟨R / 6 % 2, Nat.mod_lt _ (by decide)⟩ l ⟨(R % 6 * 256 + p) % 1536, Nat.mod_lt _ (by decide)⟩)

/-- The scale of group `R`, lane `l`. -/
def scaleAt {α : Type} (x : S2x128.Idx → α) (R : ℕ) (l : Fin 128) : α := x (ix2 ⟨R / 6 % 2, Nat.mod_lt _ (by decide)⟩ l)

/-- The weight of group `R`, position `p`. -/
def weightAt {α : Type} (x : S2x1536.Idx → α) (R p : ℕ) : α :=
  x (ix2 ⟨R / 6 % 2, Nat.mod_lt _ (by decide)⟩ ⟨(R % 6 * 256 + p) % 1536, Nat.mod_lt _ (by decide)⟩)

theorem codeAt_of (x : S2x128x1536.Idx → BitVec 8) (R : ℕ) (l : Fin 128) (p a b : ℕ) (ha : a < 2) (hb : b < 1536) (h1 : a = R / 6 % 2) (h2 : b = (R % 6 * 256 + p) % 1536) :
    x (ix3 ⟨a, ha⟩ l ⟨b, hb⟩) = codeAt x R l p := by subst h1 h2; rfl

theorem scaleAt_of {α : Type} (x : S2x128.Idx → α) (R : ℕ) (l : Fin 128) (a : ℕ) (ha : a < 2) (h1 : a = R / 6 % 2) :
    x (ix2 ⟨a, ha⟩ l) = scaleAt x R l := by subst h1; rfl

theorem weightAt_of {α : Type} (x : S2x1536.Idx → α) (R p a b : ℕ) (ha : a < 2) (hb : b < 1536) (h1 : a = R / 6 % 2) (h2 : b = (R % 6 * 256 + p) % 1536) :
    x (ix2 ⟨a, ha⟩ ⟨b, hb⟩) = weightAt x R p := by subst h1 h2; rfl

end Cert.KernelIdeal.Run

end
-- ==== Proof.Value.Host.lean ====
/-
  What the host lines before the kernel leave in its operands, entry by entry.
-/
module

public import proofs.«01_k».proof.Proof.Run.Launch
public import proofs.«01_k».proof.Proof.Value.HostAt
public import Idealize.ShloMosaic.Lib.StableHlo.ReadAt
public import Idealize.ShloMosaic.Lib.Pointwise

@[expose] public section

set_option maxRecDepth 8192
set_option maxHeartbeats 4000000

noncomputable section

namespace Cert.KernelIdeal.Run

open Cert.KernelIdeal Cert.KernelIdeal.Gen Cert.Trellis
open Idealize.ShloMosaic Idealize.ShloMosaic.TcCoe

section

variable {F : FTy → Type} [FloatOps F] (W : Valuation τ sig (Elt F))

/-! The host lines after the two tables, from any contents `W`. -/

theorem read_cf (p : Fin 192) (r : Fin 8) (l : Fin 128) :
    (StableHlo.after (hostOps0.drop 2) W (Proc.devRef .tc main_v37) : (⟨S192x8x128, .i8⟩ : BufTy).Contents (Elt F)) (ix3 p r l)
      = codeAt (W (Proc.devRef .tc main_arg0)) (fR r.val p.val) l (fP r.val p.val) := by
  simp only [hostOps0, List.drop_succ_cons, List.drop_zero]
  after_reads_at
  after_reads_at
  unfold fR fP
  split_ifs <;> exact codeAt_of _ _ _ _ _ _ _ _ (by omega) (by omega)

theorem read_hf (p : Fin 192) (r : Fin 8) (l : Fin 128) :
    (StableHlo.after (hostOps0.drop 2) W (Proc.devRef .tc main_v53) : (⟨S192x8x128, .f32⟩ : BufTy).Contents (Elt F)) (ix3 p r l)
      = weightAt (W (Proc.devRef .tc main_arg2) : (⟨S2x1536, .f32⟩ : BufTy).Contents (Elt F)) (fR r.val p.val) (fP r.val p.val) := by
  simp only [hostOps0, List.drop_succ_cons, List.drop_zero]
  after_reads_at
  after_reads_at
  unfold fR fP
  split_ifs <;> exact weightAt_of _ _ _ _ _ _ _ (by omega) (by omega)

theorem read_sc (a : Fin 2) (k : Fin 3) (r : Fin 8) (l : Fin 128) :
    (StableHlo.after (hostOps0.drop 2) W (Proc.devRef .tc main_v29) : (⟨S2x3x8x128, .f32⟩ : BufTy).Contents (Elt F)) (ix4 a k r l)
      = scaleAt (W (Proc.devRef .tc main_arg1) : (⟨S2x128, .f32⟩ : BufTy).Contents (Elt F)) (if a.val = 0 then fR r.val (64 * k.val) else bR r.val (64 * k.val)) l := by
  simp only [hostOps0, List.drop_succ_cons, List.drop_zero]
  after_reads_at
  after_reads_at
  after_reads_at
  unfold fR bR
  split_ifs <;> exact scaleAt_of _ _ _ _ _ (by first | omega | (split_ifs <;> omega))

end

end Cert.KernelIdeal.Run

end
-- ==== Proof.Value.HostBack.lean ====
/-
  The codes and the weights for the backward steps as the host lines leave them, entry by entry.
-/
module

public import proofs.«01_k».proof.Proof.Run.Launch
public import proofs.«01_k».proof.Proof.Value.HostAt
public import Idealize.ShloMosaic.Lib.StableHlo.ReadAt
public import Idealize.ShloMosaic.Lib.Pointwise

@[expose] public section

set_option maxRecDepth 8192
set_option maxHeartbeats 4000000

noncomputable section

namespace Cert.KernelIdeal.Run

open Cert.KernelIdeal Cert.KernelIdeal.Gen Cert.Trellis
open Idealize.ShloMosaic Idealize.ShloMosaic.TcCoe

/-- An array reversed along its first axis. -/
theorem reverse_first {α : Type} (x : (⟨3, ![256, 4, 128]⟩ : Shape).Idx → α) (a : Fin 256) (b : Fin 4) (d : Fin 128) :
    Host.reverse [0] x (ix3 a b d) = x (ix3 ⟨255 - a.val, Nat.lt_of_le_of_lt (Nat.sub_le _ _) (by decide)⟩ b d) := by
  unfold Host.reverse
  refine congrArg x (funext fun k => ?_)
  match k with
  | ⟨0, _⟩ => exact Fin.ext (show 256 - (a.val + 1) = 255 - a.val by omega)
  | ⟨1, _⟩ => rfl
  | ⟨2, _⟩ => rfl

section

variable {F : FTy → Type} [FloatOps F] (W : Valuation τ sig (Elt F))

/-! The host lines that reverse the codes and the weights, and those after them, from any contents `W`. -/

theorem rev_a (p : Fin 256) (r : Fin 4) (l : Fin 128) :
    (StableHlo.after ((hostOps0.drop 2).take 41) W (Proc.devRef .tc main_v38) : (⟨S256x4x128, .i8⟩ : BufTy).Contents (Elt F)) (ix3 p r l)
      = codeAt (W (Proc.devRef .tc main_arg0)) (0 + r.val) l (255 - p.val) := by
  simp only [hostOps0, List.drop_succ_cons, List.drop_zero, List.take_succ_cons, List.take_zero]
  after_reads_simp
  refine (reverse_first _ p r l).trans ?_
  pointwise
  exact codeAt_of _ _ _ _ _ _ _ _ (by omega) (by omega)

theorem rev_b (p : Fin 256) (r : Fin 4) (l : Fin 128) :
    (StableHlo.after ((hostOps0.drop 2).take 41) W (Proc.devRef .tc main_v39) : (⟨S256x4x128, .i8⟩ : BufTy).Contents (Elt F)) (ix3 p r l)
      = codeAt (W (Proc.devRef .tc main_arg0)) (4 + r.val) l (255 - p.val) := by
  simp only [hostOps0, List.drop_succ_cons, List.drop_zero, List.take_succ_cons, List.take_zero]
  after_reads_simp
  refine (reverse_first _ p r l).trans ?_
  pointwise
  exact codeAt_of _ _ _ _ _ _ _ _ (by omega) (by omega)

theorem rev_c (p : Fin 256) (r : Fin 4) (l : Fin 128) :
    (StableHlo.after ((hostOps0.drop 2).take 41) W (Proc.devRef .tc main_v40) : (⟨S256x4x128, .i8⟩ : BufTy).Contents (Elt F)) (ix3 p r l)
      = codeAt (W (Proc.devRef .tc main_arg0)) (8 + r.val) l (255 - p.val) := by
  simp only [hostOps0, List.drop_succ_cons, List.drop_zero, List.take_succ_cons, List.take_zero]
  after_reads_simp
  refine (reverse_first _ p r l).trans ?_
  pointwise
  exact codeAt_of _ _ _ _ _ _ _ _ (by omega) (by omega)

theorem hrev_a (p : Fin 256) (r : Fin 4) (l : Fin 128) :
    (StableHlo.after ((hostOps0.drop 2).take 57) W (Proc.devRef .tc main_v54) : (⟨S256x4x128, .f32⟩ : BufTy).Contents (Elt F)) (ix3 p r l)
      = weightAt (W (Proc.devRef .tc main_arg2) : (⟨S2x1536, .f32⟩ : BufTy).Contents (Elt F)) (0 + r.val) (255 - p.val) := by
  simp only [hostOps0, List.drop_succ_cons, List.drop_zero, List.take_succ_cons, List.take_zero]
  after_reads_simp
  refine (reverse_first _ p r l).trans ?_
  pointwise
  exact weightAt_of _ _ _ _ _ _ _ (by omega) (by omega)

theorem hrev_b (p : Fin 256) (r : Fin 4) (l : Fin 128) :
    (StableHlo.after ((hostOps0.drop 2).take 57) W (Proc.devRef .tc main_v55) : (⟨S256x4x128, .f32⟩ : BufTy).Contents (Elt F)) (ix3 p r l)
      = weightAt (W (Proc.devRef .tc main_arg2) : (⟨S2x1536, .f32⟩ : BufTy).Contents (Elt F)) (4 + r.val) (255 - p.val) := by
  simp only [hostOps0, List.drop_succ_cons, List.drop_zero, List.take_succ_cons, List.take_zero]
  after_reads_simp
  refine (reverse_first _ p r l).trans ?_
  pointwise
  exact weightAt_of _ _ _ _ _ _ _ (by omega) (by omega)

theorem hrev_c (p : Fin 256) (r : Fin 4) (l : Fin 128) :
    (StableHlo.after ((hostOps0.drop 2).take 57) W (Proc.devRef .tc main_v56) : (⟨S256x4x128, .f32⟩ : BufTy).Contents (Elt F)) (ix3 p r l)
      = weightAt (W (Proc.devRef .tc main_arg2) : (⟨S2x1536, .f32⟩ : BufTy).Contents (Elt F)) (8 + r.val) (255 - p.val) := by
  simp only [hostOps0, List.drop_succ_cons, List.drop_zero, List.take_succ_cons, List.take_zero]
  after_reads_simp
  refine (reverse_first _ p r l).trans ?_
  pointwise
  exact weightAt_of _ _ _ _ _ _ _ (by omega) (by omega)

theorem tail_cb (p : Fin 192) (r : Fin 8) (l : Fin 128) :
    (StableHlo.after (hostOps0.drop 43) W (Proc.devRef .tc main_v45) : (⟨S192x8x128, .i8⟩ : BufTy).Contents (Elt F)) (ix3 p r l)
      = if h : r.val < 4 then (W (Proc.devRef .tc main_v40) : (⟨S256x4x128, .i8⟩ : BufTy).Contents (Elt F)) (ix3 ⟨p.val, by omega⟩ ⟨r.val, h⟩ l)
        else if h' : p.val < 64 then (W (Proc.devRef .tc main_v38) : (⟨S256x4x128, .i8⟩ : BufTy).Contents (Elt F)) (ix3 ⟨p.val, by omega⟩ ⟨r.val - 4, by omega⟩ l)
        else (W (Proc.devRef .tc main_v39) : (⟨S256x4x128, .i8⟩ : BufTy).Contents (Elt F)) (ix3 ⟨p.val - 64, by omega⟩ ⟨r.val - 4, by omega⟩ l) := by
  simp only [hostOps0, List.drop_succ_cons, List.drop_zero]
  after_reads_at
  after_reads_at

theorem tail_hb (p : Fin 192) (r : Fin 8) (l : Fin 128) :
    (StableHlo.after (hostOps0.drop 59) W (Proc.devRef .tc main_v61) : (⟨S192x8x128, .f32⟩ : BufTy).Contents (Elt F)) (ix3 p r l)
      = if h : r.val < 4 then (W (Proc.devRef .tc main_v56) : (⟨S256x4x128, .f32⟩ : BufTy).Contents (Elt F)) (ix3 ⟨p.val, by omega⟩ ⟨r.val, h⟩ l)
        else if h' : p.val < 64 then (W (Proc.devRef .tc main_v54) : (⟨S256x4x128, .f32⟩ : BufTy).Contents (Elt F)) (ix3 ⟨p.val, by omega⟩ ⟨r.val - 4, by omega⟩ l)
        else (W (Proc.devRef .tc main_v55) : (⟨S256x4x128, .f32⟩ : BufTy).Contents (Elt F)) (ix3 ⟨p.val - 64, by omega⟩ ⟨r.val - 4, by omega⟩ l) := by
  simp only [hostOps0, List.drop_succ_cons, List.drop_zero]
  after_reads_at
  after_reads_at

end

end Cert.KernelIdeal.Run

end
-- ==== Proof.Value.Cost.lean ====
/-
  The cost of one state at one position, as both programs compute it from the three arguments.
-/
module

public import proofs.«01_k».proof.Proof.Value.HostAt
public import proofs.«01_k».proof.Proof.Value.Rows
public import proofs.«01_k».proof.Proof.Gen.ReferenceIdeal

@[expose] public section

noncomputable section

namespace Cert.KernelIdeal.Run

open Cert.Trellis
open Idealize.ShloMosaic Idealize.ShloMosaic.TcCoe

/-- The codebook's value of state `s`. -/
def book (s : ℕ) : EReal := Ideal.ofBits .f32 (Cert.ReferenceIdeal.lit0 ⟨s % 4096, Nat.mod_lt _ (by norm_num)⟩)

/-- The error of state `s` at position `p` of group `R`, in lane `l`. -/
def cost (x0 : (⟨3, ![2, 128, 1536]⟩ : Shape).Idx → BitVec 8) (x1 : (⟨2, ![2, 128]⟩ : Shape).Idx → EReal) (x2 : (⟨2, ![2, 1536]⟩ : Shape).Idx → EReal)
    (R : ℕ) (l : Fin 128) (p s : ℕ) : EReal :=
  err ((((codeAt x0 R l p).toInt : ℝ) : EReal) * scaleAt x1 R l) (weightAt x2 R p) (book s)

end Cert.KernelIdeal.Run
-- ==== Proof.Value.Operands.lean ====
/-
  The kernel's operands: what its blocks hold as the region finds them, and that the costs it adds up are those of `cost`.
-/
module

public import proofs.«01_k».proof.Proof.Value.Host
public import proofs.«01_k».proof.Proof.Value.HostBack
public import proofs.«01_k».proof.Proof.Value.Cost
public import Idealize.ShloMosaic.Lib.Pipeline.ValueKit

@[expose] public section

set_option maxRecDepth 16384
set_option maxHeartbeats 4000000

noncomputable section

namespace Cert.KernelIdeal.Run

open Cert.KernelIdeal Cert.KernelIdeal.Gen Cert.Trellis
open Idealize.ShloMosaic Idealize.ShloMosaic.TcCoe Idealize.ShloMosaic.Tactic

section

variable {F : FTy → Type} [FloatOps F] (m : (ℓ : Loc nD τ sig) → Buf (Elt F) ℓ)

/-- The contents after the two tables. -/
abbrev W₀ (c : Dev nD) : Valuation τ sig (Elt F) := StableHlo.after (hostOps0.take 2) (fun b => m (c, b))

theorem W₀_arg (c : Dev nD) (b : Ref sig .tc) (h : (hostOps0.take 2 : List (HloOp τ sig (Elt F))).Forall fun op => Proc.devRef .tc b ∉ op.writes) :
    W₀ m c (Proc.devRef .tc b) = m (c, Proc.devRef .tc b) :=
  StableHlo.after_of_forall_not_mem (b := Proc.devRef .tc b) (hostOps0.take 2) (fun b => m (c, b)) (List.forall_iff_forall_mem.mp h)

theorem W₀_arg0 (c : Dev nD) : W₀ m c (Proc.devRef .tc main_arg0) = m (c, Proc.devRef .tc main_arg0) := by
  refine W₀_arg m c _ ?_
  simp only [hostOps0, List.take_succ_cons, List.take_zero, List.Forall, StableHlo.nullary_writes, Finset.mem_singleton]
  repeat' apply And.intro
  all_goals exact StableHlo.devRef_ne_of_ne (by decide)
theorem W₀_arg1 (c : Dev nD) : W₀ m c (Proc.devRef .tc main_arg1) = m (c, Proc.devRef .tc main_arg1) := by
  refine W₀_arg m c _ ?_
  simp only [hostOps0, List.take_succ_cons, List.take_zero, List.Forall, StableHlo.nullary_writes, Finset.mem_singleton]
  repeat' apply And.intro
  all_goals exact StableHlo.devRef_ne_of_ne (by decide)
theorem W₀_arg2 (c : Dev nD) : W₀ m c (Proc.devRef .tc main_arg2) = m (c, Proc.devRef .tc main_arg2) := by
  refine W₀_arg m c _ ?_
  simp only [hostOps0, List.take_succ_cons, List.take_zero, List.Forall, StableHlo.nullary_writes, Finset.mem_singleton]
  repeat' apply And.intro
  all_goals exact StableHlo.devRef_ne_of_ne (by decide)

/-- The codes, scales and weights the program is given. -/
abbrev a0 (c : Dev nD) : (⟨S2x128x1536, .i8⟩ : BufTy).Contents (Elt F) := m (c, Proc.devRef .tc main_arg0)
abbrev a1 (c : Dev nD) : (⟨S2x128, .f32⟩ : BufTy).Contents (Elt F) := m (c, Proc.devRef .tc main_arg1)
abbrev a2 (c : Dev nD) : (⟨S2x1536, .f32⟩ : BufTy).Contents (Elt F) := m (c, Proc.devRef .tc main_arg2)

theorem V_cf (c : Dev nD) (p : Fin 192) (r : Fin 8) (l : Fin 128) :
    (V m c main_v37 : (⟨S192x8x128, .i8⟩ : BufTy).Contents (Elt F)) (ix3 p r l) = codeAt (a0 m c) (fR r.val p.val) l (fP r.val p.val) := by
  refine (read_cf (W₀ m c) p r l).trans ?_
  rw [W₀_arg0]
theorem V_hf (c : Dev nD) (p : Fin 192) (r : Fin 8) (l : Fin 128) :
    (V m c main_v53 : (⟨S192x8x128, .f32⟩ : BufTy).Contents (Elt F)) (ix3 p r l) = weightAt (a2 m c) (fR r.val p.val) (fP r.val p.val) := by
  refine (read_hf (W₀ m c) p r l).trans ?_
  rw [W₀_arg2]
theorem V_sc (c : Dev nD) (a : Fin 2) (k : Fin 3) (r : Fin 8) (l : Fin 128) :
    (V m c main_v29 : (⟨S2x3x8x128, .f32⟩ : BufTy).Contents (Elt F)) (ix4 a k r l)
      = scaleAt (a1 m c) (if a.val = 0 then fR r.val (64 * k.val) else bR r.val (64 * k.val)) l := by
  refine (read_sc (W₀ m c) a k r l).trans ?_
  rw [W₀_arg1]
theorem V_cb (c : Dev nD) (p : Fin 192) (r : Fin 8) (l : Fin 128) :
    (V m c main_v45 : (⟨S192x8x128, .i8⟩ : BufTy).Contents (Elt F)) (ix3 p r l) = codeAt (a0 m c) (bR r.val p.val) l (bP r.val p.val) := by
  refine (tail_cb (StableHlo.after ((hostOps0.drop 2).take 41) (W₀ m c)) p r l).trans ?_
  rw [show a0 m c = W₀ m c (Proc.devRef .tc main_arg0) from (W₀_arg0 m c).symm]
  unfold bR bP
  split_ifs
  · refine (rev_c (W₀ m c) _ _ l).trans ?_
    rfl
  · refine (rev_a (W₀ m c) _ _ l).trans ?_
    simp only [Nat.zero_add]
  · refine (rev_b (W₀ m c) _ _ l).trans ?_
    dsimp only
    congr 1
    omega
theorem V_hb (c : Dev nD) (p : Fin 192) (r : Fin 8) (l : Fin 128) :
    (V m c main_v61 : (⟨S192x8x128, .f32⟩ : BufTy).Contents (Elt F)) (ix3 p r l) = weightAt (a2 m c) (bR r.val p.val) (bP r.val p.val) := by
  refine (tail_hb (StableHlo.after ((hostOps0.drop 2).take 57) (W₀ m c)) p r l).trans ?_
  rw [show a2 m c = W₀ m c (Proc.devRef .tc main_arg2) from (W₀_arg2 m c).symm]
  unfold bR bP
  split_ifs
  · refine (hrev_c (W₀ m c) _ _ l).trans ?_
    rfl
  · refine (hrev_a (W₀ m c) _ _ l).trans ?_
    simp only [Nat.zero_add]
  · refine (hrev_b (W₀ m c) _ _ l).trans ?_
    dsimp only
    congr 1
    omega

/-! Each block is its whole array. -/

theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0, 0] ∧ win0_5.index t = ![0] ∧ win0_6.index t = ![0] ∧ win0_7.index t = ![0, 0, 0] :=
  (by decide +kernel : ∀ t : Fin grid0.N, _)

theorem iblk_0 (c : Dev nD) (t : Fin cfg0.N) : iblk m c 0 t = (V m c main_v37 : (⟨S192x8x128, .i8⟩ : BufTy).Contents (Elt F)) := by blk_ext! [iblk, idx t]
theorem iblk_1 (c : Dev nD) (t : Fin cfg0.N) : iblk m c 1 t = (V m c main_v53 : (⟨S192x8x128, .f32⟩ : BufTy).Contents (Elt F)) := by blk_ext! [iblk, idx t]
theorem iblk_2 (c : Dev nD) (t : Fin cfg0.N) : iblk m c 2 t = (V m c main_v45 : (⟨S192x8x128, .i8⟩ : BufTy).Contents (Elt F)) := by blk_ext! [iblk, idx t]
theorem iblk_3 (c : Dev nD) (t : Fin cfg0.N) : iblk m c 3 t = (V m c main_v61 : (⟨S192x8x128, .f32⟩ : BufTy).Contents (Elt F)) := by blk_ext! [iblk, idx t]
theorem iblk_4 (c : Dev nD) (t : Fin cfg0.N) : iblk m c 4 t = (V m c main_v29 : (⟨S2x3x8x128, .f32⟩ : BufTy).Contents (Elt F)) := by blk_ext! [iblk, idx t]
theorem iblk_5 (c : Dev nD) (t : Fin cfg0.N) : iblk m c 5 t = (V m c main_cst : (⟨S713, .f32⟩ : BufTy).Contents (Elt F)) := by blk_ext! [iblk, idx t]
theorem iblk_6 (c : Dev nD) (t : Fin cfg0.N) : iblk m c 6 t = (V m c main_c : (⟨S4096, .i32⟩ : BufTy).Contents (Elt F)) := by blk_ext! [iblk, idx t]

end

end Cert.KernelIdeal.Run
-- ==== Proof.Value.Costs.lean ====
/-
  The costs the kernel adds up are those of `cost`: the forward blocks' and the backward blocks'.
-/
module

public import proofs.«01_k».proof.Proof.Value.Operands

@[expose] public section

set_option maxRecDepth 16384
set_option maxHeartbeats 4000000

noncomputable section

namespace Cert.KernelIdeal.Run

open Cert.KernelIdeal Cert.KernelIdeal.Gen Cert.Trellis
open Idealize.ShloMosaic Idealize.ShloMosaic.TcCoe

/-- The kernel's list of distinct values, looked up by slot, is the codebook. -/
theorem books : ∀ s : Fin 4096, Cert.KernelIdeal.lit0 ⟨(Cert.KernelIdeal.lit1 s).toNat, lit_slots s⟩ = Cert.ReferenceIdeal.lit0 s := by decide +kernel

/-- One cost at an entry, from what its operands hold there. -/
theorem errAt_entry (b0 : Memref sig .tc .vmem S192x8x128 .i8) (X0 : BufTy.Contents (Elt Ideal) b0.view.ty)
    (b1 : Memref sig .tc .vmem S192x8x128 .f32) (X1 : BufTy.Contents (Elt Ideal) b1.view.ty) (b5 : Memref sig .tc .smem S713 .f32) (X5 : BufTy.Contents (Elt Ideal) b5.view.ty)
    (w : ℕ → ℕ) (sc : Blk Ideal) (p s : ℕ) (j : (⟨2, ![8, 128]⟩ : Shape).Idx) (code : BitVec 8) (scale weight value : EReal)
    (h0 : brows (N := 192) b0.view X0 p j = code) (hs : sc j = scale) (h1 : rows (N := 192) b1.view X1 p j = weight) (h5 : nums (N := 713) b5.view X5 (w s) = value) :
    errAt b0 X0 b1 X1 b5 X5 w sc p s j = err (((code.toInt : ℝ) : EReal) * scale) weight value := by
  subst h0 hs h1 h5
  rfl

section

variable (m : (ℓ : Loc nD τ sig) → Buf (Elt Ideal) ℓ) (c : Dev nD) (t : Fin cfg0.N)

/-- The value the kernel looks up for a state. -/
theorem nums_book (s : ℕ) (hs : s < 4096) :
    nums (N := 713) (ms0_5 t).view ((hs0_5 t).unread (iblk m c 5 t)) (slotOf (ms0_6 t) ((hs0_6 t).unread (iblk m c 6 t)) s) = book s := by
  have hslot : slotOf (ms0_6 t) ((hs0_6 t).unread (iblk m c 6 t)) s = (Cert.KernelIdeal.lit1 ⟨s, hs⟩).toNat := by
    unfold slotOf words
    rw [dif_pos hs, (hs0_6 t).read_unread, iblk_6, V_slots]
    exact congrArg (fun i => (Cert.KernelIdeal.lit1 i).toNat) (Fin.ext (Shape.rowMajor_val_one _))
  rw [hslot]
  unfold nums
  rw [dif_pos (lit_slots ⟨s, hs⟩), (hs0_5 t).read_unread, iblk_5, V_codes]
  refine (congrArg (fun i => Ideal.ofBits .f32 (Cert.KernelIdeal.lit0 i)) (Fin.ext (Shape.rowMajor_val_one _) : _ = (⟨_, lit_slots ⟨s, hs⟩⟩ : Fin 713))).trans ?_
  rw [books]
  unfold book
  exact congrArg (fun i => Ideal.ofBits .f32 (Cert.ReferenceIdeal.lit0 i)) (Fin.ext (Nat.mod_eq_of_lt hs).symm)

theorem fwdIs : FwdIs (ms0_0 t) (ms0_1 t) (ms0_4 t) (ms0_5 t) (ms0_6 t) ((hs0_0 t).unread (iblk m c 0 t)) ((hs0_1 t).unread (iblk m c 1 t))
    ((hs0_4 t).unread (iblk m c 4 t)) ((hs0_5 t).unread (iblk m c 5 t)) ((hs0_6 t).unread (iblk m c 6 t)) (cost (a0 m c) (a1 m c) (a2 m c)) := by
  intro k p hp s hs r l
  have hP : 64 * k.val + p < 192 := by omega
  have hR : fR r.val (64 * k.val) = fR r.val (64 * k.val + p) := by unfold fR; split_ifs <;> omega
  refine errAt_entry _ _ _ _ _ _ _ _ _ _ _ _ _ _ _ ?_ ?_ ?_ (nums_book m c t s hs)
  · unfold brows
    rw [dif_pos hP, (hs0_0 t).read_unread, iblk_0]
    exact V_cf m c ⟨_, hP⟩ r l
  · unfold srow
    rw [(hs0_4 t).read_unread, iblk_4, ← hR]
    exact V_sc m c 0 k r l
  · unfold rows
    rw [dif_pos hP, (hs0_1 t).read_unread, iblk_1]
    exact V_hf m c ⟨_, hP⟩ r l

theorem bwdIs : BwdIs (ms0_2 t) (ms0_3 t) (ms0_4 t) (ms0_5 t) (ms0_6 t) ((hs0_2 t).unread (iblk m c 2 t)) ((hs0_3 t).unread (iblk m c 3 t))
    ((hs0_4 t).unread (iblk m c 4 t)) ((hs0_5 t).unread (iblk m c 5 t)) ((hs0_6 t).unread (iblk m c 6 t)) (cost (a0 m c) (a1 m c) (a2 m c)) := by
  intro k p hp s hs r l
  have hP : 64 * k.val + p < 192 := by omega
  have hR : bR r.val (64 * k.val) = bR r.val (64 * k.val + p) := by unfold bR; split_ifs <;> omega
  refine errAt_entry _ _ _ _ _ _ _ _ _ _ _ _ _ _ _ ?_ ?_ ?_ (nums_book m c t s hs)
  · unfold brows
    rw [dif_pos hP, (hs0_2 t).read_unread, iblk_2]
    exact V_cb m c ⟨_, hP⟩ r l
  · unfold srow
    rw [(hs0_4 t).read_unread, iblk_4, ← hR]
    exact V_sc m c 1 k r l
  · unfold rows
    rw [dif_pos hP, (hs0_3 t).read_unread, iblk_3]
    exact V_hb m c ⟨_, hP⟩ r l

end

end Cert.KernelIdeal.Run
-- ==== Proof.Value.Kernel.lean ====
/-
  The kernel's result, entry by entry: the least cost of a path of 256 steps through that entry's group.
-/
module

public import proofs.«01_k».proof.Proof.Value.Costs

@[expose] public section

set_option maxRecDepth 16384
set_option maxHeartbeats 4000000

noncomputable section

namespace Cert.KernelIdeal.Run

open Cert.KernelIdeal Cert.KernelIdeal.Gen Cert.Trellis
open Idealize.ShloMosaic Idealize.ShloMosaic.TcCoe Idealize.ShloMosaic.Tactic
open Idealize.SL Idealize.SL.RA Idealize.SL.Sem

section

variable {F : FTy → Type} [FloatOps F] (W : Valuation τ sig (Elt F))

/-- Where the host lines after the kernel find group `R`: its block of the output and its row there. -/
def outBlk (R : ℕ) : Fin 2 := if R < 4 then 0 else if R < 8 then 1 else 0
def outRow (R : ℕ) : ℕ := if R < 4 then R else if R < 8 then R else R - 4

theorem read_out71 (b : Fin 2) (l : Fin 128) (g : Fin 6) :
    (StableHlo.after hostOps1 W (Proc.devRef .tc main_v71) : (⟨S2x128x6, .f32⟩ : BufTy).Contents (Elt F)) (ix3 b l g)
      = (W (Proc.devRef .tc main_v62) : (⟨S2x8x128, .f32⟩ : BufTy).Contents (Elt F))
          (ix3 (outBlk (6 * b.val + g.val)) ⟨outRow (6 * b.val + g.val), by unfold outRow; split_ifs <;> omega⟩ l) := by
  simp only [hostOps1]
  after_reads_at
  after_reads_at
  have hix : ∀ (a a' : Fin 2) (r r' : Fin 8), a = a' → r = r' → (W (Proc.devRef .tc main_v62) : (⟨S2x8x128, .f32⟩ : BufTy).Contents (Elt F)) (ix3 a r l)
      = (W (Proc.devRef .tc main_v62) : (⟨S2x8x128, .f32⟩ : BufTy).Contents (Elt F)) (ix3 a' r' l) := by rintro a _ r _ rfl rfl; rfl
  have hb : b.val * 6 + g.val = 6 * b.val + g.val := by omega
  split_ifs <;> refine hix _ _ _ _ ?_ (Fin.ext ?_)
  all_goals first
    | (unfold outBlk; split_ifs <;> first | rfl | omega)
    | (dsimp only; unfold outRow; split_ifs <;> omega)

end

section

variable (m : (ℓ : Loc nD τ sig) → Buf (Elt Ideal) ℓ) (ρ : Dev nD → PrngReg) (c : Dev nD)

theorem outsAt_low (t : Fin cfg0.N) (r : Fin 8) (l : Fin 128) (hr : r.val < 4) :
    outsAt m c t (ix3 0 r l) = least (cost (a0 m c) (a1 m c) (a2 m c)) r.val l :=
  outAC_low (fwdIs m c t) (bwdIs m c t) r l hr
theorem outsAt_high (t : Fin cfg0.N) (r : Fin 8) (l : Fin 128) (hr : ¬ r.val < 4) :
    outsAt m c t (ix3 0 r l) = least (cost (a0 m c) (a1 m c) (a2 m c)) (r.val + 4) l :=
  outAC_high (fwdIs m c t) (bwdIs m c t) r l hr
theorem outsAt_mid (t : Fin cfg0.N) (r : Fin 8) (l : Fin 128) (hr : ¬ r.val < 4) :
    outsAt m c t (ix3 1 r l) = least (cost (a0 m c) (a1 m c) (a2 m c)) r.val l :=
  outB_high (fwdIs m c t) (bwdIs m c t) r l hr

/-- The output array at the end is what the body leaves. -/
theorem final : (dats m 0 c).arrAt 7 cfg0.N = outsAt m c t0_0 := by
  refine (dats m 0 c).arrAt_eq_of_after_last 7 t0_0 (by decide +kernel) _ fun j => ?_
  blk_simp
  rw [after0_7]

theorem inj0 : Function.Injective (Pipeline.arrRef spec0) := by decide

theorem W_main_v71 (b : Fin 2) (l : Fin 128) (g : Fin 6) :
    (Pipeline.afterTail₀ cfgs (dats m) 0 (V0 m) [hostOps1] c main_v71 : (⟨S2x128x6, .f32⟩ : BufTy).Contents (Elt Ideal)) (ix3 b l g)
      = least (cost (a0 m c) (a1 m c) (a2 m c)) (6 * b.val + g.val) l := by
  unfold Pipeline.afterTail₀
  refine (read_out71 _ b l g).trans ?_
  rw [show Pipeline.withArrays (cfgs 0).spec c (V0 m c) (fun w => (dats m 0 c).arrAt w (cfgs 0).N) (Proc.devRef .tc main_v62) = outsAt m c t0_0 from
    (Pipeline.withArrays_arr spec0 inj0 c (V0 m c) (fun w => (dats m 0 c).arrAt w cfg0.N) 7).trans (final m c)]
  have hg := g.isLt
  have hb := b.isLt
  by_cases h4 : 6 * b.val + g.val < 4
  · simp only [outBlk, outRow, h4, if_true]
    exact outsAt_low m c t0_0 _ l h4
  · by_cases h8 : 6 * b.val + g.val < 8
    · simp only [outBlk, outRow, h4, h8, if_true, if_false]
      exact outsAt_mid m c t0_0 _ l h4
    · simp only [outBlk, outRow, h4, h8, if_false]
      refine (outsAt_high m c t0_0 _ l (show ¬ 6 * b.val + g.val - 4 < 4 by omega)).trans ?_
      exact congrArg (fun R => least _ R l) (show 6 * b.val + g.val - 4 + 4 = 6 * b.val + g.val by omega)

/-- Both programs' result. -/
def result (x0 : (⟨S2x128x1536, .i8⟩ : BufTy).Contents (Elt Ideal)) (x1 : (⟨S2x128, .f32⟩ : BufTy).Contents (Elt Ideal)) (x2 : (⟨S2x1536, .f32⟩ : BufTy).Contents (Elt Ideal)) :
    (⟨S2x128x6, .f32⟩ : BufTy).Contents (Elt Ideal) :=
  fun i => least (cost x0 x1 x2) (6 * (i 0).val + (i 2).val) (i 1)

/-- What holds the least costs is the result. -/
theorem eq_result (x0 : (⟨S2x128x1536, .i8⟩ : BufTy).Contents (Elt Ideal)) (x1 : (⟨S2x128, .f32⟩ : BufTy).Contents (Elt Ideal)) (x2 : (⟨S2x1536, .f32⟩ : BufTy).Contents (Elt Ideal))
    (y : (⟨S2x128x6, .f32⟩ : BufTy).Contents (Elt Ideal)) (h : ∀ (b : Fin 2) (l : Fin 128) (g : Fin 6), y (ix3 b l g) = least (cost x0 x1 x2) (6 * b.val + g.val) l) : y = result x0 x1 x2 := by
  funext i
  obtain ⟨b, l, g, rfl⟩ : ∃ (b : Fin 2) (l : Fin 128) (g : Fin 6), i = ix3 b l g := ⟨i 0, i 1, i 2, eq_ix3 i⟩
  exact h b l g

/-- The kernel's run: its result holds the least costs, the arguments are unchanged. -/
theorem run_value : θ_run defs (onTc (τ := τ) (main (F := Ideal))) ⟨m, fun _ => 0, ρ⟩ (fun r => ∀ c : Dev nD,
      r.2.mem ((c.tc : Thread nD τ).loc main_v71) = result (a0 m c) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).2 main_v71 (Pipeline.mem_restRefs_of main_v71 (by decide) (by decide))).trans (eq_result _ _ _ _ (W_main_v71 m c)),
      (((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c))⟩) (run_main m ρ)

end

end Cert.KernelIdeal.Run
-- ==== Proof.Value.Reference.lean ====
/-
  The reference at exact arithmetic, entry by entry: its loop carries the least costs of the paths that end in each state.
-/
module

public import proofs.«01_k».proof.Proof.Value.Cost
public import proofs.«01_k».proof.Proof.Gen.ReferenceIdeal.Run
public import Idealize.ShloMosaic.Lib.StableHlo.ReadAt
public import Idealize.ShloMosaic.Lib.Pointwise
public import Idealize.ShloMosaic.Lib.Tactic.CleanTypes

@[expose] public section

set_option maxRecDepth 16384
set_option maxHeartbeats 4000000

noncomputable section

namespace Cert.ReferenceIdeal.Value

open Cert.ReferenceIdeal Cert.ReferenceIdeal.Gen Cert.Trellis
open Cert.KernelIdeal.Run (codeAt scaleAt weightAt cost book)
open Idealize.ShloMosaic Idealize.ShloMosaic.TcCoe Idealize.ShloMosaic.Tactic

section

theorem top_bits : Ideal.ofBits .f32 2139095040#32 = ⊤ := by simp [Ideal.ofBits, Ideal.ieee]

/-- The least cost of the four states a state is reached from. -/
def best (d : FVec Ideal S2x128x6x4096 .f32) : FVec Ideal S2x128x6x1024 .f32 :=
  Host.reduce FloatOps.minimumf (shapeCast S2x128x6x4x1024 d shapeCasts_S2x128x6x4096_S2x128x6x4x1024) (constant S_ .f32 0x7F800000#32) reducesTo_S2x128x6x4x1024_S2x128x6x1024_d3 h_S_

/-- The position's error in each state. -/
def errs (t : FVec Ideal S1x2x128x6 .f32) (h : FVec Ideal S1x2x1x6 .f32) (cb : FVec Ideal S4096 .f32) : FVec Ideal S2x128x6x4096 .f32 :=
  mulf (broadcastInDim S2x128x6x4096 ![0, 1, 2, 3] bcast_S2x1x6x1_S2x128x6x4096_0_1_2_3 (broadcastInDim S2x1x6x1 ![0, 1, 2] bcast_S2x1x6_S2x1x6x1_0_1_2 (shapeCast S2x1x6 h shapeCasts_S1x2x1x6_S2x1x6)))
    (mulf (subf (broadcastInDim S2x128x6x4096 ![0, 1, 2, 3] bcast_S2x128x6x1_S2x128x6x4096_0_1_2_3 (broadcastInDim S2x128x6x1 ![0, 1, 2] bcast_S2x128x6_S2x128x6x1_0_1_2 (shapeCast S2x128x6 t shapeCasts_S1x2x128x6_S2x128x6)))
        (broadcastInDim S2x128x6x4096 ![0, 1, 2, 3] bcast_S1x1x1x4096_S2x128x6x4096_0_1_2_3 (broadcastInDim S1x1x1x4096 ![3] bcast_S4096_S1x1x1x4096_3 cb)))
      (subf (broadcastInDim S2x128x6x4096 ![0, 1, 2, 3] bcast_S2x128x6x1_S2x128x6x4096_0_1_2_3 (broadcastInDim S2x128x6x1 ![0, 1, 2] bcast_S2x128x6_S2x128x6x1_0_1_2 (shapeCast S2x128x6 t shapeCasts_S1x2x128x6_S2x128x6)))
        (broadcastInDim S2x128x6x4096 ![0, 1, 2, 3] bcast_S1x1x1x4096_S2x128x6x4096_0_1_2_3 (broadcastInDim S1x1x1x4096 ![3] bcast_S4096_S1x1x1x4096_3 cb))))

/-- The costs after a trip, of the least costs and the errors. -/
def join (u : FVec Ideal S2x128x6x1024 .f32) (e : FVec Ideal S2x128x6x4096 .f32) : FVec Ideal S2x128x6x4096 .f32 :=
  shapeCast S2x128x6x4096 (addf (broadcastInDim S2x128x6x1024x4 ![0, 1, 2, 3, 4] bcast_S2x128x6x1024x1_S2x128x6x1024x4_0_1_2_3_4 (broadcastInDim S2x128x6x1024x1 ![0, 1, 2, 3] bcast_S2x128x6x1024_S2x128x6x1024x1_0_1_2_3 u))
    (shapeCast S2x128x6x1024x4 e shapeCasts_S2x128x6x4096_S2x128x6x1024x4)) shapeCasts_S2x128x6x1024x4_S2x128x6x4096

theorem errs_entry (t : FVec Ideal S1x2x128x6 .f32) (h : FVec Ideal S1x2x1x6 .f32) (cb : FVec Ideal S4096 .f32) (b : Fin 2) (l : Fin 128) (g : Fin 6) (s : Fin 4096) :
    errs t h cb (ix4 b l g s) = err (t (ix4 0 b l g)) (h (ix4 0 b 0 g)) (cb (ix1 s)) := by
  unfold errs err
  pointwise

theorem best_entry (d : FVec Ideal S2x128x6x4096 .f32) (b : Fin 2) (l : Fin 128) (g : Fin 6) (q : Fin 1024) :
    best d (ix4 b l g q) = (Finset.univ : Finset (Fin 4)).fold min ⊤ fun x => d (ix4 b l g ⟨x.val * 1024 + q.val, by omega⟩) := by
  unfold best
  pointwise
  rw [top_bits]

theorem join_entry (u : FVec Ideal S2x128x6x1024 .f32) (e : FVec Ideal S2x128x6x4096 .f32) (b : Fin 2) (l : Fin 128) (g : Fin 6) (s : Fin 4096) :
    join u e (ix4 b l g s) = u (ix4 b l g ⟨s.val / 4, by omega⟩) + e (ix4 b l g s) := by
  unfold join
  pointwise

/-- The least cost over all states. -/
theorem least_entry (d : FVec Ideal S2x128x6x4096 .f32) (b : Fin 2) (l : Fin 128) (g : Fin 6) :
    Host.reduce FloatOps.minimumf d (constant S_ .f32 0x7F800000#32) reducesTo_S2x128x6x4096_S2x128x6_d3 h_S_ (ix3 b l g)
      = (Finset.univ : Finset (Fin 4096)).fold min ⊤ fun s => d (ix4 b l g s) := by
  pointwise
  rw [top_bits]

/-- Where the trip's slice starts. -/
theorem start : ∀ k : Fin 255, (min (max (BitVec.ofNat 32 k.val).toInt 0) ((255 - 1 : ℕ) : ℤ)).toNat = k.val := by decide +kernel

theorem pick_t (x : FVec Ideal S255x2x128x6 .f32) (n : Vec Ideal S_ .i32) (k : Fin 255) (hn : n = fun _ => BitVec.ofNat 32 k.val) (b : Fin 2) (l : Fin 128) (g : Fin 6) :
    Host.dynamicSlice S1x2x128x6 x (fun k => (((![n, constantI S_ 32 0#32, constantI S_ 32 0#32, constantI S_ 32 0#32] : Fin 4 → (⟨S_, .i32⟩ : BufTy).Contents (Elt Ideal))) k (Shape.Idx.first h_S_)).toInt)
      sliceFits_S255x2x128x6_S1x2x128x6 (ix4 0 b l g) = x (ix4 k b l g) := by
  subst hn
  unfold Host.dynamicSlice extractStridedSlice
  refine congrArg x (funext fun a => Fin.ext ?_)
  match a with
  | ⟨0, _⟩ => exact start k
  | ⟨1, _⟩ => exact Nat.zero_add b.val
  | ⟨2, _⟩ => exact Nat.zero_add l.val
  | ⟨3, _⟩ => exact Nat.zero_add g.val

theorem pick_h (x : FVec Ideal S255x2x1x6 .f32) (n : Vec Ideal S_ .i32) (k : Fin 255) (hn : n = fun _ => BitVec.ofNat 32 k.val) (b : Fin 2) (g : Fin 6) :
    Host.dynamicSlice S1x2x1x6 x (fun k => (((![n, constantI S_ 32 0#32, constantI S_ 32 0#32, constantI S_ 32 0#32] : Fin 4 → (⟨S_, .i32⟩ : BufTy).Contents (Elt Ideal))) k (Shape.Idx.first h_S_)).toInt)
      sliceFits_S255x2x1x6_S1x2x1x6 (ix4 0 b 0 g) = x (ix4 k b 0 g) := by
  subst hn
  unfold Host.dynamicSlice extractStridedSlice
  refine congrArg x (funext fun a => Fin.ext ?_)
  match a with
  | ⟨0, _⟩ => exact start k
  | ⟨1, _⟩ => exact Nat.zero_add b.val
  | ⟨2, _⟩ => rfl
  | ⟨3, _⟩ => exact Nat.zero_add g.val

/-- A least element over the indices below `n`, either way it is written. -/
theorem fold_range (n : ℕ) (f : ℕ → EReal) : ((Finset.univ : Finset (Fin n)).fold min ⊤ fun x => f x.val) = (Finset.range n).inf f := by
  show (Finset.univ : Finset (Fin n)).inf (fun x => f x.val) = _
  refine le_antisymm (Finset.le_inf fun i hi => ?_) (Finset.le_inf fun x _ => Finset.inf_le (Finset.mem_range.mpr x.isLt))
  exact Finset.inf_le (f := fun x : Fin n => f x.val) (Finset.mem_univ ⟨i, Finset.mem_range.mp hi⟩)

end

end Cert.ReferenceIdeal.Value
-- ==== Proof.Value.RefTrip.lean ====
/-
  One trip of the reference's loop at exact arithmetic, entry by entry.
-/
module

public import proofs.«01_k».proof.Proof.Value.Reference

@[expose] public section

set_option maxRecDepth 16384
set_option maxHeartbeats 4000000

noncomputable section

namespace Cert.ReferenceIdeal.Value

open Cert.ReferenceIdeal Cert.ReferenceIdeal.Gen Cert.Trellis
open Cert.KernelIdeal.Run (codeAt scaleAt weightAt cost book codeAt_of scaleAt_of weightAt_of least)
open Idealize.ShloMosaic Idealize.ShloMosaic.TcCoe Idealize.ShloMosaic.Tactic Idealize.ShloMosaic.StableHlo

section

/-- One trip, by its parts. -/
theorem step_eq (V0 : Valuation τ sig (Elt Ideal)) : (step_main_v24_4 V0 : FVec Ideal S2x128x6x4096 .f32)
    = join (best (V0 (Proc.devRef .tc main_v24_4)))
      (errs (Host.dynamicSlice S1x2x128x6 (V0 (Proc.devRef .tc main_v24_0)) (fun k => (((![V0 (Proc.devRef .tc main_v24_3), constantI S_ 32 0#32, constantI S_ 32 0#32, constantI S_ 32 0#32] : Fin 4 → (⟨S_, .i32⟩ : BufTy).Contents (Elt Ideal))) k (Shape.Idx.first h_S_)).toInt) sliceFits_S255x2x128x6_S1x2x128x6)
        (Host.dynamicSlice S1x2x1x6 (V0 (Proc.devRef .tc main_v24_1)) (fun k => (((![V0 (Proc.devRef .tc main_v24_3), constantI S_ 32 0#32, constantI S_ 32 0#32, constantI S_ 32 0#32] : Fin 4 → (⟨S_, .i32⟩ : BufTy).Contents (Elt Ideal))) k (Shape.Idx.first h_S_)).toInt) sliceFits_S255x2x1x6_S1x2x1x6)
        (V0 (Proc.devRef .tc main_v24_2))) := by
  unfold step_main_v24_4 res_main_while0b_v35 join best errs
  rfl

/-- One trip at an entry. -/
theorem step_entry (V0 : Valuation τ sig (Elt Ideal)) (k : Fin 255)
    (hn : (V0 (Proc.devRef .tc main_v24_3) : Vec Ideal S_ .i32) = fun _ => BitVec.ofNat 32 k.val)
    (b : Fin 2) (l : Fin 128) (g : Fin 6) (s : Fin 4096) (f : ℕ → EReal)
    (hf : ∀ s : Fin 4096, (V0 (Proc.devRef .tc main_v24_4) : FVec Ideal S2x128x6x4096 .f32) (ix4 b l g s) = f s.val) :
    (step_main_v24_4 V0 : FVec Ideal S2x128x6x4096 .f32) (ix4 b l g s)
      = (Finset.range 4).inf (fun x => f (1024 * x + s.val / 4))
        + err ((V0 (Proc.devRef .tc main_v24_0) : FVec Ideal S255x2x128x6 .f32) (ix4 k b l g)) ((V0 (Proc.devRef .tc main_v24_1) : FVec Ideal S255x2x1x6 .f32) (ix4 k b 0 g))
            ((V0 (Proc.devRef .tc main_v24_2) : FVec Ideal S4096 .f32) (ix1 s)) := by
  refine (congrFun (step_eq V0) _).trans ?_
  refine (join_entry (best (V0 (Proc.devRef .tc main_v24_4))) (errs _ _ (V0 (Proc.devRef .tc main_v24_2))) b l g s).trans ?_
  rw [best_entry, errs_entry]
  refine congrArg₂ (· + ·) ?_ (congrArg₂ (fun t h => err t h _) (pick_t _ _ k hn b l g) (pick_h _ _ k hn b g))
  refine Eq.trans ?_ (fold_range 4 fun x => f (1024 * x + s.val / 4))
  refine congrArg (Finset.fold min ⊤ · Finset.univ) (funext fun x => (hf _).trans (congrArg f ?_))
  exact congrArg (· + s.val / 4) (Nat.mul_comm x.val 1024)

end

end Cert.ReferenceIdeal.Value
-- ==== Proof.Value.RefLoop.lean ====
/-
  The reference's loop at exact arithmetic: after `k` trips it carries the least costs of the paths of `k + 1` positions, and its
  result is the least of them after the last.
-/
module

public import proofs.«01_k».proof.Proof.Value.RefTrip

@[expose] public section

set_option maxRecDepth 16384
set_option maxHeartbeats 4000000

noncomputable section

namespace Cert.ReferenceIdeal.Value

open Cert.ReferenceIdeal Cert.ReferenceIdeal.Gen Cert.Trellis
open Cert.KernelIdeal.Run (codeAt scaleAt weightAt cost book codeAt_of scaleAt_of weightAt_of least)
open Idealize.ShloMosaic Idealize.ShloMosaic.TcCoe Idealize.ShloMosaic.Tactic Idealize.ShloMosaic.StableHlo

section

variable (m : (ℓ : Loc nD τ sig) → Buf (Elt Ideal) ℓ) (c : Dev nD)

/-- The codes, scales and weights the program is given. -/
abbrev a0 : (⟨S2x128x1536, .i8⟩ : BufTy).Contents (Elt Ideal) := m (c, Proc.devRef .tc main_arg0)
abbrev a1 : (⟨S2x128, .f32⟩ : BufTy).Contents (Elt Ideal) := m (c, Proc.devRef .tc main_arg1)
abbrev a2 : (⟨S2x1536, .f32⟩ : BufTy).Contents (Elt Ideal) := m (c, Proc.devRef .tc main_arg2)

/-- What the lines before the loop leave. -/
abbrev E₀ : Valuation τ sig (Elt Ideal) := entryContents preI m c

theorem toInt_wide (x : BitVec 8) : (x.signExtend 32).toInt = x.toInt := BitVec.toInt_signExtend_of_le (by norm_num)

/-- A code of the argument as the reference reads it. -/
theorem code_wide (x : (⟨3, ![2, 128, 1536]⟩ : Shape).Idx → BitVec 8) (R : ℕ) (l : Fin 128) (p a b : ℕ) (ha : a < 2) (hb : b < 1536) (h1 : a = R / 6 % 2) (h2 : b = (R % 6 * 256 + p) % 1536) :
    (FloatOps.sitofp .f32 (BitVec.signExtend 32 (x (ix3 ⟨a, ha⟩ l ⟨b, hb⟩))) : Ideal .f32) = (((codeAt x R l p).toInt : ℝ) : EReal) := by
  rw [← codeAt_of x R l p a b ha hb h1 h2]
  exact congrArg (fun n : ℤ => ((n : ℝ) : EReal)) (toInt_wide _)

theorem book_of (s : Fin 4096) : Ideal.ofBits FTy.f32 (lit0 (S4096.rowMajor (ix1 s))) = book s.val := by
  unfold book
  exact congrArg (fun i => Ideal.ofBits .f32 (lit0 i)) (Fin.ext ((Shape.rowMajor_val_one _).trans (Nat.mod_eq_of_lt s.isLt).symm))

theorem entry_t (k : Fin 255) (b : Fin 2) (l : Fin 128) (g : Fin 6) :
    (E₀ m c (Proc.devRef .tc main_v24_0) : FVec Ideal S255x2x128x6 .f32) (ix4 k b l g)
      = (((codeAt (a0 m c) (6 * b.val + g.val) l (k.val + 1)).toInt : ℝ) : EReal) * scaleAt (a1 m c) (6 * b.val + g.val) l := by
  simp only [E₀, entryContents, afterL_cons, afterL_nil]
  after_reads_at
  dsimp only [id]
  pointwise
  exact congrArg₂ (· * ·) (code_wide _ _ _ _ _ _ (by omega) (by omega) (by omega) (by omega)) (scaleAt_of _ _ _ _ (by omega) (by omega))

theorem entry_h (k : Fin 255) (b : Fin 2) (g : Fin 6) :
    (E₀ m c (Proc.devRef .tc main_v24_1) : FVec Ideal S255x2x1x6 .f32) (ix4 k b 0 g) = weightAt (a2 m c) (6 * b.val + g.val) (k.val + 1) := by
  simp only [E₀, entryContents, afterL_cons, afterL_nil]
  after_reads_at
  dsimp only [id]
  pointwise
  exact weightAt_of _ _ _ _ _ (by omega) (by omega) (by omega) (by omega)

theorem entry_book (s : Fin 4096) :
    (E₀ m c (Proc.devRef .tc main_v24_2) : FVec Ideal S4096 .f32) (ix1 s) = book s.val := by
  simp only [E₀, entryContents, afterL_cons, afterL_nil]
  after_reads_at
  dsimp only [id]
  pointwise
  exact book_of s

theorem entry_d (b : Fin 2) (l : Fin 128) (g : Fin 6) (s : Fin 4096) :
    (E₀ m c (Proc.devRef .tc main_v24_4) : FVec Ideal S2x128x6x4096 .f32) (ix4 b l g s)
      = cost (a0 m c) (a1 m c) (a2 m c) (6 * b.val + g.val) l 0 s.val := by
  simp only [E₀, entryContents, afterL_cons, afterL_nil]
  after_reads_at
  dsimp only [id]
  pointwise
  refine (congrArg₂ (fun x h => err x h _) (congrArg₂ (· * ·) (code_wide _ (6 * b.val + g.val) _ 0 _ _ (by omega) (by omega) (by omega) (by omega)) (scaleAt_of _ (6 * b.val + g.val) _ _ (by omega) (by omega))) (weightAt_of _ (6 * b.val + g.val) 0 _ _ (by omega) (by omega) (by omega) (by omega))).trans ?_
  exact congrArg (err _ _) (book_of s)

/-- The counter after `k` trips. -/
theorem ctr : ∀ k : ℕ, ((STEP^[k] (E₀ m c)) (Proc.devRef .tc main_v24_3) : Vec Ideal S_ .i32) = fun _ => BitVec.ofNat 32 k
  | 0 => ctr_entry m c
  | k + 1 => by
    rw [Function.iterate_succ_apply', STEP_main_v24_3]
    unfold step_main_v24_3
    rw [ctr k]
    funext i
    exact (BitVec.ofNat_add k 1).symm

/-- The values, weights and codebook do not change. -/
theorem keep_t : ∀ k : ℕ, (STEP^[k] (E₀ m c)) (Proc.devRef .tc main_v24_0) = E₀ m c (Proc.devRef .tc main_v24_0)
  | 0 => rfl
  | k + 1 => by rw [Function.iterate_succ_apply', STEP_main_v24_0, keep_t k]
theorem keep_h : ∀ k : ℕ, (STEP^[k] (E₀ m c)) (Proc.devRef .tc main_v24_1) = E₀ m c (Proc.devRef .tc main_v24_1)
  | 0 => rfl
  | k + 1 => by rw [Function.iterate_succ_apply', STEP_main_v24_1, keep_h k]
theorem keep_book : ∀ k : ℕ, (STEP^[k] (E₀ m c)) (Proc.devRef .tc main_v24_2) = E₀ m c (Proc.devRef .tc main_v24_2)
  | 0 => rfl
  | k + 1 => by rw [Function.iterate_succ_apply', STEP_main_v24_2, keep_book k]

/-- After `k` trips the loop carries the least cost of the paths of `k + 1` positions into each state. -/
theorem carried (b : Fin 2) (l : Fin 128) (g : Fin 6) : ∀ k : ℕ, k ≤ 255 → ∀ s : Fin 4096,
    ((STEP^[k] (E₀ m c)) (Proc.devRef .tc main_v24_4) : FVec Ideal S2x128x6x4096 .f32) (ix4 b l g s)
      = Scalar.dist (cost (a0 m c) (a1 m c) (a2 m c) (6 * b.val + g.val) l) k s.val
  | 0, _, s => entry_d m c b l g s
  | k + 1, hk, s => by
    rw [Function.iterate_succ_apply', STEP_main_v24_4]
    refine (step_entry _ ⟨k, by omega⟩ (ctr m c k) b l g s _ (carried b l g k (by omega))).trans ?_
    rw [keep_t, keep_h, keep_book, entry_t, entry_h, entry_book]
    rfl

/-- The reference's result: the least cost of a path of 256 steps. -/
theorem out_least (b : Fin 2) (l : Fin 128) (g : Fin 6) :
    (out_main_v25 (STEP^[255] (E₀ m c)) : FVec Ideal S2x128x6 .f32) (ix3 b l g) = least (cost (a0 m c) (a1 m c) (a2 m c)) (6 * b.val + g.val) l := by
  refine (least_entry _ b l g).trans ?_
  refine Eq.trans ?_ (fold_range 4096 (Scalar.dist (cost (a0 m c) (a1 m c) (a2 m c) (6 * b.val + g.val) l) 255))
  exact congrArg (Finset.fold min ⊤ · Finset.univ) (funext fun s => carried m c b l g 255 le_rfl s)

end

end Cert.ReferenceIdeal.Value
-- ==== Proof.Value.Claim.lean ====
/-
  At exact arithmetic the kernel's result is the reference's.
-/
module

public import proofs.«01_k».proof.Defs
public import proofs.«01_k».proof.Proof.Value.Kernel
public import proofs.«01_k».proof.Proof.Value.RefLoop

@[expose] public section

noncomputable section

namespace Cert.Proof

open Idealize.ShloMosaic Idealize.ShloMosaic.TcCoe Idealize.SL.Sem
open Cert.KernelIdeal.Run (result eq_result)

/-- The reference's run: its result holds the least costs, the arguments are unchanged. -/
theorem reference_value (m : (ℓ : Loc Cert.ReferenceIdeal.nD Cert.ReferenceIdeal.τ Cert.ReferenceIdeal.sig) → Buf (Elt Ideal) ℓ) (c : Dev Cert.ReferenceIdeal.nD) :
    Cert.ReferenceIdeal.Value.out_main_v25 (Cert.ReferenceIdeal.Value.STEP^[255] (Cert.ReferenceIdeal.Value.E₀ m c))
      = result (Cert.ReferenceIdeal.Value.a0 m c) (Cert.ReferenceIdeal.Value.a1 m c) (Cert.ReferenceIdeal.Value.a2 m c) :=
  eq_result _ _ _ _ (Cert.ReferenceIdeal.Value.out_least m c)

theorem algebraic : Cert.algebraic_KernelIdeal_ReferenceIdeal := by
  intro m ρ m' ρ' _ hagree
  refine ⟨fun c => result (Cert.KernelIdeal.Run.a0 m c) (Cert.KernelIdeal.Run.a1 m c) (Cert.KernelIdeal.Run.a2 m c), Cert.KernelIdeal.Run.run_value m ρ, ?_⟩
  refine (θ_run _ _ _).mono (fun _ h c => ⟨(h c).1.trans ((reference_value m' c).trans ?_), (h c).2⟩) (Cert.ReferenceIdeal.Value.run (F := Ideal) m' ρ')
  obtain ⟨h0, h1, h2⟩ := hagree c
  have e0 : Cert.ReferenceIdeal.Value.a0 m' c = Cert.KernelIdeal.Run.a0 m c := h0
  have e1 : Cert.ReferenceIdeal.Value.a1 m' c = Cert.KernelIdeal.Run.a1 m c := h1
  have e2 : Cert.ReferenceIdeal.Value.a2 m' c = Cert.KernelIdeal.Run.a2 m c := h2
  rw [e0, e1, e2]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run.Launch
public import proofs.«01_k».proof.Proof.RunP.Launch
public import proofs.«01_k».proof.Proof.Value.Claim

@[expose] public section

noncomputable section

namespace Cert.Proof

open Idealize.ShloMosaic Idealize.SL.Sem

/-- The reference runs and leaves its arguments as they were; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts,
    fun m ρ _ => Cert.Kernel.Run.frame_main m ρ, fun m ρ _ => Cert.KernelIdeal.Run.frame_main m ρ, frame_reference, trivial, algebraic⟩

end Cert.Proof
